-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdIdeal_mix_finite [hPre_mix_finite : Cert.Pre_mix_finite.Facts] (m : (ℓ : Loc Cert.MixFwdIdeal.nD Cert.MixFwdIdeal.τ Cert.MixFwdIdeal.sig) → Buf (Elt Ideal) ℓ) : Prop :=
  ∀ c : Dev Cert.MixFwdIdeal.nD,
    (Cert.Pre_mix_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10)) (m ((c.tc : Thread Cert.MixFwdIdeal.nD Cert.MixFwdIdeal.τ).loc Cert.MixFwdIdeal.main_arg11)) (m ((c.tc : Thread Cert.MixFwdIdeal.nD Cert.MixFwdIdeal.τ).loc Cert.MixFwdIdeal.main_arg12)) (m ((c.tc : Thread Cert.MixFwdIdeal.nD Cert.MixFwdIdeal.τ).loc Cert.MixFwdIdeal.main_arg13)) (m ((c.tc : Thread Cert.MixFwdIdeal.nD Cert.MixFwdIdeal.τ).loc Cert.MixFwdIdeal.main_arg14)) (m ((c.tc : Thread Cert.MixFwdIdeal.nD Cert.MixFwdIdeal.τ).loc Cert.MixFwdIdeal.main_arg15))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8)
      ∧ r.2.mem ((c.tc : Thread Cert.MixBwd.nD Cert.MixBwd.τ).loc Cert.MixBwd.main_arg9) = m ((c.tc : Thread Cert.MixBwd.nD Cert.MixBwd.τ).loc Cert.MixBwd.main_arg9)
      ∧ r.2.mem ((c.tc : Thread Cert.MixBwd.nD Cert.MixBwd.τ).loc Cert.MixBwd.main_arg10) = m ((c.tc : Thread Cert.MixBwd.nD Cert.MixBwd.τ).loc Cert.MixBwd.main_arg10)
      ∧ r.2.mem ((c.tc : Thread Cert.MixBwd.nD Cert.MixBwd.τ).loc Cert.MixBwd.main_arg11) = m ((c.tc : Thread Cert.MixBwd.nD Cert.MixBwd.τ).loc Cert.MixBwd.main_arg11)
      ∧ r.2.mem ((c.tc : Thread Cert.MixBwd.nD Cert.MixBwd.τ).loc Cert.MixBwd.main_arg12) = m ((c.tc : Thread Cert.MixBwd.nD Cert.MixBwd.τ).loc Cert.MixBwd.main_arg12)
      ∧ r.2.mem ((c.tc : Thread Cert.MixBwd.nD Cert.MixBwd.τ).loc Cert.MixBwd.main_arg13) = m ((c.tc : Thread Cert.MixBwd.nD Cert.MixBwd.τ).loc Cert.MixBwd.main_arg13)
      ∧ r.2.mem ((c.tc : Thread Cert.MixBwd.nD Cert.MixBwd.τ).loc Cert.MixBwd.main_arg14) = m ((c.tc : Thread Cert.MixBwd.nD Cert.MixBwd.τ).loc Cert.MixBwd.main_arg14)
      ∧ r.2.mem ((c.tc : Thread Cert.MixBwd.nD Cert.MixBwd.τ).loc Cert.MixBwd.main_arg15) = m ((c.tc : Thread Cert.MixBwd.nD Cert.MixBwd.τ).loc Cert.MixBwd.main_arg15)
      ∧ r.2.mem ((c.tc : Thread Cert.MixBwd.nD Cert.MixBwd.τ).loc Cert.MixBwd.main_arg16) = m ((c.tc : Thread Cert.MixBwd.nD Cert.MixBwd.τ).loc Cert.MixBwd.main_arg16))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
      ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11)
      ∧ r.2.mem ((c.tc : Thread Cert.MixBwdIdeal.nD Cert.MixBwdIdeal.τ).loc Cert.MixBwdIdeal.main_arg12) = m ((c.tc : Thread Cert.MixBwdIdeal.nD Cert.MixBwdIdeal.τ).loc Cert.MixBwdIdeal.main_arg12)
      ∧ r.2.mem ((c.tc : Thread Cert.MixBwdIdeal.nD Cert.MixBwdIdeal.τ).loc Cert.MixBwdIdeal.main_arg13) = m ((c.tc : Thread Cert.MixBwdIdeal.nD Cert.MixBwdIdeal.τ).loc Cert.MixBwdIdeal.main_arg13)
      ∧ r.2.mem ((c.tc : Thread Cert.MixBwdIdeal.nD Cert.MixBwdIdeal.τ).loc Cert.MixBwdIdeal.main_arg14) = m ((c.tc : Thread Cert.MixBwdIdeal.nD Cert.MixBwdIdeal.τ).loc Cert.MixBwdIdeal.main_arg14)
      ∧ r.2.mem ((c.tc : Thread Cert.MixBwdIdeal.nD Cert.MixBwdIdeal.τ).loc Cert.MixBwdIdeal.main_arg15) = m ((c.tc : Thread Cert.MixBwdIdeal.nD Cert.MixBwdIdeal.τ).loc Cert.MixBwdIdeal.main_arg15)
      ∧ r.2.mem ((c.tc : Thread Cert.MixBwdIdeal.nD Cert.MixBwdIdeal.τ).loc Cert.MixBwdIdeal.main_arg16) = m ((c.tc : Thread Cert.MixBwdIdeal.nD Cert.MixBwdIdeal.τ).loc Cert.MixBwdIdeal.main_arg16))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10)
      ∧ r.2.mem ((c.tc : Thread Cert.MixFwd.nD Cert.MixFwd.τ).loc Cert.MixFwd.main_arg11) = m ((c.tc : Thread Cert.MixFwd.nD Cert.MixFwd.τ).loc Cert.MixFwd.main_arg11)
      ∧ r.2.mem ((c.tc : Thread Cert.MixFwd.nD Cert.MixFwd.τ).loc Cert.MixFwd.main_arg12) = m ((c.tc : Thread Cert.MixFwd.nD Cert.MixFwd.τ).loc Cert.MixFwd.main_arg12)
      ∧ r.2.mem ((c.tc : Thread Cert.MixFwd.nD Cert.MixFwd.τ).loc Cert.MixFwd.main_arg13) = m ((c.tc : Thread Cert.MixFwd.nD Cert.MixFwd.τ).loc Cert.MixFwd.main_arg13)
      ∧ r.2.mem ((c.tc : Thread Cert.MixFwd.nD Cert.MixFwd.τ).loc Cert.MixFwd.main_arg14) = m ((c.tc : Thread Cert.MixFwd.nD Cert.MixFwd.τ).loc Cert.MixFwd.main_arg14)
      ∧ r.2.mem ((c.tc : Thread Cert.MixFwd.nD Cert.MixFwd.τ).loc Cert.MixFwd.main_arg15) = m ((c.tc : Thread Cert.MixFwd.nD Cert.MixFwd.τ).loc Cert.MixFwd.main_arg15))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
      ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
      ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13)
      ∧ r.2.mem ((c.tc : Thread Cert.MixFwdIdeal.nD Cert.MixFwdIdeal.τ).loc Cert.MixFwdIdeal.main_arg14) = m ((c.tc : Thread Cert.MixFwdIdeal.nD Cert.MixFwdIdeal.τ).loc Cert.MixFwdIdeal.main_arg14)
      ∧ r.2.mem ((c.tc : Thread Cert.MixFwdIdeal.nD Cert.MixFwdIdeal.τ).loc Cert.MixFwdIdeal.main_arg15) = m ((c.tc : Thread Cert.MixFwdIdeal.nD Cert.MixFwdIdeal.τ).loc Cert.MixFwdIdeal.main_arg15))
      ∧ r.2.sem = fun _ => 0)

def quiescent_MixFwdIdeal_pre_mix_finite [hMixFwdIdeal : Cert.MixFwdIdeal.Facts] [hPre_mix_finite : Cert.Pre_mix_finite.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal_mix_finite m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
      ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
      ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13)
      ∧ r.2.mem ((c.tc : Thread Cert.MixFwdIdeal.nD Cert.MixFwdIdeal.τ).loc Cert.MixFwdIdeal.main_arg14) = m ((c.tc : Thread Cert.MixFwdIdeal.nD Cert.MixFwdIdeal.τ).loc Cert.MixFwdIdeal.main_arg14)
      ∧ r.2.mem ((c.tc : Thread Cert.MixFwdIdeal.nD Cert.MixFwdIdeal.τ).loc Cert.MixFwdIdeal.main_arg15) = m ((c.tc : Thread Cert.MixFwdIdeal.nD Cert.MixFwdIdeal.τ).loc Cert.MixFwdIdeal.main_arg15))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)) (v5 : (c : Dev Cert.KernelIdeal.nD) → Buf (Elt Ideal) ((c.tc : Thread Cert.KernelIdeal.nD Cert.KernelIdeal.τ).loc Cert.KernelIdeal.main_v11_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_v11_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_v181) = v1 c
          ∧ r.2.mem ((c.tc : Thread Cert.ReferenceIdeal.nD Cert.ReferenceIdeal.τ).loc Cert.ReferenceIdeal.main_v183) = v2 c
          ∧ r.2.mem ((c.tc : Thread Cert.ReferenceIdeal.nD Cert.ReferenceIdeal.τ).loc Cert.ReferenceIdeal.main_v185) = v3 c
          ∧ r.2.mem ((c.tc : Thread Cert.ReferenceIdeal.nD Cert.ReferenceIdeal.τ).loc Cert.ReferenceIdeal.main_v187) = v4 c
          ∧ r.2.mem ((c.tc : Thread Cert.ReferenceIdeal.nD Cert.ReferenceIdeal.τ).loc Cert.ReferenceIdeal.main_v178) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_MixBwd_MixBwdIdeal : Prop :=
  True

def preserves_MixFwd_MixFwdIdeal : Prop :=
  True

def algebraic_MixFwdIdeal_MixRefIdeal_pre_mix_finite [hMixFwdIdeal : Cert.MixFwdIdeal.Facts] [hMixRefIdeal : Cert.MixRefIdeal.Facts] [hPre_mix_finite : Cert.Pre_mix_finite.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixFwdIdeal_mix_finite m →
    (∀ c : Dev Cert.MixFwdIdeal.nD,
      m' ((c.tc : Thread Cert.MixRefIdeal.nD Cert.MixRefIdeal.τ).loc Cert.MixRefIdeal.main_arg0) = m ((c.tc : Thread Cert.MixFwdIdeal.nD Cert.MixFwdIdeal.τ).loc Cert.MixFwdIdeal.main_arg0)
      ∧ m' ((c.tc : Thread Cert.MixRefIdeal.nD Cert.MixRefIdeal.τ).loc Cert.MixRefIdeal.main_arg1) = m ((c.tc : Thread Cert.MixFwdIdeal.nD Cert.MixFwdIdeal.τ).loc Cert.MixFwdIdeal.main_arg1)
      ∧ m' ((c.tc : Thread Cert.MixRefIdeal.nD Cert.MixRefIdeal.τ).loc Cert.MixRefIdeal.main_arg2) = m ((c.tc : Thread Cert.MixFwdIdeal.nD Cert.MixFwdIdeal.τ).loc Cert.MixFwdIdeal.main_arg2)
      ∧ m' ((c.tc : Thread Cert.MixRefIdeal.nD Cert.MixRefIdeal.τ).loc Cert.MixRefIdeal.main_arg3) = m ((c.tc : Thread Cert.MixFwdIdeal.nD Cert.MixFwdIdeal.τ).loc Cert.MixFwdIdeal.main_arg3)
      ∧ m' ((c.tc : Thread Cert.MixRefIdeal.nD Cert.MixRefIdeal.τ).loc Cert.MixRefIdeal.main_arg4) = m ((c.tc : Thread Cert.MixFwdIdeal.nD Cert.MixFwdIdeal.τ).loc Cert.MixFwdIdeal.main_arg4)
      ∧ m' ((c.tc : Thread Cert.MixRefIdeal.nD Cert.MixRefIdeal.τ).loc Cert.MixRefIdeal.main_arg5) = m ((c.tc : Thread Cert.MixFwdIdeal.nD Cert.MixFwdIdeal.τ).loc Cert.MixFwdIdeal.main_arg5)
      ∧ m' ((c.tc : Thread Cert.MixRefIdeal.nD Cert.MixRefIdeal.τ).loc Cert.MixRefIdeal.main_arg6) = m ((c.tc : Thread Cert.MixFwdIdeal.nD Cert.MixFwdIdeal.τ).loc Cert.MixFwdIdeal.main_arg6)
      ∧ m' ((c.tc : Thread Cert.MixRefIdeal.nD Cert.MixRefIdeal.τ).loc Cert.MixRefIdeal.main_arg7) = m ((c.tc : Thread Cert.MixFwdIdeal.nD Cert.MixFwdIdeal.τ).loc Cert.MixFwdIdeal.main_arg7)
      ∧ m' ((c.tc : Thread Cert.MixRefIdeal.nD Cert.MixRefIdeal.τ).loc Cert.MixRefIdeal.main_arg8) = m ((c.tc : Thread Cert.MixFwdIdeal.nD Cert.MixFwdIdeal.τ).loc Cert.MixFwdIdeal.main_arg8)
      ∧ m' ((c.tc : Thread Cert.MixRefIdeal.nD Cert.MixRefIdeal.τ).loc Cert.MixRefIdeal.main_arg9) = m ((c.tc : Thread Cert.MixFwdIdeal.nD Cert.MixFwdIdeal.τ).loc Cert.MixFwdIdeal.main_arg9)
      ∧ m' ((c.tc : Thread Cert.MixRefIdeal.nD Cert.MixRefIdeal.τ).loc Cert.MixRefIdeal.main_arg10) = m ((c.tc : Thread Cert.MixFwdIdeal.nD Cert.MixFwdIdeal.τ).loc Cert.MixFwdIdeal.main_arg10)
      ∧ m' ((c.tc : Thread Cert.MixRefIdeal.nD Cert.MixRefIdeal.τ).loc Cert.MixRefIdeal.main_arg11) = m ((c.tc : Thread Cert.MixFwdIdeal.nD Cert.MixFwdIdeal.τ).loc Cert.MixFwdIdeal.main_arg11)
      ∧ m' ((c.tc : Thread Cert.MixRefIdeal.nD Cert.MixRefIdeal.τ).loc Cert.MixRefIdeal.main_arg12) = m ((c.tc : Thread Cert.MixFwdIdeal.nD Cert.MixFwdIdeal.τ).loc Cert.MixFwdIdeal.main_arg12)
      ∧ m' ((c.tc : Thread Cert.MixRefIdeal.nD Cert.MixRefIdeal.τ).loc Cert.MixRefIdeal.main_arg13) = m ((c.tc : Thread Cert.MixFwdIdeal.nD Cert.MixFwdIdeal.τ).loc Cert.MixFwdIdeal.main_arg13)
      ∧ m' ((c.tc : Thread Cert.MixRefIdeal.nD Cert.MixRefIdeal.τ).loc Cert.MixRefIdeal.main_arg14) = m ((c.tc : Thread Cert.MixFwdIdeal.nD Cert.MixFwdIdeal.τ).loc Cert.MixFwdIdeal.main_arg14)
      ∧ m' ((c.tc : Thread Cert.MixRefIdeal.nD Cert.MixRefIdeal.τ).loc Cert.MixRefIdeal.main_arg15) = m ((c.tc : Thread Cert.MixFwdIdeal.nD Cert.MixFwdIdeal.τ).loc Cert.MixFwdIdeal.main_arg15)) →
    ∃ (v0 : (c : Dev Cert.MixFwdIdeal.nD) → Buf (Elt Ideal) ((c.tc : Thread Cert.MixFwdIdeal.nD Cert.MixFwdIdeal.τ).loc Cert.MixFwdIdeal.main_v32_0)) (v1 : (c : Dev Cert.MixFwdIdeal.nD) → Buf (Elt Ideal) ((c.tc : Thread Cert.MixFwdIdeal.nD Cert.MixFwdIdeal.τ).loc Cert.MixFwdIdeal.main_v32_1)) (v2 : (c : Dev Cert.MixFwdIdeal.nD) → Buf (Elt Ideal) ((c.tc : Thread Cert.MixFwdIdeal.nD Cert.MixFwdIdeal.τ).loc Cert.MixFwdIdeal.main_v32_2)) (v3 : (c : Dev Cert.MixFwdIdeal.nD) → Buf (Elt Ideal) ((c.tc : Thread Cert.MixFwdIdeal.nD Cert.MixFwdIdeal.τ).loc Cert.MixFwdIdeal.main_v32_3)) (v4 : (c : Dev Cert.MixFwdIdeal.nD) → Buf (Elt Ideal) ((c.tc : Thread Cert.MixFwdIdeal.nD Cert.MixFwdIdeal.τ).loc Cert.MixFwdIdeal.main_v32_4)) (v5 : (c : Dev Cert.MixFwdIdeal.nD) → Buf (Elt Ideal) ((c.tc : Thread Cert.MixFwdIdeal.nD Cert.MixFwdIdeal.τ).loc Cert.MixFwdIdeal.main_v32_5)) (v6 : (c : Dev Cert.MixFwdIdeal.nD) → Buf (Elt Ideal) ((c.tc : Thread Cert.MixFwdIdeal.nD Cert.MixFwdIdeal.τ).loc Cert.MixFwdIdeal.main_v32_6)) (v7 : (c : Dev Cert.MixFwdIdeal.nD) → Buf (Elt Ideal) ((c.tc : Thread Cert.MixFwdIdeal.nD Cert.MixFwdIdeal.τ).loc Cert.MixFwdIdeal.main_v32_9)) (v8 : (c : Dev Cert.MixFwdIdeal.nD) → Buf (Elt Ideal) ((c.tc : Thread Cert.MixFwdIdeal.nD Cert.MixFwdIdeal.τ).loc Cert.MixFwdIdeal.main_v32_10)) (v9 : (c : Dev Cert.MixFwdIdeal.nD) → Buf (Elt Ideal) ((c.tc : Thread Cert.MixFwdIdeal.nD Cert.MixFwdIdeal.τ).loc Cert.MixFwdIdeal.main_v32_11)) (v10 : (c : Dev Cert.MixFwdIdeal.nD) → Buf (Elt Ideal) ((c.tc : Thread Cert.MixFwdIdeal.nD Cert.MixFwdIdeal.τ).loc Cert.MixFwdIdeal.main_v32_12)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v32_0) = v0 c
          ∧ r.2.mem ((c.tc : Thread Cert.MixFwdIdeal.nD Cert.MixFwdIdeal.τ).loc Cert.MixFwdIdeal.main_v32_1) = v1 c
          ∧ r.2.mem ((c.tc : Thread Cert.MixFwdIdeal.nD Cert.MixFwdIdeal.τ).loc Cert.MixFwdIdeal.main_v32_2) = v2 c
          ∧ r.2.mem ((c.tc : Thread Cert.MixFwdIdeal.nD Cert.MixFwdIdeal.τ).loc Cert.MixFwdIdeal.main_v32_3) = v3 c
          ∧ r.2.mem ((c.tc : Thread Cert.MixFwdIdeal.nD Cert.MixFwdIdeal.τ).loc Cert.MixFwdIdeal.main_v32_4) = v4 c
          ∧ r.2.mem ((c.tc : Thread Cert.MixFwdIdeal.nD Cert.MixFwdIdeal.τ).loc Cert.MixFwdIdeal.main_v32_5) = v5 c
          ∧ r.2.mem ((c.tc : Thread Cert.MixFwdIdeal.nD Cert.MixFwdIdeal.τ).loc Cert.MixFwdIdeal.main_v32_6) = v6 c
          ∧ r.2.mem ((c.tc : Thread Cert.MixFwdIdeal.nD Cert.MixFwdIdeal.τ).loc Cert.MixFwdIdeal.main_v32_9) = v7 c
          ∧ r.2.mem ((c.tc : Thread Cert.MixFwdIdeal.nD Cert.MixFwdIdeal.τ).loc Cert.MixFwdIdeal.main_v32_10) = v8 c
          ∧ r.2.mem ((c.tc : Thread Cert.MixFwdIdeal.nD Cert.MixFwdIdeal.τ).loc Cert.MixFwdIdeal.main_v32_11) = v9 c
          ∧ r.2.mem ((c.tc : Thread Cert.MixFwdIdeal.nD Cert.MixFwdIdeal.τ).loc Cert.MixFwdIdeal.main_v32_12) = v10 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
          ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
          ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
          ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13)
          ∧ r.2.mem ((c.tc : Thread Cert.MixFwdIdeal.nD Cert.MixFwdIdeal.τ).loc Cert.MixFwdIdeal.main_arg14) = m ((c.tc : Thread Cert.MixFwdIdeal.nD Cert.MixFwdIdeal.τ).loc Cert.MixFwdIdeal.main_arg14)
          ∧ r.2.mem ((c.tc : Thread Cert.MixFwdIdeal.nD Cert.MixFwdIdeal.τ).loc Cert.MixFwdIdeal.main_arg15) = m ((c.tc : Thread Cert.MixFwdIdeal.nD Cert.MixFwdIdeal.τ).loc Cert.MixFwdIdeal.main_arg15))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v383) = v0 c
          ∧ r.2.mem ((c.tc : Thread Cert.MixRefIdeal.nD Cert.MixRefIdeal.τ).loc Cert.MixRefIdeal.main_v387) = v1 c
          ∧ r.2.mem ((c.tc : Thread Cert.MixRefIdeal.nD Cert.MixRefIdeal.τ).loc Cert.MixRefIdeal.main_v389) = v2 c
          ∧ r.2.mem ((c.tc : Thread Cert.MixRefIdeal.nD Cert.MixRefIdeal.τ).loc Cert.MixRefIdeal.main_v89) = v3 c
          ∧ r.2.mem ((c.tc : Thread Cert.MixRefIdeal.nD Cert.MixRefIdeal.τ).loc Cert.MixRefIdeal.main_v390) = v4 c
          ∧ r.2.mem ((c.tc : Thread Cert.MixRefIdeal.nD Cert.MixRefIdeal.τ).loc Cert.MixRefIdeal.main_v379) = v5 c
          ∧ r.2.mem ((c.tc : Thread Cert.MixRefIdeal.nD Cert.MixRefIdeal.τ).loc Cert.MixRefIdeal.main_v391) = v6 c
          ∧ r.2.mem ((c.tc : Thread Cert.MixRefIdeal.nD Cert.MixRefIdeal.τ).loc Cert.MixRefIdeal.main_v392) = v7 c
          ∧ r.2.mem ((c.tc : Thread Cert.MixRefIdeal.nD Cert.MixRefIdeal.τ).loc Cert.MixRefIdeal.main_v394) = v8 c
          ∧ r.2.mem ((c.tc : Thread Cert.MixRefIdeal.nD Cert.MixRefIdeal.τ).loc Cert.MixRefIdeal.main_v338) = v9 c
          ∧ r.2.mem ((c.tc : Thread Cert.MixRefIdeal.nD Cert.MixRefIdeal.τ).loc Cert.MixRefIdeal.main_v385) = v10 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)
          ∧ r.2.mem ((c.tc : Thread Cert.MixRefIdeal.nD Cert.MixRefIdeal.τ).loc Cert.MixRefIdeal.main_arg15) = m' ((c.tc : Thread Cert.MixRefIdeal.nD Cert.MixRefIdeal.τ).loc Cert.MixRefIdeal.main_arg15))

def Claim : Prop :=
  ∃ (hKernel : Cert.Kernel.Facts) (hKernelIdeal : Cert.KernelIdeal.Facts) (hReferenceIdeal : Cert.ReferenceIdeal.Facts) (hMixBwd : Cert.MixBwd.Facts) (hMixBwdIdeal : Cert.MixBwdIdeal.Facts) (hMixFwd : Cert.MixFwd.Facts) (hMixFwdIdeal : Cert.MixFwdIdeal.Facts) (hMixRefIdeal : Cert.MixRefIdeal.Facts) (hPre_finite : Cert.Pre_finite.Facts) (hPre_mix_finite : Cert.Pre_mix_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MixBwd (hMixBwd := hMixBwd)
    ∧ quiescent_MixBwdIdeal (hMixBwdIdeal := hMixBwdIdeal)
    ∧ quiescent_MixFwd (hMixFwd := hMixFwd)
    ∧ quiescent_MixFwdIdeal (hMixFwdIdeal := hMixFwdIdeal)
    ∧ quiescent_MixFwdIdeal_pre_mix_finite (hMixFwdIdeal := hMixFwdIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_MixBwd_MixBwdIdeal
    ∧ preserves_MixFwd_MixFwdIdeal
    ∧ algebraic_MixFwdIdeal_MixRefIdeal_pre_mix_finite (hMixFwdIdeal := hMixFwdIdeal) (hMixRefIdeal := hMixRefIdeal) (hPre_mix_finite := hPre_mix_finite)
-- ==== Pre_finite.lean ====
abbrev S1x8192x1024 : Shape := ⟨3, ![1, 8192, 1024]⟩
abbrev S1x6144 : Shape := ⟨2, ![1, 6144]⟩
abbrev S1x2048 : Shape := ⟨2, ![1, 2048]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x6144 : S_.BroadcastsInDim S1x6144 (![] : Fin 0 → Fin S1x6144.rank)
  reducesTo_S1x6144_S_d0_1 : S1x6144.ReducesTo [0, 1] S_
  bcast_S_S1x2048 : S_.BroadcastsInDim S1x2048 (![] : Fin 0 → Fin S1x2048.rank)
  reducesTo_S1x2048_S_d0_1 : S1x2048.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1x8192x1024 .f32) (main_v33 : IVec S_ 1) : IVec S_ 1 :=
  let main_v34 : FVec F S1x8192x1024 .f32 := Host.absf main_arg7
  let main_cst_12 : FVec F S_ .f32 := constant S_ .f32 0x7F800000#32
  let main_v35 : FVec F S1x8192x1024 .f32 := broadcastInDim S1x8192x1024 ![] bcast_S_S1x8192x1024 main_cst_12
  let main_v36 : IVec S1x8192x1024 1 := cmpf .olt main_v34 main_v35
  let main_c_13 : IVec S_ 1 := constantI S_ 1 1#1
  let main_v37 : IVec S_ 1 := (fun x v => Host.reduce IntOp.andi x v reducesTo_S1x8192x1024_S_d0_1_2 h_S_) main_v36 main_c_13
  let main_v38 : IVec S_ 1 := andi main_v33 main_v37
  main_v38

def fn_part1 {F : FTy → Type} [FloatOps F] (main_arg4 : FVec F S1x1024x5632 .f32) (main_arg5 : FVec F S1x2816x1024 .f32) (main_arg6 : FVec F S1024 .f32) (main_arg7 : FVec F S1x8192x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024x5632 .f32 := Host.absf main_arg4
  let main_cst_6 : FVec F S_ .f32 := constant S_ .f32 0x7F800000#32
  let main_v20 : FVec F S1x1024x5632 .f32 := broadcastInDim S1x1024x5632 ![] bcast_S_S1x1024x5632 main_cst_6
  let main_v21 : IVec S1x1024x5632 1 := cmpf .olt main_v19 main_v20
  let main_c_7 : IVec S_ 1 := constantI S_ 1 1#1
  let main_v22 : IVec S_ 1 := (fun x v => Host.reduce IntOp.andi x v reducesTo_S1x1024x5632_S_d0_1_2 h_S_) main_v21 main_c_7
  let main_v23 : IVec S_ 1 := andi main_v18 main_v22
  let main_v24 : FVec F S1x2816x1024 .f32 := Host.absf main_arg5
  let main_cst_8 : FVec F S_ .f32 := constant S_ .f32 0x7F800000#32
  let main_v25 : FVec F S1x2816x1024 .f32 := broadcastInDim S1x2816x1024 ![] bcast_S_S1x2816x1024 main_cst_8
  let main_v26 : IVec S1x2816x1024 1 := cmpf .olt main_v24 main_v25
  let main_c_9 : IVec S_ 1 := constantI S_ 1 1#1
  let main_v27 : IVec S_ 1 := (fun x v => Host.reduce IntOp.andi x v reducesTo_S1x2816x1024_S_d0_1_2 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S1x8192x1024 .f32) (main_arg1 : FVec F S1x6144 .f32) (main_arg2 : FVec F S1x2048 .f32) (main_arg3 : FVec F S1x1024 .f32) (main_arg4 : FVec F S1x1024x5632 .f32) (main_arg5 : FVec F S1x2816x1024 .f32) (main_arg6 : FVec F S1024 .f32) (main_arg7 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x6144 .f32 := Host.absf main_arg1
  let main_cst_0 : FVec F S_ .f32 := constant S_ .f32 0x7F800000#32
  let main_v5 : FVec F S1x6144 .f32 := broadcastInDim S1x6144 ![] bcast_S_S1x6144 main_cst_0
  let main_v6 : IVec S1x6144 1 := cmpf .olt main_v4 main_v5
  let main_c_1 : IVec S_ 1 := constantI S_ 1 1#1
  let main_v7 : IVec S_ 1 := (fun x v => Host.reduce IntOp.andi x v reducesTo_S1x6144_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_v13 main_v16
-- ==== Pre_mix_finite.lean ====
abbrev S1x8192x1024 : Shape := ⟨3, ![1, 8192, 1024]⟩
abbrev S1x6144 : Shape := ⟨2, ![1, 6144]⟩
abbrev S1x1024 : Shape := ⟨2, ![1, 1024]⟩
abbrev S1x1024x2048 : Shape := ⟨3, ![1, 1024, 2048]⟩
abbrev S1x2048 : Shape := ⟨2, ![1, 2048]⟩
abbrev S1x512 : Shape := ⟨2, ![1, 512]⟩
abbrev S1x8x128x128 : Shape := ⟨4, ![1, 8, 128, 128]⟩
abbrev S1x8x128 : Shape := ⟨3, ![1, 8, 128]⟩
abbrev S1x31x512 : Shape := ⟨3, ![1, 31, 512]⟩
abbrev S1x1024x1024 : Shape := ⟨3, ![1, 1024, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x6144 : S_.BroadcastsInDim S1x6144 (![] : Fin 0 → Fin S1x6144.rank)
  reducesTo_S1x6144_S_d0_1 : S1x6144.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x2048 : S_.BroadcastsInDim S1x1024x2048 (![] : Fin 0 → Fin S1x1024x2048.rank)
  reducesTo_S1x1024x2048_S_d0_1_2 : S1x1024x2048.ReducesTo [0, 1, 2] S_
  bcast_S_S1x2048 : S_.BroadcastsInDim S1x2048 (![] : Fin 0 → Fin S1x2048.rank)
  reducesTo_S1x2048_S_d0_1 : S1x2048.ReducesTo [0, 1] S_
  bcast_S_S1x512 : S_.BroadcastsInDim S1x512 (![] : Fin 0 → Fin S1x512.rank)
  reducesTo_S1x512_S_d0_1 : S1x512.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_
  bcast_S_S1x31x512 : S_.BroadcastsInDim S1x31x512 (![] : Fin 0 → Fin S1x31x512.rank)
  reducesTo_S1x31x512_S_d0_1_2 : S1x31x512.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part4 {F : FTy → Type} [FloatOps F] (main_arg14 : FVec F S1x512 .f32) (main_arg15 : FVec F S1x1024x1024 .f32) (main_v63 : IVec S_ 1) (main_v67 : IVec S_ 1) : IVec S_ 1 :=
  let main_v68 : IVec S_ 1 := andi main_v63 main_v67
  let main_v69 : FVec F S1x512 .f32 := Host.absf main_arg14
  let main_cst_26 : FVec F S_ .f32 := constant S_ .f32 0x7F800000#32
  let main_v70 : FVec F S1x512 .f32 := broadcastInDim S1x512 ![] bcast_S_S1x512 main_cst_26
  let main_v71 : IVec S1x512 1 := cmpf .olt main_v69 main_v70
  let main_c_27 : IVec S_ 1 := constantI S_ 1 1#1
  let main_v72 : IVec S_ 1 := (fun x v => Host.reduce IntOp.andi x v reducesTo_S1x512_S_d0_1 h_S_) main_v71 main_c_27
  let main_v73 : IVec S_ 1 := andi main_v68 main_v72
  let main_v74 : FVec F S1x1024x1024 .f32 := Host.absf main_arg15
  let main_cst_28 : FVec F S_ .f32 := constant S_ .f32 0x7F800000#32
  let main_v75 : FVec F S1x1024x1024 .f32 := broadcastInDim S1x1024x1024 ![] bcast_S_S1x1024x1024 main_cst_28
  let main_v76 : IVec S1x1024x1024 1 := cmpf .olt main_v74 main_v75
  let main_c_29 : IVec S_ 1 := constantI S_ 1 1#1
  let main_v77 : IVec S_ 1 := (fun x v => Host.reduce IntOp.andi x v reducesTo_S1x1024x1024_S_d0_1_2 h_S_) main_v76 main_c_29
  let main_v78 : IVec S_ 1 := andi main_v73 main_v77
  main_v78

def fn_part3 {F : FTy → Type} [FloatOps F] (main_arg11 : FVec F S1x512 .f32) (main_arg12 : FVec F S1x512 .f32) (main_arg13 : FVec F S1x512 .f32) (main_arg14 : FVec F S1x512 .f32) (main_arg15 : FVec F S1x1024x1024 .f32) (main_v48 : IVec S_ 1) (main_v49 : FVec F S1x512 .f32) (main_v50 : FVec F S1x512 .f32) : IVec S_ 1 :=
  let main_v51 : IVec S1x512 1 := cmpf .olt main_v49 main_v50
  let main_c_19 : IVec S_ 1 := constantI S_ 1 1#1
  let main_v52 : IVec S_ 1 := (fun x v => Host.reduce IntOp.andi x v reducesTo_S1x512_S_d0_1 h_S_) main_v51 main_c_19
  let main_v53 : IVec S_ 1 := andi main_v48 main_v52
  let main_v54 : FVec F S1x512 .f32 := Host.absf main_arg11
  let main_cst_20 : FVec F S_ .f32 := constant S_ .f32 0x7F800000#32
  let main_v55 : FVec F S1x512 .f32 := broadcastInDim S1x512 ![] bcast_S_S1x512 main_cst_20
  let main_v56 : IVec S1x512 1 := cmpf .olt main_v54 main_v55
  let main_c_21 : IVec S_ 1 := constantI S_ 1 1#1
  let main_v57 : IVec S_ 1 := (fun x v => Host.reduce IntOp.andi x v reducesTo_S1x512_S_d0_1 h_S_) main_v56 main_c_21
  let main_v58 : IVec S_ 1 := andi main_v53 main_v57
  let main_v59 : FVec F S1x512 .f32 := Host.absf main_arg12
  let main_cst_22 : FVec F S_ .f32 := constant S_ .f32 0x7F800000#32
  let main_v60 : FVec F S1x512 .f32 := broadcastInDim S1x512 ![] bcast_S_S1x512 main_cst_22
  let main_v61 : IVec S1x512 1 := cmpf .olt main_v59 main_v60
  let main_c_23 : IVec S_ 1 := constantI S_ 1 1#1
  let main_v62 : IVec S_ 1 := (fun x v => Host.reduce IntOp.andi x v reducesTo_S1x512_S_d0_1 h_S_) main_v61 main_c_23
  let main_v63 : IVec S_ 1 := andi main_v58 main_v62
  let main_v64 : FVec F S1x512 .f32 := Host.absf main_arg13
  let main_cst_24 : FVec F S_ .f32 := constant S_ .f32 0x7F800000#32
  let main_v65 : FVec F S1x512 .f32 := broadcastInDim S1x512 ![] bcast_S_S1x512 main_cst_24
  let main_v66 : IVec S1x512 1 := cmpf .olt main_v64 main_v65
  let main_c_25 : IVec S_ 1 := constantI S_ 1 1#1
  let main_v67 : IVec S_ 1 := (fun x v => Host.reduce IntOp.andi x v reducesTo_S1x512_S_d0_1 h_S_) main_v66 main_c_25
  fn_part4 (F := F) main_arg14 main_arg15 main_v63 main_v67

def fn_part2 {F : FTy → Type} [FloatOps F] (main_arg7 : FVec F S1x8x128x128 .f32) (main_arg8 : FVec F S1x8x128 .f32) (main_arg9 : FVec F S1x31x512 .f32) (main_arg10 : FVec F S1x512 .f32) (main_arg11 : FVec F S1x512 .f32) (main_arg12 : FVec F S1x512 .f32) (main_arg13 : FVec F S1x512 .f32) (main_arg14 : FVec F S1x512 .f32) (main_arg15 : FVec F S1x1024x1024 .f32) (main_v33 : IVec S_ 1) : IVec S_ 1 :=
  let main_v34 : FVec F S1x8x128x128 .f32 := Host.absf main_arg7
  let main_cst_12 : FVec F S_ .f32 := constant S_ .f32 0x7F800000#32
  let main_v35 : FVec F S1x8x128x128 .f32 := broadcastInDim S1x8x128x128 ![] bcast_S_S1x8x128x128 main_cst_12
  let main_v36 : IVec S1x8x128x128 1 := cmpf .olt main_v34 main_v35
  let main_c_13 : IVec S_ 1 := constantI S_ 1 1#1
  let main_v37 : IVec S_ 1 := (fun x v => Host.reduce IntOp.andi x v reducesTo_S1x8x128x128_S_d0_1_2_3 h_S_) main_v36 main_c_13
  let main_v38 : IVec S_ 1 := andi main_v33 main_v37
  let main_v39 : FVec F S1x8x128 .f32 := Host.absf main_arg8
  let main_cst_14 : FVec F S_ .f32 := constant S_ .f32 0x7F800000#32
  let main_v40 : FVec F S1x8x128 .f32 := broadcastInDim S1x8x128 ![] bcast_S_S1x8x128 main_cst_14
  let main_v41 : IVec S1x8x128 1 := cmpf .olt main_v39 main_v40
  let main_c_15 : IVec S_ 1 := constantI S_ 1 1#1
  let main_v42 : IVec S_ 1 := (fun x v => Host.reduce IntOp.andi x v reducesTo_S1x8x128_S_d0_1_2 h_S_) main_v41 main_c_15
  let main_v43 : IVec S_ 1 := andi main_v38 main_v42
  let main_v44 : FVec F S1x31x512 .f32 := Host.absf main_arg9
  let main_cst_16 : FVec F S_ .f32 := constant S_ .f32 0x7F800000#32
  let main_v45 : FVec F S1x31x512 .f32 := broadcastInDim S1x31x512 ![] bcast_S_S1x31x512 main_cst_16
  let main_v46 : IVec S1x31x512 1 := cmpf .olt main_v44 main_v45
  let main_c_17 : IVec S_ 1 := constantI S_ 1 1#1
  let main_v47 : IVec S_ 1 := (fun x v => Host.reduce IntOp.andi x v reducesTo_S1x31x512_S_d0_1_2 h_S_) main_v46 main_c_17
  let main_v48 : IVec S_ 1 := andi main_v43 main_v47
  let main_v49 : FVec F S1x512 .f32 := Host.absf main_arg10
  let main_cst_18 : FVec F S_ .f32 := constant S_ .f32 0x7F800000#32
  let main_v50 : FVec F S1x512 .f32 := broadcastInDim S1x512 ![] bcast_S_S1x512 main_cst_18
  fn_part3 (F := F) main_arg11 main_arg12 main_arg13 main_arg14 main_arg15 main_v48 main_v49 main_v50

def fn_part1 {F : FTy → Type} [FloatOps F] (main_arg4 : FVec F S1x2048 .f32) (main_arg5 : FVec F S1x512 .f32) (main_arg6 : FVec F S1x512 .f32) (main_arg7 : FVec F S1x8x128x128 .f32) (main_arg8 : FVec F S1x8x128 .f32) (main_arg9 : FVec F S1x31x512 .f32) (main_arg10 : FVec F S1x512 .f32) (main_arg11 : FVec F S1x512 .f32) (main_arg12 : FVec F S1x512 .f32) (main_arg13 : FVec F S1x512 .f32) (main_arg14 : FVec F S1x512 .f32) (main_arg15 : FVec F S1x1024x1024 .f32) (main_v13 : IVec S_ 1) (main_v16 : IVec S1x1024x2048 1) : IVec S_ 1 :=
  let main_c_5 : IVec S_ 1 := constantI S_ 1 1#1
  let main_v17 : IVec S_ 1 := (fun x v => Host.reduce IntOp.andi x v reducesTo_S1x1024x2048_S_d0_1_2 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S1x8192x1024 .f32) (main_arg1 : FVec F S1x6144 .f32) (main_arg2 : FVec F S1x1024 .f32) (main_arg3 : FVec F S1x1024x2048 .f32) (main_arg4 : FVec F S1x2048 .f32) (main_arg5 : FVec F S1x512 .f32) (main_arg6 : FVec F S1x512 .f32) (main_arg7 : FVec F S1x8x128x128 .f32) (main_arg8 : FVec F S1x8x128 .f32) (main_arg9 : FVec F S1x31x512 .f32) (main_arg10 : FVec F S1x512 .f32) (main_arg11 : FVec F S1x512 .f32) (main_arg12 : FVec F S1x512 .f32) (main_arg13 : FVec F S1x512 .f32) (main_arg14 : FVec F S1x512 .f32) (main_arg15 : FVec F S1x1024x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x6144 .f32 := Host.absf main_arg1
  let main_cst_0 : FVec F S_ .f32 := constant S_ .f32 0x7F800000#32
  let main_v5 : FVec F S1x6144 .f32 := broadcastInDim S1x6144 ![] bcast_S_S1x6144 main_cst_0
  let main_v6 : IVec S1x6144 1 := cmpf .olt main_v4 main_v5
  let main_c_1 : IVec S_ 1 := constantI S_ 1 1#1
  let main_v7 : IVec S_ 1 := (fun x v => Host.reduce IntOp.andi x v reducesTo_S1x6144_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x2048 .f32 := Host.absf main_arg3
  let main_cst_4 : FVec F S_ .f32 := constant S_ .f32 0x7F800000#32
  let main_v15 : FVec F S1x1024x2048 .f32 := broadcastInDim S1x1024x2048 ![] bcast_S_S1x1024x2048 main_cst_4
  let main_v16 : IVec S1x1024x2048 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S1x8192x1024 : Shape := ⟨3, ![1, 8192, 1024]⟩
abbrev S1x6144 : Shape := ⟨2, ![1, 6144]⟩
abbrev S1x2048 : Shape := ⟨2, ![1, 2048]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S8192x1024 : Shape := ⟨2, ![8192, 1024]⟩
abbrev S6x1024 : Shape := ⟨2, ![6, 1024]⟩
abbrev S2x1024 : Shape := ⟨2, ![2, 1024]⟩
abbrev S8x1024 : Shape := ⟨2, ![8, 1024]⟩
abbrev S1024x5632 : Shape := ⟨2, ![1024, 5632]⟩
abbrev S5632x1024 : Shape := ⟨2, ![5632, 1024]⟩
abbrev S2816x1024 : Shape := ⟨2, ![2816, 1024]⟩
abbrev S8192x5632 : Shape := ⟨2, ![8192, 5632]⟩
abbrev S8192x2816 : Shape := ⟨2, ![8192, 2816]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S1024x1024 : Shape := ⟨2, ![1024, 1024]⟩
abbrev S768x1024 : Shape := ⟨2, ![768, 1024]⟩
abbrev S256x768 : Shape := ⟨2, ![256, 768]⟩

abbrev nBuf : Space → Nat
  | .hbm => 25
  | .vmem => 22
  | .smem => 0
  | _ => 0

abbrev bufTy : (tb : Table) → Fin (tcTables nBuf tb) → BufTy
  | .hbm, ⟨0, _⟩ => ⟨S1x8192x1024, .f32⟩
  | .hbm, ⟨1, _⟩ => ⟨S1x6144, .f32⟩
  | .hbm, ⟨2, _⟩ => ⟨S1x2048, .f32⟩
  | .hbm, ⟨3, _⟩ => ⟨S1x1024, .f32⟩
  | .hbm, ⟨4, _⟩ => ⟨S1x1024x5632, .f32⟩
  | .hbm, ⟨5, _⟩ => ⟨S1x2816x1024, .f32⟩
  | .hbm, ⟨6, _⟩ => ⟨S1024, .f32⟩
  | .hbm, ⟨7, _⟩ => ⟨S1x8192x1024, .f32⟩
  | .hbm, ⟨8, _⟩ => ⟨S8192x1024, .f32⟩
  | .hbm, ⟨9, _⟩ => ⟨S8192x1024, .f32⟩
  | .hbm, ⟨10, _⟩ => ⟨S6x1024, .f32⟩
  | .hbm, ⟨11, _⟩ => ⟨S2x1024, .f32⟩
  | .hbm, ⟨12, _⟩ => ⟨S8x1024, .f32⟩
  | .hbm, ⟨13, _⟩ => ⟨S1024x5632, .f32⟩
  | .hbm, ⟨14, _⟩ => ⟨S5632x1024, .f32⟩
  | .hbm, ⟨15, _⟩ => ⟨S5632x1024, .bf16⟩
  | .hbm, ⟨16, _⟩ => ⟨S2816x1024, .f32⟩
  | .hbm, ⟨17, _⟩ => ⟨S2816x1024, .bf16⟩
  | .hbm, ⟨18, _⟩ => ⟨S1x1024, .f32⟩
  | .hbm, ⟨19, _⟩ => ⟨S8192x1024, .f32⟩
  | .hbm, ⟨20, _⟩ => ⟨S8192x1024, .bf16⟩
  | .hbm, ⟨21, _⟩ => ⟨S8192x5632, .bf16⟩
  | .hbm, ⟨22, _⟩ => ⟨S8192x2816, .bf16⟩
  | .hbm, ⟨23, _⟩ => ⟨S8192x1024, .bf16⟩
  | .hbm, ⟨24, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S1x1024, .f32⟩
  | .local _ .vmem, ⟨6, _⟩ => ⟨S1x1024, .f32⟩
  | .local _ .vmem, ⟨7, _⟩ => ⟨S5632x1024, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x5632, .bf16⟩
  | .local _ .vmem, ⟨14, _⟩ => ⟨S256x5632, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .bf16⟩
  | .local _ .vmem, ⟨18, _⟩ => ⟨S256x1024, .bf16⟩
  | .local _ .vmem, ⟨19, _⟩ => ⟨S8x1024, .f32⟩
  | .local _ .vmem, ⟨20, _⟩ => ⟨S256x2816, .f32⟩
  | .local _ .vmem, ⟨21, _⟩ => ⟨S256x2816, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S1x8192x1024 : Shape := ⟨3, ![1, 8192, 1024]⟩
abbrev S1x6144 : Shape := ⟨2, ![1, 6144]⟩
abbrev S1x2048 : Shape := ⟨2, ![1, 2048]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S1x8192x5632 : Shape := ⟨3, ![1, 8192, 5632]⟩
abbrev S1x8192 : Shape := ⟨2, ![1, 8192]⟩
abbrev S1x8192x1 : Shape := ⟨3, ![1, 8192, 1]⟩
abbrev S1x1x1024 : Shape := ⟨3, ![1, 1, 1024]⟩
abbrev S1024x5632 : Shape := ⟨2, ![1024, 5632]⟩
abbrev S1x8192x2816 : Shape := ⟨3, ![1, 8192, 2816]⟩
abbrev S2816x1024 : Shape := ⟨2, ![2816, 1024]⟩
abbrev S8192 : Shape := ⟨1, ![8192]⟩
abbrev S6x1024 : Shape := ⟨2, ![6, 1024]⟩
abbrev S2x1024 : Shape := ⟨2, ![2, 1024]⟩
abbrev S8x1024 : Shape := ⟨2, ![8, 1024]⟩
abbrev S8192x1024 : Shape := ⟨2, ![8192, 1024]⟩
abbrev S8192x5632 : Shape := ⟨2, ![8192, 5632]⟩
abbrev S8192x2816 : Shape := ⟨2, ![8192, 2816]⟩

abbrev nBuf : Space → Nat
  | .hbm => 255
  | .vmem => 0
  | .smem => 0
  | _ => 0

abbrev hbmTy0_0 (i : Nat) : BufTy := match i % 128 with
  | 0 => ⟨S1x8192x1024, .f32⟩
  | 1 => ⟨S1x6144, .f32⟩
  | 2 => ⟨S1x2048, .f32⟩
  | 3 => ⟨S1x1024, .f32⟩
  | 4 => ⟨S1x1024x5632, .f32⟩
  | 5 => ⟨S1x2816x1024, .f32⟩
  | 6 => ⟨S1024, .f32⟩
  | 7 => ⟨S1x8192x1024, .f32⟩
  | 8 => ⟨S_, .f32⟩
  | 9 => ⟨S1x8192x5632, .f32⟩
  | 10 => ⟨S_, .f32⟩
  | 11 => ⟨S1x8192x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1024, .f32⟩
  | 19 => ⟨S1x8192x1024, .f32⟩
  | 20 => ⟨S_, .f32⟩
  | 21 => ⟨S1x8192, .f32⟩
  | 22 => ⟨S1x8192x1, .f32⟩
  | 23 => ⟨S_, .f32⟩
  | 24 => ⟨S1x8192x1, .f32⟩
  | 25 => ⟨S1x8192x1, .f32⟩
  | 26 => ⟨S_, .f32⟩
  | 27 => ⟨S1x8192x1, .f32⟩
  | 28 => ⟨S1x8192x1, .f32⟩
  | 29 => ⟨S1x8192x1, .f32⟩
  | 30 => ⟨S1x8192x1, .f32⟩
  | 31 => ⟨S_, .f32⟩
  | 32 => ⟨S1x8192x1, .f32⟩
  | 33 => ⟨S1x8192x1, .f32⟩
  | 34 => ⟨S1x8192x1024, .f32⟩
  | 35 => ⟨S1x8192x1024, .f32⟩
  | 36 => ⟨S1x1x1024, .f32⟩
  | 37 => ⟨S1x8192x1024, .f32⟩
  | 38 => ⟨S1x8192x1024, .f32⟩
  | 39 => ⟨S1x1x1024, .f32⟩
  | 40 => ⟨S_, .f32⟩
  | 41 => ⟨S1x1x1024, .f32⟩
  | 42 => ⟨S1x1x1024, .f32⟩
  | 43 => ⟨S1x8192x1024, .f32⟩
  | 44 => ⟨S1x8192x1024, .f32⟩
  | 45 => ⟨S1x1x1024, .f32⟩
  | 46 => ⟨S1x8192x1024, .f32⟩
  | 47 => ⟨S1x8192x1024, .f32⟩
  | 48 => ⟨S1024x5632, .f32⟩
  | 49 => ⟨S1x8192x5632, .f32⟩
  | 50 => ⟨S1x8192x5632, .f32⟩
  | 51 => ⟨S1x8192x2816, .f32⟩
  | 52 => ⟨S1x8192x2816, .f32⟩
  | 53 => ⟨S1x8192x2816, .f32⟩
  | 54 => ⟨S1x8192x2816, .f32⟩
  | 55 => ⟨S_, .f32⟩
  | 56 => ⟨S1x8192x2816, .f32⟩
  | 57 => ⟨S1x8192x2816, .f32⟩
  | 58 => ⟨S_, .f32⟩
  | 59 => ⟨S1x8192x2816, .f32⟩
  | 60 => ⟨S1x8192x2816, .f32⟩
  | 61 => ⟨S_, .f32⟩
  | 62 => ⟨S1x8192x2816, .f32⟩
  | 63 => ⟨S1x8192x2816, .f32⟩
  | 64 => ⟨S1x8192x2816, .f32⟩
  | 65 => ⟨S1x8192x2816, .f32⟩
  | 66 => ⟨S1x8192x2816, .f32⟩
  | 67 => ⟨S2816x1024, .f32⟩
  | 68 => ⟨S1x8192x1024, .f32⟩
  | 69 => ⟨S1x8192x1024, .f32⟩
  | 70 => ⟨S1x1x1024, .f32⟩
  | 71 => ⟨S1x8192x1024, .f32⟩
  | 72 => ⟨S1x8192x1024, .f32⟩
  | 73 => ⟨S1x8192x1024, .f32⟩
  | 74 => ⟨S1x1024, .f32⟩
  | 75 => ⟨S1x1024, .f32⟩
  | 76 => ⟨S1x8192x1024, .f32⟩
  | 77 => ⟨S_, .f32⟩
  | 78 => ⟨S1x8192, .f32⟩
  | 79 => ⟨S1x8192x1, .f32⟩
  | 80 => ⟨S_, .f32⟩
  | 81 => ⟨S1x8192x1, .f32⟩
  | 82 => ⟨S1x8192x1, .f32⟩
  | 83 => ⟨S_, .f32⟩
  | 84 => ⟨S1x8192x1, .f32⟩
  | 85 => ⟨S1x8192x1, .f32⟩
  | 86 => ⟨S1x8192x1, .f32⟩
  | 87 => ⟨S1x8192x1, .f32⟩
  | 88 => ⟨S_, .f32⟩
  | 89 => ⟨S1x8192x1, .f32⟩
  | 90 => ⟨S1x8192x1, .f32⟩
  | 91 => ⟨S1x8192x1024, .f32⟩
  | 92 => ⟨S1x8192x1024, .f32⟩
  | 93 => ⟨S1x1x1024, .f32⟩
  | 94 => ⟨S1x8192x1024, .f32⟩
  | 95 => ⟨S1x8192x1024, .f32⟩
  | 96 => ⟨S1x1x1024, .f32⟩
  | 97 => ⟨S_, .f32⟩
  | 98 => ⟨S1x1x1024, .f32⟩
  | 99 => ⟨S1x1x1024, .f32⟩
  | 100 => ⟨S1x8192x1024, .f32⟩
  | 101 => ⟨S1x8192x1024, .f32⟩
  | 102 => ⟨S1x1x1024, .f32⟩
  | 103 => ⟨S1x8192x1024, .f32⟩
  | 104 => ⟨S1x8192x1024, .f32⟩
  | 105 => ⟨S1x8192x1024, .f32⟩
  | 106 => ⟨S1x8192x1024, .f32⟩
  | 107 => ⟨S_, .f32⟩
  | 108 => ⟨S1x8192x1024, .f32⟩
  | 109 => ⟨S1x8192x1024, .f32⟩
  | 110 => ⟨S_, .f32⟩
  | 111 => ⟨S1x8192, .f32⟩
  | 112 => ⟨S_, .f32⟩
  | 113 => ⟨S1x8192, .f32⟩
  | 114 => ⟨S1x8192, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S1x8192, .f32⟩
  | 123 => ⟨S_, .f32⟩
  | 124 => ⟨S1x8192, .f32⟩
  | 125 => ⟨S1x8192, .f32⟩
  | 126 => ⟨S1x8192x1024, .f32⟩
  | 127 => ⟨S1x8192x1024, .f32⟩
  | _ => ⟨S1x8192x1024, .f32⟩

abbrev hbmTy0_1 (i : Nat) : BufTy := match i % 128 with
  | 0 => ⟨S_, .f32⟩
  | 1 => ⟨S1x1024, .f32⟩
  | 2 => ⟨S1x1x1024, .f32⟩
  | 3 => ⟨S_, .f32⟩
  | 4 => ⟨S1024, .f32⟩
  | 5 => ⟨S1x1024, .f32⟩
  | 6 => ⟨S1x8192x1024, .f32⟩
  | 7 => ⟨S_, .f32⟩
  | 8 => ⟨S1x1024, .f32⟩
  | 9 => ⟨S1x1x1024, .f32⟩
  | 10 => ⟨S1x8192x1024, .f32⟩
  | 11 => ⟨S1x8192x1024, .f32⟩
  | 12 => ⟨S_, .f32⟩
  | 13 => ⟨S1024, .f32⟩
  | 14 => ⟨S1x1024, .f32⟩
  | 15 => ⟨S1x8192x1024, .f32⟩
  | 16 => ⟨S_, .f32⟩
  | 17 => ⟨S1x1024, .f32⟩
  | 18 => ⟨S1x1x1024, .f32⟩
  | 19 => ⟨S1x8192x1024, .f32⟩
  | 20 => ⟨S1x8192x1024, .f32⟩
  | 21 => ⟨S_, .f32⟩
  | 22 => ⟨S1024, .f32⟩
  | 23 => ⟨S1x8192x1024, .f32⟩
  | 24 => ⟨S_, .f32⟩
  | 25 => ⟨S1x8192, .f32⟩
  | 26 => ⟨S1x8192x1, .f32⟩
  | 27 => ⟨S1x8192x1024, .f32⟩
  | 28 => ⟨S1x8192x1024, .f32⟩
  | 29 => ⟨S1x8192x1, .f32⟩
  | 30 => ⟨S_, .f32⟩
  | 31 => ⟨S1x8192x1, .f32⟩
  | 32 => ⟨S1x8192x1, .f32⟩
  | 33 => ⟨S_, .f32⟩
  | 34 => ⟨S8192, .f32⟩
  | 35 => ⟨S1x8192, .f32⟩
  | 36 => ⟨S1x8192x1024, .f32⟩
  | 37 => ⟨S1x8192x1024, .f32⟩
  | 38 => ⟨S1x8192x1024, .f32⟩
  | 39 => ⟨S1x8192x1024, .f32⟩
  | 40 => ⟨S1x8192x1024, .f32⟩
  | 41 => ⟨S1x2048, .f32⟩
  | 42 => ⟨S1x8192x1024, .f32⟩
  | 43 => ⟨S1x8192x1024, .f32⟩
  | 44 => ⟨S1x8192x1024, .f32⟩
  | 45 => ⟨S_, .f32⟩
  | 46 => ⟨S1x1024, .f32⟩
  | 47 => ⟨S1x1x1024, .f32⟩
  | 48 => ⟨S_, .f32⟩
  | 49 => ⟨S1024, .f32⟩
  | 50 => ⟨S1x1024, .f32⟩
  | 51 => ⟨S1x8192x2816, .f32⟩
  | 52 => ⟨S1x8192x2816, .f32⟩
  | 53 => ⟨S1x8192x2816, .f32⟩
  | 54 => ⟨S1x8192x2816, .f32⟩
  | 55 => ⟨S1x8192x2816, .f32⟩
  | 56 => ⟨S1x8192x2816, .f32⟩
  | 57 => ⟨S1x8192x2816, .f32⟩
  | 58 => ⟨S1x8192x5632, .f32⟩
  | 59 => ⟨S1x8192x1024, .f32⟩
  | 60 => ⟨S_, .f32⟩
  | 61 => ⟨S1x1024, .f32⟩
  | 62 => ⟨S1x1x1024, .f32⟩
  | 63 => ⟨S_, .f32⟩
  | 64 => ⟨S1024, .f32⟩
  | 65 => ⟨S1x1024, .f32⟩
  | 66 => ⟨S1x8192x1024, .f32⟩
  | 67 => ⟨S_, .f32⟩
  | 68 => ⟨S1x1024, .f32⟩
  | 69 => ⟨S1x1x1024, .f32⟩
  | 70 => ⟨S1x8192x1024, .f32⟩
  | 71 => ⟨S1x8192x1024, .f32⟩
  | 72 => ⟨S_, .f32⟩
  | 73 => ⟨S1024, .f32⟩
  | 74 => ⟨S1x1024, .f32⟩
  | 75 => ⟨S1x8192x1024, .f32⟩
  | 76 => ⟨S_, .f32⟩
  | 77 => ⟨S1x1024, .f32⟩
  | 78 => ⟨S1x1x1024, .f32⟩
  | 79 => ⟨S1x8192x1024, .f32⟩
  | 80 => ⟨S1x8192x1024, .f32⟩
  | 81 => ⟨S_, .f32⟩
  | 82 => ⟨S1024, .f32⟩
  | 83 => ⟨S1x8192x1024, .f32⟩
  | 84 => ⟨S_, .f32⟩
  | 85 => ⟨S1x8192, .f32⟩
  | 86 => ⟨S1x8192x1, .f32⟩
  | 87 => ⟨S1x8192x1024, .f32⟩
  | 88 => ⟨S1x8192x1024, .f32⟩
  | 89 => ⟨S1x8192x1024, .f32⟩
  | 90 => ⟨S1x8192x1, .f32⟩
  | 91 => ⟨S_, .f32⟩
  | 92 => ⟨S1x8192x1, .f32⟩
  | 93 => ⟨S1x8192x1, .f32⟩
  | 94 => ⟨S_, .f32⟩
  | 95 => ⟨S8192, .f32⟩
  | 96 => ⟨S1x8192, .f32⟩
  | 97 => ⟨S1x8192x1024, .f32⟩
  | 98 => ⟨S1x8192x1024, .f32⟩
  | 99 => ⟨S1x8192x1024, .f32⟩
  | 100 => ⟨S1x8192x1024, .f32⟩
  | 101 => ⟨S1x8192x1024, .f32⟩
  | 102 => ⟨S1x1024, .f32⟩
  | 103 => ⟨S_, .f32⟩
  | 104 => ⟨S1x1024, .f32⟩
  | 105 => ⟨S_, .f32⟩
  | 106 => ⟨S1x1024, .f32⟩
  | 107 => ⟨S_, .f32⟩
  | 108 => ⟨S1x1024, .f32⟩
  | 109 => ⟨S1x6144, .f32⟩
  | 110 => ⟨S6x1024, .f32⟩
  | 111 => ⟨S2x1024, .f32⟩
  | 112 => ⟨S1x1024, .f32⟩
  | 113 => ⟨S1x1024, .f32⟩
  | 114 => ⟨S2x1024, .f32⟩
  | 115 => ⟨S_, .f32⟩
  | 116 => ⟨S1x1024, .f32⟩
  | 117 => ⟨S8x1024, .f32⟩
  | 118 => ⟨S8192x1024, .f32⟩
  | 119 => ⟨S8192x1024, .f32⟩
  | 120 => ⟨S8192x1024, .bf16⟩
  | 121 => ⟨S8192x5632, .f32⟩
  | 122 => ⟨S8192x5632, .bf16⟩
  | 123 => ⟨S8192x2816, .f32⟩
  | 124 => ⟨S8192x2816, .bf16⟩
  | 125 => ⟨S8192x1024, .f32⟩
  | 126 => ⟨S8192x1024, .bf16⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_v38_2 : Ref sig .tc := ⟨.hbm, 60, rfl⟩
abbrev main_call0_cst_1 : Ref sig .tc := ⟨.hbm, 61, rfl⟩
abbrev main_call0_v6 : Ref sig .tc := ⟨.hbm, 62, rfl⟩
abbrev main_call0_v7 : Ref sig .tc := ⟨.hbm, 63, rfl⟩
abbrev main_v38_1 : Ref sig .tc := ⟨.hbm, 64, rfl⟩
abbrev main_v38_0 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_6 : Ref sig .tc := ⟨.hbm, 77, rfl⟩
abbrev main_v50 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_10 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_11 : Ref sig .tc := ⟨.hbm, 107, rfl⟩
abbrev main_v75 : Ref sig .tc := ⟨.hbm, 108, rfl⟩
abbrev main_v76 : Ref sig .tc := ⟨.hbm, 109, rfl⟩
abbrev main_cst_12 : Ref sig .tc := ⟨.hbm, 110, rfl⟩
abbrev main_v77 : Ref sig .tc := ⟨.hbm, 111, rfl⟩
abbrev main_cst_13 : Ref sig .tc := ⟨.hbm, 112, rfl⟩
abbrev main_v78 : Ref sig .tc := ⟨.hbm, 113, rfl⟩
abbrev main_v79 : Ref sig .tc := ⟨.hbm, 114, rfl⟩
abbrev main_cst_14 : Ref sig .tc := ⟨.hbm, 115, rfl⟩
abbrev main_v80 : Ref sig .tc := ⟨.hbm, 116, rfl⟩
abbrev main_cst_15 : Ref sig .tc := ⟨.hbm, 117, rfl⟩
abbrev main_v81 : Ref sig .tc := ⟨.hbm, 118, rfl⟩
abbrev main_cst_16 : Ref sig .tc := ⟨.hbm, 119, rfl⟩
abbrev main_cst_17 : Ref sig .tc := ⟨.hbm, 120, rfl⟩
abbrev main_v82 : Ref sig .tc := ⟨.hbm, 121, rfl⟩
abbrev main_v83 : Ref sig .tc := ⟨.hbm, 122, rfl⟩
abbrev main_cst_18 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_19 : Ref sig .tc := ⟨.hbm, 128, rfl⟩
abbrev main_v88 : Ref sig .tc := ⟨.hbm, 129, rfl⟩
abbrev main_v89 : Ref sig .tc := ⟨.hbm, 130, rfl⟩
abbrev main_cst_20 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_21 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_22 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_23 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_24 : Ref sig .tc := ⟨.hbm, 149, rfl⟩
abbrev main_v104 : Ref sig .tc := ⟨.hbm, 150, rfl⟩
abbrev main_v105 : Ref sig .tc := ⟨.hbm, 151, rfl⟩
abbrev main_cst_25 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_26 : Ref sig .tc := ⟨.hbm, 158, rfl⟩
abbrev main_v111 : Ref sig .tc := ⟨.hbm, 159, rfl⟩
abbrev main_v112 : Ref sig .tc := ⟨.hbm, 160, rfl⟩
abbrev main_cst_27 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_28 : Ref sig .tc := ⟨.hbm, 173, rfl⟩
abbrev main_v124 : Ref sig .tc := ⟨.hbm, 174, rfl⟩
abbrev main_v125 : Ref sig .tc := ⟨.hbm, 175, rfl⟩
abbrev main_cst_29 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_call1_v0 : Ref sig .tc := ⟨.hbm, 182, rfl⟩
abbrev main_call1_v1 : Ref sig .tc := ⟨.hbm, 183, rfl⟩
abbrev main_call1_v2 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_30 : Ref sig .tc := ⟨.hbm, 188, rfl⟩
abbrev main_v134 : Ref sig .tc := ⟨.hbm, 189, rfl⟩
abbrev main_v135 : Ref sig .tc := ⟨.hbm, 190, rfl⟩
abbrev main_cst_31 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_32 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_cst_33 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_cst_34 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_cst_35 : Ref sig .tc := ⟨.hbm, 209, rfl⟩
abbrev main_v150 : Ref sig .tc := ⟨.hbm, 210, rfl⟩
abbrev main_v151 : Ref sig .tc := ⟨.hbm, 211, rfl⟩
abbrev main_cst_36 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_cst_37 : Ref sig .tc := ⟨.hbm, 219, rfl⟩
abbrev main_v158 : Ref sig .tc := ⟨.hbm, 220, rfl⟩
abbrev main_v159 : Ref sig .tc := ⟨.hbm, 221, rfl⟩
abbrev main_cst_38 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_cst_39 : Ref sig .tc := ⟨.hbm, 231, rfl⟩
abbrev main_v168 : Ref sig .tc := ⟨.hbm, 232, rfl⟩
abbrev main_cst_40 : Ref sig .tc := ⟨.hbm, 233, rfl⟩
abbrev main_v169 : Ref sig .tc := ⟨.hbm, 234, rfl⟩
abbrev main_cst_41 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_cst_42 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩

abbrev nD : Nat := 1
abbrev τ : Topo := Topo.v7x

variable {F : FTy → Type} [FloatOps F]
-- ==== MixBwd.lean ====
abbrev S1x8192x1024 : Shape := ⟨3, ![1, 8192, 1024]⟩
abbrev S1x6144 : Shape := ⟨2, ![1, 6144]⟩
abbrev S1x1024 : Shape := ⟨2, ![1, 1024]⟩
abbrev S1x1024x2048 : Shape := ⟨3, ![1, 1024, 2048]⟩
abbrev S1x2048 : Shape := ⟨2, ![1, 2048]⟩
abbrev S1x512 : Shape := ⟨2, ![1, 512]⟩
abbrev S1x8x128x128 : Shape := ⟨4, ![1, 8, 128, 128]⟩
abbrev S1x8x128 : Shape := ⟨3, ![1, 8, 128]⟩
abbrev S1x31x512 : Shape := ⟨3, ![1, 31, 512]⟩
abbrev S1x1024x1024 : Shape := ⟨3, ![1, 1024, 1024]⟩
abbrev S8192x1024 : Shape := ⟨2, ![8192, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S1024x1024 : Shape := ⟨2, ![1024, 1024]⟩
abbrev S6x1024 : Shape := ⟨2, ![6, 1024]⟩
abbrev S_ : Shape := ⟨0, ![]⟩
abbrev S2x1024 : Shape := ⟨2, ![2, 1024]⟩
abbrev S8x1024 : Shape := ⟨2, ![8, 1024]⟩
abbrev S31x512 : Shape := ⟨2, ![31, 512]⟩
abbrev S32x512 : Shape := ⟨2, ![32, 512]⟩
abbrev S128x128 : Shape := ⟨2, ![128, 128]⟩
abbrev S1x128x128 : Shape := ⟨3, ![1, 128, 128]⟩
abbrev S8x128x128 : Shape := ⟨3, ![8, 128, 128]⟩
abbrev S1024x128 : Shape := ⟨2, ![1024, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S512x512 : Shape := ⟨2, ![512, 512]⟩
abbrev S512x128 : Shape := ⟨2, ![512, 128]⟩
abbrev S8192 : Shape := ⟨1, ![8192]⟩
abbrev S8192x1 : Shape := ⟨2, ![8192, 1]⟩
abbrev S8192x2048 : Shape := ⟨2, ![8192, 2048]⟩
abbrev S8192x512 : Shape := ⟨2, ![8192, 512]⟩
abbrev S64x128x512 : Shape := ⟨3, ![64, 128, 512]⟩
abbrev S64x128x64 : Shape := ⟨3, ![64, 128, 64]⟩
abbrev S64x64x128 : Shape := ⟨3, ![64, 64, 128]⟩
abbrev S1x128x512 : Shape := ⟨3, ![1, 128, 512]⟩
abbrev S8222x512 : Shape := ⟨2, ![8222, 512]⟩
abbrev S8192x31 : Shape := ⟨2, ![8192, 31]⟩
abbrev S8192x31x1 : Shape := ⟨3, ![8192, 31, 1]⟩
abbrev S8192x31x512 : Shape := ⟨3, ![8192, 31, 512]⟩
abbrev S8192x8x64 : Shape := ⟨3, ![8192, 8, 64]⟩
abbrev S8192x8 : Shape := ⟨2, ![8192, 8]⟩
abbrev S8192x8x1 : Shape := ⟨3, ![8192, 8, 1]⟩
abbrev S8192x128 : Shape := ⟨2, ![8192, 128]⟩
abbrev S8x512 : Shape := ⟨2, ![8, 512]⟩
abbrev S256x1024 : Shape := ⟨2, ![256, 1024]⟩
abbrev S256x512 : Shape := ⟨2, ![256, 512]⟩
abbrev S256x128 : Shape := ⟨2, ![256, 128]⟩
abbrev S288x512 : Shape := ⟨2, ![288, 512]⟩
abbrev S7x280x512 : Shape := ⟨3, ![7, 280, 512]⟩
abbrev S1024x256 : Shape := ⟨2, ![1024, 256]⟩
abbrev S256 : Shape := ⟨1, ![256]⟩
abbrev S256x1 : Shape := ⟨2, ![256, 1]⟩
abbrev S1024 : Shape := ⟨1, ![1024]⟩
abbrev S512 : Shape := ⟨1, ![512]⟩
abbrev S280x512 : Shape := ⟨2, ![280, 512]⟩
abbrev S1x280x512 : Shape := ⟨3, ![1, 280, 512]⟩
abbrev S1x256x512 : Shape := ⟨3, ![1, 256, 512]⟩
abbrev S256x2048 : Shape := ⟨2, ![256, 2048]⟩
abbrev S2048 : Shape := ⟨1, ![2048]⟩
abbrev S256x256 : Shape := ⟨2, ![256, 256]⟩
abbrev S1x1024x256 : Shape := ⟨3, ![1, 1024, 256]⟩

abbrev nBuf : Space → Nat
  | .hbm => 351
  | .vmem => 58
  | .smem => 0
  | _ => 0

abbrev hbmTy0_0 (i : Nat) : BufTy := match i % 128 with
  | 0 => ⟨S1x8192x1024, .f32⟩
  | 1 => ⟨S1x6144, .f32⟩
  | 2 => ⟨S1x1024, .f32⟩
  | 3 => ⟨S1x1024x2048, .f32⟩
  | 4 => ⟨S1x2048, .f32⟩
  | 5 => ⟨S1x512, .f32⟩
  | 6 => ⟨S1x512, .f32⟩
  | 7 => ⟨S1x8x128x128, .f32⟩
  | 8 => ⟨S1x8x128, .f32⟩
  | 9 => ⟨S1x31x512, .f32⟩
  | 10 => ⟨S1x512, .f32⟩
  | 11 => ⟨S1x512, .f32⟩
  | 12 => ⟨S1x512, .f32⟩
  | 13 => ⟨S1x512, .f32⟩
  | 14 => ⟨S1x512, .f32⟩
  | 15 => ⟨S1x1024x1024, .f32⟩
  | 16 => ⟨S1x8192x1024, .f32⟩
  | 17 => ⟨S8192x1024, .f32⟩
  | 18 => ⟨S1024x2048, .f32⟩
  | 19 => ⟨S1024x8x256, .f32⟩
  | 20 => ⟨S8x1024x256, .f32⟩
  | 21 => ⟨S8x1024x256, .bf16⟩
  | 22 => ⟨S1024x1024, .f32⟩
  | 23 => ⟨S1024x1024, .bf16⟩
  | 24 => ⟨S6x1024, .f32⟩
  | 25 => ⟨S_, .f32⟩
  | 26 => ⟨S2x1024, .f32⟩
  | 27 => ⟨S8x1024, .f32⟩
  | 28 => ⟨S31x512, .f32⟩
  | 29 => ⟨S_, .i32⟩
  | 30 => ⟨S_, .f32⟩
  | 31 => ⟨S32x512, .f32⟩
  | 32 => ⟨S_, .i1⟩
  | 33 => ⟨S128x128, .i1⟩
  | 34 => ⟨S128x128, .i32⟩
  | 35 => ⟨S_, .i32⟩
  | 36 => ⟨S128x128, .i32⟩
  | 37 => ⟨S128x128, .i32⟩
  | 38 => ⟨S128x128, .i32⟩
  | 39 => ⟨S128x128, .i1⟩
  | 40 => ⟨S_, .i1⟩
  | 41 => ⟨S128x128, .i1⟩
  | 42 => ⟨S128x128, .i1⟩
  | 43 => ⟨S1x128x128, .i1⟩
  | 44 => ⟨S8x128x128, .f32⟩
  | 45 => ⟨S_, .f32⟩
  | 46 => ⟨S_, .f32⟩
  | 47 => ⟨S8x128x128, .i1⟩
  | 48 => ⟨S8x128x128, .f32⟩
  | 49 => ⟨S8x128x128, .f32⟩
  | 50 => ⟨S8x128x128, .bf16⟩
  | 51 => ⟨S1024x128, .bf16⟩
  | 52 => ⟨S8x128x128, .bf16⟩
  | 53 => ⟨S1024x128, .bf16⟩
  | 54 => ⟨S8x128, .f32⟩
  | 55 => ⟨S128x8, .f32⟩
  | 56 => ⟨S128x8x64, .f32⟩
  | 57 => ⟨S128x512, .f32⟩
  | 58 => ⟨S512x512, .i32⟩
  | 59 => ⟨S_, .i32⟩
  | 60 => ⟨S512x512, .i32⟩
  | 61 => ⟨S512x512, .i32⟩
  | 62 => ⟨S512x512, .i32⟩
  | 63 => ⟨S_, .i32⟩
  | 64 => ⟨S512x512, .i32⟩
  | 65 => ⟨S512x512, .i32⟩
  | 66 => ⟨S512x512, .i1⟩
  | 67 => ⟨S_, .f32⟩
  | 68 => ⟨S_, .f32⟩
  | 69 => ⟨S512x512, .f32⟩
  | 70 => ⟨S512x512, .f32⟩
  | 71 => ⟨S512x512, .f32⟩
  | 72 => ⟨S512x512, .bf16⟩
  | 73 => ⟨S512x128, .i32⟩
  | 74 => ⟨S_, .i32⟩
  | 75 => ⟨S512x128, .i32⟩
  | 76 => ⟨S512x128, .i32⟩
  | 77 => ⟨S512x128, .i32⟩
  | 78 => ⟨S512x128, .i1⟩
  | 79 => ⟨S_, .f32⟩
  | 80 => ⟨S_, .f32⟩
  | 81 => ⟨S512x128, .f32⟩
  | 82 => ⟨S512x128, .f32⟩
  | 83 => ⟨S512x128, .f32⟩
  | 84 => ⟨S512x128, .bf16⟩
  | 85 => ⟨S1024x2048, .f32⟩
  | 86 => ⟨S1024x2048, .bf16⟩
  | 87 => ⟨S8192x1024, .f32⟩
  | 88 => ⟨S_, .f32⟩
  | 89 => ⟨S8192, .f32⟩
  | 90 => ⟨S8192x1, .f32⟩
  | 91 => ⟨S_, .f32⟩
  | 92 => ⟨S8192x1, .f32⟩
  | 93 => ⟨S8192x1, .f32⟩
  | 94 => ⟨S_, .f32⟩
  | 95 => ⟨S8192x1, .f32⟩
  | 96 => ⟨S8192x1, .f32⟩
  | 97 => ⟨S8192x1, .f32⟩
  | 98 => ⟨S8192x1024, .f32⟩
  | 99 => ⟨S8192x1024, .f32⟩
  | 100 => ⟨S8192x1024, .f32⟩
  | 101 => ⟨S8192x1024, .f32⟩
  | 102 => ⟨S1x1024, .f32⟩
  | 103 => ⟨S_, .f32⟩
  | 104 => ⟨S1x1024, .f32⟩
  | 105 => ⟨S1x1024, .f32⟩
  | 106 => ⟨S8192x1024, .f32⟩
  | 107 => ⟨S8192x1024, .f32⟩
  | 108 => ⟨S1x1024, .f32⟩
  | 109 => ⟨S8192x1024, .f32⟩
  | 110 => ⟨S8192x1024, .f32⟩
  | 111 => ⟨S8192x1024, .bf16⟩
  | 112 => ⟨S8192x2048, .f32⟩
  | 113 => ⟨S8192x2048, .f32⟩
  | 114 => ⟨S8192x2048, .f32⟩
  | 115 => ⟨S8192x512, .f32⟩
  | 116 => ⟨S_, .f32⟩
  | 117 => ⟨S8192x512, .f32⟩
  | 118 => ⟨S8192x512, .f32⟩
  | 119 => ⟨S8192x512, .f32⟩
  | 120 => ⟨S_, .f32⟩
  | 121 => ⟨S8192x512, .f32⟩
  | 122 => ⟨S8192x512, .f32⟩
  | 123 => ⟨S_, .f32⟩
  | 124 => ⟨S8192x512, .f32⟩
  | 125 => ⟨S8192x512, .f32⟩
  | 126 => ⟨S_, .f32⟩
  | 127 => ⟨S8192x512, .f32⟩
  | _ => ⟨S1x8192x1024, .f32⟩

abbrev hbmTy0_1 (i : Nat) : BufTy := match i % 128 with
  | 0 => ⟨S8192x512, .f32⟩
  | 1 => ⟨S8192x512, .f32⟩
  | 2 => ⟨S8192x512, .f32⟩
  | 3 => ⟨S_, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S8192x512, .f32⟩
  | 14 => ⟨S_, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S8192x512, .f32⟩
  | 29 => ⟨S8192x512, .f32⟩
  | 30 => ⟨S8192x512, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S8192x512, .f32⟩
  | 38 => ⟨S8192x512, .f32⟩
  | 39 => ⟨S8192x512, .f32⟩
  | 40 => ⟨S_, .f32⟩
  | 41 => ⟨S8192, .f32⟩
  | 42 => ⟨S8192x1, .f32⟩
  | 43 => ⟨S_, .f32⟩
  | 44 => ⟨S8192x1, .f32⟩
  | 45 => ⟨S8192x1, .f32⟩
  | 46 => ⟨S_, .f32⟩
  | 47 => ⟨S8192x1, .f32⟩
  | 48 => ⟨S8192x1, .f32⟩
  | 49 => ⟨S8192x1, .f32⟩
  | 50 => ⟨S8192x512, .f32⟩
  | 51 => ⟨S8192x512, .f32⟩
  | 52 => ⟨S8192x512, .f32⟩
  | 53 => ⟨S8192x512, .f32⟩
  | 54 => ⟨S8192x512, .f32⟩
  | 55 => ⟨S8192x512, .f32⟩
  | 56 => ⟨S8192x512, .bf16⟩
  | 57 => ⟨S64x128x512, .bf16⟩
  | 58 => ⟨S1x128x128, .bf16⟩
  | 59 => ⟨S128x128, .bf16⟩
  | 60 => ⟨S64x128x64, .bf16⟩
  | 61 => ⟨S64x64x128, .f32⟩
  | 62 => ⟨S64x128x64, .f32⟩
  | 63 => ⟨S1x128x128, .bf16⟩
  | 64 => ⟨S128x128, .bf16⟩
  | 65 => ⟨S64x128x64, .bf16⟩
  | 66 => ⟨S64x64x128, .f32⟩
  | 67 => ⟨S64x128x64, .f32⟩
  | 68 => ⟨S1x128x128, .bf16⟩
  | 69 => ⟨S128x128, .bf16⟩
  | 70 => ⟨S64x128x64, .bf16⟩
  | 71 => ⟨S64x64x128, .f32⟩
  | 72 => ⟨S64x128x64, .f32⟩
  | 73 => ⟨S1x128x128, .bf16⟩
  | 74 => ⟨S128x128, .bf16⟩
  | 75 => ⟨S64x128x64, .bf16⟩
  | 76 => ⟨S64x64x128, .f32⟩
  | 77 => ⟨S64x128x64, .f32⟩
  | 78 => ⟨S1x128x128, .bf16⟩
  | 79 => ⟨S128x128, .bf16⟩
  | 80 => ⟨S64x128x64, .bf16⟩
  | 81 => ⟨S64x64x128, .f32⟩
  | 82 => ⟨S64x128x64, .f32⟩
  | 83 => ⟨S1x128x128, .bf16⟩
  | 84 => ⟨S128x128, .bf16⟩
  | 85 => ⟨S64x128x64, .bf16⟩
  | 86 => ⟨S64x64x128, .f32⟩
  | 87 => ⟨S64x128x64, .f32⟩
  | 88 => ⟨S1x128x128, .bf16⟩
  | 89 => ⟨S128x128, .bf16⟩
  | 90 => ⟨S64x128x64, .bf16⟩
  | 91 => ⟨S64x64x128, .f32⟩
  | 92 => ⟨S64x128x64, .f32⟩
  | 93 => ⟨S1x128x128, .bf16⟩
  | 94 => ⟨S128x128, .bf16⟩
  | 95 => ⟨S64x128x64, .bf16⟩
  | 96 => ⟨S64x64x128, .f32⟩
  | 97 => ⟨S64x128x64, .f32⟩
  | 98 => ⟨S64x128x512, .f32⟩
  | 99 => ⟨S1x128x512, .f32⟩
  | 100 => ⟨S64x128x512, .f32⟩
  | 101 => ⟨S64x128x512, .f32⟩
  | 102 => ⟨S8192x512, .f32⟩
  | 103 => ⟨S8192x512, .f32⟩
  | 104 => ⟨S8192x512, .f32⟩
  | 105 => ⟨S8192x512, .f32⟩
  | 106 => ⟨S8192x512, .f32⟩
  | 107 => ⟨S8192x512, .f32⟩
  | 108 => ⟨S_, .f32⟩
  | 109 => ⟨S8192x512, .f32⟩
  | 110 => ⟨S8192x512, .f32⟩
  | 111 => ⟨S_, .f32⟩
  | 112 => ⟨S8192x512, .f32⟩
  | 113 => ⟨S8192x512, .f32⟩
  | 114 => ⟨S8192x512, .f32⟩
  | 115 => ⟨S_, .i32⟩
  | 116 => ⟨S_, .f32⟩
  | 117 => ⟨S8222x512, .f32⟩
  | 118 => ⟨S8192x31, .i32⟩
  | 119 => ⟨S8192x31, .i32⟩
  | 120 => ⟨S8192x31, .i32⟩
  | 121 => ⟨S_, .i32⟩
  | 122 => ⟨S8192x31, .i32⟩
  | 123 => ⟨S8192x31, .i1⟩
  | 124 => ⟨S_, .i32⟩
  | 125 => ⟨S8192x31, .i32⟩
  | 126 => ⟨S8192x31, .i32⟩
  | 127 => ⟨S8192x31, .i32⟩
  | _ => ⟨S1x8192x1024, .f32⟩

abbrev hbmTy0_2 (i : Nat) : BufTy := match i % 128 with
  | 0 => ⟨S8192x31x1, .i32⟩
  | 1 => ⟨S8192x31x512, .f32⟩
  | 2 => ⟨S31x512, .f32⟩
  | 3 => ⟨S1x31x512, .f32⟩
  | 4 => ⟨S8192x31x512, .f32⟩
  | 5 => ⟨S8192x31x512, .f32⟩
  | 6 => ⟨S_, .f32⟩
  | 7 => ⟨S8192x512, .f32⟩
  | 8 => ⟨S8192x512, .f32⟩
  | 9 => ⟨S8192x512, .f32⟩
  | 10 => ⟨S8192x8x64, .f32⟩
  | 11 => ⟨S_, .f32⟩
  | 12 => ⟨S8192x8, .f32⟩
  | 13 => ⟨S8192x8x1, .f32⟩
  | 14 => ⟨S_, .f32⟩
  | 15 => ⟨S8192x8x1, .f32⟩
  | 16 => ⟨S8192x8x1, .f32⟩
  | 17 => ⟨S8192x8x64, .f32⟩
  | 18 => ⟨S8192x8x64, .f32⟩
  | 19 => ⟨S8192x8x64, .f32⟩
  | 20 => ⟨S_, .f32⟩
  | 21 => ⟨S8192x8, .f32⟩
  | 22 => ⟨S8192x8x1, .f32⟩
  | 23 => ⟨S_, .f32⟩
  | 24 => ⟨S8192x8x1, .f32⟩
  | 25 => ⟨S8192x8x1, .f32⟩
  | 26 => ⟨S_, .f32⟩
  | 27 => ⟨S8192x8x1, .f32⟩
  | 28 => ⟨S8192x8x1, .f32⟩
  | 29 => ⟨S8192x8x1, .f32⟩
  | 30 => ⟨S8192x8x64, .f32⟩
  | 31 => ⟨S8192x8x64, .f32⟩
  | 32 => ⟨S8192x512, .f32⟩
  | 33 => ⟨S8192x8x64, .f32⟩
  | 34 => ⟨S8192x512, .f32⟩
  | 35 => ⟨S8192x512, .f32⟩
  | 36 => ⟨S8192x512, .f32⟩
  | 37 => ⟨S8192x512, .f32⟩
  | 38 => ⟨S8192x512, .f32⟩
  | 39 => ⟨S8192x512, .f32⟩
  | 40 => ⟨S8192x512, .f32⟩
  | 41 => ⟨S_, .f32⟩
  | 42 => ⟨S8192x512, .f32⟩
  | 43 => ⟨S8192x512, .f32⟩
  | 44 => ⟨S_, .f32⟩
  | 45 => ⟨S8192x512, .f32⟩
  | 46 => ⟨S8192x512, .f32⟩
  | 47 => ⟨S8192x512, .f32⟩
  | 48 => ⟨S8192x512, .f32⟩
  | 49 => ⟨S_, .f32⟩
  | 50 => ⟨S8192, .f32⟩
  | 51 => ⟨S8192x1, .f32⟩
  | 52 => ⟨S_, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1, .f32⟩
  | 59 => ⟨S8192x512, .f32⟩
  | 60 => ⟨S8192x512, .f32⟩
  | 61 => ⟨S8192x512, .f32⟩
  | 62 => ⟨S8192x512, .f32⟩
  | 63 => ⟨S8192x512, .f32⟩
  | 64 => ⟨S_, .f32⟩
  | 65 => ⟨S8192, .f32⟩
  | 66 => ⟨S8192x1, .f32⟩
  | 67 => ⟨S_, .f32⟩
  | 68 => ⟨S8192x1, .f32⟩
  | 69 => ⟨S8192x1, .f32⟩
  | 70 => ⟨S_, .f32⟩
  | 71 => ⟨S8192x1, .f32⟩
  | 72 => ⟨S8192x1, .f32⟩
  | 73 => ⟨S8192x1, .f32⟩
  | 74 => ⟨S8192x512, .f32⟩
  | 75 => ⟨S8192x512, .f32⟩
  | 76 => ⟨S8192x512, .f32⟩
  | 77 => ⟨S8192x512, .f32⟩
  | 78 => ⟨S8192x1024, .f32⟩
  | 79 => ⟨S8192x1024, .bf16⟩
  | 80 => ⟨S8192x1024, .f32⟩
  | 81 => ⟨S8192x1024, .f32⟩
  | 82 => ⟨S8192x128, .f32⟩
  | 83 => ⟨S8192x1024, .f32⟩
  | 84 => ⟨S_, .f32⟩
  | 85 => ⟨S8x128, .f32⟩
  | 86 => ⟨S8192x1024, .f32⟩
  | 87 => ⟨S8x1024, .f32⟩
  | 88 => ⟨S1x2048, .f32⟩
  | 89 => ⟨S8x512, .f32⟩
  | 90 => ⟨S128x128, .f32⟩
  | 91 => ⟨S1024x128, .f32⟩
  | 92 => ⟨S32x512, .f32⟩
  | 93 => ⟨S8x1024x256, .bf16⟩
  | 94 => ⟨S1024x1024, .bf16⟩
  | _ => ⟨S1x8192x1024, .f32⟩

abbrev hbmTy (i : Nat) : BufTy := match i / 128 with
  | 0 => hbmTy0_0 i
  | 1 => hbmTy0_1 i
  | 2 => hbmTy0_2 i
  | _ => ⟨S1x8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x128, .f32⟩
  | .local _ .vmem, ⟨23, _⟩ => ⟨S256x128, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S8x1024, .f32⟩
  | .local _ .vmem, ⟨29, _⟩ => ⟨S1x1024, .f32⟩
  | .local _ .vmem, ⟨30, _⟩ => ⟨S8x1024x256, .bf16⟩
  | .local _ .vmem, ⟨31, _⟩ => ⟨S1x512, .f32⟩
  | .local _ .vmem, ⟨32, _⟩ => ⟨S1x512, .f32⟩
  | .local _ .vmem, ⟨33, _⟩ => ⟨S1024x128, .bf16⟩
  | .local _ .vmem, ⟨34, _⟩ => ⟨S1024x128, .bf16⟩
  | .local _ .vmem, ⟨35, _⟩ => ⟨S32x512, .f32⟩
  | .local _ .vmem, ⟨36, _⟩ => ⟨S1x512, .f32⟩
  | .local _ .vmem, ⟨37, _⟩ => ⟨S1x512, .f32⟩
  | .local _ .vmem, ⟨38, _⟩ => ⟨S1x512, .f32⟩
  | .local _ .vmem, ⟨39, _⟩ => ⟨S1x512, .f32⟩
  | .local _ .vmem, ⟨40, _⟩ => ⟨S1024x1024, .bf16⟩
  | .local _ .vmem, ⟨41, _⟩ => ⟨S512x512, .bf16⟩
  | .local _ .vmem, ⟨42, _⟩ => ⟨S512x128, .bf16⟩
  | .local _ .vmem, ⟨43, _⟩ => ⟨S256x1024, .f32⟩
  | .local _ .vmem, ⟨44, _⟩ => ⟨S256x1024, .f32⟩
  | .local _ .vmem, ⟨45, _⟩ => ⟨S8x1024, .f32⟩
  | .local _ .vmem, ⟨46, _⟩ => ⟨S1x2048, .f32⟩
  | .local _ .vmem, ⟨47, _⟩ => ⟨S8x512, .f32⟩
  | .local _ .vmem, ⟨48, _⟩ => ⟨S128x128, .f32⟩
  | .local _ .vmem, ⟨49, _⟩ => ⟨S1024x128, .f32⟩
  | .local _ .vmem, ⟨50, _⟩ => ⟨S32x512, .f32⟩
  | .local _ .vmem, ⟨51, _⟩ => ⟨S288x512, .f32⟩
  | .local _ .vmem, ⟨52, _⟩ => ⟨S7x280x512, .f32⟩
  | .local _ .vmem, ⟨53, _⟩ => ⟨S128x512, .f32⟩
  | .local _ .vmem, ⟨54, _⟩ => ⟨S8x1024x256, .f32⟩
  | .local _ .vmem, ⟨55, _⟩ => ⟨S1024x1024, .f32⟩
  | .local _ .vmem, ⟨56, _⟩ => ⟨S1024x256, .bf16⟩
  | .local _ .vmem, ⟨57, _⟩ => ⟨S256x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_call0_v0 : Ref sig .tc := ⟨.hbm, 30, rfl⟩
abbrev main_v11 : Ref sig .tc := ⟨.hbm, 31, rfl⟩
abbrev main_c_0 : Ref sig .tc := ⟨.hbm, 32, rfl⟩
abbrev main_v12 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_0 : Ref sig .tc := ⟨.hbm, 40, rfl⟩
abbrev main_call1_v5 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_1 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c_2 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_c_3 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_4 : Ref sig .tc := ⟨.hbm, 67, rfl⟩
abbrev main_cst_5 : Ref sig .tc := ⟨.hbm, 68, rfl⟩
abbrev main_call3_v0 : Ref sig .tc := ⟨.hbm, 69, rfl⟩
abbrev main_call3_v1 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c_6 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_7 : Ref sig .tc := ⟨.hbm, 79, rfl⟩
abbrev main_cst_8 : Ref sig .tc := ⟨.hbm, 80, rfl⟩
abbrev main_call4_v0 : Ref sig .tc := ⟨.hbm, 81, rfl⟩
abbrev main_call4_v1 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_9 : Ref sig .tc := ⟨.hbm, 88, rfl⟩
abbrev main_v44 : Ref sig .tc := ⟨.hbm, 89, rfl⟩
abbrev main_v45 : Ref sig .tc := ⟨.hbm, 90, rfl⟩
abbrev main_cst_10 : Ref sig .tc := ⟨.hbm, 91, rfl⟩
abbrev main_v46 : Ref sig .tc := ⟨.hbm, 92, rfl⟩
abbrev main_v47 : Ref sig .tc := ⟨.hbm, 93, rfl⟩
abbrev main_cst_11 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_12 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_13 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_14 : Ref sig .tc := ⟨.hbm, 120, rfl⟩
abbrev main_v71 : Ref sig .tc := ⟨.hbm, 121, rfl⟩
abbrev main_v72 : Ref sig .tc := ⟨.hbm, 122, rfl⟩
abbrev main_cst_15 : Ref sig .tc := ⟨.hbm, 123, rfl⟩
abbrev main_v73 : Ref sig .tc := ⟨.hbm, 124, rfl⟩
abbrev main_v74 : Ref sig .tc := ⟨.hbm, 125, rfl⟩
abbrev main_cst_16 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_cst_17 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_cst_18 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_cst_19 : Ref sig .tc := ⟨.hbm, 142, rfl⟩
abbrev main_v88 : Ref sig .tc := ⟨.hbm, 143, rfl⟩
abbrev main_v89 : Ref sig .tc := ⟨.hbm, 144, rfl⟩
abbrev main_cst_20 : Ref sig .tc := ⟨.hbm, 145, rfl⟩
abbrev main_v90 : Ref sig .tc := ⟨.hbm, 146, rfl⟩
abbrev main_v91 : Ref sig .tc := ⟨.hbm, 147, rfl⟩
abbrev main_cst_21 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_22 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_23 : Ref sig .tc := ⟨.hbm, 159, rfl⟩
abbrev main_v101 : Ref sig .tc := ⟨.hbm, 160, rfl⟩
abbrev main_v102 : Ref sig .tc := ⟨.hbm, 161, rfl⟩
abbrev main_cst_24 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_cst_25 : Ref sig .tc := ⟨.hbm, 168, rfl⟩
abbrev main_v108 : Ref sig .tc := ⟨.hbm, 169, rfl⟩
abbrev main_v109 : Ref sig .tc := ⟨.hbm, 170, rfl⟩
abbrev main_cst_26 : Ref sig .tc := ⟨.hbm, 171, rfl⟩
abbrev main_v110 : Ref sig .tc := ⟨.hbm, 172, rfl⟩
abbrev main_v111 : Ref sig .tc := ⟨.hbm, 173, rfl⟩
abbrev main_cst_27 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_cst_28 : Ref sig .tc := ⟨.hbm, 236, rfl⟩
abbrev main_v173 : Ref sig .tc := ⟨.hbm, 237, rfl⟩
abbrev main_v174 : Ref sig .tc := ⟨.hbm, 238, rfl⟩
abbrev main_cst_29 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_c_30 : Ref sig .tc := ⟨.hbm, 243, rfl⟩
abbrev main_call5_v0 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_c_31 : Ref sig .tc := ⟨.hbm, 249, rfl⟩
abbrev main_v182 : Ref sig .tc := ⟨.hbm, 250, rfl⟩
abbrev main_v183 : Ref sig .tc := ⟨.hbm, 251, rfl⟩
abbrev main_c_32 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_cst_33 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_cst_34 : Ref sig .tc := ⟨.hbm, 267, rfl⟩
abbrev main_v197 : Ref sig .tc := ⟨.hbm, 268, rfl⟩
abbrev main_v198 : Ref sig .tc := ⟨.hbm, 269, rfl⟩
abbrev main_cst_35 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_cst_36 : Ref sig .tc := ⟨.hbm, 276, rfl⟩
abbrev main_v204 : Ref sig .tc := ⟨.hbm, 277, rfl⟩
abbrev main_v205 : Ref sig .tc := ⟨.hbm, 278, rfl⟩
abbrev main_cst_37 : Ref sig .tc := ⟨.hbm, 279, rfl⟩
abbrev main_v206 : Ref sig .tc := ⟨.hbm, 280, rfl⟩
abbrev main_v207 : Ref sig .tc := ⟨.hbm, 281, rfl⟩
abbrev main_cst_38 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_cst_39 : Ref sig .tc := ⟨.hbm, 297, rfl⟩
abbrev main_v222 : Ref sig .tc := ⟨.hbm, 298, rfl⟩
abbrev main_v223 : Ref sig .tc := ⟨.hbm, 299, rfl⟩
abbrev main_cst_40 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_cst_41 : Ref sig .tc := ⟨.hbm, 305, rfl⟩
abbrev main_v228 : Ref sig .tc := ⟨.hbm, 306, rfl⟩
abbrev main_v229 : Ref sig .tc := ⟨.hbm, 307, rfl⟩
abbrev main_cst_42 : Ref sig .tc := ⟨.hbm, 308, rfl⟩
abbrev main_v230 : Ref sig .tc := ⟨.hbm, 309, rfl⟩
abbrev main_v231 : Ref sig .tc := ⟨.hbm, 310, rfl⟩
abbrev main_cst_43 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_cst_44 : Ref sig .tc := ⟨.hbm, 320, rfl⟩
abbrev main_v240 : Ref sig .tc := ⟨.hbm, 321, rfl⟩
abbrev main_v241 : Ref sig .tc := ⟨.hbm, 322, rfl⟩
abbrev main_cst_45 : Ref sig .tc := ⟨.hbm, 323, rfl⟩
abbrev main_v242 : Ref sig .tc := ⟨.hbm, 324, rfl⟩
abbrev main_v243 : Ref sig .tc := ⟨.hbm, 325, rfl⟩
abbrev main_cst_46 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_v252 : Ref sig .tc := ⟨.hbm, 335, rfl⟩
abbrev main_v253 : Ref sig .tc := ⟨.hbm, 336, rfl⟩
abbrev main_v254 : Ref sig .tc := ⟨.hbm, 337, rfl⟩
abbrev main_v255 : Ref sig .tc := ⟨.hbm, 338, rfl⟩
abbrev main_v256 : Ref sig .tc := ⟨.hbm, 339, rfl⟩
abbrev main_cst_47 : Ref sig .tc := ⟨.hbm, 340, rfl⟩
abbrev main_v257 : Ref sig .tc := ⟨.hbm, 341, rfl⟩
abbrev main_v258_0 : Ref sig .tc := ⟨.hbm, 342, rfl⟩
abbrev main_v258_1 : Ref sig .tc := ⟨.hbm, 343, rfl⟩
abbrev main_v258_2 : Ref sig .tc := ⟨.hbm, 344, rfl⟩
abbrev main_v258_3 : Ref sig .tc := ⟨.hbm, 345, rfl⟩
abbrev main_v258_4 : Ref sig .tc := ⟨.hbm, 346, rfl⟩
abbrev main_v258_5 : Ref sig .tc := ⟨.hbm, 347, rfl⟩
abbrev main_v258_6 : Ref sig .tc := ⟨.hbm, 348, rfl⟩
abbrev main_v258_7 : Ref sig .tc := ⟨.hbm, 349, rfl⟩
abbrev main_v258_8 : Ref sig .tc := ⟨.hbm, 350, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_stg25_0 : Ref sig .tc := ⟨.vmem, 39, rfl⟩
abbrev cc0_stg26_0 : Ref sig .tc := ⟨.vmem, 40, rfl⟩
abbrev cc0_stg27_0 : Ref sig .tc := ⟨.vmem, 41, rfl⟩
abbrev cc0_stg28_0 : Ref sig .tc := ⟨.vmem, 42, rfl⟩
abbrev cc0_stg29_0 : Ref sig .tc := ⟨.vmem, 43, rfl⟩
abbrev cc0_stg29_1 : Ref sig .tc := ⟨.vmem, 44, rfl⟩
abbrev cc0_stg30_0 : Ref sig .tc := ⟨.vmem, 45, rfl⟩
abbrev cc0_stg31_0 : Ref sig .tc := ⟨.vmem, 46, rfl⟩
abbrev cc0_stg32_0 : Ref sig .tc := ⟨.vmem, 47, rfl⟩
abbrev cc0_stg33_0 : Ref sig .tc := ⟨.vmem, 48, rfl⟩
abbrev cc0_stg34_0 : Ref sig .tc := ⟨.vmem, 49, rfl⟩
abbrev cc0_stg35_0 : Ref sig .tc := ⟨.vmem, 50, rfl⟩
abbrev cc0_scratch0 : Ref sig .tc := ⟨.vmem, 51, rfl⟩
abbrev cc0_scratch1 : Ref sig .tc := ⟨.vmem, 52, rfl⟩
abbrev cc0_scratch2 : Ref sig .tc := ⟨.vmem, 53, rfl⟩
abbrev cc0_scratch3 : Ref sig .tc := ⟨.vmem, 54, rfl⟩
abbrev cc0_scratch4 : Ref sig .tc := ⟨.vmem, 55, rfl⟩
abbrev cc0_scratch5 : Ref sig .tc := ⟨.vmem, 56, rfl⟩
abbrev cc0_scratch6 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem21_0 : DmaSem sig := 35
abbrev cc0_sem22_0 : DmaSem sig := 36
abbrev cc0_sem23_0 : DmaSem sig := 37
abbrev cc0_sem24_0 : DmaSem sig := 38
abbrev cc0_sem25_0 : DmaSem sig := 39
abbrev cc0_sem26_0 : DmaSem sig := 40
abbrev cc0_sem27_0 : DmaSem sig := 41
abbrev cc0_sem28_0 : DmaSem sig := 42
abbrev cc0_sem29_0 : DmaSem sig := 43
abbrev cc0_sem29_1 : DmaSem sig := 44
abbrev cc0_sem30_0 : DmaSem sig := 45
abbrev cc0_sem31_0 : DmaSem sig := 46
abbrev cc0_sem32_0 : DmaSem sig := 47
abbrev cc0_sem33_0 : DmaSem sig := 48
abbrev cc0_sem34_0 : DmaSem sig := 49
abbrev cc0_sem35_0 : DmaSem sig := 50

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v1054 : BitVec 1 := Scalar.cmpi .eq arg0 c31_i32
  let v1055 : BitVec 32 := Scalar.extui v1054
  let c0_i32_683 : BitVec 32 := 0#32
  let v1056 : BitVec 1 := Scalar.cmpi .ne v1055 c0_i32_683
  v1056

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1024x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S32x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1024x1024 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S512x512 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S512x128 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 2 → Memref sig .tc .vmem S256x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 1 → Memref sig .tc .vmem S8x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x2048 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S8x512 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S128x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1024x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S32x512 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]
-- ==== MixFwd.lean ====
abbrev S1x8192x1024 : Shape := ⟨3, ![1, 8192, 1024]⟩
abbrev S1x6144 : Shape := ⟨2, ![1, 6144]⟩
abbrev S1x1024 : Shape := ⟨2, ![1, 1024]⟩
abbrev S1x1024x2048 : Shape := ⟨3, ![1, 1024, 2048]⟩
abbrev S1x2048 : Shape := ⟨2, ![1, 2048]⟩
abbrev S1x512 : Shape := ⟨2, ![1, 512]⟩
abbrev S1x8x128x128 : Shape := ⟨4, ![1, 8, 128, 128]⟩
abbrev S1x8x128 : Shape := ⟨3, ![1, 8, 128]⟩
abbrev S1x31x512 : Shape := ⟨3, ![1, 31, 512]⟩
abbrev S1x1024x1024 : Shape := ⟨3, ![1, 1024, 1024]⟩
abbrev S8192x1024 : Shape := ⟨2, ![8192, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S1024x1024 : Shape := ⟨2, ![1024, 1024]⟩
abbrev S6x1024 : Shape := ⟨2, ![6, 1024]⟩
abbrev S_ : Shape := ⟨0, ![]⟩
abbrev S2x1024 : Shape := ⟨2, ![2, 1024]⟩
abbrev S8x1024 : Shape := ⟨2, ![8, 1024]⟩
abbrev S31x512 : Shape := ⟨2, ![31, 512]⟩
abbrev S32x512 : Shape := ⟨2, ![32, 512]⟩
abbrev S128x128 : Shape := ⟨2, ![128, 128]⟩
abbrev S1x128x128 : Shape := ⟨3, ![1, 128, 128]⟩
abbrev S8x128x128 : Shape := ⟨3, ![8, 128, 128]⟩
abbrev S1024x128 : Shape := ⟨2, ![1024, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S512x512 : Shape := ⟨2, ![512, 512]⟩
abbrev S8192x512 : Shape := ⟨2, ![8192, 512]⟩
abbrev S8192x128 : Shape := ⟨2, ![8192, 128]⟩
abbrev S512x1024 : Shape := ⟨2, ![512, 1024]⟩
abbrev S512x128 : Shape := ⟨2, ![512, 128]⟩
abbrev S544x512 : Shape := ⟨2, ![544, 512]⟩
abbrev S7x536x512 : Shape := ⟨3, ![7, 536, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S512x2048 : Shape := ⟨2, ![512, 2048]⟩
abbrev S536x512 : Shape := ⟨2, ![536, 512]⟩
abbrev S1x536x512 : Shape := ⟨3, ![1, 536, 512]⟩
abbrev S1x512x512 : Shape := ⟨3, ![1, 512, 512]⟩

abbrev nBuf : Space → Nat
  | .hbm => 83
  | .vmem => 46
  | .smem => 0
  | _ => 0

abbrev bufTy : (tb : Table) → Fin (tcTables nBuf tb) → BufTy
  | .hbm, ⟨0, _⟩ => ⟨S1x8192x1024, .f32⟩
  | .hbm, ⟨1, _⟩ => ⟨S1x6144, .f32⟩
  | .hbm, ⟨2, _⟩ => ⟨S1x1024, .f32⟩
  | .hbm, ⟨3, _⟩ => ⟨S1x1024x2048, .f32⟩
  | .hbm, ⟨4, _⟩ => ⟨S1x2048, .f32⟩
  | .hbm, ⟨5, _⟩ => ⟨S1x512, .f32⟩
  | .hbm, ⟨6, _⟩ => ⟨S1x512, .f32⟩
  | .hbm, ⟨7, _⟩ => ⟨S1x8x128x128, .f32⟩
  | .hbm, ⟨8, _⟩ => ⟨S1x8x128, .f32⟩
  | .hbm, ⟨9, _⟩ => ⟨S1x31x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x1024x1024, .f32⟩
  | .hbm, ⟨16, _⟩ => ⟨S8192x1024, .f32⟩
  | .hbm, ⟨17, _⟩ => ⟨S1024x2048, .f32⟩
  | .hbm, ⟨18, _⟩ => ⟨S1024x8x256, .f32⟩
  | .hbm, ⟨19, _⟩ => ⟨S8x1024x256, .f32⟩
  | .hbm, ⟨20, _⟩ => ⟨S8x1024x256, .bf16⟩
  | .hbm, ⟨21, _⟩ => ⟨S1024x1024, .f32⟩
  | .hbm, ⟨22, _⟩ => ⟨S1024x1024, .bf16⟩
  | .hbm, ⟨23, _⟩ => ⟨S6x1024, .f32⟩
  | .hbm, ⟨24, _⟩ => ⟨S_, .f32⟩
  | .hbm, ⟨25, _⟩ => ⟨S2x1024, .f32⟩
  | .hbm, ⟨26, _⟩ => ⟨S8x1024, .f32⟩
  | .hbm, ⟨27, _⟩ => ⟨S31x512, .f32⟩
  | .hbm, ⟨28, _⟩ => ⟨S_, .i32⟩
  | .hbm, ⟨29, _⟩ => ⟨S_, .f32⟩
  | .hbm, ⟨30, _⟩ => ⟨S32x512, .f32⟩
  | .hbm, ⟨31, _⟩ => ⟨S_, .i1⟩
  | .hbm, ⟨32, _⟩ => ⟨S128x128, .i1⟩
  | .hbm, ⟨33, _⟩ => ⟨S128x128, .i32⟩
  | .hbm, ⟨34, _⟩ => ⟨S_, .i32⟩
  | .hbm, ⟨35, _⟩ => ⟨S128x128, .i32⟩
  | .hbm, ⟨36, _⟩ => ⟨S128x128, .i32⟩
  | .hbm, ⟨37, _⟩ => ⟨S128x128, .i32⟩
  | .hbm, ⟨38, _⟩ => ⟨S128x128, .i1⟩
  | .hbm, ⟨39, _⟩ => ⟨S_, .i1⟩
  | .hbm, ⟨40, _⟩ => ⟨S128x128, .i1⟩
  | .hbm, ⟨41, _⟩ => ⟨S128x128, .i1⟩
  | .hbm, ⟨42, _⟩ => ⟨S1x128x128, .i1⟩
  | .hbm, ⟨43, _⟩ => ⟨S8x128x128, .f32⟩
  | .hbm, ⟨44, _⟩ => ⟨S_, .f32⟩
  | .hbm, ⟨45, _⟩ => ⟨S_, .f32⟩
  | .hbm, ⟨46, _⟩ => ⟨S8x128x128, .i1⟩
  | .hbm, ⟨47, _⟩ => ⟨S8x128x128, .f32⟩
  | .hbm, ⟨48, _⟩ => ⟨S8x128x128, .f32⟩
  | .hbm, ⟨49, _⟩ => ⟨S8x128x128, .bf16⟩
  | .hbm, ⟨50, _⟩ => ⟨S1024x128, .bf16⟩
  | .hbm, ⟨51, _⟩ => ⟨S8x128, .f32⟩
  | .hbm, ⟨52, _⟩ => ⟨S128x8, .f32⟩
  | .hbm, ⟨53, _⟩ => ⟨S128x8x64, .f32⟩
  | .hbm, ⟨54, _⟩ => ⟨S128x512, .f32⟩
  | .hbm, ⟨55, _⟩ => ⟨S512x512, .i32⟩
  | .hbm, ⟨56, _⟩ => ⟨S_, .i32⟩
  | .hbm, ⟨57, _⟩ => ⟨S512x512, .i32⟩
  | .hbm, ⟨58, _⟩ => ⟨S512x512, .i32⟩
  | .hbm, ⟨59, _⟩ => ⟨S512x512, .i32⟩
  | .hbm, ⟨60, _⟩ => ⟨S_, .i32⟩
  | .hbm, ⟨61, _⟩ => ⟨S512x512, .i32⟩
  | .hbm, ⟨62, _⟩ => ⟨S512x512, .i32⟩
  | .hbm, ⟨63, _⟩ => ⟨S512x512, .i1⟩
  | .hbm, ⟨64, _⟩ => ⟨S_, .f32⟩
  | .hbm, ⟨65, _⟩ => ⟨S_, .f32⟩
  | .hbm, ⟨66, _⟩ => ⟨S512x512, .f32⟩
  | .hbm, ⟨67, _⟩ => ⟨S512x512, .f32⟩
  | .hbm, ⟨68, _⟩ => ⟨S512x512, .f32⟩
  | .hbm, ⟨69, _⟩ => ⟨S512x512, .bf16⟩
  | .hbm, ⟨70, _⟩ => ⟨S8192x1024, .f32⟩
  | .hbm, ⟨71, _⟩ => ⟨S8192x1024, .bf16⟩
  | .hbm, ⟨72, _⟩ => ⟨S8192x1024, .f32⟩
  | .hbm, ⟨73, _⟩ => ⟨S8192x512, .f32⟩
  | .hbm, ⟨74, _⟩ => ⟨S8192x1024, .bf16⟩
  | .hbm, ⟨75, _⟩ => ⟨S8192x1024, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x512, .f32⟩
  | .hbm, ⟨80, _⟩ => ⟨S8192x128, .f32⟩
  | .hbm, ⟨81, _⟩ => ⟨S8192x512, .f32⟩
  | .hbm, ⟨82, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1x1024, .f32⟩
  | .local _ .vmem, ⟨4, _⟩ => ⟨S8x1024x256, .bf16⟩
  | .local _ .vmem, ⟨5, _⟩ => ⟨S1x2048, .f32⟩
  | .local _ .vmem, ⟨6, _⟩ => ⟨S1x512, .f32⟩
  | .local _ .vmem, ⟨7, _⟩ => ⟨S1x512, .f32⟩
  | .local _ .vmem, ⟨8, _⟩ => ⟨S1024x128, .bf16⟩
  | .local _ .vmem, ⟨9, _⟩ => ⟨S128x512, .f32⟩
  | .local _ .vmem, ⟨10, _⟩ => ⟨S32x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x1024, .bf16⟩
  | .local _ .vmem, ⟨17, _⟩ => ⟨S512x512, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S512x512, .f32⟩
  | .local _ .vmem, ⟨25, _⟩ => ⟨S512x512, .f32⟩
  | .local _ .vmem, ⟨26, _⟩ => ⟨S512x1024, .bf16⟩
  | .local _ .vmem, ⟨27, _⟩ => ⟨S512x1024, .bf16⟩
  | .local _ .vmem, ⟨28, _⟩ => ⟨S512x1024, .f32⟩
  | .local _ .vmem, ⟨29, _⟩ => ⟨S512x1024, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S512x128, .f32⟩
  | .local _ .vmem, ⟨39, _⟩ => ⟨S512x128, .f32⟩
  | .local _ .vmem, ⟨40, _⟩ => ⟨S512x512, .f32⟩
  | .local _ .vmem, ⟨41, _⟩ => ⟨S512x512, .f32⟩
  | .local _ .vmem, ⟨42, _⟩ => ⟨S512x512, .f32⟩
  | .local _ .vmem, ⟨43, _⟩ => ⟨S512x512, .f32⟩
  | .local _ .vmem, ⟨44, _⟩ => ⟨S544x512, .f32⟩
  | .local _ .vmem, ⟨45, _⟩ => ⟨S7x536x512, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_call0_v0 : Ref sig .tc := ⟨.hbm, 29, rfl⟩
abbrev main_v11 : Ref sig .tc := ⟨.hbm, 30, rfl⟩
abbrev main_c_0 : Ref sig .tc := ⟨.hbm, 31, rfl⟩
abbrev main_v12 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_0 : Ref sig .tc := ⟨.hbm, 39, rfl⟩
abbrev main_call1_v5 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_1 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c_2 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_c_3 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_4 : Ref sig .tc := ⟨.hbm, 64, rfl⟩
abbrev main_cst_5 : Ref sig .tc := ⟨.hbm, 65, rfl⟩
abbrev main_call3_v0 : Ref sig .tc := ⟨.hbm, 66, rfl⟩
abbrev main_call3_v1 : Ref sig .tc := ⟨.hbm, 67, rfl⟩
abbrev main_v30 : Ref sig .tc := ⟨.hbm, 68, rfl⟩
abbrev main_v31 : Ref sig .tc := ⟨.hbm, 69, rfl⟩
abbrev main_v32_0 : Ref sig .tc := ⟨.hbm, 70, rfl⟩
abbrev main_v32_1 : Ref sig .tc := ⟨.hbm, 71, rfl⟩
abbrev main_v32_2 : Ref sig .tc := ⟨.hbm, 72, rfl⟩
abbrev main_v32_3 : Ref sig .tc := ⟨.hbm, 73, rfl⟩
abbrev main_v32_4 : Ref sig .tc := ⟨.hbm, 74, rfl⟩
abbrev main_v32_5 : Ref sig .tc := ⟨.hbm, 75, rfl⟩
abbrev main_v32_6 : Ref sig .tc := ⟨.hbm, 76, rfl⟩
abbrev main_v32_7 : Ref sig .tc := ⟨.hbm, 77, rfl⟩
abbrev main_v32_8 : Ref sig .tc := ⟨.hbm, 78, rfl⟩
abbrev main_v32_9 : Ref sig .tc := ⟨.hbm, 79, rfl⟩
abbrev main_v32_10 : Ref sig .tc := ⟨.hbm, 80, rfl⟩
abbrev main_v32_11 : Ref sig .tc := ⟨.hbm, 81, rfl⟩
abbrev main_v32_12 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_stg23_0 : Ref sig .tc := ⟨.vmem, 30, rfl⟩
abbrev cc0_stg23_1 : Ref sig .tc := ⟨.vmem, 31, rfl⟩
abbrev cc0_stg24_0 : Ref sig .tc := ⟨.vmem, 32, rfl⟩
abbrev cc0_stg24_1 : Ref sig .tc := ⟨.vmem, 33, rfl⟩
abbrev cc0_stg25_0 : Ref sig .tc := ⟨.vmem, 34, rfl⟩
abbrev cc0_stg25_1 : Ref sig .tc := ⟨.vmem, 35, rfl⟩
abbrev cc0_stg26_0 : Ref sig .tc := ⟨.vmem, 36, rfl⟩
abbrev cc0_stg26_1 : Ref sig .tc := ⟨.vmem, 37, rfl⟩
abbrev cc0_stg27_0 : Ref sig .tc := ⟨.vmem, 38, rfl⟩
abbrev cc0_stg27_1 : Ref sig .tc := ⟨.vmem, 39, rfl⟩
abbrev cc0_stg28_0 : Ref sig .tc := ⟨.vmem, 40, rfl⟩
abbrev cc0_stg28_1 : Ref sig .tc := ⟨.vmem, 41, rfl⟩
abbrev cc0_stg29_0 : Ref sig .tc := ⟨.vmem, 42, rfl⟩
abbrev cc0_stg29_1 : Ref sig .tc := ⟨.vmem, 43, rfl⟩
abbrev cc0_scratch0 : Ref sig .tc := ⟨.vmem, 44, rfl⟩
abbrev cc0_scratch1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31
abbrev cc0_sem24_0 : DmaSem sig := 32
abbrev cc0_sem24_1 : DmaSem sig := 33
abbrev cc0_sem25_0 : DmaSem sig := 34
abbrev cc0_sem25_1 : DmaSem sig := 35
abbrev cc0_sem26_0 : DmaSem sig := 36
abbrev cc0_sem26_1 : DmaSem sig := 37
abbrev cc0_sem27_0 : DmaSem sig := 38
abbrev cc0_sem27_1 : DmaSem sig := 39
abbrev cc0_sem28_0 : DmaSem sig := 40
abbrev cc0_sem28_1 : DmaSem sig := 41
abbrev cc0_sem29_0 : DmaSem sig := 42
abbrev cc0_sem29_1 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S512x512 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S512x512 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== MixRefIdeal.lean ====
abbrev S1x8192x1024 : Shape := ⟨3, ![1, 8192, 1024]⟩
abbrev S1x6144 : Shape := ⟨2, ![1, 6144]⟩
abbrev S1x1024 : Shape := ⟨2, ![1, 1024]⟩
abbrev S1x1024x2048 : Shape := ⟨3, ![1, 1024, 2048]⟩
abbrev S1x2048 : Shape := ⟨2, ![1, 2048]⟩
abbrev S1x512 : Shape := ⟨2, ![1, 512]⟩
abbrev S1x8x128x128 : Shape := ⟨4, ![1, 8, 128, 128]⟩
abbrev S1x8x128 : Shape := ⟨3, ![1, 8, 128]⟩
abbrev S1x31x512 : Shape := ⟨3, ![1, 31, 512]⟩
abbrev S1x1024x1024 : Shape := ⟨3, ![1, 1024, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x2048 : Shape := ⟨2, ![1024, 2048]⟩
abbrev S1x8192x2048 : Shape := ⟨3, ![1, 8192, 2048]⟩
abbrev S2048 : Shape := ⟨1, ![2048]⟩
abbrev S1x1x2048 : Shape := ⟨3, ![1, 1, 2048]⟩
abbrev S1x8192x512 : Shape := ⟨3, ![1, 8192, 512]⟩
abbrev S512 : Shape := ⟨1, ![512]⟩
abbrev S1x1x512 : Shape := ⟨3, ![1, 1, 512]⟩
abbrev S1x64x128x8x64 : Shape := ⟨5, ![1, 64, 128, 8, 64]⟩
abbrev S128x128 : Shape := ⟨2, ![128, 128]⟩
abbrev S1x128x128 : Shape := ⟨3, ![1, 128, 128]⟩
abbrev S8x128x128 : Shape := ⟨3, ![8, 128, 128]⟩
abbrev S8x1x64x64x128 : Shape := ⟨5, ![8, 1, 64, 64, 128]⟩
abbrev S8x128 : Shape := ⟨2, ![8, 128]⟩
abbrev S128x8 : Shape := ⟨2, ![128, 8]⟩
abbrev S1x1x128x8x1 : Shape := ⟨5, ![1, 1, 128, 8, 1]⟩
abbrev S8192x512 : Shape := ⟨2, ![8192, 512]⟩
abbrev S30x512 : Shape := ⟨2, ![30, 512]⟩
abbrev S8222x512 : Shape := ⟨2, ![8222, 512]⟩
abbrev S8192x8x64 : Shape := ⟨3, ![8192, 8, 64]⟩
abbrev S8192x8 : Shape := ⟨2, ![8192, 8]⟩
abbrev S8192x8x1 : Shape := ⟨3, ![8192, 8, 1]⟩
abbrev S8192 : Shape := ⟨1, ![8192]⟩
abbrev S8192x1 : Shape := ⟨2, ![8192, 1]⟩
abbrev S8192x1024 : Shape := ⟨2, ![8192, 1024]⟩
abbrev S1024x1024 : Shape := ⟨2, ![1024, 1024]⟩
abbrev S8192x128 : Shape := ⟨2, ![8192, 128]⟩

abbrev nBuf : Space → Nat
  | .hbm => 459
  | .vmem => 0
  | .smem => 0
  | _ => 0

abbrev hbmTy0_0 (i : Nat) : BufTy := match i % 128 with
  | 0 => ⟨S1x8192x1024, .f32⟩
  | 1 => ⟨S1x6144, .f32⟩
  | 2 => ⟨S1x1024, .f32⟩
  | 3 => ⟨S1x1024x2048, .f32⟩
  | 4 => ⟨S1x2048, .f32⟩
  | 5 => ⟨S1x512, .f32⟩
  | 6 => ⟨S1x512, .f32⟩
  | 7 => ⟨S1x8x128x128, .f32⟩
  | 8 => ⟨S1x8x128, .f32⟩
  | 9 => ⟨S1x31x512, .f32⟩
  | 10 => ⟨S1x512, .f32⟩
  | 11 => ⟨S1x512, .f32⟩
  | 12 => ⟨S1x512, .f32⟩
  | 13 => ⟨S1x512, .f32⟩
  | 14 => ⟨S1x512, .f32⟩
  | 15 => ⟨S1x1024x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1024, .f32⟩
  | 23 => ⟨S1x8192x1024, .f32⟩
  | 24 => ⟨S_, .f32⟩
  | 25 => ⟨S1x8192, .f32⟩
  | 26 => ⟨S1x8192x1, .f32⟩
  | 27 => ⟨S_, .f32⟩
  | 28 => ⟨S1x8192x1, .f32⟩
  | 29 => ⟨S1x8192x1, .f32⟩
  | 30 => ⟨S_, .f32⟩
  | 31 => ⟨S1x8192x1, .f32⟩
  | 32 => ⟨S1x8192x1, .f32⟩
  | 33 => ⟨S1x8192x1, .f32⟩
  | 34 => ⟨S1x8192x1024, .f32⟩
  | 35 => ⟨S1x8192x1024, .f32⟩
  | 36 => ⟨S1x1x1024, .f32⟩
  | 37 => ⟨S1x8192x1024, .f32⟩
  | 38 => ⟨S1x8192x1024, .f32⟩
  | 39 => ⟨S1x1x1024, .f32⟩
  | 40 => ⟨S_, .f32⟩
  | 41 => ⟨S1x1x1024, .f32⟩
  | 42 => ⟨S1x1x1024, .f32⟩
  | 43 => ⟨S1x8192x1024, .f32⟩
  | 44 => ⟨S1x8192x1024, .f32⟩
  | 45 => ⟨S1x1x1024, .f32⟩
  | 46 => ⟨S1x8192x1024, .f32⟩
  | 47 => ⟨S1x8192x1024, .f32⟩
  | 48 => ⟨S1024x2048, .f32⟩
  | 49 => ⟨S1x8192x2048, .f32⟩
  | 50 => ⟨S2048, .f32⟩
  | 51 => ⟨S1x1x2048, .f32⟩
  | 52 => ⟨S1x8192x2048, .f32⟩
  | 53 => ⟨S1x8192x2048, .f32⟩
  | 54 => ⟨S1x8192x512, .f32⟩
  | 55 => ⟨S1x8192x512, .f32⟩
  | 56 => ⟨S1x8192x512, .f32⟩
  | 57 => ⟨S1x8192x512, .f32⟩
  | 58 => ⟨S_, .f32⟩
  | 59 => ⟨S1x8192x512, .f32⟩
  | 60 => ⟨S1x8192x512, .f32⟩
  | 61 => ⟨S1x8192x512, .f32⟩
  | 62 => ⟨S_, .f32⟩
  | 63 => ⟨S1x8192x512, .f32⟩
  | 64 => ⟨S1x8192x512, .f32⟩
  | 65 => ⟨S1x8192x512, .f32⟩
  | 66 => ⟨S1x8192x512, .f32⟩
  | 67 => ⟨S_, .f32⟩
  | 68 => ⟨S1x8192x512, .f32⟩
  | 69 => ⟨S1x8192x512, .f32⟩
  | 70 => ⟨S1x8192x512, .f32⟩
  | 71 => ⟨S_, .f32⟩
  | 72 => ⟨S1x8192x512, .f32⟩
  | 73 => ⟨S1x8192x512, .f32⟩
  | 74 => ⟨S1x8192x512, .f32⟩
  | 75 => ⟨S1x8192x512, .f32⟩
  | 76 => ⟨S_, .f32⟩
  | 77 => ⟨S1x8192, .f32⟩
  | 78 => ⟨S1x8192x1, .f32⟩
  | 79 => ⟨S_, .f32⟩
  | 80 => ⟨S1x8192x1, .f32⟩
  | 81 => ⟨S1x8192x1, .f32⟩
  | 82 => ⟨S1x8192x512, .f32⟩
  | 83 => ⟨S1x8192x512, .f32⟩
  | 84 => ⟨S1x8192x512, .f32⟩
  | 85 => ⟨S_, .f32⟩
  | 86 => ⟨S1x8192, .f32⟩
  | 87 => ⟨S1x8192x1, .f32⟩
  | 88 => ⟨S_, .f32⟩
  | 89 => ⟨S1x8192x1, .f32⟩
  | 90 => ⟨S1x8192x1, .f32⟩
  | 91 => ⟨S_, .f32⟩
  | 92 => ⟨S1x8192x1, .f32⟩
  | 93 => ⟨S1x8192x1, .f32⟩
  | 94 => ⟨S1x8192x1, .f32⟩
  | 95 => ⟨S1x8192x512, .f32⟩
  | 96 => ⟨S1x8192x512, .f32⟩
  | 97 => ⟨S512, .f32⟩
  | 98 => ⟨S1x1x512, .f32⟩
  | 99 => ⟨S1x8192x512, .f32⟩
  | 100 => ⟨S1x8192x512, .f32⟩
  | 101 => ⟨S512, .f32⟩
  | 102 => ⟨S1x1x512, .f32⟩
  | 103 => ⟨S1x8192x512, .f32⟩
  | 104 => ⟨S1x8192x512, .f32⟩
  | 105 => ⟨S1x64x128x8x64, .f32⟩
  | 106 => ⟨S_, .i1⟩
  | 107 => ⟨S128x128, .i1⟩
  | 108 => ⟨S128x128, .i32⟩
  | 109 => ⟨S_, .i32⟩
  | 110 => ⟨S128x128, .i32⟩
  | 111 => ⟨S128x128, .i32⟩
  | 112 => ⟨S128x128, .i32⟩
  | 113 => ⟨S128x128, .i1⟩
  | 114 => ⟨S_, .i1⟩
  | 115 => ⟨S128x128, .i1⟩
  | 116 => ⟨S128x128, .i1⟩
  | 117 => ⟨S1x128x128, .i1⟩
  | 118 => ⟨S8x128x128, .f32⟩
  | 119 => ⟨S_, .f32⟩
  | 120 => ⟨S_, .f32⟩
  | 121 => ⟨S8x128x128, .i1⟩
  | 122 => ⟨S8x128x128, .f32⟩
  | 123 => ⟨S8x128x128, .f32⟩
  | 124 => ⟨S8x1x64x64x128, .f32⟩
  | 125 => ⟨S1x64x128x8x64, .f32⟩
  | 126 => ⟨S8x128, .f32⟩
  | 127 => ⟨S128x8, .f32⟩
  | _ => ⟨S1x8192x1024, .f32⟩

abbrev hbmTy0_1 (i : Nat) : BufTy := match i % 128 with
  | 0 => ⟨S1x1x128x8x1, .f32⟩
  | 1 => ⟨S1x64x128x8x64, .f32⟩
  | 2 => ⟨S1x64x128x8x64, .f32⟩
  | 3 => ⟨S8192x512, .f32⟩
  | 4 => ⟨S1x8192x512, .f32⟩
  | 5 => ⟨S1x8192x512, .f32⟩
  | 6 => ⟨S8192x512, .f32⟩
  | 7 => ⟨S8192x512, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S_, .f32⟩
  | 18 => ⟨S30x512, .f32⟩
  | 19 => ⟨S8222x512, .f32⟩
  | 20 => ⟨S1x1x512, .f32⟩
  | 21 => ⟨S512, .f32⟩
  | 22 => ⟨S8192x512, .f32⟩
  | 23 => ⟨S1x512, .f32⟩
  | 24 => ⟨S8192x512, .f32⟩
  | 25 => ⟨S8192x512, .f32⟩
  | 26 => ⟨S8192x512, .f32⟩
  | 27 => ⟨S8192x512, .f32⟩
  | 28 => ⟨S1x1x512, .f32⟩
  | 29 => ⟨S512, .f32⟩
  | 30 => ⟨S8192x512, .f32⟩
  | 31 => ⟨S1x512, .f32⟩
  | 32 => ⟨S8192x512, .f32⟩
  | 33 => ⟨S8192x512, .f32⟩
  | 34 => ⟨S8192x512, .f32⟩
  | 35 => ⟨S1x1x512, .f32⟩
  | 36 => ⟨S512, .f32⟩
  | 37 => ⟨S8192x512, .f32⟩
  | 38 => ⟨S1x512, .f32⟩
  | 39 => ⟨S8192x512, .f32⟩
  | 40 => ⟨S8192x512, .f32⟩
  | 41 => ⟨S8192x512, .f32⟩
  | 42 => ⟨S1x1x512, .f32⟩
  | 43 => ⟨S512, .f32⟩
  | 44 => ⟨S8192x512, .f32⟩
  | 45 => ⟨S1x512, .f32⟩
  | 46 => ⟨S8192x512, .f32⟩
  | 47 => ⟨S8192x512, .f32⟩
  | 48 => ⟨S8192x512, .f32⟩
  | 49 => ⟨S1x1x512, .f32⟩
  | 50 => ⟨S512, .f32⟩
  | 51 => ⟨S8192x512, .f32⟩
  | 52 => ⟨S1x512, .f32⟩
  | 53 => ⟨S8192x512, .f32⟩
  | 54 => ⟨S8192x512, .f32⟩
  | 55 => ⟨S8192x512, .f32⟩
  | 56 => ⟨S1x1x512, .f32⟩
  | 57 => ⟨S512, .f32⟩
  | 58 => ⟨S8192x512, .f32⟩
  | 59 => ⟨S1x512, .f32⟩
  | 60 => ⟨S8192x512, .f32⟩
  | 61 => ⟨S8192x512, .f32⟩
  | 62 => ⟨S8192x512, .f32⟩
  | 63 => ⟨S1x1x512, .f32⟩
  | 64 => ⟨S512, .f32⟩
  | 65 => ⟨S8192x512, .f32⟩
  | 66 => ⟨S1x512, .f32⟩
  | 67 => ⟨S8192x512, .f32⟩
  | 68 => ⟨S8192x512, .f32⟩
  | 69 => ⟨S8192x512, .f32⟩
  | 70 => ⟨S1x1x512, .f32⟩
  | 71 => ⟨S512, .f32⟩
  | 72 => ⟨S8192x512, .f32⟩
  | 73 => ⟨S1x512, .f32⟩
  | 74 => ⟨S8192x512, .f32⟩
  | 75 => ⟨S8192x512, .f32⟩
  | 76 => ⟨S8192x512, .f32⟩
  | 77 => ⟨S1x1x512, .f32⟩
  | 78 => ⟨S512, .f32⟩
  | 79 => ⟨S8192x512, .f32⟩
  | 80 => ⟨S1x512, .f32⟩
  | 81 => ⟨S8192x512, .f32⟩
  | 82 => ⟨S8192x512, .f32⟩
  | 83 => ⟨S8192x512, .f32⟩
  | 84 => ⟨S1x1x512, .f32⟩
  | 85 => ⟨S512, .f32⟩
  | 86 => ⟨S8192x512, .f32⟩
  | 87 => ⟨S1x512, .f32⟩
  | 88 => ⟨S8192x512, .f32⟩
  | 89 => ⟨S8192x512, .f32⟩
  | 90 => ⟨S8192x512, .f32⟩
  | 91 => ⟨S1x1x512, .f32⟩
  | 92 => ⟨S512, .f32⟩
  | 93 => ⟨S8192x512, .f32⟩
  | 94 => ⟨S1x512, .f32⟩
  | 95 => ⟨S8192x512, .f32⟩
  | 96 => ⟨S8192x512, .f32⟩
  | 97 => ⟨S8192x512, .f32⟩
  | 98 => ⟨S1x1x512, .f32⟩
  | 99 => ⟨S512, .f32⟩
  | 100 => ⟨S8192x512, .f32⟩
  | 101 => ⟨S1x512, .f32⟩
  | 102 => ⟨S8192x512, .f32⟩
  | 103 => ⟨S8192x512, .f32⟩
  | 104 => ⟨S8192x512, .f32⟩
  | 105 => ⟨S1x1x512, .f32⟩
  | 106 => ⟨S512, .f32⟩
  | 107 => ⟨S8192x512, .f32⟩
  | 108 => ⟨S1x512, .f32⟩
  | 109 => ⟨S8192x512, .f32⟩
  | 110 => ⟨S8192x512, .f32⟩
  | 111 => ⟨S8192x512, .f32⟩
  | 112 => ⟨S1x1x512, .f32⟩
  | 113 => ⟨S512, .f32⟩
  | 114 => ⟨S8192x512, .f32⟩
  | 115 => ⟨S1x512, .f32⟩
  | 116 => ⟨S8192x512, .f32⟩
  | 117 => ⟨S8192x512, .f32⟩
  | 118 => ⟨S8192x512, .f32⟩
  | 119 => ⟨S1x1x512, .f32⟩
  | 120 => ⟨S512, .f32⟩
  | 121 => ⟨S8192x512, .f32⟩
  | 122 => ⟨S1x512, .f32⟩
  | 123 => ⟨S8192x512, .f32⟩
  | 124 => ⟨S8192x512, .f32⟩
  | 125 => ⟨S8192x512, .f32⟩
  | 126 => ⟨S1x1x512, .f32⟩
  | 127 => ⟨S512, .f32⟩
  | _ => ⟨S1x8192x1024, .f32⟩

abbrev hbmTy0_2 (i : Nat) : BufTy := match i % 128 with
  | 0 => ⟨S8192x512, .f32⟩
  | 1 => ⟨S1x512, .f32⟩
  | 2 => ⟨S8192x512, .f32⟩
  | 3 => ⟨S8192x512, .f32⟩
  | 4 => ⟨S8192x512, .f32⟩
  | 5 => ⟨S1x1x512, .f32⟩
  | 6 => ⟨S512, .f32⟩
  | 7 => ⟨S8192x512, .f32⟩
  | 8 => ⟨S1x512, .f32⟩
  | 9 => ⟨S8192x512, .f32⟩
  | 10 => ⟨S8192x512, .f32⟩
  | 11 => ⟨S8192x512, .f32⟩
  | 12 => ⟨S1x1x512, .f32⟩
  | 13 => ⟨S512, .f32⟩
  | 14 => ⟨S8192x512, .f32⟩
  | 15 => ⟨S1x512, .f32⟩
  | 16 => ⟨S8192x512, .f32⟩
  | 17 => ⟨S8192x512, .f32⟩
  | 18 => ⟨S8192x512, .f32⟩
  | 19 => ⟨S1x1x512, .f32⟩
  | 20 => ⟨S512, .f32⟩
  | 21 => ⟨S8192x512, .f32⟩
  | 22 => ⟨S1x512, .f32⟩
  | 23 => ⟨S8192x512, .f32⟩
  | 24 => ⟨S8192x512, .f32⟩
  | 25 => ⟨S8192x512, .f32⟩
  | 26 => ⟨S1x1x512, .f32⟩
  | 27 => ⟨S512, .f32⟩
  | 28 => ⟨S8192x512, .f32⟩
  | 29 => ⟨S1x512, .f32⟩
  | 30 => ⟨S8192x512, .f32⟩
  | 31 => ⟨S8192x512, .f32⟩
  | 32 => ⟨S8192x512, .f32⟩
  | 33 => ⟨S1x1x512, .f32⟩
  | 34 => ⟨S512, .f32⟩
  | 35 => ⟨S8192x512, .f32⟩
  | 36 => ⟨S1x512, .f32⟩
  | 37 => ⟨S8192x512, .f32⟩
  | 38 => ⟨S8192x512, .f32⟩
  | 39 => ⟨S8192x512, .f32⟩
  | 40 => ⟨S1x1x512, .f32⟩
  | 41 => ⟨S512, .f32⟩
  | 42 => ⟨S8192x512, .f32⟩
  | 43 => ⟨S1x512, .f32⟩
  | 44 => ⟨S8192x512, .f32⟩
  | 45 => ⟨S8192x512, .f32⟩
  | 46 => ⟨S8192x512, .f32⟩
  | 47 => ⟨S1x1x512, .f32⟩
  | 48 => ⟨S512, .f32⟩
  | 49 => ⟨S8192x512, .f32⟩
  | 50 => ⟨S1x512, .f32⟩
  | 51 => ⟨S8192x512, .f32⟩
  | 52 => ⟨S8192x512, .f32⟩
  | 53 => ⟨S8192x512, .f32⟩
  | 54 => ⟨S1x1x512, .f32⟩
  | 55 => ⟨S512, .f32⟩
  | 56 => ⟨S8192x512, .f32⟩
  | 57 => ⟨S1x512, .f32⟩
  | 58 => ⟨S8192x512, .f32⟩
  | 59 => ⟨S8192x512, .f32⟩
  | 60 => ⟨S8192x512, .f32⟩
  | 61 => ⟨S1x1x512, .f32⟩
  | 62 => ⟨S512, .f32⟩
  | 63 => ⟨S8192x512, .f32⟩
  | 64 => ⟨S1x512, .f32⟩
  | 65 => ⟨S8192x512, .f32⟩
  | 66 => ⟨S8192x512, .f32⟩
  | 67 => ⟨S8192x512, .f32⟩
  | 68 => ⟨S1x1x512, .f32⟩
  | 69 => ⟨S512, .f32⟩
  | 70 => ⟨S8192x512, .f32⟩
  | 71 => ⟨S1x512, .f32⟩
  | 72 => ⟨S8192x512, .f32⟩
  | 73 => ⟨S8192x512, .f32⟩
  | 74 => ⟨S8192x512, .f32⟩
  | 75 => ⟨S1x1x512, .f32⟩
  | 76 => ⟨S512, .f32⟩
  | 77 => ⟨S8192x512, .f32⟩
  | 78 => ⟨S1x512, .f32⟩
  | 79 => ⟨S8192x512, .f32⟩
  | 80 => ⟨S8192x512, .f32⟩
  | 81 => ⟨S8192x512, .f32⟩
  | 82 => ⟨S1x1x512, .f32⟩
  | 83 => ⟨S512, .f32⟩
  | 84 => ⟨S8192x512, .f32⟩
  | 85 => ⟨S1x512, .f32⟩
  | 86 => ⟨S8192x512, .f32⟩
  | 87 => ⟨S8192x512, .f32⟩
  | 88 => ⟨S8192x512, .f32⟩
  | 89 => ⟨S1x1x512, .f32⟩
  | 90 => ⟨S512, .f32⟩
  | 91 => ⟨S8192x512, .f32⟩
  | 92 => ⟨S1x512, .f32⟩
  | 93 => ⟨S8192x512, .f32⟩
  | 94 => ⟨S8192x512, .f32⟩
  | 95 => ⟨S8192x512, .f32⟩
  | 96 => ⟨S1x1x512, .f32⟩
  | 97 => ⟨S512, .f32⟩
  | 98 => ⟨S8192x512, .f32⟩
  | 99 => ⟨S1x512, .f32⟩
  | 100 => ⟨S8192x512, .f32⟩
  | 101 => ⟨S8192x512, .f32⟩
  | 102 => ⟨S8192x512, .f32⟩
  | 103 => ⟨S1x1x512, .f32⟩
  | 104 => ⟨S512, .f32⟩
  | 105 => ⟨S8192x512, .f32⟩
  | 106 => ⟨S1x512, .f32⟩
  | 107 => ⟨S8192x512, .f32⟩
  | 108 => ⟨S8192x512, .f32⟩
  | 109 => ⟨S8192x512, .f32⟩
  | 110 => ⟨S8192x8x64, .f32⟩
  | 111 => ⟨S_, .f32⟩
  | 112 => ⟨S8192x8, .f32⟩
  | 113 => ⟨S8192x8x1, .f32⟩
  | 114 => ⟨S_, .f32⟩
  | 115 => ⟨S8192x8x1, .f32⟩
  | 116 => ⟨S8192x8x1, .f32⟩
  | 117 => ⟨S8192x8x64, .f32⟩
  | 118 => ⟨S8192x8x64, .f32⟩
  | 119 => ⟨S8192x8x64, .f32⟩
  | 120 => ⟨S_, .f32⟩
  | 121 => ⟨S8192x8, .f32⟩
  | 122 => ⟨S8192x8x1, .f32⟩
  | 123 => ⟨S_, .f32⟩
  | 124 => ⟨S8192x8x1, .f32⟩
  | 125 => ⟨S8192x8x1, .f32⟩
  | 126 => ⟨S_, .f32⟩
  | 127 => ⟨S8192x8x1, .f32⟩
  | _ => ⟨S1x8192x1024, .f32⟩

abbrev hbmTy0_3 (i : Nat) : BufTy := match i % 128 with
  | 0 => ⟨S8192x8x1, .f32⟩
  | 1 => ⟨S8192x8x1, .f32⟩
  | 2 => ⟨S8192x8x64, .f32⟩
  | 3 => ⟨S8192x8x64, .f32⟩
  | 4 => ⟨S8192x512, .f32⟩
  | 5 => ⟨S512, .f32⟩
  | 6 => ⟨S1x512, .f32⟩
  | 7 => ⟨S8192x512, .f32⟩
  | 8 => ⟨S8192x512, .f32⟩
  | 9 => ⟨S512, .f32⟩
  | 10 => ⟨S1x512, .f32⟩
  | 11 => ⟨S8192x512, .f32⟩
  | 12 => ⟨S8192x512, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S_, .f32⟩
  | 19 => ⟨S8192x512, .f32⟩
  | 20 => ⟨S8192x512, .f32⟩
  | 21 => ⟨S8192x512, .f32⟩
  | 22 => ⟨S8192x512, .f32⟩
  | 23 => ⟨S512, .f32⟩
  | 24 => ⟨S8192x512, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S_, .f32⟩
  | 32 => ⟨S8192x1, .f32⟩
  | 33 => ⟨S8192x1, .f32⟩
  | 34 => ⟨S8192x1, .f32⟩
  | 35 => ⟨S8192x512, .f32⟩
  | 36 => ⟨S8192x512, .f32⟩
  | 37 => ⟨S1x512, .f32⟩
  | 38 => ⟨S8192x512, .f32⟩
  | 39 => ⟨S8192x512, .f32⟩
  | 40 => ⟨S512, .f32⟩
  | 41 => ⟨S8192x512, .f32⟩
  | 42 => ⟨S_, .f32⟩
  | 43 => ⟨S8192, .f32⟩
  | 44 => ⟨S8192x1, .f32⟩
  | 45 => ⟨S_, .f32⟩
  | 46 => ⟨S8192x1, .f32⟩
  | 47 => ⟨S8192x1, .f32⟩
  | 48 => ⟨S_, .f32⟩
  | 49 => ⟨S8192x1, .f32⟩
  | 50 => ⟨S8192x1, .f32⟩
  | 51 => ⟨S8192x1, .f32⟩
  | 52 => ⟨S8192x512, .f32⟩
  | 53 => ⟨S8192x512, .f32⟩
  | 54 => ⟨S1x512, .f32⟩
  | 55 => ⟨S8192x512, .f32⟩
  | 56 => ⟨S8192x512, .f32⟩
  | 57 => ⟨S8192x1024, .f32⟩
  | 58 => ⟨S1024x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x8x64, .f32⟩
  | 65 => ⟨S8192x512, .f32⟩
  | 66 => ⟨S8192x1024, .f32⟩
  | 67 => ⟨S8192x1024, .bf16⟩
  | 68 => ⟨S1x8192x1024, .f32⟩
  | 69 => ⟨S8192x1024, .f32⟩
  | 70 => ⟨S8192x1024, .bf16⟩
  | 71 => ⟨S8192x512, .f32⟩
  | 72 => ⟨S8192x512, .f32⟩
  | 73 => ⟨S8192x1, .f32⟩
  | 74 => ⟨S8192x128, .f32⟩
  | _ => ⟨S1x8192x1024, .f32⟩

abbrev hbmTy (i : Nat) : BufTy := match i / 128 with
  | 0 => hbmTy0_0 i
  | 1 => hbmTy0_1 i
  | 2 => hbmTy0_2 i
  | 3 => hbmTy0_3 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_3 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_4 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_7 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_9 : Ref sig .tc := ⟨.hbm, 85, rfl⟩
abbrev main_v59 : Ref sig .tc := ⟨.hbm, 86, rfl⟩
abbrev main_v60 : Ref sig .tc := ⟨.hbm, 87, rfl⟩
abbrev main_cst_10 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c : Ref sig .tc := ⟨.hbm, 106, rfl⟩
abbrev main_v77 : Ref sig .tc := ⟨.hbm, 107, rfl⟩
abbrev main_call0_v0 : Ref sig .tc := ⟨.hbm, 108, rfl⟩
abbrev main_call0_c : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_call0_c_0 : Ref sig .tc := ⟨.hbm, 114, rfl⟩
abbrev main_call0_v5 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_12 : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_13 : Ref sig .tc := ⟨.hbm, 138, rfl⟩
abbrev main_v96 : Ref sig .tc := ⟨.hbm, 139, rfl⟩
abbrev main_v97 : Ref sig .tc := ⟨.hbm, 140, rfl⟩
abbrev main_cst_14 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_15 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_v257 : Ref sig .tc := ⟨.hbm, 302, rfl⟩
abbrev main_v258 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_v262 : Ref sig .tc := ⟨.hbm, 307, rfl⟩
abbrev main_v263 : Ref sig .tc := ⟨.hbm, 308, rfl⟩
abbrev main_v264 : Ref sig .tc := ⟨.hbm, 309, rfl⟩
abbrev main_v265 : Ref sig .tc := ⟨.hbm, 310, rfl⟩
abbrev main_v266 : Ref sig .tc := ⟨.hbm, 311, rfl⟩
abbrev main_v267 : Ref sig .tc := ⟨.hbm, 312, rfl⟩
abbrev main_v268 : Ref sig .tc := ⟨.hbm, 313, rfl⟩
abbrev main_v269 : Ref sig .tc := ⟨.hbm, 314, rfl⟩
abbrev main_v270 : Ref sig .tc := ⟨.hbm, 315, rfl⟩
abbrev main_v271 : Ref sig .tc := ⟨.hbm, 316, rfl⟩
abbrev main_v272 : Ref sig .tc := ⟨.hbm, 317, rfl⟩
abbrev main_v273 : Ref sig .tc := ⟨.hbm, 318, rfl⟩
abbrev main_v274 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_v281 : Ref sig .tc := ⟨.hbm, 326, rfl⟩
abbrev main_v282 : Ref sig .tc := ⟨.hbm, 327, rfl⟩
abbrev main_v283 : Ref sig .tc := ⟨.hbm, 328, rfl⟩
abbrev main_v284 : Ref sig .tc := ⟨.hbm, 329, rfl⟩
abbrev main_v285 : Ref sig .tc := ⟨.hbm, 330, rfl⟩
abbrev main_v286 : Ref sig .tc := ⟨.hbm, 331, rfl⟩
abbrev main_v287 : Ref sig .tc := ⟨.hbm, 332, rfl⟩
abbrev main_v288 : Ref sig .tc := ⟨.hbm, 333, rfl⟩
abbrev main_v289 : Ref sig .tc := ⟨.hbm, 334, rfl⟩
abbrev main_v290 : Ref sig .tc := ⟨.hbm, 335, rfl⟩
abbrev main_v291 : Ref sig .tc := ⟨.hbm, 336, rfl⟩
abbrev main_v292 : Ref sig .tc := ⟨.hbm, 337, rfl⟩
abbrev main_v293 : Ref sig .tc := ⟨.hbm, 338, rfl⟩
abbrev main_v294 : Ref sig .tc := ⟨.hbm, 339, rfl⟩
abbrev main_v295 : Ref sig .tc := ⟨.hbm, 340, rfl⟩
abbrev main_v296 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_v303 : Ref sig .tc := ⟨.hbm, 348, rfl⟩
abbrev main_v304 : Ref sig .tc := ⟨.hbm, 349, rfl⟩
abbrev main_v305 : Ref sig .tc := ⟨.hbm, 350, rfl⟩
abbrev main_v306 : Ref sig .tc := ⟨.hbm, 351, rfl⟩
abbrev main_v307 : Ref sig .tc := ⟨.hbm, 352, rfl⟩
abbrev main_v308 : Ref sig .tc := ⟨.hbm, 353, rfl⟩
abbrev main_v309 : Ref sig .tc := ⟨.hbm, 354, rfl⟩
abbrev main_v310 : Ref sig .tc := ⟨.hbm, 355, rfl⟩
abbrev main_v311 : Ref sig .tc := ⟨.hbm, 356, rfl⟩
abbrev main_v312 : Ref sig .tc := ⟨.hbm, 357, rfl⟩
abbrev main_v313 : Ref sig .tc := ⟨.hbm, 358, rfl⟩
abbrev main_v314 : Ref sig .tc := ⟨.hbm, 359, rfl⟩
abbrev main_v315 : Ref sig .tc := ⟨.hbm, 360, rfl⟩
abbrev main_v316 : Ref sig .tc := ⟨.hbm, 361, rfl⟩
abbrev main_v317 : Ref sig .tc := ⟨.hbm, 362, rfl⟩
abbrev main_v318 : Ref sig .tc := ⟨.hbm, 363, rfl⟩
abbrev main_v319 : Ref sig .tc := ⟨.hbm, 364, rfl⟩
abbrev main_v320 : Ref sig .tc := ⟨.hbm, 365, rfl⟩
abbrev main_v321 : Ref sig .tc := ⟨.hbm, 366, rfl⟩
abbrev main_cst_16 : Ref sig .tc := ⟨.hbm, 367, rfl⟩
abbrev main_v322 : Ref sig .tc := ⟨.hbm, 368, rfl⟩
abbrev main_v323 : Ref sig .tc := ⟨.hbm, 369, rfl⟩
abbrev main_cst_17 : Ref sig .tc := ⟨.hbm, 370, rfl⟩
abbrev main_v324 : Ref sig .tc := ⟨.hbm, 371, rfl⟩
abbrev main_v325 : Ref sig .tc := ⟨.hbm, 372, rfl⟩
abbrev main_v326 : Ref sig .tc := ⟨.hbm, 373, rfl⟩
abbrev main_v327 : Ref sig .tc := ⟨.hbm, 374, rfl⟩
abbrev main_v328 : Ref sig .tc := ⟨.hbm, 375, rfl⟩
abbrev main_cst_18 : Ref sig .tc := ⟨.hbm, 376, rfl⟩
abbrev main_v329 : Ref sig .tc := ⟨.hbm, 377, rfl⟩
abbrev main_v330 : Ref sig .tc := ⟨.hbm, 378, rfl⟩
abbrev main_cst_19 : Ref sig .tc := ⟨.hbm, 379, rfl⟩
abbrev main_v331 : Ref sig .tc := ⟨.hbm, 380, rfl⟩
abbrev main_v332 : Ref sig .tc := ⟨.hbm, 381, rfl⟩
abbrev main_cst_20 : Ref sig .tc := ⟨.hbm, 382, rfl⟩
abbrev main_v333 : Ref sig .tc := ⟨.hbm, 383, rfl⟩
abbrev main_v334 : Ref sig .tc := ⟨.hbm, 384, rfl⟩
abbrev main_v335 : Ref sig .tc := ⟨.hbm, 385, rfl⟩
abbrev main_v336 : Ref sig .tc := ⟨.hbm, 386, rfl⟩
abbrev main_v337 : Ref sig .tc := ⟨.hbm, 387, rfl⟩
abbrev main_v338 : Ref sig .tc := ⟨.hbm, 388, rfl⟩
abbrev main_v339 : Ref sig .tc := ⟨.hbm, 389, rfl⟩
abbrev main_v340 : Ref sig .tc := ⟨.hbm, 390, rfl⟩
abbrev main_v341 : Ref sig .tc := ⟨.hbm, 391, rfl⟩
abbrev main_v342 : Ref sig .tc := ⟨.hbm, 392, rfl⟩
abbrev main_v343 : Ref sig .tc := ⟨.hbm, 393, rfl⟩
abbrev main_v344 : Ref sig .tc := ⟨.hbm, 394, rfl⟩
abbrev main_v345 : Ref sig .tc := ⟨.hbm, 395, rfl⟩
abbrev main_v346 : Ref sig .tc := ⟨.hbm, 396, rfl⟩
abbrev main_call2_v0 : Ref sig .tc := ⟨.hbm, 397, rfl⟩
abbrev main_call2_v1 : Ref sig .tc := ⟨.hbm, 398, rfl⟩
abbrev main_call2_cst : Ref sig .tc := ⟨.hbm, 399, rfl⟩
abbrev main_call2_v2 : Ref sig .tc := ⟨.hbm, 400, rfl⟩
abbrev main_call2_v3 : Ref sig .tc := ⟨.hbm, 401, rfl⟩
abbrev main_call2_cst_0 : Ref sig .tc := ⟨.hbm, 402, rfl⟩
abbrev main_call2_v4 : Ref sig .tc := ⟨.hbm, 403, rfl⟩
abbrev main_call2_v5 : Ref sig .tc := ⟨.hbm, 404, rfl⟩
abbrev main_v347 : Ref sig .tc := ⟨.hbm, 405, rfl⟩
abbrev main_v348 : Ref sig .tc := ⟨.hbm, 406, rfl⟩
abbrev main_v349 : Ref sig .tc := ⟨.hbm, 407, rfl⟩
abbrev main_v350 : Ref sig .tc := ⟨.hbm, 408, rfl⟩
abbrev main_cst_21 : Ref sig .tc := ⟨.hbm, 409, rfl⟩
abbrev main_v351 : Ref sig .tc := ⟨.hbm, 410, rfl⟩
abbrev main_v352 : Ref sig .tc := ⟨.hbm, 411, rfl⟩
abbrev main_cst_22 : Ref sig .tc := ⟨.hbm, 412, rfl⟩
abbrev main_v353 : Ref sig .tc := ⟨.hbm, 413, rfl⟩
abbrev main_v354 : Ref sig .tc := ⟨.hbm, 414, rfl⟩
abbrev main_cst_23 : Ref sig .tc := ⟨.hbm, 415, rfl⟩
abbrev main_v355 : Ref sig .tc := ⟨.hbm, 416, rfl⟩
abbrev main_v356 : Ref sig .tc := ⟨.hbm, 417, rfl⟩
abbrev main_v357 : Ref sig .tc := ⟨.hbm, 418, rfl⟩
abbrev main_v358 : Ref sig .tc := ⟨.hbm, 419, rfl⟩
abbrev main_v359 : Ref sig .tc := ⟨.hbm, 420, rfl⟩
abbrev main_v360 : Ref sig .tc := ⟨.hbm, 421, rfl⟩
abbrev main_v361 : Ref sig .tc := ⟨.hbm, 422, rfl⟩
abbrev main_v362 : Ref sig .tc := ⟨.hbm, 423, rfl⟩
abbrev main_v363 : Ref sig .tc := ⟨.hbm, 424, rfl⟩
abbrev main_v364 : Ref sig .tc := ⟨.hbm, 425, rfl⟩
abbrev main_cst_24 : Ref sig .tc := ⟨.hbm, 426, rfl⟩
abbrev main_v365 : Ref sig .tc := ⟨.hbm, 427, rfl⟩
abbrev main_v366 : Ref sig .tc := ⟨.hbm, 428, rfl⟩
abbrev main_cst_25 : Ref sig .tc := ⟨.hbm, 429, rfl⟩
abbrev main_v367 : Ref sig .tc := ⟨.hbm, 430, rfl⟩
abbrev main_v368 : Ref sig .tc := ⟨.hbm, 431, rfl⟩
abbrev main_cst_26 : Ref sig .tc := ⟨.hbm, 432, rfl⟩
abbrev main_v369 : Ref sig .tc := ⟨.hbm, 433, rfl⟩
abbrev main_v370 : Ref sig .tc := ⟨.hbm, 434, rfl⟩
abbrev main_v371 : Ref sig .tc := ⟨.hbm, 435, rfl⟩
abbrev main_v372 : Ref sig .tc := ⟨.hbm, 436, rfl⟩
abbrev main_v373 : Ref sig .tc := ⟨.hbm, 437, rfl⟩
abbrev main_v374 : Ref sig .tc := ⟨.hbm, 438, rfl⟩
abbrev main_v375 : Ref sig .tc := ⟨.hbm, 439, rfl⟩
abbrev main_v376 : Ref sig .tc := ⟨.hbm, 440, rfl⟩
abbrev main_v377 : Ref sig .tc := ⟨.hbm, 441, rfl⟩
abbrev main_v378 : Ref sig .tc := ⟨.hbm, 442, rfl⟩
abbrev main_v379 : Ref sig .tc := ⟨.hbm, 443, rfl⟩
abbrev main_v380 : Ref sig .tc := ⟨.hbm, 444, rfl⟩
abbrev main_v381 : Ref sig .tc := ⟨.hbm, 445, rfl⟩
abbrev main_v382 : Ref sig .tc := ⟨.hbm, 446, rfl⟩
abbrev main_v383 : Ref sig .tc := ⟨.hbm, 447, rfl⟩
abbrev main_v384 : Ref sig .tc := ⟨.hbm, 448, rfl⟩
abbrev main_v385 : Ref sig .tc := ⟨.hbm, 449, rfl⟩
abbrev main_v386 : Ref sig .tc := ⟨.hbm, 450, rfl⟩
abbrev main_v387 : Ref sig .tc := ⟨.hbm, 451, rfl⟩
abbrev main_v388 : Ref sig .tc := ⟨.hbm, 452, rfl⟩
abbrev main_v389 : Ref sig .tc := ⟨.hbm, 453, rfl⟩
abbrev main_v390 : Ref sig .tc := ⟨.hbm, 454, rfl⟩
abbrev main_v391 : Ref sig .tc := ⟨.hbm, 455, rfl⟩
abbrev main_v392 : Ref sig .tc := ⟨.hbm, 456, rfl⟩
abbrev main_v393 : Ref sig .tc := ⟨.hbm, 457, rfl⟩
abbrev main_v394 : Ref sig .tc := ⟨.hbm, 458, rfl⟩

abbrev nD : Nat := 1
abbrev τ : Topo := Topo.v7x

variable {F : FTy → Type} [FloatOps F]
-- ==== Proof.Mat.lean ====
module
public import Idealize.ShloMosaic.Lib.Pointwise
public import Idealize.ShloMosaic.Lib.MatmulPlain
public import Idealize.ShloMosaic.Lib.Pipeline.ReadBack
public import Idealize.ShloMosaic.Lib.Pipeline.ValueKit.Tiles

/-!
Arrays of finite numbers as real matrices.

A matrix is a function of a row and a column, both natural numbers, so that slices, tiles and column
groups are shifts of its arguments.  `Lift ℓ f` is the array whose entry at an index is the entry of `f`
at the row and column the layout `ℓ` reads off the index.  Every operation of the two programs on arrays
`Lift ℓ f` is again such an array; the lemmas below say of which matrix.
-/

@[expose] public section

open Idealize.ShloMosaic

namespace Mat

set_option maxRecDepth 16384

/-- A real matrix, its rows and columns numbered by the natural numbers. -/
abbrev RM := ℕ → ℕ → ℝ

/-- The row and the column an index of an array stands for. -/
structure Lay (s : Shape) where
  row : s.Idx → ℕ
  col : s.Idx → ℕ

/-- The array that holds the matrix `f` in the layout `ℓ`. -/
def Lift {s : Shape} (ℓ : Lay s) (f : RM) : s.Idx → EReal := fun i => ((f (ℓ.row i) (ℓ.col i) : ℝ) : EReal)

/-- `[m, n]`: rows and columns as they are. -/
def l2 (m n : ℕ) : Lay ⟨2, ![m, n]⟩ := ⟨fun i => (i 0).val, fun i => (i 1).val⟩
/-- `[1, m, n]`: a leading axis of one. -/
def l3 (m n : ℕ) : Lay ⟨3, ![1, m, n]⟩ := ⟨fun i => (i 1).val, fun i => (i 2).val⟩
/-- `[n]` as one row. -/
def r1 (n : ℕ) : Lay ⟨1, ![n]⟩ := ⟨fun _ => 0, fun i => (i 0).val⟩
/-- `[m]` as one column. -/
def c1 (m : ℕ) : Lay ⟨1, ![m]⟩ := ⟨fun i => (i 0).val, fun _ => 0⟩
/-- `[1, m]` as one column. -/
def c2 (m : ℕ) : Lay ⟨2, ![1, m]⟩ := ⟨fun i => (i 1).val, fun _ => 0⟩

/-! ### Operations on matrices -/

/-- The matrix of one number. -/
def cst (r : ℝ) : RM := fun _ _ => r
/-- The first row at every row. -/
def rowB (f : RM) : RM := fun _ d => f 0 d
/-- The first column at every column. -/
def colB (f : RM) : RM := fun q _ => f q 0
/-- The sums of the rows over the first `n` columns. -/
def sumC (n : ℕ) (f : RM) : RM := fun q _ => ∑ d ∈ Finset.range n, f q d
/-- The sums of the columns over the first `m` rows. -/
def sumR (m : ℕ) (f : RM) : RM := fun _ d => ∑ q ∈ Finset.range m, f q d
/-- The product of two matrices over `n` inner indices. -/
def mm (n : ℕ) (a b : RM) : RM := fun q d => ∑ k ∈ Finset.range n, a q k * b k d
/-- The product with the transpose of the second matrix. -/
def mmT (n : ℕ) (a b : RM) : RM := fun q d => ∑ k ∈ Finset.range n, a q k * b d k
/-- The exponential of every entry. -/
noncomputable def Ex (f : RM) : RM := fun q d => Real.exp (f q d)
/-- The reciprocal root of every entry. -/
noncomputable def Rsq (f : RM) : RM := fun q d => (Real.sqrt (f q d))⁻¹
/-- The reciprocal of every entry. -/
noncomputable def Inv (f : RM) : RM := fun q d => 1 / f q d
/-- The rows from `a` on. -/
def rows (a : ℕ) (f : RM) : RM := fun q d => f (a + q) d
/-- The columns from `b` on. -/
def cols (b : ℕ) (f : RM) : RM := fun q d => f q (b + d)

/-- Every entry differs from zero. -/
def NZ (f : RM) : Prop := ∀ q d, f q d ≠ 0
/-- Every entry is positive. -/
def Pos (f : RM) : Prop := ∀ q d, 0 < f q d

section Entrywise

variable {s : Shape} {φ : FTy} (ℓ : Lay s) (f g : RM)

theorem lift_mulf : mulf (F := Ideal) (φ := φ) (Lift ℓ f) (Lift ℓ g) = Lift ℓ (f * g) :=
  funext fun _ => (EReal.coe_mul _ _).symm

theorem lift_addf : addf (F := Ideal) (φ := φ) (Lift ℓ f) (Lift ℓ g) = Lift ℓ (f + g) :=
  funext fun _ => (EReal.coe_add _ _).symm

theorem lift_subf : subf (F := Ideal) (φ := φ) (Lift ℓ f) (Lift ℓ g) = Lift ℓ (f - g) :=
  funext fun _ => (EReal.coe_sub _ _).symm

theorem lift_negf : negf (F := Ideal) (φ := φ) (Lift ℓ f) = Lift ℓ (-f) :=
  funext fun _ => (EReal.coe_neg _).symm

theorem lift_hostNegf : Host.negf (F := Ideal) (φ := φ) (Lift ℓ f) = Lift ℓ (-f) :=
  funext fun _ => (EReal.coe_neg _).symm

theorem lift_exp : exp (F := Ideal) (φ := φ) (Lift ℓ f) = Lift ℓ (Ex f) :=
  funext fun _ => Ideal.exp_coe _

theorem lift_hostExp : Host.exp (F := Ideal) (φ := φ) (Lift ℓ f) = Lift ℓ (Ex f) :=
  funext fun _ => Ideal.exp_coe _

theorem lift_truncf (ψ : FTy) (h : ψ.bits < φ.bits) : truncf (F := Ideal) (φ := φ) ψ (Lift ℓ f) h = Lift ℓ f := rfl

theorem lift_extf (ψ : FTy) (h : φ.bits < ψ.bits) : extf (F := Ideal) (φ := φ) ψ (Lift ℓ f) h = Lift ℓ f := rfl

theorem rsqrt_pos {r : ℝ} (h : 0 < r) : Ideal.rsqrt (r : EReal) = (((Real.sqrt r)⁻¹ : ℝ) : EReal) := by
  rw [Ideal.rsqrt_coe, if_neg (not_lt.2 h.le), if_neg h.ne']

theorem lift_rsqrt (h : Pos f) : rsqrt (F := Ideal) (φ := φ) (Lift ℓ f) = Lift ℓ (Rsq f) :=
  funext fun _ => rsqrt_pos (h _ _)

theorem lift_hostRsqrt (h : Pos f) : Host.rsqrt (F := Ideal) (φ := φ) (Lift ℓ f) = Lift ℓ (Rsq f) :=
  funext fun _ => rsqrt_pos (h _ _)

theorem lift_divf (h : NZ g) : divf (F := Ideal) (φ := φ) (Lift ℓ f) (Lift ℓ g) = Lift ℓ (f * Inv g) :=
  funext fun _ => (Ideal.div_coe (h _ _) _).trans (EReal.coe_mul _ _).symm

theorem lift_hostDivf (h : NZ g) : Host.divf (F := Ideal) (φ := φ) (Lift ℓ f) (Lift ℓ g) = Lift ℓ (f * Inv g) :=
  funext fun _ => (Ideal.div_coe (h _ _) _).trans (EReal.coe_mul _ _).symm

/-- A splat of a number is the matrix of that number. -/
theorem lift_broadcast (r : ℝ) : broadcast s ((r : ℝ) : EReal) = Lift ℓ (cst r) := rfl

theorem lift_constant (b : BitVec φ.bits) (r : ℝ) (h : Ideal.ofBits φ b = (r : EReal)) :
    constant (F := Ideal) s φ b = Lift ℓ (cst r) := funext fun _ => h

theorem lift_shapeCast_self (h : s.ShapeCasts s) : shapeCast s (Lift ℓ f) h = Lift ℓ f := Idealize.ShloMosaic.shapeCast_self _ h

end Entrywise

/-! ### The literals -/

theorem w_zero : Ideal.ofBits .f32 0x00000000#32 = ((0 : ℝ) : EReal) := by simp [Ideal.ofBits, Ideal.ieee]
theorem w_one : Ideal.ofBits .f32 0x3F800000#32 = ((1 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_neg_half : Ideal.ofBits .f32 0xBF000000#32 = ((-(1 / 2) : ℝ) : EReal) := by
  simp [Ideal.ofBits, Ideal.ieee, -EReal.coe_mul]; norm_num
theorem w_1024 : Ideal.ofBits .f32 0x44800000#32 = ((1024 : ℝ) : EReal) := by
  simp [Ideal.ofBits, Ideal.ieee, -EReal.coe_mul]; norm_num
theorem w_inv_1024 : Ideal.ofBits .f32 0x3A800000#32 = ((1 / 1024 : ℝ) : EReal) := by
  simp [Ideal.ofBits, Ideal.ieee, -EReal.coe_mul]; norm_num
/-- The number the norms add to a mean square, the float nearest to `10⁻⁶`. -/
noncomputable def eps : ℝ := 8796093 / 8796093022208
theorem eps_pos : 0 < eps := by norm_num [eps]
theorem w_eps : Ideal.ofBits .f32 0x358637BD#32 = ((eps : ℝ) : EReal) := by
  simp [Ideal.ofBits, Ideal.ieee, eps, -EReal.coe_mul]; norm_num

/-! ### Re-indexings -/

section Reindex

variable {m n : ℕ} (f : RM)

theorem val_of_one {N : ℕ} (h : N = 1) (i : Fin N) : i.val = 0 := by have := i.isLt; omega

theorem coe_sum_range (n : ℕ) (F : ℕ → ℝ) : ((∑ k ∈ Finset.range n, F k : ℝ) : EReal) = ∑ k : Fin n, ((F k.val : ℝ) : EReal) := by
  rw [Finset.sum_range]
  exact map_sum (⟨⟨Real.toEReal, EReal.coe_zero⟩, EReal.coe_add⟩ : ℝ →+ EReal) _ _

/-- The source coordinate of a broadcast. -/
theorem bid_val {N : ℕ} {p : Prop} [Decidable p] (hp : p ↔ N = 1) (a : p → Fin N) (k : ℕ) (b : ¬ p → k < N) (hk : N = 1 → k = 0) :
    (if h : p then a h else ⟨k, b h⟩ : Fin N).val = k := by
  split
  · rename_i h
    rw [val_of_one (hp.1 h), hk (hp.1 h)]
  · rfl

theorem lift_broadcastTo_row (h) : broadcastTo ⟨2, ![m, n]⟩ (Lift (l2 1 n) f) h = Lift (l2 m n) (rowB f) :=
  funext fun i => congrArg Real.toEReal (congrArg₂ f
    (val_of_one rfl _) (bid_val Iff.rfl _ _ _ fun e => val_of_one e (i 1)))

theorem lift_broadcastTo_col (h) : broadcastTo ⟨2, ![m, n]⟩ (Lift (l2 m 1) f) h = Lift (l2 m n) (colB f) :=
  funext fun i => congrArg Real.toEReal (congrArg₂ f
    (bid_val Iff.rfl _ _ _ fun e => val_of_one e (i 0)) (val_of_one rfl _))

/-- A layout that numbers the entries row by row, `w` to a row. -/
def Flat (w : ℕ) {s : Shape} (ℓ : Lay s) : Prop := ∀ i, (s.rowMajor i).val = ℓ.row i * w + ℓ.col i ∧ ℓ.col i < w

/-- A reshape between two such layouts keeps the matrix. -/
theorem lift_shapeCast {s t : Shape} {w : ℕ} {ℓ : Lay s} {ℓ' : Lay t} (hs : Flat w ℓ) (ht : Flat w ℓ') (h : s.ShapeCasts t) :
    shapeCast t (Lift ℓ f) h = Lift ℓ' f := by
  funext j
  have e : (s.rowMajor (Shape.reshapeEquiv h j)).val = (t.rowMajor j).val := Shape.rowMajor_reshapeEquiv h j
  obtain ⟨a1, a2⟩ := hs (Shape.reshapeEquiv h j)
  obtain ⟨b1, b2⟩ := ht j
  rw [a1, b1] at e
  have hw : 0 < w := by omega
  have er := congrArg (· / w) e
  have ec := congrArg (· % w) e
  simp only [Nat.mul_comm _ w, Nat.mul_add_div hw, Nat.mul_add_mod, Nat.div_eq_of_lt a2, Nat.div_eq_of_lt b2,
    Nat.mod_eq_of_lt a2, Nat.mod_eq_of_lt b2, Nat.add_zero] at er ec
  exact congrArg Real.toEReal (congrArg₂ f er ec)

theorem flat_l2 : Flat n (l2 m n) := fun i => ⟨Shape.rowMajor_val_two i, (i 1).isLt⟩
theorem flat_l3 : Flat n (l3 m n) := fun i => ⟨by
  have h0 : (i 0).val = 0 := val_of_one rfl _
  have := Shape.rowMajor_val_three i
  simp only [h0] at this
  simpa [l3] using this, (i 2).isLt⟩
theorem flat_r1 : Flat n (r1 n) := fun i => ⟨by simpa [r1] using Shape.rowMajor_val_one i, (i 0).isLt⟩
theorem flat_c1 : Flat 1 (c1 m) := fun i => ⟨by simpa [c1] using Shape.rowMajor_val_one i, Nat.one_pos⟩
theorem flat_c2 : Flat 1 (c2 m) := fun i => ⟨by
  have h0 : (i 0).val = 0 := val_of_one rfl _
  have := Shape.rowMajor_val_two i
  simp only [h0] at this
  simpa [c2] using this, Nat.one_pos⟩

theorem lift_cast_c1_l2 (h) : shapeCast ⟨2, ![m, 1]⟩ (Lift (c1 m) f) h = Lift (l2 m 1) f := lift_shapeCast f flat_c1 flat_l2 h
theorem lift_cast_r1_l2 (h) : shapeCast ⟨2, ![1, n]⟩ (Lift (r1 n) f) h = Lift (l2 1 n) f := lift_shapeCast f flat_r1 flat_l2 h
theorem lift_cast_l2_r1 (h) : shapeCast ⟨1, ![n]⟩ (Lift (l2 1 n) f) h = Lift (r1 n) f := lift_shapeCast f flat_l2 flat_r1 h
theorem lift_cast_l3_l2 (h) : shapeCast ⟨2, ![m, n]⟩ (Lift (l3 m n) f) h = Lift (l2 m n) f := lift_shapeCast f flat_l3 flat_l2 h
theorem lift_cast_l2_l3 (h) : shapeCast ⟨3, ![1, m, n]⟩ (Lift (l2 m n) f) h = Lift (l3 m n) f := lift_shapeCast f flat_l2 flat_l3 h
theorem lift_cast_c2_l3 (h) : shapeCast ⟨3, ![1, m, 1]⟩ (Lift (c2 m) f) h = Lift (l3 m 1) f := lift_shapeCast f flat_c2 flat_l3 h

theorem lift_sumC (h) :
    FloatOps.reduceAdd (F := Ideal) (φ := .f32) (t := ⟨1, ![m]⟩) (no_index [1]) h (Lift (l2 m n) f) = Lift (c1 m) (sumC n f) := by
  funext i
  pointwise [Lift, l2, c1, sumC]
  simp [coe_sum_range]

theorem lift_sumR (h) :
    FloatOps.reduceAdd (F := Ideal) (φ := .f32) (t := ⟨1, ![n]⟩) (no_index [0]) h (Lift (l2 m n) f) = Lift (r1 n) (sumR m f) := by
  funext i
  pointwise [Lift, l2, r1, sumR]
  simp [coe_sum_range]

/-! ### The host's re-indexings and sums -/

theorem lift_bid_splat {t : Shape} (ℓ' : Lay t) {φ : FTy} (b : BitVec φ.bits) (r : ℝ) (hb : Ideal.ofBits φ b = (r : EReal)) (h) :
    broadcastInDim t ![] h (constant (F := Ideal) ⟨0, ![]⟩ φ b) = Lift ℓ' (cst r) := funext fun _ => hb

theorem lift_bid_col (h) : broadcastInDim ⟨3, ![1, m, n]⟩ (no_index ![0, 1, 2]) h (Lift (l3 m 1) f) = Lift (l3 m n) (colB f) :=
  funext fun i => congrArg Real.toEReal (congrArg₂ f
    (bid_val Iff.rfl _ _ _ fun e => val_of_one e (i 1)) (val_of_one rfl _))

theorem lift_bid_row (h) : broadcastInDim ⟨3, ![1, m, n]⟩ (no_index ![0, 1, 2]) h (Lift (l3 1 n) f) = Lift (l3 m n) (rowB f) :=
  funext fun i => congrArg Real.toEReal (congrArg₂ f
    (val_of_one rfl _) (bid_val Iff.rfl _ _ _ fun e => val_of_one e (i 2)))

theorem lift_bid_c2_l3 (h) : broadcastInDim ⟨3, ![1, m, n]⟩ (no_index ![0, 1]) h (Lift (c2 m) f) = Lift (l3 m n) (colB f) :=
  funext fun i => congrArg Real.toEReal (congrArg₂ f
    (bid_val Iff.rfl _ _ _ fun e => val_of_one e (i 1)) rfl)

theorem lift_bid_r1_l3 (h) : broadcastInDim ⟨3, ![1, 1, n]⟩ (no_index ![2]) h (Lift (r1 n) f) = Lift (l3 1 n) f :=
  funext fun i => congrArg Real.toEReal (congrArg₂ f
    (val_of_one rfl (i 1)).symm (bid_val Iff.rfl _ _ _ fun e => val_of_one e (i 2)))

theorem lift_bid_l2_l3 (h) : broadcastInDim ⟨3, ![1, 1, n]⟩ (no_index ![0, 2]) h (Lift (l2 1 n) f) = Lift (l3 1 n) f :=
  funext fun i => congrArg Real.toEReal (congrArg₂ f
    ((val_of_one rfl _).trans (val_of_one rfl (i 1)).symm) (bid_val Iff.rfl _ _ _ fun e => val_of_one e (i 2)))

theorem lift_bid_r1_l2 (h) : broadcastInDim ⟨2, ![1, n]⟩ (no_index ![1]) h (Lift (r1 n) f) = Lift (l2 1 n) f :=
  funext fun i => congrArg Real.toEReal (congrArg₂ f
    (val_of_one rfl (i 0)).symm (bid_val Iff.rfl _ _ _ fun e => val_of_one e (i 1)))

theorem lift_bid_c1_c2 (h) : broadcastInDim ⟨2, ![1, m]⟩ (no_index ![1]) h (Lift (c1 m) f) = Lift (c2 m) f :=
  funext fun i => congrArg Real.toEReal (congrArg₂ f
    (bid_val Iff.rfl _ _ _ fun e => val_of_one e (i 1)) rfl)

theorem lift_slice_l2 {N a : ℕ} (h) :
    extractStridedSlice ⟨2, ![m, n]⟩ ![a, 0] (Lift (l2 N n) f) h = Lift (l2 m n) (rows a f) :=
  funext fun i => congrArg Real.toEReal (congrArg₂ f rfl (Nat.zero_add _))

theorem lift_slice_l2_cols {N a : ℕ} (h) :
    extractStridedSlice ⟨2, ![m, n]⟩ ![0, a] (Lift (l2 m N) f) h = Lift (l2 m n) (cols a f) :=
  funext fun i => congrArg Real.toEReal (congrArg₂ f (Nat.zero_add _) rfl)

theorem lift_slice_l3_cols {N a : ℕ} (h) :
    extractStridedSlice ⟨3, ![1, m, n]⟩ ![0, 0, a] (Lift (l3 m N) f) h = Lift (l3 m n) (cols a f) :=
  funext fun i => congrArg Real.toEReal (congrArg₂ f (Nat.zero_add _) rfl)

theorem lift_reduce_d2 {u : Shape} (h hu) :
    Host.reduceAdd (F := Ideal) (φ := .f32) (axes := [2]) (t := ⟨2, ![1, m]⟩) (Lift (l3 m n) f) (constant u .f32 0x00000000#32) h hu
      = Lift (c2 m) (sumC n f) := by
  funext i
  pointwise [Lift, l3, c2, sumC]
  simp [coe_sum_range]

theorem lift_reduce_d1 {u : Shape} (h hu) :
    Host.reduceAdd (F := Ideal) (φ := .f32) (axes := [1]) (t := ⟨2, ![1, n]⟩) (Lift (l3 m n) f) (constant u .f32 0x00000000#32) h hu
      = Lift (l2 1 n) (sumR m f) := by
  funext i
  pointwise [Lift, l3, l2, sumR]
  simp [coe_sum_range]

/-! ### Splats -/

theorem lit_zero : Scalar.ofBits (F := Ideal) .f32 0x00000000#32 = ((0 : ℝ) : EReal) := w_zero
theorem lit_one : Scalar.ofBits (F := Ideal) .f32 0x3F800000#32 = ((1 : ℝ) : EReal) := w_one
theorem lit_1024 : Scalar.ofBits (F := Ideal) .f32 0x44800000#32 = ((1024 : ℝ) : EReal) := w_1024
theorem lit_inv_1024 : Scalar.ofBits (F := Ideal) .f32 0x3A800000#32 = ((1 / 1024 : ℝ) : EReal) := w_inv_1024
theorem lit_eps : Scalar.ofBits (F := Ideal) .f32 0x358637BD#32 = ((eps : ℝ) : EReal) := w_eps
theorem lit_two : Scalar.ofBits (F := Ideal) .f32 0x40000000#32 = ((2 : ℝ) : EReal) := w_two
theorem lit_half : Scalar.ofBits (F := Ideal) .f32 0x3F000000#32 = ((1 / 2 : ℝ) : EReal) := w_half
theorem lit_neg_half : Scalar.ofBits (F := Ideal) .f32 0xBF000000#32 = ((-(1 / 2) : ℝ) : EReal) := w_neg_half

theorem lift_broadcast2 (r : ℝ) : broadcast (⟨2, ![m, n]⟩ : Shape) ((r : ℝ) : EReal) = Lift (l2 m n) (cst r) := rfl
theorem lift_broadcast3 (r : ℝ) : broadcast (⟨3, ![1, m, n]⟩ : Shape) ((r : ℝ) : EReal) = Lift (l3 m n) (cst r) := rfl

/-- A constant array is the splat of its word's value. -/
theorem constant_splat {s : Shape} {φ : FTy} (b : BitVec φ.bits) : constant (F := Ideal) s φ b = broadcast s (Scalar.ofBits φ b) := rfl

/-- A scalar broadcast by the host is a splat. -/
theorem bid_splat {t : Shape} (x : EReal) (h) : broadcastInDim t (no_index ![]) h (broadcast (⟨0, ![]⟩ : Shape) x) = broadcast t x := rfl

theorem cst_zero_add : cst 0 + f = f := by funext q d; simp [cst]
theorem add_cst_zero : f + cst 0 = f := by funext q d; simp [cst]
theorem cst_zero_sub : cst 0 - f = -f := by funext q d; simp [cst]

/-! ### Products -/

theorem lift_matmul {k : ℕ} {φ₁ φ₂ : FTy} (prec : Option ContractPrecision) (a b c : RM) :
    matmul (F := Ideal) (DotDims.plain m k n) (φ₁ := φ₁) (φ₂ := φ₂) prec (Lift (l2 m k) a) (Lift (l2 k n) b) (Lift (l2 m n) c)
      = Lift (l2 m n) (c + mm k a b) := by
  funext i
  rw [← ix2_eta i]
  refine (Ideal.matmul_plain_apply prec _ _ _ _ _).trans ?_
  simp only [Lift, l2, mm, Pi.add_apply, EReal.coe_add, coe_sum_range, EReal.coe_mul]
  rfl

theorem lift_matmulT {k : ℕ} {φ₁ φ₂ : FTy} (prec : Option ContractPrecision) (a b c : RM) :
    matmul (F := Ideal) (DotDims.transposedRhs m k n) (φ₁ := φ₁) (φ₂ := φ₂) prec (Lift (l2 m k) a) (Lift (l2 n k) b) (Lift (l2 m n) c)
      = Lift (l2 m n) (c + mmT k a b) := by
  funext i
  rw [← ix2_eta i]
  refine (Ideal.matmul_transposedRhs_apply prec _ _ _ _ _).trans ?_
  simp only [Lift, l2, mmT, Pi.add_apply, EReal.coe_add, coe_sum_range, EReal.coe_mul]
  rfl

/-! ### Loads and stores of a part -/

theorem lift_ld {M N a b : ℕ} (h) :
    View.ld (Val := Elt Ideal) (e' := .f32) (Lift (l2 M N) f) (Rect.unit (s := ⟨2, ![M, N]⟩) ![a, b] ![m, n] h) = Lift (l2 m n) (rows a (cols b f)) :=
  funext fun _ => congrArg Real.toEReal (congrArg₂ f (Rect.idx_unit_val _ _ _ _ 0) (Rect.idx_unit_val _ _ _ _ 1))

theorem lift_ld16 {M N a b : ℕ} (h) :
    View.ld (Val := Elt Ideal) (e' := .bf16) (Lift (l2 M N) f) (Rect.unit (s := ⟨2, ![M, N]⟩) ![a, b] ![m, n] h) = Lift (l2 m n) (rows a (cols b f)) :=
  lift_ld f h

theorem rows_zero : rows 0 f = f := by funext q d; simp [rows]
theorem cols_zero : cols 0 f = f := by funext q d; simp [cols]
theorem rows_rows (a b : ℕ) : rows a (rows b f) = rows (b + a) f := by funext q d; simp [rows, Nat.add_assoc]
theorem cols_cols (a b : ℕ) : cols a (cols b f) = cols (b + a) f := by funext q d; simp [cols, Nat.add_assoc]

/-! ### Signs -/

theorem nz_cst {r : ℝ} (h : r ≠ 0) : NZ (cst r) := fun _ _ => h
theorem nz_1024 : NZ (cst 1024) := nz_cst (by norm_num)
/-- One plus an exponential. -/
theorem nz_one_add_ex : NZ (cst 1 + Ex f) := fun q d => (add_pos one_pos (Real.exp_pos (f q d))).ne'
theorem one_add_ex_nz : NZ (Ex f + cst 1) := fun q d => (add_pos (Real.exp_pos (f q d)) one_pos).ne'
/-- A mean square plus the number the norms add. -/
theorem pos_ms : Pos (sumC n (f * f) * Inv (cst 1024) + cst eps) := fun q _ =>
  add_pos_of_nonneg_of_pos (mul_nonneg (Finset.sum_nonneg fun k _ => mul_self_nonneg (f q k)) (by norm_num [Inv, cst])) eps_pos
theorem pos_nz (h : Pos f) : NZ f := fun q d => (h q d).ne'

end Reindex

attribute [mfld_simps] lift_mulf lift_addf lift_subf lift_negf lift_hostNegf lift_exp lift_hostExp lift_truncf lift_extf lift_rsqrt
  lift_hostRsqrt lift_divf lift_hostDivf lift_shapeCast_self lift_broadcastTo_row lift_broadcastTo_col lift_cast_c1_l2
  lift_cast_r1_l2 lift_cast_l2_r1 lift_cast_l3_l2 lift_cast_l2_l3 lift_cast_c2_l3 lift_sumC lift_sumR lift_bid_col lift_bid_row
  lift_bid_c2_l3 lift_bid_r1_l3 lift_bid_l2_l3 lift_bid_r1_l2 lift_bid_c1_c2 lift_slice_l2 lift_slice_l2_cols lift_slice_l3_cols
  lift_reduce_d2 lift_reduce_d1 lit_zero lit_one lit_1024 lit_inv_1024 lit_eps lit_two lit_half lit_neg_half lift_broadcast2
  lift_broadcast3 constant_splat bid_splat cst_zero_add add_cst_zero cst_zero_sub lift_matmul lift_matmulT lift_ld lift_ld16
  rows_zero cols_zero nz_1024 nz_one_add_ex one_add_ex_nz pos_ms

end Mat

end
-- ==== Proof.FfnPay.lean ====
module
public import proofs.«01_k».proof.Proof.Mat
public import proofs.«01_k».proof.Proof.Gen.KernelIdeal.Skeleton

/-!
The stages of the feed-forward step as real matrices, and each word the kernel stores as one of them.
-/

@[expose] public section

set_option maxRecDepth 16384

noncomputable section

open Idealize.ShloMosaic Mat

namespace Ffn

/-- The reciprocal root of the mean square of every row. -/
def rms (x : RM) : RM := Rsq (sumC 1024 (x * x) * Inv (cst 1024) + cst eps)
/-- Rows divided by the root of their mean square. -/
def nrm (x : RM) : RM := x * colB (rms x)
/-- The norm with its weight, the scale and the shift. -/
def ada (x sh s g : RM) : RM := nrm x * rowB g * rowB (cst 1 + s) + rowB sh
/-- The sigmoid. -/
def sgm (g : RM) : RM := cst 1 * Inv (cst 1 + Ex (-g))
/-- The gated linear unit. -/
def act (g u : RM) : RM := g * sgm g * u
/-- The gradient of the gate. -/
def dG (d g u : RM) : RM := d * u * (sgm g * (cst 1 + g * (cst 1 - sgm g)))
/-- The gradient of the linear half. -/
def dU (d g : RM) : RM := d * (g * sgm g)
/-- A gradient times scale and weight of a norm. -/
def wgt (d s g : RM) : RM := d * rowB (cst 1 + s) * rowB g
/-- The gradient through a norm whose normalised rows are `n` and whose factors are `r`. -/
def bwd (r n w : RM) : RM := colB r * (w - n * colB (sumC 1024 (w * n) * Inv (cst 1024)))
/-- The residual with its gate. -/
def resid (x g f : RM) : RM := x + rowB g * f

end Ffn

namespace Cert.KernelIdeal.Ffn
open Cert.KernelIdeal.Gen _root_.Ffn

theorem dt1 : (dot_S256x1024_S1024x1024_S256x1024_1_1_0_0_n_n : DotDims ⟨2, ![256, 1024]⟩ ⟨2, ![1024, 1024]⟩ ⟨2, ![256, 1024]⟩)
    = DotDims.transposedRhs 256 1024 1024 := rfl
theorem dt2 : (dot_S256x1024_S1024x1024_S256x1024_1_0_0_1_n_n : DotDims ⟨2, ![256, 1024]⟩ ⟨2, ![1024, 1024]⟩ ⟨2, ![256, 1024]⟩)
    = DotDims.plain 256 1024 1024 := rfl
theorem dt3 : (dot_S256x1024_S768x1024_S256x768_1_1_0_0_n_n : DotDims ⟨2, ![256, 1024]⟩ ⟨2, ![768, 1024]⟩ ⟨2, ![256, 768]⟩)
    = DotDims.transposedRhs 256 1024 768 := rfl
theorem dt4 : (dot_S256x768_S768x1024_S256x1024_1_0_0_1_n_n : DotDims ⟨2, ![256, 768]⟩ ⟨2, ![768, 1024]⟩ ⟨2, ![256, 1024]⟩)
    = DotDims.plain 256 768 1024 := rfl

variable (x sh s g g2 f f0 a b u d t r n w y z : RM)

/-- An array of 256 rows. -/
abbrev L (f : RM) := Lift (l2 256 1024) f
/-- An array of 256 rows of the last column group. -/
abbrev L' (f : RM) := Lift (l2 256 768) f
/-- A column of 256. -/
abbrev C (f : RM) := Lift (l2 256 1) f
/-- A row. -/
abbrev R (f : RM) := Lift (l2 1 1024) f
/-- A block of a weight matrix. -/
abbrev W (f : RM) := Lift (l2 1024 1024) f
/-- A block of a weight matrix in the last column group. -/
abbrev W' (f : RM) := Lift (l2 768 1024) f

theorem p3 : k0_pay3 (F := Ideal) = Lift (l2 8 1024) (cst 0) := by simp only [k0_pay3, mfld_simps]
theorem p4 : k0_pay4 (F := Ideal) (L x) = L x := by simp only [k0_pay4, mfld_simps]
theorem p5 : k0_pay5 (F := Ideal) (R x) = R x := by simp only [k0_pay5, mfld_simps]
theorem p6 : k0_pay6 (F := Ideal) (R x) = R x := by simp only [k0_pay6, mfld_simps]
theorem p7 : k0_pay7 (F := Ideal) (R x) = R x := by simp only [k0_pay7, mfld_simps]
theorem p8 : k0_pay8 (F := Ideal) (R x) = R x := by simp only [k0_pay8, mfld_simps]
theorem p9 : k0_pay9 (F := Ideal) (R x) = R x := by simp only [k0_pay9, mfld_simps]
theorem p10 : k0_pay10 (F := Ideal) (L x) = C (rms x) := by simp only [k0_pay10, multiReductionOpen, p4, mfld_simps]; rfl
theorem p11 : k0_pay11 (F := Ideal) (L x) = L (nrm x) := by simp only [k0_pay11, p4, p10, mfld_simps]; rfl
theorem p12 : k0_pay12 (F := Ideal) (L x) (R sh) (R s) (R g) = L (ada x sh s g) := by
  simp only [k0_pay12, p11, p5, mfld_simps]; rfl
theorem p13 : k0_pay13 (F := Ideal) (L x) = L x := by simp only [k0_pay13, mfld_simps]
theorem p14 : k0_pay14 (F := Ideal) (L x) (W a) = L (mmT 1024 x a) := by simp only [k0_pay14, p13, dt1, mfld_simps]
theorem p15 : k0_pay15 (F := Ideal) (L x) (W a) = L (mmT 1024 x a) := by simp only [k0_pay15, p13, dt1, mfld_simps]
theorem p16 : k0_pay16 (F := Ideal) (L x) (W a) = L (mmT 1024 x a) := by simp only [k0_pay16, p14, mfld_simps]
theorem p17 : k0_pay17 (F := Ideal) (L x) (W a) = L (mmT 1024 x a) := by simp only [k0_pay17, p15, mfld_simps]
theorem p18 : k0_pay18 (F := Ideal) (L x) (W a) (W b) = L (act (mmT 1024 x a) (mmT 1024 x b)) := by
  simp only [k0_pay18, p14, p15, mfld_simps]; rfl
theorem p19 : k0_pay19 (F := Ideal) (L x) (W a) (W b) (W w) = L (mm 1024 (act (mmT 1024 x a) (mmT 1024 x b)) w) := by
  simp only [k0_pay19, p18, dt2, mfld_simps]
theorem p20 : k0_pay20 (F := Ideal) (W x) = W x := by simp only [k0_pay20, mfld_simps]
theorem p21 : k0_pay21 (F := Ideal) (L x) (W a) (L (cst 0)) = L (mmT 1024 x a) := by simp only [k0_pay21, dt1, mfld_simps]
theorem p22 : k0_pay22 (F := Ideal) (L x) (W a) = L (mmT 1024 x a) := by simp only [k0_pay22, dt1, mfld_simps]
theorem p23 : k0_pay23 (F := Ideal) (L x) (W a) (L (cst 0)) = L (mmT 1024 x a) := by simp only [k0_pay23, p21, mfld_simps]
theorem p24 : k0_pay24 (F := Ideal) (L x) (W a) = L (mmT 1024 x a) := by simp only [k0_pay24, p22, mfld_simps]
theorem p25 : k0_pay25 (F := Ideal) (L x) (W a) (L (cst 0)) (W b) = L (act (mmT 1024 x a) (mmT 1024 x b)) := by
  simp only [k0_pay25, p21, p22, mfld_simps]; rfl
theorem p26 : k0_pay26 (F := Ideal) (L x) (L f) (W a) (L (cst 0)) (W b) (W w)
    = L (f + mm 1024 (act (mmT 1024 x a) (mmT 1024 x b)) w) := by
  simp only [k0_pay26, p25, dt2, mfld_simps]
theorem p27 : k0_pay27 (F := Ideal) (L x) (W' a) = L' (mmT 1024 x a) := by simp only [k0_pay27, dt3, mfld_simps]
theorem p28 : k0_pay28 (F := Ideal) (L x) (W' a) = L' (mmT 1024 x a) := by simp only [k0_pay28, dt3, mfld_simps]
theorem p29 : k0_pay29 (F := Ideal) (L x) (W' a) = L' (mmT 1024 x a) := by simp only [k0_pay29, p27, mfld_simps]
theorem p30 : k0_pay30 (F := Ideal) (L' x) = L' x := by simp only [k0_pay30, mfld_simps]
theorem p31 : k0_pay31 (F := Ideal) (L' g) (L' u) = L' (act g u) := by simp only [k0_pay31, mfld_simps]; rfl
theorem p32 : k0_pay32 (F := Ideal) (L f) (L' g) (L' u) (W' w) = L (f + mm 768 (act g u) w) := by
  simp only [k0_pay32, p31, dt4, mfld_simps]
theorem p33 : k0_pay33 (F := Ideal) (L x) (R a) (L f) (L' g) (L' u) (W' w) = L (resid x a (f + mm 768 (act g u) w)) := by
  simp only [k0_pay33, p32, mfld_simps]; rfl
theorem p34 : k0_pay34 (F := Ideal) (L x) (R a) (L f) (L' g) (L' u) (W' w) = C (rms (resid x a (f + mm 768 (act g u) w))) := by
  simp only [k0_pay34, multiReductionOpen, p33, mfld_simps]; rfl
theorem p35 : k0_pay35 (F := Ideal) (L x) (R a) (L f) (L' g) (L' u) (W' w) = L (nrm (resid x a (f + mm 768 (act g u) w))) := by
  simp only [k0_pay35, p33, p34, mfld_simps]; rfl
theorem p36 : k0_pay36 (F := Ideal) (L x) (R a) (R sh) (R s) (R g2) (L f) (L' g) (L' u) (W' w)
    = L (ada (resid x a (f + mm 768 (act g u) w)) sh s g2) := by
  simp only [k0_pay36, p35, mfld_simps]; rfl
theorem p37 : k0_pay37 (F := Ideal) (L x) = L x := by simp only [k0_pay37, mfld_simps]
theorem p38 : k0_pay38 (F := Ideal) (L x) (L t) = L (x - t) := by simp only [k0_pay38, mfld_simps]
theorem p39 : k0_pay39 (F := Ideal) (L x) (L t) = L ((x - t) * cst (1 / 1024)) := by simp only [k0_pay39, p38, mfld_simps]
theorem p40 : k0_pay40 (F := Ideal) (L x) (L t) (R y) = R (y + sumR 256 ((x - t) * (x - t))) := by
  simp only [k0_pay40, multiReductionOpen, p38, mfld_simps]
theorem p41 : k0_pay41 (F := Ideal) (L x) (L t) (R y) = R (y + sumR 256 ((x - t) * cst (1 / 1024))) := by
  simp only [k0_pay41, multiReductionOpen, p39, mfld_simps]
theorem p42 : k0_pay42 (F := Ideal) (R g) (L n) (L x) (L t) (R y) = R (y + sumR 256 ((x - t) * cst (1 / 1024) * n * rowB g)) := by
  simp only [k0_pay42, multiReductionOpen, p39, mfld_simps]
theorem p43 : k0_pay43 (F := Ideal) (R s) (L n) (L x) (L t) (R y)
    = R (y + sumR 256 ((x - t) * cst (1 / 1024) * rowB (cst 1 + s) * n)) := by
  simp only [k0_pay43, multiReductionOpen, p39, mfld_simps]
theorem p44 : k0_pay44 (F := Ideal) (R s) (R g) (C r) (L n) (L d) = L (bwd r n (wgt d s g)) := by
  simp only [k0_pay44, multiReductionOpen, mfld_simps]; rfl
theorem p45 : k0_pay45 (F := Ideal) (R s) (R g) (L f) (C r) (L n) (L d) (R y) = R (y + sumR 256 (bwd r n (wgt d s g) * f)) := by
  simp only [k0_pay45, multiReductionOpen, p44, mfld_simps]
theorem p46 : k0_pay46 (F := Ideal) (R a) (R s) (R g) (C r) (L n) (L d) = L (bwd r n (wgt d s g) * rowB a) := by
  simp only [k0_pay46, p44, mfld_simps]
theorem p47 : k0_pay47 (F := Ideal) = L (cst 0) := by simp only [k0_pay47, mfld_simps]
theorem p48 : k0_pay48 (F := Ideal) (R a) (R s) (R g) (C r) (L n) (L d) (W w) = L (mmT 1024 (bwd r n (wgt d s g) * rowB a) w) := by
  simp only [k0_pay48, p46, dt1, mfld_simps]
theorem p49 : k0_pay49 (F := Ideal) (L g) = L (Ex (-g)) := by simp only [k0_pay49, mfld_simps]
theorem p50 : k0_pay50 (F := Ideal) (L (Ex (-g))) ((1 : ℝ) : EReal) = L (sgm g) := by simp only [k0_pay50, mfld_simps]; rfl
theorem p51 : k0_pay51 (F := Ideal) (L d) (L g) (L u) (L (Ex (-g))) ((1 : ℝ) : EReal) = L (dG d g u) := by
  simp only [k0_pay51, p50, mfld_simps]; rfl
theorem p52 : k0_pay52 (F := Ideal) (L d) (L g) (L (Ex (-g))) ((1 : ℝ) : EReal) = L (dU d g) := by
  simp only [k0_pay52, p50, mfld_simps]; rfl
theorem p53 : k0_pay53 (F := Ideal) (L f) (L d) (L g) (L u) (L (Ex (-g))) ((1 : ℝ) : EReal) (W a) (W b)
    = L (f + mm 1024 (dG d g u) a + mm 1024 (dU d g) b) := by
  simp only [k0_pay53, p51, p52, dt2, mfld_simps]
theorem p54 : k0_pay54 (F := Ideal) (L d) (W w) = L (mmT 1024 d w) := by simp only [k0_pay54, dt1, mfld_simps]
theorem p55 : k0_pay55 (F := Ideal) (L g) = L (cst 1 + Ex (-g)) := by simp only [k0_pay55, mfld_simps]
theorem p56 : k0_pay56 (F := Ideal) (L (cst 1 + Ex (-g))) = L (sgm g) := by simp only [k0_pay56, mfld_simps]; rfl
theorem p57 : k0_pay57 (F := Ideal) (L d) (L g) (L u) (L (cst 1 + Ex (-g))) = L (dG d g u) := by
  simp only [k0_pay57, p56, mfld_simps]; rfl
theorem p58 : k0_pay58 (F := Ideal) (L d) (L g) (L (cst 1 + Ex (-g))) = L (dU d g) := by
  simp only [k0_pay58, p56, mfld_simps]; rfl
theorem p59 : k0_pay59 (F := Ideal) (L f) (L d) (L g) (L u) (L (cst 1 + Ex (-g))) (W a) (W b)
    = L (f + mm 1024 (dG d g u) a + mm 1024 (dU d g) b) := by
  simp only [k0_pay59, p57, p58, dt2, mfld_simps]
theorem p60 : k0_pay60 (F := Ideal) (L d) (W' w) = L' (mmT 1024 d w) := by simp only [k0_pay60, dt3, mfld_simps]
theorem p61 : k0_pay61 (F := Ideal) (L' g) = L' (cst 1 + Ex (-g)) := by simp only [k0_pay61, mfld_simps]
theorem p62 : k0_pay62 (F := Ideal) = L' (cst 1) := by simp only [k0_pay62, mfld_simps]
theorem p63 : k0_pay63 (F := Ideal) (L' (cst 1 + Ex (-g))) (L' (cst 1)) = L' (sgm g) := by simp only [k0_pay63, mfld_simps]; rfl
theorem p64 : k0_pay64 (F := Ideal) (L' d) (L' g) (L' u) (L' (cst 1 + Ex (-g))) (L' (cst 1)) = L' (dG d g u) := by
  simp only [k0_pay64, p63, mfld_simps]; rfl
theorem p65 : k0_pay65 (F := Ideal) (L' d) (L' g) (L' (cst 1 + Ex (-g))) (L' (cst 1)) = L' (dU d g) := by
  simp only [k0_pay65, p63, mfld_simps]; rfl
theorem p66 : k0_pay66 (F := Ideal) (L f) (L' d) (L' g) (L' u) (L' (cst 1 + Ex (-g))) (L' (cst 1)) (W' a) (W' b)
    = L (f + mm 768 (dG d g u) a + mm 768 (dU d g) b) := by
  simp only [k0_pay66, p64, p65, dt4, mfld_simps]
theorem p67 : k0_pay67 (F := Ideal) (L f) (L' d) (L' g) (L' u) (L' (cst 1 + Ex (-g))) (L' (cst 1)) (W' a) (W' b) (R y)
    = R (y + sumR 256 (f + mm 768 (dG d g u) a + mm 768 (dU d g) b)) := by
  simp only [k0_pay67, multiReductionOpen, p66, mfld_simps]
theorem p68 : k0_pay68 (F := Ideal) (R z) (L n) (L f) (L' d) (L' g) (L' u) (L' (cst 1 + Ex (-g))) (L' (cst 1)) (W' a) (W' b) (R y)
    = R (y + sumR 256 ((f + mm 768 (dG d g u) a + mm 768 (dU d g) b) * n * rowB z)) := by
  simp only [k0_pay68, multiReductionOpen, p66, mfld_simps]
theorem p1 : k0_pay1 (F := Ideal) (R s) (L n) (L d) (R y) = R (y + sumR 256 (d * rowB (cst 1 + s) * n)) := by
  simp only [k0_pay1, multiReductionOpen, mfld_simps]
theorem p2 : k0_pay2 (F := Ideal) (R s) (R g) (C r) (L n) (L x) (L d) = L (x + bwd r n (wgt d s g)) := by
  simp only [k0_pay2, multiReductionOpen, mfld_simps]; rfl

attribute [mfld_simps] p1 p2 p3 p4 p5 p6 p7 p8 p9 p10 p11 p12 p13 p14 p15 p16 p17 p18 p19 p20 p21 p22 p23 p24 p25 p26 p27 p28 p29 p30 p31 p32 p33 p34
  p35 p36 p37 p38 p39 p40 p41 p42 p43 p44 p45 p46 p47 p48 p49 p50 p51 p52 p53 p54 p55 p56 p57 p58 p59 p60 p61 p62 p63 p64 p65 p66 p67 p68

end Cert.KernelIdeal.Ffn

end

end
-- ==== Proof.FfnSpec.lean ====
module
public import proofs.«01_k».proof.Proof.FfnPay

/-!
The whole feed-forward step as real matrices: the forward pass, the loss gradient and the gradient down to
the input rows, and the equations between the kernel's column groups and the whole matrices.
-/

@[expose] public section

noncomputable section

open Idealize.ShloMosaic Mat

namespace Ffn

/-- The arguments: token rows, target rows, the eight rows of modulation, the two norm weights, and the two
weight matrices, the first transposed. -/
structure Args where
  X : RM
  T : RM
  M : RM
  G2 : RM
  GF : RM
  A : RM
  B : RM

variable (p : Args)

/-- The normalised and modulated rows. -/
def h2 : RM := ada p.X (rows 3 p.M) (rows 4 p.M) p.G2
/-- The gate half of the first product. -/
def gate : RM := mmT 1024 (h2 p) p.A
/-- The linear half of the first product. -/
def lin : RM := mmT 1024 (h2 p) (rows 2816 p.A)
/-- The activation. -/
def hid : RM := act (gate p) (lin p)
/-- The second product. -/
def ffn : RM := mm 2816 (hid p) p.B
/-- The residual. -/
def x2 : RM := resid p.X (rows 5 p.M) (ffn p)
/-- The output. -/
def out : RM := ada (x2 p) (rows 6 p.M) (rows 7 p.M) p.GF
/-- The difference to the target. -/
def err : RM := out p - p.T
/-- The gradient of the loss. -/
def dout : RM := err p * cst (1 / 1024)
/-- The gradient at the residual. -/
def dx2 : RM := bwd (rms (x2 p)) (nrm (x2 p)) (wgt (dout p) (rows 7 p.M) p.GF)
/-- The gradient of the second product. -/
def df : RM := dx2 p * rowB (rows 5 p.M)
/-- The gradient of the activation. -/
def dhid : RM := mmT 1024 (df p) p.B
/-- The gradient of the gate half. -/
def dgate : RM := dG (dhid p) (gate p) (lin p)
/-- The gradient of the linear half. -/
def dlin : RM := dU (dhid p) (gate p)
/-- The gradient of the modulated rows. -/
def dh2 : RM := mm 2816 (dgate p) p.A + mm 2816 (dlin p) (rows 2816 p.A)
/-- The gradient of the input rows. -/
def dx : RM := dx2 p + bwd (rms p.X) (nrm p.X) (wgt (dh2 p) (rows 4 p.M) p.G2)
/-- Two matrices side by side, the first `k` columns wide. -/
def hcat (k : ℕ) (f g : RM) : RM := fun q d => if d < k then f q d else g q (d - k)
/-- The gradient of the first product. -/
def dgu : RM := hcat 2816 (dgate p) (dlin p)

/-- Eight rows. -/
def stk (a b c d e f g h : RM) : RM := fun r k =>
  match r with
  | 0 => a 0 k | 1 => b 0 k | 2 => c 0 k | 3 => d 0 k | 4 => e 0 k | 5 => f 0 k | 6 => g 0 k | _ => h 0 k
/-- The sums over the first `n` rows: the gradients of the modulation and of the norm weights, and the squared error. -/
def sums (n : ℕ) : RM :=
  stk (sumR n (dout p)) (sumR n (dout p * nrm (x2 p) * rowB p.GF)) (sumR n (dout p * rowB (cst 1 + rows 7 p.M) * nrm (x2 p)))
    (sumR n (dx2 p * ffn p)) (sumR n (dh2 p)) (sumR n (dh2 p * nrm p.X * rowB p.G2))
    (sumR n (dh2 p * rowB (cst 1 + rows 4 p.M) * nrm p.X)) (sumR n (err p * err p))

/-- The step on the rows from `256 t` on. -/
def tile (t : ℕ) : Args := { p with X := rows (256 * t) p.X, T := rows (256 * t) p.T }

/-! ### The kernel's column groups -/

theorem f_h2 : ada p.X (rows 3 p.M) (rows 4 p.M) p.G2 = h2 p := rfl
theorem f_gate : mmT 1024 (h2 p) p.A = gate p := rfl
theorem f_gate1 : mmT 1024 (h2 p) (rows 1024 p.A) = cols 1024 (gate p) := rfl
theorem f_gate2 : mmT 1024 (h2 p) (rows 2048 p.A) = cols 2048 (gate p) := rfl
theorem f_lin : mmT 1024 (h2 p) (rows 2816 p.A) = lin p := rfl
theorem mmT_rows (n a b : ℕ) (f g : RM) : mmT n f (rows (a + b) g) = cols b (mmT n f (rows a g)) :=
  funext fun q => funext fun d => by simp only [mmT, rows, cols, Nat.add_assoc]
theorem f_lin1 : mmT 1024 (h2 p) (rows 3840 p.A) = cols 1024 (lin p) := mmT_rows 1024 2816 1024 _ _
theorem f_lin2 : mmT 1024 (h2 p) (rows 4864 p.A) = cols 2048 (lin p) := mmT_rows 1024 2816 2048 _ _
theorem act_cols (k : ℕ) (g u : RM) : act (cols k g) (cols k u) = cols k (act g u) := rfl
theorem f_hid : act (gate p) (lin p) = hid p := rfl
theorem dG_cols (k : ℕ) (d g u : RM) : dG (cols k d) (cols k g) (cols k u) = cols k (dG d g u) := rfl
theorem dU_cols (k : ℕ) (d g : RM) : dU (cols k d) (cols k g) = cols k (dU d g) := rfl

theorem mm_split (n k : ℕ) (a b : RM) : mm (n + k) a b = mm n a b + mm k (cols n a) (rows n b) :=
  funext fun q => funext fun d => Finset.sum_range_add _ n k

theorem mm_split3 (a b : RM) :
    mm 1024 a b + mm 1024 (cols 1024 a) (rows 1024 b) + mm 768 (cols 2048 a) (rows 2048 b) = mm 2816 a b := by
  rw [show (2816 : ℕ) = 1024 + 1024 + 768 from rfl, mm_split, mm_split]

theorem f_ffn : mm 1024 (hid p) p.B + mm 1024 (cols 1024 (hid p)) (rows 1024 p.B) + mm 768 (cols 2048 (hid p)) (rows 2048 p.B) = ffn p :=
  mm_split3 _ _
theorem f_x2 : resid p.X (rows 5 p.M) (ffn p) = x2 p := rfl
theorem f_out : ada (x2 p) (rows 6 p.M) (rows 7 p.M) p.GF = out p := rfl
theorem f_err : out p - p.T = err p := rfl
theorem f_dout : err p * cst (1 / 1024) = dout p := rfl
theorem f_dx2 : bwd (rms (x2 p)) (nrm (x2 p)) (wgt (dout p) (rows 7 p.M) p.GF) = dx2 p := rfl
theorem f_df : dx2 p * rowB (rows 5 p.M) = df p := rfl
theorem f_dhid : mmT 1024 (df p) p.B = dhid p := rfl
theorem f_dhid1 : mmT 1024 (df p) (rows 1024 p.B) = cols 1024 (dhid p) := rfl
theorem f_dhid2 : mmT 1024 (df p) (rows 2048 p.B) = cols 2048 (dhid p) := rfl
theorem f_dgate : dG (dhid p) (gate p) (lin p) = dgate p := rfl
theorem f_dlin : dU (dhid p) (gate p) = dlin p := rfl
theorem f_dh2 : mm 1024 (dgate p) p.A + mm 1024 (dlin p) (rows 2816 p.A)
      + mm 1024 (cols 1024 (dgate p)) (rows 1024 p.A) + mm 1024 (cols 1024 (dlin p)) (rows 3840 p.A)
      + mm 768 (cols 2048 (dgate p)) (rows 2048 p.A) + mm 768 (cols 2048 (dlin p)) (rows 4864 p.A) = dh2 p := by
  rw [dh2, ← mm_split3, ← mm_split3, rows_rows, rows_rows]
  ring
theorem f_dx : dx2 p + bwd (rms p.X) (nrm p.X) (wgt (dh2 p) (rows 4 p.M) p.G2) = dx p := rfl

/-! ### Row by row -/

variable (t : ℕ)

theorem rms_rows (a : ℕ) (f : RM) : rms (rows a f) = rows a (rms f) := rfl
theorem nrm_rows (a : ℕ) (f : RM) : nrm (rows a f) = rows a (nrm f) := rfl
theorem ada_rows (a : ℕ) (f sh s g : RM) : ada (rows a f) sh s g = rows a (ada f sh s g) := rfl
theorem mmT_rows_left (n a : ℕ) (f g : RM) : mmT n (rows a f) g = rows a (mmT n f g) := rfl
theorem mm_rows_left (n a : ℕ) (f g : RM) : mm n (rows a f) g = rows a (mm n f g) := rfl
theorem act_rows (a : ℕ) (g u : RM) : act (rows a g) (rows a u) = rows a (act g u) := rfl
theorem dG_rows (a : ℕ) (d g u : RM) : dG (rows a d) (rows a g) (rows a u) = rows a (dG d g u) := rfl
theorem dU_rows (a : ℕ) (d g : RM) : dU (rows a d) (rows a g) = rows a (dU d g) := rfl
theorem wgt_rows (a : ℕ) (d s g : RM) : wgt (rows a d) s g = rows a (wgt d s g) := rfl
theorem bwd_rows (a : ℕ) (r n w : RM) : bwd (rows a r) (rows a n) (rows a w) = rows a (bwd r n w) := rfl
theorem resid_rows (a : ℕ) (x g f : RM) : resid (rows a x) g (rows a f) = rows a (resid x g f) := rfl
theorem add_rows (a : ℕ) (f g : RM) : rows a f + rows a g = rows a (f + g) := rfl
theorem sub_rows (a : ℕ) (f g : RM) : rows a f - rows a g = rows a (f - g) := rfl
theorem mul_rowB_rows (a : ℕ) (f g : RM) : rows a f * rowB g = rows a (f * rowB g) := rfl
theorem mul_cst_rows (a : ℕ) (f : RM) (r : ℝ) : rows a f * cst r = rows a (f * cst r) := rfl
theorem mul_rows (a : ℕ) (f g : RM) : rows a f * rows a g = rows a (f * g) := rfl
theorem hcat_rows (a k : ℕ) (f g : RM) : hcat k (rows a f) (rows a g) = rows a (hcat k f g) := rfl

theorem tile_h2 : h2 (tile p t) = rows (256 * t) (h2 p) := rfl
theorem tile_gate : gate (tile p t) = rows (256 * t) (gate p) := by rw [gate, tile_h2]; rfl
theorem tile_lin : lin (tile p t) = rows (256 * t) (lin p) := by rw [lin, tile_h2]; rfl
theorem tile_hid : hid (tile p t) = rows (256 * t) (hid p) := by rw [hid, tile_gate, tile_lin]; rfl
theorem tile_ffn : ffn (tile p t) = rows (256 * t) (ffn p) := by rw [ffn, tile_hid]; rfl
theorem tile_x2 : x2 (tile p t) = rows (256 * t) (x2 p) := by rw [x2, tile_ffn]; rfl
theorem tile_err : err (tile p t) = rows (256 * t) (err p) := by rw [err, out, tile_x2]; rfl
theorem tile_dout : dout (tile p t) = rows (256 * t) (dout p) := by rw [dout, tile_err]; rfl
theorem tile_dx2 : dx2 (tile p t) = rows (256 * t) (dx2 p) := by
  rw [dx2, tile_x2, tile_dout, rms_rows, nrm_rows, wgt_rows, bwd_rows]; rfl
theorem tile_df : df (tile p t) = rows (256 * t) (df p) := by rw [df, tile_dx2]; rfl
theorem tile_dhid : dhid (tile p t) = rows (256 * t) (dhid p) := by rw [dhid, tile_df]; rfl
theorem tile_dgate : dgate (tile p t) = rows (256 * t) (dgate p) := by
  rw [dgate, tile_dhid, tile_gate, tile_lin, dG_rows]; rfl
theorem tile_dlin : dlin (tile p t) = rows (256 * t) (dlin p) := by rw [dlin, tile_dhid, tile_gate, dU_rows]; rfl
theorem tile_dgu : dgu (tile p t) = rows (256 * t) (dgu p) := by rw [dgu, tile_dgate, tile_dlin]; rfl
theorem tile_dh2 : dh2 (tile p t) = rows (256 * t) (dh2 p) := by
  rw [dh2, tile_dgate, tile_dlin, mm_rows_left, mm_rows_left, add_rows]; rfl
theorem tile_dx : dx (tile p t) = rows (256 * t) (dx p) := by
  rw [dx, tile_dx2, tile_dh2, wgt_rows, show (tile p t).X = rows (256 * t) p.X from rfl, rms_rows, nrm_rows, bwd_rows, add_rows]; rfl

theorem rows_cst (a : ℕ) (r : ℝ) : rows a (cst r) = cst r := rfl

attribute [mfld_simps] f_h2 f_gate f_gate1 f_gate2 f_lin f_lin1 f_lin2 act_cols f_hid dG_cols dU_cols f_ffn f_x2 f_out f_err f_dout f_dx2 f_df
  f_dhid f_dhid1 f_dhid2 f_dgate f_dlin f_dh2 f_dx rows_cst

end Ffn

end

end
-- ==== Proof.Mat2.lean ====
module
public import proofs.«01_k».proof.Proof.FfnSpec
public import Idealize.ShloMosaic.Lib.Pipeline.Value
public import Idealize.ShloMosaic.Lib.Pointwise

/-!
Host operations on arrays of finite numbers as real matrices: reshapes of joined rows, sums over an axis of
size one, concatenations and transposes; and the step from an array of finite numbers to its matrix.
-/

@[expose] public section

set_option maxRecDepth 16384

open Idealize.ShloMosaic

namespace Mat

/-! ### From finite numbers to a matrix -/

/-- The matrix a layout reads from an array of extended reals. -/
noncomputable def matOf {s : Shape} (ℓ : Lay s) (X : s.Idx → EReal) : RM := fun q d =>
  open Classical in if h : ∃ i, ℓ.row i = q ∧ ℓ.col i = d then (X h.choose).toReal else 0

/-- An array of finite numbers holds the matrix a layout reads from it. -/
theorem lift_matOf {s : Shape} (ℓ : Lay s) (hℓ : ∀ i j, ℓ.row i = ℓ.row j → ℓ.col i = ℓ.col j → i = j) (X : s.Idx → EReal)
    (hX : ∀ i, ∃ r : ℝ, X i = (r : EReal)) : X = Lift ℓ (matOf ℓ X) := by
  funext i
  have h : ∃ j, ℓ.row j = ℓ.row i ∧ ℓ.col j = ℓ.col i := ⟨i, rfl, rfl⟩
  have e : h.choose = i := hℓ _ _ h.choose_spec.1 h.choose_spec.2
  obtain ⟨r, hr⟩ := hX i
  have : matOf ℓ X (ℓ.row i) (ℓ.col i) = (X i).toReal := (dif_pos h).trans (by rw [e])
  rw [Lift, this, hr, EReal.toReal_coe]

/-- `[1, N]`: rows of `w` entries end to end. -/
def g2 (w N : ℕ) : Lay ⟨2, ![1, N]⟩ := ⟨fun i => (i 1).val / w, fun i => (i 1).val % w⟩

theorem flat_g2 {w N : ℕ} (hw : 0 < w) : Flat w (g2 w N) := fun i => ⟨by
  have h0 : (i 0).val = 0 := val_of_one rfl _
  have := Shape.rowMajor_val_two i
  simp only [h0, Nat.zero_mul, Nat.zero_add] at this
  exact this.trans (Nat.div_add_mod' (i 1).val w).symm, Nat.mod_lt _ hw⟩

theorem inj_l2 {m n : ℕ} (i j) (h : (l2 m n).row i = (l2 m n).row j) (h' : (l2 m n).col i = (l2 m n).col j) : i = j := by
  funext a
  match a with
  | ⟨0, _⟩ => exact Fin.ext h
  | ⟨1, _⟩ => exact Fin.ext h'

theorem inj_l3 {m n : ℕ} (i j) (h : (l3 m n).row i = (l3 m n).row j) (h' : (l3 m n).col i = (l3 m n).col j) : i = j := by
  funext a
  match a with
  | ⟨0, _⟩ => exact Fin.ext ((val_of_one rfl (i 0)).trans (val_of_one rfl (j 0)).symm)
  | ⟨1, _⟩ => exact Fin.ext h
  | ⟨2, _⟩ => exact Fin.ext h'

theorem inj_r1 {n : ℕ} (i j) (_ : (r1 n).row i = (r1 n).row j) (h' : (r1 n).col i = (r1 n).col j) : i = j := by
  funext a
  match a with
  | ⟨0, _⟩ => exact Fin.ext h'

theorem inj_g2 {w N : ℕ} (i j) (h : (g2 w N).row i = (g2 w N).row j) (h' : (g2 w N).col i = (g2 w N).col j) : i = j := by
  funext a
  match a with
  | ⟨0, _⟩ => exact Fin.ext ((val_of_one rfl (i 0)).trans (val_of_one rfl (j 0)).symm)
  | ⟨1, _⟩ => exact Fin.ext ((Nat.div_add_mod' (i 1).val w).symm.trans
      ((congrArg₂ (fun a b => a * w + b) h h').trans (Nat.div_add_mod' (j 1).val w)))

/-! ### Re-indexings -/

variable {m n : ℕ} (f g : RM)

/-- The transpose. -/
def tr (f : RM) : RM := fun q d => f d q

theorem lift_transpose (h) : transpose ⟨2, ![n, m]⟩ [1, 0] (Lift (l2 m n) (tr f)) h = Lift (l2 n m) f := rfl

theorem mm_tr (k : ℕ) : mm k f (tr g) = mmT k f g := rfl
theorem mmT_tr (k : ℕ) : mmT k f (tr g) = mm k f g := rfl

theorem lift_cast_g2_l2 {N : ℕ} (h) : shapeCast ⟨2, ![m, 1024]⟩ (Lift (g2 1024 N) f) h = Lift (l2 m 1024) f :=
  lift_shapeCast f (flat_g2 (by norm_num)) flat_l2 h

theorem lift_cast_l2_l3_one (h) : shapeCast ⟨3, ![1, 1, n]⟩ (Lift (l2 1 n) f) h = Lift (l3 1 n) f := lift_cast_l2_l3 f h

theorem lift_slice_g2 {N a : ℕ} (ha : a % 1024 = 0) (h) :
    extractStridedSlice ⟨2, ![1, 1024]⟩ ![0, a] (Lift (g2 1024 N) f) h = Lift (l2 1 1024) (rows (a / 1024) f) :=
  funext fun i => congrArg Real.toEReal (by
    have h0 : (i 0).val = 0 := val_of_one rfl _
    have h1 : (i 1).val < 1024 := (i 1).isLt
    show f ((a + (i 1).val) / 1024) ((a + (i 1).val) % 1024) = f (a / 1024 + (i 0).val) (i 1).val
    rw [h0, show (a + (i 1).val) / 1024 = a / 1024 + 0 by omega, show (a + (i 1).val) % 1024 = (i 1).val by omega])

theorem lift_broadcast_c2 (r : ℝ) : broadcast (⟨2, ![1, m]⟩ : Shape) ((r : ℝ) : EReal) = Lift (c2 m) (cst r) := rfl

theorem mulf_splat (u : Shape) (a b : ℝ) : mulf (F := Ideal) (φ := .f32) (broadcast u ((a : ℝ) : EReal)) (broadcast u ((b : ℝ) : EReal))
    = broadcast u ((a * b : ℝ) : EReal) := funext fun _ => (EReal.coe_mul _ _).symm

/-! ### Sums -/

theorem lift_sum_d2 {u : Shape} (h hu) :
    Host.reduceAdd (F := Ideal) (φ := .f32) (axes := no_index [2]) (t := ⟨2, ![1, m]⟩) (Lift (l3 m n) f) (broadcast u ((0 : ℝ) : EReal)) h hu
      = Lift (c2 m) (sumC n f) := by
  funext i
  pointwise [Lift, l3, c2, sumC]
  simp [coe_sum_range]

theorem lift_sum_d1 {u : Shape} (h hu) :
    Host.reduceAdd (F := Ideal) (φ := .f32) (axes := no_index [1]) (t := ⟨2, ![1, n]⟩) (Lift (l3 m n) f) (broadcast u ((0 : ℝ) : EReal)) h hu
      = Lift (l2 1 n) (sumR m f) := by
  funext i
  pointwise [Lift, l3, l2, sumR]
  simp [coe_sum_range]

theorem lift_sum_d01 {u : Shape} (h hu) :
    Host.reduceAdd (F := Ideal) (φ := .f32) (axes := no_index [0, 1]) (t := ⟨1, ![n]⟩) (Lift (l3 1 n) f) (broadcast u ((0 : ℝ) : EReal)) h hu
      = Lift (r1 n) f := by
  funext j
  obtain ⟨k, rfl⟩ : ∃ k : Fin n, j = ix1 k := ⟨j 0, eq_ix1 j⟩
  show Ideal.hostReduceAdd h _ ((0 : ℝ) : EReal) _ = _
  unfold Ideal.hostReduceAdd
  rw [EReal.coe_zero, zero_add]
  refine (Finset.sum_eq_single_of_mem (ix3 0 0 k) ?_ ?_).trans ?_
  · rw [Finset.mem_filter]
    refine ⟨Finset.mem_univ _, funext fun a => ?_⟩
    match a with
    | ⟨0, _⟩ => rfl
  · intro i hi hne
    rw [Finset.mem_filter] at hi
    refine absurd (inj_l3 i _ ?_ ?_) hne
    · exact (val_of_one rfl (i 1)).trans rfl
    · exact congrArg Fin.val (congrFun hi.2 0)
  · rfl

theorem lift_sum_d02 {u : Shape} (h hu) :
    Host.reduceAdd (F := Ideal) (φ := .f32) (axes := no_index [0, 2]) (t := ⟨1, ![m]⟩) (Lift (l3 m 1) f) (broadcast u ((0 : ℝ) : EReal)) h hu
      = Lift (c1 m) f := by
  funext j
  obtain ⟨k, rfl⟩ : ∃ k : Fin m, j = ix1 k := ⟨j 0, eq_ix1 j⟩
  show Ideal.hostReduceAdd h _ ((0 : ℝ) : EReal) _ = _
  unfold Ideal.hostReduceAdd
  rw [EReal.coe_zero, zero_add]
  refine (Finset.sum_eq_single_of_mem (ix3 0 k 0) ?_ ?_).trans ?_
  · rw [Finset.mem_filter]
    refine ⟨Finset.mem_univ _, funext fun a => ?_⟩
    match a with
    | ⟨0, _⟩ => rfl
  · intro i hi hne
    rw [Finset.mem_filter] at hi
    refine absurd (inj_l3 i _ ?_ ?_) hne
    · exact congrArg Fin.val (congrFun hi.2 0)
    · exact (val_of_one rfl (i 2)).trans rfl
  · rfl

/-! ### Concatenations -/

theorem lift_cat_l3 {k N : ℕ} (h) :
    concatenate ⟨3, ![1, m, N]⟩ 2 [⟨⟨3, ![1, m, k]⟩, Lift (l3 m k) f⟩, ⟨⟨3, ![1, m, k]⟩, Lift (l3 m k) g⟩] h
      = Lift (l3 m N) (Ffn.hcat k f g) := by
  funext j
  rw [concatenate_pair_apply]
  split
  · rename_i hlt
    exact congrArg Real.toEReal (if_pos hlt).symm
  · rename_i hlt
    exact congrArg Real.toEReal (if_neg hlt).symm

theorem lift_cat_62 (h) :
    concatenate ⟨2, ![8, 1024]⟩ 0 [⟨⟨2, ![6, 1024]⟩, Lift (l2 6 1024) f⟩, ⟨⟨2, ![2, 1024]⟩, Lift (l2 2 1024) (rows 6 f)⟩] h
      = Lift (l2 8 1024) f := by
  funext j
  rw [concatenate_pair_apply]
  split
  · rfl
  · rename_i hlt
    have hlt' : ¬ (j 0).val < 6 := hlt
    refine congrArg Real.toEReal (congrArg (fun q => f q (j 1).val) ?_)
    show 6 + ((j 0).val - 6) = (j 0).val
    omega

/-- A row of a concatenation of rows. -/
theorem cat_row {N : ℕ} (xs : List ((s : Shape) × (s.Idx → EReal))) (h) (j : (⟨2, ![1, N]⟩ : Shape).Idx) (k : ℕ) (hk : k < xs.length)
    (hx : xs[k] = ⟨⟨2, ![1, 1024]⟩, Lift (l2 1 1024) f⟩)
    (hpre : (((xs.take k).map (·.1)).map fun s => if h : s.rank = 2 then s.size ((1 : Fin 2).cast h.symm) else 0).sum = 1024 * k)
    (hj : (j 1).val / 1024 = k) : concatenate ⟨2, ![1, N]⟩ 1 xs h j = ((f 0 ((j 1).val % 1024) : ℝ) : EReal) :=
  concatenate_apply_piece 1 xs h j k hk ⟨2, ![1, 1024]⟩ (Lift (l2 1 1024) f) hx rfl (1024 * k) hpre
    (ix2 0 ⟨(j 1).val % 1024, Nat.mod_lt _ (by norm_num)⟩)
    (fun b hb => match b with
      | ⟨0, _⟩ => (val_of_one rfl (j 0)).symm
      | ⟨1, _⟩ => absurd rfl hb)
    (by subst hj; exact Nat.div_add_mod (j 1).val 1024)

theorem lift_cat_2 (a b : RM) (h) :
    concatenate ⟨2, ![1, 2048]⟩ 1 [⟨⟨2, ![1, 1024]⟩, Lift (l2 1 1024) a⟩, ⟨⟨2, ![1, 1024]⟩, Lift (l2 1 1024) b⟩] h
      = Lift (g2 1024 2048) (Ffn.stk a b b b b b b b) := by
  funext j
  have hj : (j 1).val < 2048 := (j 1).isLt
  show _ = ((Ffn.stk a b b b b b b b ((j 1).val / 1024) ((j 1).val % 1024) : ℝ) : EReal)
  have : (j 1).val / 1024 = 0 ∨ (j 1).val / 1024 = 1 := by omega
  rcases this with e | e <;> rw [e]
  · exact cat_row a _ h j 0 (by simp) rfl rfl e
  · exact cat_row b _ h j 1 (by simp) rfl rfl e

theorem lift_cat_6 (a b c d e f : RM) (h) :
    concatenate ⟨2, ![1, 6144]⟩ 1 [⟨⟨2, ![1, 1024]⟩, Lift (l2 1 1024) a⟩, ⟨⟨2, ![1, 1024]⟩, Lift (l2 1 1024) b⟩,
      ⟨⟨2, ![1, 1024]⟩, Lift (l2 1 1024) c⟩, ⟨⟨2, ![1, 1024]⟩, Lift (l2 1 1024) d⟩, ⟨⟨2, ![1, 1024]⟩, Lift (l2 1 1024) e⟩,
      ⟨⟨2, ![1, 1024]⟩, Lift (l2 1 1024) f⟩] h
      = Lift (g2 1024 6144) (Ffn.stk a b c d e f f f) := by
  funext j
  have hj : (j 1).val < 6144 := (j 1).isLt
  show _ = ((Ffn.stk a b c d e f f f ((j 1).val / 1024) ((j 1).val % 1024) : ℝ) : EReal)
  have : (j 1).val / 1024 = 0 ∨ (j 1).val / 1024 = 1 ∨ (j 1).val / 1024 = 2 ∨ (j 1).val / 1024 = 3 ∨ (j 1).val / 1024 = 4
    ∨ (j 1).val / 1024 = 5 := by omega
  rcases this with q | q | q | q | q | q <;> rw [q]
  · exact cat_row a _ h j 0 (by simp) rfl rfl q
  · exact cat_row b _ h j 1 (by simp) rfl rfl q
  · exact cat_row c _ h j 2 (by simp) rfl rfl q
  · exact cat_row d _ h j 3 (by simp) rfl rfl q
  · exact cat_row e _ h j 4 (by simp) rfl rfl q
  · exact cat_row f _ h j 5 (by simp) rfl rfl q

/-- A row of a concatenation of blocks of rows. -/
theorem cat_block {M r : ℕ} (xs : List ((s : Shape) × (s.Idx → EReal))) (h) (j : (⟨2, ![M, 1024]⟩ : Shape).Idx) (k : ℕ) (hk : k < xs.length)
    (hx : xs[k] = ⟨⟨2, ![r, 1024]⟩, Lift (l2 r 1024) f⟩) (pre i : ℕ) (hi : i < r)
    (hpre : (((xs.take k).map (·.1)).map fun s => if h : s.rank = 2 then s.size ((0 : Fin 2).cast h.symm) else 0).sum = pre)
    (hj : pre + i = (j 0).val) : concatenate ⟨2, ![M, 1024]⟩ 0 xs h j = ((f i (j 1).val : ℝ) : EReal) :=
  concatenate_apply_piece 0 xs h j k hk ⟨2, ![r, 1024]⟩ (Lift (l2 r 1024) f) hx rfl pre hpre (ix2 ⟨i, hi⟩ (j 1))
    (fun b hb => match b with
      | ⟨0, _⟩ => absurd rfl hb
      | ⟨1, _⟩ => rfl) hj

theorem lift_cat_8 (a b c d e f : RM) (h) :
    concatenate ⟨2, ![8, 1024]⟩ 0 [⟨⟨2, ![2, 1024]⟩, Lift (l2 2 1024) a⟩, ⟨⟨2, ![1, 1024]⟩, Lift (l2 1 1024) b⟩,
      ⟨⟨2, ![1, 1024]⟩, Lift (l2 1 1024) c⟩, ⟨⟨2, ![2, 1024]⟩, Lift (l2 2 1024) d⟩, ⟨⟨2, ![1, 1024]⟩, Lift (l2 1 1024) e⟩,
      ⟨⟨2, ![1, 1024]⟩, Lift (l2 1 1024) f⟩] h
      = Lift (l2 8 1024) (Ffn.stk a (rows 1 a) b c d (rows 1 d) e f) := by
  funext j
  have hj : (j 0).val < 8 := (j 0).isLt
  show _ = ((Ffn.stk a (rows 1 a) b c d (rows 1 d) e f (j 0).val (j 1).val : ℝ) : EReal)
  have : (j 0).val = 0 ∨ (j 0).val = 1 ∨ (j 0).val = 2 ∨ (j 0).val = 3 ∨ (j 0).val = 4 ∨ (j 0).val = 5 ∨ (j 0).val = 6
    ∨ (j 0).val = 7 := by omega
  rcases this with q | q | q | q | q | q | q | q <;> rw [q]
  · exact cat_block a _ h j 0 (by simp) rfl 0 0 (by decide) rfl q.symm
  · exact cat_block a _ h j 0 (by simp) rfl 0 1 (by decide) rfl q.symm
  · exact cat_block b _ h j 1 (by simp) rfl 2 0 (by decide) rfl q.symm
  · exact cat_block c _ h j 2 (by simp) rfl 3 0 (by decide) rfl q.symm
  · exact cat_block d _ h j 3 (by simp) rfl 4 0 (by decide) rfl q.symm
  · exact cat_block d _ h j 3 (by simp) rfl 4 1 (by decide) rfl q.symm
  · exact cat_block e _ h j 4 (by simp) rfl 6 0 (by decide) rfl q.symm
  · exact cat_block f _ h j 5 (by simp) rfl 7 0 (by decide) rfl q.symm

attribute [mfld_simps] lift_transpose mm_tr mmT_tr lift_cast_g2_l2 lift_cast_l2_l3_one lift_slice_g2 mulf_splat lift_sum_d2 lift_sum_d1 lift_sum_d01 lift_sum_d02
  lift_cat_l3 lift_cat_62 lift_cat_2 lift_cat_6 lift_cat_8

end Mat

end
-- ==== Proof.FfnOut.lean ====
module
public import proofs.«01_k».proof.Proof.FfnSpec
public import proofs.«01_k».proof.Proof.Gen.KernelIdeal.Frame
public import Idealize.ShloMosaic.Lib.Pipeline.ReadBack
public import Idealize.ShloMosaic.Lib.Pipeline.Value

/-!
What the kernel leaves in its output windows at one grid point: the rows of the step on that point's blocks,
and in the last window the sums so far.
-/

@[expose] public section

set_option maxRecDepth 16384
noncomputable section
open Idealize.ShloMosaic Idealize.ShloMosaic.TcCoe Idealize.ShloMosaic.Tactic Mat
namespace Cert.KernelIdeal.Ffn
open Cert.KernelIdeal.Gen _root_.Ffn
variable (m : (ℓ : Loc nD τ sig) → Buf (Elt Ideal) ℓ)

/-- A load of the rectangle just stored reads what was stored. -/
theorem readCov_self {sig : RefSig} {κ : Kind} {sp : Space} {s : Shape} {e : EltTy} {Val : EltTy → Type} [∀ e, Nonempty (Val e)]
    (v : View sig κ sp s e) (r : Rect s) (w : r.shape.Idx → Val e) (L : List (View.Piece Val s e)) :
    v.readCov (⟨r, w⟩ :: L) r.toLoadRect = w := by
  rw [View.readCov_eq_canon']
  funext j
  exact View.canon_cons_emb r w L j

/-- Stores that are blocks of `G` and cover the array leave `G`. -/
theorem canon_of_piecesOf {S : Shape} {e : EltTy} {Val : EltTy → Type} [∀ e, Nonempty (Val e)] (G : S.Idx → Val e)
    (L : List (View.Piece Val S e)) (h : View.PiecesOf G L) (hc : ∀ y, ∃ p ∈ L, y ∈ p.1.set) : View.canon L = G :=
  funext fun y => View.canon_apply_of_pieces G L h.mem y (hc y)

/-- The blocks of the operands at a point are those of `p`. -/
structure Blk (c : Dev nD) (t : Fin cfg0.N) (p : Args) : Prop where
  b0 : iblk m c 0 t = Lift (l2 256 1024) p.X
  b1 : iblk m c 1 t = Lift (l2 256 1024) p.T
  b2 : iblk m c 2 t = Lift (l2 8 1024) p.M
  b3 : iblk m c 3 t = Lift (l2 1 1024) p.G2
  b4 : iblk m c 4 t = Lift (l2 1 1024) p.GF
  b5 : iblk m c 5 t = Lift (l2 5632 1024) p.A
  b6 : iblk m c 6 t = Lift (l2 2816 1024) p.B

/-- A stored block of an array of 256 rows. -/
theorem piece_l2 {n N a : ℕ} (f g : RM) (h : Lift (l2 256 n) g = Lift (l2 256 n) (cols a f)) (inb) (x : (⟨2, ![256, n]⟩ : Shape).Idx) :
    Lift (l2 256 n) g x = Lift (l2 256 N) f ((Rect.unit (s := ⟨2, ![256, N]⟩) ![0, a] ![256, n] inb).emb x) :=
  ((congrFun (lift_ld f inb) x).trans (by rw [rows_zero, h])).symm

/-- A stored row. -/
theorem piece_row {a : ℕ} (f g : RM) (h : ∀ d, g 0 d = f a d) (inb) (x : (⟨2, ![1, 1024]⟩ : Shape).Idx) :
    Lift (l2 1 1024) g x = Lift (l2 8 1024) f ((Rect.unit (s := ⟨2, ![8, 1024]⟩) ![a, 0] ![1, 1024] inb).emb x) :=
  ((congrFun (lift_ld f inb) x).trans (by
    have h0 : (x 0).val = 0 := val_of_one rfl _
    simp only [Lift, l2, rows, cols, h0, Nat.zero_add, Nat.add_zero, h])).symm

theorem hcat_left {n a k : ℕ} (f g : RM) (h : a + n ≤ k) : Lift (l2 256 n) (cols a f) = Lift (l2 256 n) (cols a (hcat k f g)) :=
  funext fun i => congrArg Real.toEReal (by
    have h1 : (i 1).val < n := (i 1).isLt
    exact (if_pos (show a + (i 1).val < k by omega)).symm)

theorem hcat_right {n a k : ℕ} (f g : RM) : Lift (l2 256 n) (cols a g) = Lift (l2 256 n) (cols (k + a) (hcat k f g)) :=
  funext fun i => congrArg Real.toEReal (by
    refine Eq.trans ?_ (if_neg (show ¬ k + a + (i 1).val < k by omega)).symm
    exact congrArg (g _) (show a + (i 1).val = k + a + (i 1).val - k by omega))

/-- Eight stores over a fill. -/
theorem canon_eight {S : Shape} {φ : EltTy} {Val : EltTy → Type} [∀ e, Nonempty (Val e)] (G : S.Idx → Val φ)
    (a b c d e f g h z : View.Piece Val S φ) (hp : View.PiecesOf G [a, b, c, d, e, f, g, h])
    (hc : ∀ y, ∃ p ∈ [a, b, c, d, e, f, g, h], y ∈ p.1.set) : View.canon [a, b, c, d, e, f, g, h, z] = G :=
  funext fun y => View.canon_append_of_piecesOf G [z] [a, b, c, d, e, f, g, h] hp y (hc y)

set_option maxHeartbeats 1000000

variable (c : Dev nD) (t : Fin cfg0.N) (p : Args) (b : Blk m c t p)
include b

theorem outB_7 (h0 : ¬ t.val % 32 = 0) : (outsAt0 m c t.val t.isLt).1 = Lift (l2 256 1024) (dx p) := by
  rw [outsAt0_B m c t h0]
  dsimp only
  unfold out0_B_7
  rw [View.read_writes_eq_canon _ _ _ (fun y => cover0_B_7 c _ _ _ _ _ _ _ _ _ _ _ _ _ _ _ _ _ _ _ _ _ _ _ _ _ _ _ _ _ _ _ _ _ _ _ _ _ _ _ _ y)]
  refine canon_of_piecesOf _ _ ?_ (fun y => cover0_B_7 c _ _ _ _ _ _ _ _ _ _ _ _ _ _ _ _ _ _ _ _ _ _ _ _ _ _ _ _ _ _ _ _ _ _ _ _ _ _ _ _ y)
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, b.b0, b.b1, b.b2, b.b3, b.b4, b.b5, b.b6]
  simp (disch := decide) only [↓View.readCov_skip, ↓readCov_self]
  simp only [mfld_simps]
  exact ⟨fun x => piece_l2 _ _ (by rw [cols_zero]) inb_S256x1024_S256x1024_0_0 x, trivial⟩

theorem outB_8 (h0 : ¬ t.val % 32 = 0) : (outsAt0 m c t.val t.isLt).2.1 = Lift (l2 256 1024) (h2 p) := by
  rw [outsAt0_B m c t h0]
  dsimp only
  unfold out0_B_8
  rw [View.read_writes_eq_canon _ _ _ (fun y => cover0_B_8 c _ _ _ _ _ _ _ _ _ _ _ _ _ _ _ _ _ _ _ _ _ _ _ _ _ _ _ _ _ _ _ _ _ _ _ _ _ _ _ _ y)]
  refine canon_of_piecesOf _ _ ?_ (fun y => cover0_B_8 c _ _ _ _ _ _ _ _ _ _ _ _ _ _ _ _ _ _ _ _ _ _ _ _ _ _ _ _ _ _ _ _ _ _ _ _ _ _ _ _ y)
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, b.b0, b.b1, b.b2, b.b3, b.b4, b.b5, b.b6]
  simp only [mfld_simps]
  exact ⟨fun x => piece_l2 _ _ (by rw [cols_zero]) inb_S256x1024_S256x1024_0_0 x, trivial⟩

theorem outB_9 (h0 : ¬ t.val % 32 = 0) : (outsAt0 m c t.val t.isLt).2.2.1 = Lift (l2 256 5632) (dgu p) := by
  rw [outsAt0_B m c t h0]
  dsimp only
  unfold out0_B_9
  rw [View.read_writes_eq_canon _ _ _ (fun y => cover0_B_9 c _ _ _ _ _ _ _ _ _ _ _ _ _ _ _ _ _ _ _ _ _ _ _ _ _ _ _ _ _ _ _ _ _ _ _ _ _ _ _ _ y)]
  refine canon_of_piecesOf _ _ ?_ (fun y => cover0_B_9 c _ _ _ _ _ _ _ _ _ _ _ _ _ _ _ _ _ _ _ _ _ _ _ _ _ _ _ _ _ _ _ _ _ _ _ _ _ _ _ _ y)
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, b.b0, b.b1, b.b2, b.b3, b.b4, b.b5, b.b6]
  simp (disch := decide) only [↓View.readCov_skip, ↓readCov_self]
  simp only [mfld_simps]
  exact ⟨fun x => piece_l2 _ _ (hcat_right (a := 2048) _ _) inb_S256x5632_S256x768_0_4864 x,
    fun x => piece_l2 _ _ (hcat_left _ _ (by omega)) inb_S256x5632_S256x768_0_2048 x,
    fun x => piece_l2 _ _ (hcat_right (a := 1024) _ _) inb_S256x5632_S256x1024_0_3840 x,
    fun x => piece_l2 _ _ (hcat_left _ _ (by omega)) inb_S256x5632_S256x1024_0_1024 x,
    fun x => piece_l2 _ _ ((by rw [cols_zero] : _ = Lift (l2 256 1024) (cols 0 (dlin p))).trans (hcat_right _ _)) inb_S256x5632_S256x1024_0_2816 x,
    fun x => piece_l2 _ _ ((by rw [cols_zero] : _ = Lift (l2 256 1024) (cols 0 (dgate p))).trans (hcat_left _ _ (by omega))) inb_S256x5632_S256x1024_0_0 x, trivial⟩

theorem outB_10 (h0 : ¬ t.val % 32 = 0) : (outsAt0 m c t.val t.isLt).2.2.2.1 = Lift (l2 256 2816) (hid p) := by
  rw [outsAt0_B m c t h0]
  dsimp only
  unfold out0_B_10
  rw [View.read_writes_eq_canon _ _ _ (fun y => cover0_B_10 c _ _ _ _ _ _ _ _ _ _ _ _ _ _ _ _ _ _ _ _ _ _ _ _ _ _ _ _ _ _ _ _ _ _ _ _ _ _ _ _ y)]
  refine canon_of_piecesOf _ _ ?_ (fun y => cover0_B_10 c _ _ _ _ _ _ _ _ _ _ _ _ _ _ _ _ _ _ _ _ _ _ _ _ _ _ _ _ _ _ _ _ _ _ _ _ _ _ _ _ y)
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, b.b0, b.b1, b.b2, b.b3, b.b4, b.b5, b.b6]
  simp only [mfld_simps]
  exact ⟨fun x => piece_l2 _ _ rfl inb_S256x2816_S256x768_0_2048 x, fun x => piece_l2 _ _ rfl inb_S256x2816_S256x1024_0_1024 x,
    fun x => piece_l2 _ _ (by rw [cols_zero]) inb_S256x2816_S256x1024_0_0 x, trivial⟩

theorem outB_11 (h0 : ¬ t.val % 32 = 0) : (outsAt0 m c t.val t.isLt).2.2.2.2.1 = Lift (l2 256 1024) (df p) := by
  rw [outsAt0_B m c t h0]
  dsimp only
  unfold out0_B_11
  rw [View.read_writes_eq_canon _ _ _ (fun y => cover0_B_11 c _ _ _ _ _ _ _ _ _ _ _ _ _ _ _ _ _ _ _ _ _ _ _ _ _ _ _ _ _ _ _ _ _ _ _ _ _ _ _ _ y)]
  refine canon_of_piecesOf _ _ ?_ (fun y => cover0_B_11 c _ _ _ _ _ _ _ _ _ _ _ _ _ _ _ _ _ _ _ _ _ _ _ _ _ _ _ _ _ _ _ _ _ _ _ _ _ _ _ _ y)
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, b.b0, b.b1, b.b2, b.b3, b.b4, b.b5, b.b6]
  simp only [mfld_simps]
  exact ⟨fun x => piece_l2 _ _ (by rw [cols_zero]) inb_S256x1024_S256x1024_0_0 x, trivial⟩

theorem outA_7 (h0 : t.val % 32 = 0) : (outsAt0 m c t.val t.isLt).1 = Lift (l2 256 1024) (dx p) := by
  rw [outsAt0_A m c t h0]
  dsimp only
  unfold out0_A_7
  rw [View.read_writes_eq_canon _ _ _ (fun y => cover0_A_7 c _ _ _ _ _ _ _ _ _ _ _ _ _ _ _ _ _ _ _ _ _ _ _ _ _ _ _ _ _ _ _ _ _ _ _ _ _ _ _ y)]
  refine canon_of_piecesOf _ _ ?_ (fun y => cover0_A_7 c _ _ _ _ _ _ _ _ _ _ _ _ _ _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, b.b0, b.b1, b.b2, b.b3, b.b4, b.b5, b.b6]
  simp (disch := decide) only [↓View.readCov_skip, ↓readCov_self]
  simp only [mfld_simps]
  exact ⟨fun x => piece_l2 _ _ (by rw [cols_zero]) inb_S256x1024_S256x1024_0_0 x, trivial⟩

theorem outA_8 (h0 : t.val % 32 = 0) : (outsAt0 m c t.val t.isLt).2.1 = Lift (l2 256 1024) (h2 p) := by
  rw [outsAt0_A m c t h0]
  dsimp only
  unfold out0_A_8
  rw [View.read_writes_eq_canon _ _ _ (fun y => cover0_A_8 c _ _ _ _ _ _ _ _ _ _ _ _ _ _ _ _ _ _ _ _ _ _ _ _ _ _ _ _ _ _ _ _ _ _ _ _ _ _ _ y)]
  refine canon_of_piecesOf _ _ ?_ (fun y => cover0_A_8 c _ _ _ _ _ _ _ _ _ _ _ _ _ _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, b.b0, b.b1, b.b2, b.b3, b.b4, b.b5, b.b6]
  simp only [mfld_simps]
  exact ⟨fun x => piece_l2 _ _ (by rw [cols_zero]) inb_S256x1024_S256x1024_0_0 x, trivial⟩

theorem outA_9 (h0 : t.val % 32 = 0) : (outsAt0 m c t.val t.isLt).2.2.1 = Lift (l2 256 5632) (dgu p) := by
  rw [outsAt0_A m c t h0]
  dsimp only
  unfold out0_A_9
  rw [View.read_writes_eq_canon _ _ _ (fun y => cover0_A_9 c _ _ _ _ _ _ _ _ _ _ _ _ _ _ _ _ _ _ _ _ _ _ _ _ _ _ _ _ _ _ _ _ _ _ _ _ _ _ _ y)]
  refine canon_of_piecesOf _ _ ?_ (fun y => cover0_A_9 c _ _ _ _ _ _ _ _ _ _ _ _ _ _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, b.b0, b.b1, b.b2, b.b3, b.b4, b.b5, b.b6]
  simp (disch := decide) only [↓View.readCov_skip, ↓readCov_self]
  simp only [mfld_simps]
  exact ⟨fun x => piece_l2 _ _ (hcat_right (a := 2048) _ _) inb_S256x5632_S256x768_0_4864 x,
    fun x => piece_l2 _ _ (hcat_left _ _ (by omega)) inb_S256x5632_S256x768_0_2048 x,
    fun x => piece_l2 _ _ (hcat_right (a := 1024) _ _) inb_S256x5632_S256x1024_0_3840 x,
    fun x => piece_l2 _ _ (hcat_left _ _ (by omega)) inb_S256x5632_S256x1024_0_1024 x,
    fun x => piece_l2 _ _ ((by rw [cols_zero] : _ = Lift (l2 256 1024) (cols 0 (dlin p))).trans (hcat_right _ _)) inb_S256x5632_S256x1024_0_2816 x,
    fun x => piece_l2 _ _ ((by rw [cols_zero] : _ = Lift (l2 256 1024) (cols 0 (dgate p))).trans (hcat_left _ _ (by omega))) inb_S256x5632_S256x1024_0_0 x, trivial⟩

theorem outA_10 (h0 : t.val % 32 = 0) : (outsAt0 m c t.val t.isLt).2.2.2.1 = Lift (l2 256 2816) (hid p) := by
  rw [outsAt0_A m c t h0]
  dsimp only
  unfold out0_A_10
  rw [View.read_writes_eq_canon _ _ _ (fun y => cover0_A_10 c _ _ _ _ _ _ _ _ _ _ _ _ _ _ _ _ _ _ _ _ _ _ _ _ _ _ _ _ _ _ _ _ _ _ _ _ _ _ _ y)]
  refine canon_of_piecesOf _ _ ?_ (fun y => cover0_A_10 c _ _ _ _ _ _ _ _ _ _ _ _ _ _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, b.b0, b.b1, b.b2, b.b3, b.b4, b.b5, b.b6]
  simp only [mfld_simps]
  exact ⟨fun x => piece_l2 _ _ rfl inb_S256x2816_S256x768_0_2048 x, fun x => piece_l2 _ _ rfl inb_S256x2816_S256x1024_0_1024 x,
    fun x => piece_l2 _ _ (by rw [cols_zero]) inb_S256x2816_S256x1024_0_0 x, trivial⟩

theorem outA_11 (h0 : t.val % 32 = 0) : (outsAt0 m c t.val t.isLt).2.2.2.2.1 = Lift (l2 256 1024) (df p) := by
  rw [outsAt0_A m c t h0]
  dsimp only
  unfold out0_A_11
  rw [View.read_writes_eq_canon _ _ _ (fun y => cover0_A_11 c _ _ _ _ _ _ _ _ _ _ _ _ _ _ _ _ _ _ _ _ _ _ _ _ _ _ _ _ _ _ _ _ _ _ _ _ _ _ _ y)]
  refine canon_of_piecesOf _ _ ?_ (fun y => cover0_A_11 c _ _ _ _ _ _ _ _ _ _ _ _ _ _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, b.b0, b.b1, b.b2, b.b3, b.b4, b.b5, b.b6]
  simp only [mfld_simps]
  exact ⟨fun x => piece_l2 _ _ (by rw [cols_zero]) inb_S256x1024_S256x1024_0_0 x, trivial⟩

theorem outB_12 (h0 : ¬ t.val % 32 = 0) (y : RM) (hy : (outsAt0 m c (t.val - 1) (Nat.lt_of_le_of_lt (Nat.sub_le _ _) t.isLt)).2.2.2.2.2 = Lift (l2 8 1024) y) :
    (outsAt0 m c t.val t.isLt).2.2.2.2.2 = Lift (l2 8 1024) (y + sums p 256) := by
  rw [outsAt0_B m c t h0]
  dsimp only
  unfold out0_B_12
  rw [View.read_writes_eq_canon _ _ _ (fun y => cover0_B_12 c _ _ _ _ _ _ _ _ _ _ _ _ _ _ _ _ _ _ _ _ _ _ _ _ _ _ _ _ _ _ _ _ _ _ _ _ _ _ _ _ y)]
  refine canon_of_piecesOf _ _ ?_ (fun y => cover0_B_12 c _ _ _ _ _ _ _ _ _ _ _ _ _ _ _ _ _ _ _ _ _ _ _ _ _ _ _ _ _ _ _ _ _ _ _ _ _ _ _ _ y)
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_12 t).read_unread, b.b0, b.b1, b.b2, b.b3, b.b4, b.b5, b.b6]
  simp (disch := decide) only [↓View.readCov_skip, ↓readCov_self]
  rw [hy]
  simp only [mfld_simps]
  exact ⟨fun x => piece_row _ _ (by intro d; rfl) inb_S8x1024_S1x1024_6_0 x,
    fun x => piece_row _ _ (by intro d; rfl) inb_S8x1024_S1x1024_5_0 x,
    fun x => piece_row _ _ (by intro d; rfl) inb_S8x1024_S1x1024_4_0 x,
    fun x => piece_row _ _ (by intro d; rfl) inb_S8x1024_S1x1024_3_0 x,
    fun x => piece_row _ _ (by intro d; rfl) inb_S8x1024_S1x1024_2_0 x,
    fun x => piece_row _ _ (by intro d; rfl) inb_S8x1024_S1x1024_1_0 x,
    fun x => piece_row _ _ (by intro d; rfl) inb_S8x1024_S1x1024_0_0 x,
    fun x => piece_row _ _ (by intro d; rfl) inb_S8x1024_S1x1024_7_0 x, trivial⟩

theorem outA_12 (h0 : t.val % 32 = 0) : (outsAt0 m c t.val t.isLt).2.2.2.2.2 = Lift (l2 8 1024) (sums p 256) := by
  rw [outsAt0_A m c t h0]
  dsimp only
  unfold out0_A_12
  rw [View.read_writes_eq_canon _ _ _ (fun y => cover0_A_12 c _ _ _ _ _ _ _ _ _ _ _ _ _ _ _ _ _ _ _ _ _ _ _ _ _ _ _ _ _ _ _ _ _ _ _ _ _ _ _ y)]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, b.b0, b.b1, b.b2, b.b3, b.b4, b.b5, b.b6]
  simp (disch := decide) only [↓View.readCov_skip, ↓readCov_self, ↓View.readCov_fill]
  simp only [mfld_simps]
  refine canon_eight _ _ _ _ _ _ _ _ _ _ ?_ (View.cover_of_tiledL _ ![1, 1024] (by sl_kernel_rfl))
  exact ⟨fun x => piece_row _ _ (by intro d; rfl) inb_S8x1024_S1x1024_6_0 x,
    fun x => piece_row _ _ (by intro d; rfl) inb_S8x1024_S1x1024_5_0 x,
    fun x => piece_row _ _ (by intro d; rfl) inb_S8x1024_S1x1024_4_0 x,
    fun x => piece_row _ _ (by intro d; rfl) inb_S8x1024_S1x1024_3_0 x,
    fun x => piece_row _ _ (by intro d; rfl) inb_S8x1024_S1x1024_2_0 x,
    fun x => piece_row _ _ (by intro d; rfl) inb_S8x1024_S1x1024_1_0 x,
    fun x => piece_row _ _ (by intro d; rfl) inb_S8x1024_S1x1024_0_0 x,
    fun x => piece_row _ _ (by intro d; rfl) inb_S8x1024_S1x1024_7_0 x, trivial⟩

end Cert.KernelIdeal.Ffn
end
end
-- ==== Proof.FfnVal.lean ====
module
public import proofs.«01_k».proof.Proof.Mat2
public import proofs.«01_k».proof.Proof.FfnOut
public import proofs.«01_k».proof.Proof.Gen.KernelIdeal.Value
public import Idealize.ShloMosaic.Lib.StableHlo.Run

/-!
The kernel's results as real matrices: the blocks a point reads are rows of the arguments, the sums of the
last window grow by a block's rows at every point, and the written blocks make up the result arrays.
-/

@[expose] public section

set_option maxRecDepth 16384
noncomputable section
open Idealize.ShloMosaic Idealize.ShloMosaic.TcCoe Idealize.ShloMosaic.Tactic Mat
namespace Cert.KernelIdeal.Ffn
open Cert.KernelIdeal.Gen _root_.Ffn
variable (m : (ℓ : Loc nD τ sig) → Buf (Elt Ideal) ℓ)

/-- Device `c`'s arguments are those of `p`. -/
structure Mem (c : Dev nD) (p : Args) : Prop where
  a0 : m (c.tc.loc main_arg0) = Lift (l3 8192 1024) p.X
  a1 : m (c.tc.loc main_arg1) = Lift (g2 1024 6144) p.M
  a2 : m (c.tc.loc main_arg2) = Lift (g2 1024 2048) (rows 6 p.M)
  a3 : m (c.tc.loc main_arg3) = Lift (l2 1 1024) p.G2
  a4 : m (c.tc.loc main_arg4) = Lift (l3 1024 5632) (tr p.A)
  a5 : m (c.tc.loc main_arg5) = Lift (l3 2816 1024) p.B
  a6 : m (c.tc.loc main_arg6) = Lift (r1 1024) p.GF
  a7 : m (c.tc.loc main_arg7) = Lift (l3 8192 1024) p.T

variable {m} {c : Dev nD} {p : Args} (h : Mem m c p)
include h

theorem v_0 : V m c main_v0 = Lift (l2 8192 1024) p.X := by
  have e : V m c main_v0 = shapeCast _ (m (c.tc.loc main_arg0)) shapeCasts_S1x8192x1024_S8192x1024 := by
    unfold V hostOps0
    after_results_simp
    rfl
  rw [e, h.a0]
  exact lift_cast_l3_l2 _ _

theorem v_1 : V m c main_v1 = Lift (l2 8192 1024) p.T := by
  have e : V m c main_v1 = shapeCast _ (m (c.tc.loc main_arg7)) shapeCasts_S1x8192x1024_S8192x1024 := by
    unfold V hostOps0
    after_results_simp
    rfl
  rw [e, h.a7]
  exact lift_cast_l3_l2 _ _

theorem v_4 : V m c main_v4 = Lift (l2 8 1024) p.M := by
  have e : V m c main_v4 = concatenate S8x1024 0 [⟨S6x1024, shapeCast _ (m (c.tc.loc main_arg1)) shapeCasts_S1x6144_S6x1024⟩,
      ⟨S2x1024, shapeCast _ (m (c.tc.loc main_arg2)) shapeCasts_S1x2048_S2x1024⟩] concatenates_S6x1024_S2x1024_S8x1024_d0 := by
    unfold V hostOps0
    after_results
    rfl
  rw [e, h.a1, h.a2]
  rw [lift_cast_g2_l2, lift_cast_g2_l2]
  exact lift_cat_62 _ _

theorem v_7 : V m c main_v7 = Lift (l2 5632 1024) p.A := by
  have e : V m c main_v7 = truncf (F := Ideal) (φ := .f32) .bf16 (transpose S5632x1024 [1, 0] (shapeCast _ (m (c.tc.loc main_arg4)) shapeCasts_S1x1024x5632_S1024x5632)
      transposes_S1024x5632_S5632x1024_1_0) bitsLt_bf16_f32 := by
    unfold V hostOps0
    after_results_simp
    rfl
  rw [e, h.a4]
  rw [lift_cast_l3_l2]
  rfl

theorem v_9 : V m c main_v9 = Lift (l2 2816 1024) p.B := by
  have e : V m c main_v9 = truncf (F := Ideal) (φ := .f32) .bf16 (shapeCast _ (m (c.tc.loc main_arg5)) shapeCasts_S1x2816x1024_S2816x1024) bitsLt_bf16_f32 := by
    unfold V hostOps0
    after_results_simp
    rfl
  rw [e, h.a5]
  rw [lift_cast_l3_l2]
  rfl

theorem v_10 : V m c main_v10 = Lift (l2 1 1024) p.GF := by
  have e : V m c main_v10 = shapeCast _ (m (c.tc.loc main_arg6)) shapeCasts_S1024_S1x1024 := by
    unfold V hostOps0
    after_results_simp
    rfl
  rw [e, h.a6]
  exact lift_cast_r1_l2 _ _

omit h in
theorem idx_row : ∀ t : Fin cfg0.N, win0_0.index t 0 = t.val ∧ win0_0.index t 1 = 0 :=
  (by decide +kernel : ∀ t : Fin grid0.N, win0_0.index t 0 = t.val ∧ win0_0.index t 1 = 0)
omit h in
theorem idx_row1 : ∀ t : Fin cfg0.N, win0_1.index t 0 = t.val ∧ win0_1.index t 1 = 0 :=
  (by decide +kernel : ∀ t : Fin grid0.N, win0_1.index t 0 = t.val ∧ win0_1.index t 1 = 0)

theorem i_0 (t : Fin cfg0.N) : iblk m c 0 t = Lift (l2 256 1024) (tile p t.val).X := by
  have hi := idx_row t
  funext j
  unfold iblk
  rw [View.read_apply]
  show V m c main_v0 _ = _
  rw [v_0 h]
  refine congrArg Real.toEReal (congrArg₂ p.X ?_ ?_)
  · show win0_0.index t 0 * 256 + 1 * (j 0).val = 256 * t.val + (j 0).val
    rw [hi.1]; omega
  · show win0_0.index t 1 * 1024 + 1 * (j 1).val = (j 1).val
    rw [hi.2]; omega

theorem i_1 (t : Fin cfg0.N) : iblk m c 1 t = Lift (l2 256 1024) (tile p t.val).T := by
  have hi := idx_row1 t
  funext j
  unfold iblk
  rw [View.read_apply]
  show V m c main_v1 _ = _
  rw [v_1 h]
  refine congrArg Real.toEReal (congrArg₂ p.T ?_ ?_)
  · show win0_1.index t 0 * 256 + 1 * (j 0).val = 256 * t.val + (j 0).val
    rw [hi.1]; omega
  · show win0_1.index t 1 * 1024 + 1 * (j 1).val = (j 1).val
    rw [hi.2]; omega

theorem i_2 (t : Fin cfg0.N) : iblk m c 2 t = Lift (l2 8 1024) p.M := by
  funext j
  unfold iblk
  rw [View.read_apply]
  show V m c main_v4 _ = _
  rw [v_4 h]
  refine congrArg Real.toEReal (congrArg₂ p.M ?_ ?_)
  · show 0 * 8 + 1 * (j 0).val = (j 0).val
    omega
  · show 0 * 1024 + 1 * (j 1).val = (j 1).val
    omega

theorem i_3 (t : Fin cfg0.N) : iblk m c 3 t = Lift (l2 1 1024) p.G2 := by
  funext j
  unfold iblk
  rw [View.read_apply]
  show V m c main_arg3 _ = _
  rw [V_main_arg3, h.a3]
  refine congrArg Real.toEReal (congrArg₂ p.G2 ?_ ?_)
  · show 0 * 1 + 1 * (j 0).val = (j 0).val
    omega
  · show 0 * 1024 + 1 * (j 1).val = (j 1).val
    omega

theorem i_4 (t : Fin cfg0.N) : iblk m c 4 t = Lift (l2 1 1024) p.GF := by
  funext j
  unfold iblk
  rw [View.read_apply]
  show V m c main_v10 _ = _
  rw [v_10 h]
  refine congrArg Real.toEReal (congrArg₂ p.GF ?_ ?_)
  · show 0 * 1 + 1 * (j 0).val = (j 0).val
    omega
  · show 0 * 1024 + 1 * (j 1).val = (j 1).val
    omega

theorem i_5 (t : Fin cfg0.N) : iblk m c 5 t = Lift (l2 5632 1024) p.A := by
  funext j
  unfold iblk
  rw [View.read_apply]
  show V m c main_v7 _ = _
  rw [v_7 h]
  refine congrArg Real.toEReal (congrArg₂ p.A ?_ ?_)
  · show 0 * 5632 + 1 * (j 0).val = (j 0).val
    omega
  · show 0 * 1024 + 1 * (j 1).val = (j 1).val
    omega

theorem i_6 (t : Fin cfg0.N) : iblk m c 6 t = Lift (l2 2816 1024) p.B := by
  funext j
  unfold iblk
  rw [View.read_apply]
  show V m c main_v9 _ = _
  rw [v_9 h]
  refine congrArg Real.toEReal (congrArg₂ p.B ?_ ?_)
  · show 0 * 2816 + 1 * (j 0).val = (j 0).val
    omega
  · show 0 * 1024 + 1 * (j 1).val = (j 1).val
    omega

/-- A point reads its rows of the arguments. -/
theorem blk (t : Fin cfg0.N) : Blk m c t (tile p t.val) :=
  ⟨i_0 h t, i_1 h t, i_2 h t, i_3 h t, i_4 h t, i_5 h t, i_6 h t⟩

/-! ### What a point leaves -/

theorem o_7 (t : Fin cfg0.N) : (outsAt0 m c t.val t.isLt).1 = Lift (l2 256 1024) (rows (256 * t.val) (dx p)) := by
  rw [← tile_dx]
  by_cases h0 : t.val % 32 = 0
  · exact outA_7 m c t _ (blk h t) h0
  · exact outB_7 m c t _ (blk h t) h0

theorem o_8 (t : Fin cfg0.N) : (outsAt0 m c t.val t.isLt).2.1 = Lift (l2 256 1024) (rows (256 * t.val) (h2 p)) := by
  rw [← tile_h2]
  by_cases h0 : t.val % 32 = 0
  · exact outA_8 m c t _ (blk h t) h0
  · exact outB_8 m c t _ (blk h t) h0

theorem o_9 (t : Fin cfg0.N) : (outsAt0 m c t.val t.isLt).2.2.1 = Lift (l2 256 5632) (rows (256 * t.val) (dgu p)) := by
  rw [← tile_dgu]
  by_cases h0 : t.val % 32 = 0
  · exact outA_9 m c t _ (blk h t) h0
  · exact outB_9 m c t _ (blk h t) h0

theorem o_10 (t : Fin cfg0.N) : (outsAt0 m c t.val t.isLt).2.2.2.1 = Lift (l2 256 2816) (rows (256 * t.val) (hid p)) := by
  rw [← tile_hid]
  by_cases h0 : t.val % 32 = 0
  · exact outA_10 m c t _ (blk h t) h0
  · exact outB_10 m c t _ (blk h t) h0

theorem o_11 (t : Fin cfg0.N) : (outsAt0 m c t.val t.isLt).2.2.2.2.1 = Lift (l2 256 1024) (rows (256 * t.val) (df p)) := by
  rw [← tile_df]
  by_cases h0 : t.val % 32 = 0
  · exact outA_11 m c t _ (blk h t) h0
  · exact outB_11 m c t _ (blk h t) h0

omit h in
theorem sumR_split (n k : ℕ) (f : RM) : sumR (n + k) f = sumR n f + sumR k (rows n f) :=
  funext fun _ => funext fun d => Finset.sum_range_add (fun q => f q d) n k

omit h in
theorem stk_add (a b c d e f g k a' b' c' d' e' f' g' k' : RM) :
    stk a b c d e f g k + stk a' b' c' d' e' f' g' k' = stk (a + a') (b + b') (c + c') (d + d') (e + e') (f + f') (g + g') (k + k') := by
  funext r j
  show stk a b c d e f g k r j + stk a' b' c' d' e' f' g' k' r j = _
  unfold stk
  split <;> rfl

omit h in
/-- The sums over the first rows and those over the next block are the sums over all. -/
theorem sums_step (p : Args) (t : ℕ) : sums p (256 * t) + sums (tile p t) 256 = sums p (256 * t + 256) := by
  rw [sums, sums, sums, stk_add]
  simp only [tile_dout, tile_x2, tile_dx2, tile_ffn, tile_dh2, tile_err, sumR_split (256 * t) 256]
  rfl

omit h in
theorem tile_zero (p : Args) : tile p 0 = p := by
  unfold tile
  rw [Nat.mul_zero, rows_zero, rows_zero]

/-- The last window after the point `n`: the sums over the rows so far. -/
theorem o_12 (n : ℕ) : ∀ hn : n < cfg0.N, (outsAt0 m c n hn).2.2.2.2.2 = Lift (l2 8 1024) (sums p (256 * n + 256)) := by
  induction n with
  | zero =>
    intro hn
    have e := outA_12 m c ⟨0, hn⟩ (tile p 0) (blk h ⟨0, hn⟩) rfl
    rw [tile_zero] at e
    exact e
  | succ n ih =>
    intro hn
    have hN : cfg0.N = 32 := N_0
    have h0 : ¬ (⟨n + 1, hn⟩ : Fin cfg0.N).val % 32 = 0 := by
      show ¬ (n + 1) % 32 = 0
      omega
    have e := outB_12 m c ⟨n + 1, hn⟩ (tile p (n + 1)) (blk h ⟨n + 1, hn⟩) h0 (sums p (256 * n + 256)) (ih (Nat.lt_of_succ_lt hn))
    exact e.trans (congrArg (Lift (l2 8 1024)) (sums_step p (n + 1)))

/-! ### The result arrays -/

omit h in
theorem idx_7 : ∀ t : Fin cfg0.N, win0_7.index t 0 = t.val ∧ win0_7.index t 1 = 0 :=
  (by decide +kernel : ∀ t : Fin grid0.N, win0_7.index t 0 = t.val ∧ win0_7.index t 1 = 0)

theorem arr_7 : (dats m 0 c).arrAt 7 cfg0.N = Lift (l2 8192 1024) (dx p) := by
  have hN : cfg0.N = 32 := N_0
  refine (dats m 0 c).arrAt_eq_of_cover 7 (Lift (l2 8192 1024) (dx p)) (fun t _ => ?_) fun (i : S8192x1024.Idx) => ?_
  · have hi := idx_7 t
    rw [Value.flushed7, o_7 h]
    funext j
    rw [View.read_apply]
    refine congrArg Real.toEReal (congrArg₂ (dx p) ?_ ?_)
    · show 256 * t.val + (j 0).val = win0_7.index t 0 * 256 + 1 * (j 0).val
      rw [hi.1]; omega
    · show (j 1).val = win0_7.index t 1 * 1024 + 1 * (j 1).val
      rw [hi.2]; omega
  · have h0 : (i 0 : ℕ) < 8192 := (i 0).isLt
    have h1 : (i 1 : ℕ) < 1024 := (i 1).isLt
    obtain ⟨t, ht⟩ : ∃ t : Fin cfg0.N, t.val = (i 0 : ℕ) / 256 := ⟨⟨(i 0 : ℕ) / 256, by omega⟩, rfl⟩
    refine ⟨t, flush0_7 _, ?_⟩
    have hi := idx_7 t
    show i ∈ ((View.whole main_v11_0).slice (win0_7.rect t)).set
    rw [View.set_slice_whole, Rect.mem_set_unit]
    intro a
    match a with
    | ⟨0, _⟩ =>
      show win0_7.index t 0 * 256 ≤ (i 0 : ℕ) ∧ (i 0 : ℕ) < win0_7.index t 0 * 256 + 256
      rw [hi.1]; omega
    | ⟨1, _⟩ =>
      show win0_7.index t 1 * 1024 ≤ (i 1 : ℕ) ∧ (i 1 : ℕ) < win0_7.index t 1 * 1024 + 1024
      rw [hi.2]; omega

omit h in
theorem idx_8 : ∀ t : Fin cfg0.N, win0_8.index t 0 = t.val ∧ win0_8.index t 1 = 0 :=
  (by decide +kernel : ∀ t : Fin grid0.N, win0_8.index t 0 = t.val ∧ win0_8.index t 1 = 0)

theorem arr_8 : (dats m 0 c).arrAt 8 cfg0.N = Lift (l2 8192 1024) (h2 p) := by
  have hN : cfg0.N = 32 := N_0
  refine (dats m 0 c).arrAt_eq_of_cover 8 (Lift (l2 8192 1024) (h2 p)) (fun t _ => ?_) fun (i : S8192x1024.Idx) => ?_
  · have hi := idx_8 t
    rw [Value.flushed8, o_8 h]
    funext j
    rw [View.read_apply]
    refine congrArg Real.toEReal (congrArg₂ (h2 p) ?_ ?_)
    · show 256 * t.val + (j 0).val = win0_8.index t 0 * 256 + 1 * (j 0).val
      rw [hi.1]; omega
    · show (j 1).val = win0_8.index t 1 * 1024 + 1 * (j 1).val
      rw [hi.2]; omega
  · have h0 : (i 0 : ℕ) < 8192 := (i 0).isLt
    have h1 : (i 1 : ℕ) < 1024 := (i 1).isLt
    obtain ⟨t, ht⟩ : ∃ t : Fin cfg0.N, t.val = (i 0 : ℕ) / 256 := ⟨⟨(i 0 : ℕ) / 256, by omega⟩, rfl⟩
    refine ⟨t, flush0_8 _, ?_⟩
    have hi := idx_8 t
    show i ∈ ((View.whole main_v11_1).slice (win0_8.rect t)).set
    rw [View.set_slice_whole, Rect.mem_set_unit]
    intro a
    match a with
    | ⟨0, _⟩ =>
      show win0_8.index t 0 * 256 ≤ (i 0 : ℕ) ∧ (i 0 : ℕ) < win0_8.index t 0 * 256 + 256
      rw [hi.1]; omega
    | ⟨1, _⟩ =>
      show win0_8.index t 1 * 1024 ≤ (i 1 : ℕ) ∧ (i 1 : ℕ) < win0_8.index t 1 * 1024 + 1024
      rw [hi.2]; omega

omit h in
theorem idx_9 : ∀ t : Fin cfg0.N, win0_9.index t 0 = t.val ∧ win0_9.index t 1 = 0 :=
  (by decide +kernel : ∀ t : Fin grid0.N, win0_9.index t 0 = t.val ∧ win0_9.index t 1 = 0)

theorem arr_9 : (dats m 0 c).arrAt 9 cfg0.N = Lift (l2 8192 5632) (dgu p) := by
  have hN : cfg0.N = 32 := N_0
  refine (dats m 0 c).arrAt_eq_of_cover 9 (Lift (l2 8192 5632) (dgu p)) (fun t _ => ?_) fun (i : S8192x5632.Idx) => ?_
  · have hi := idx_9 t
    rw [Value.flushed9, o_9 h]
    funext j
    rw [View.read_apply]
    refine congrArg Real.toEReal (congrArg₂ (dgu p) ?_ ?_)
    · show 256 * t.val + (j 0).val = win0_9.index t 0 * 256 + 1 * (j 0).val
      rw [hi.1]; omega
    · show (j 1).val = win0_9.index t 1 * 5632 + 1 * (j 1).val
      rw [hi.2]; omega
  · have h0 : (i 0 : ℕ) < 8192 := (i 0).isLt
    have h1 : (i 1 : ℕ) < 5632 := (i 1).isLt
    obtain ⟨t, ht⟩ : ∃ t : Fin cfg0.N, t.val = (i 0 : ℕ) / 256 := ⟨⟨(i 0 : ℕ) / 256, by omega⟩, rfl⟩
    refine ⟨t, flush0_9 _, ?_⟩
    have hi := idx_9 t
    show i ∈ ((View.whole main_v11_2).slice (win0_9.rect t)).set
    rw [View.set_slice_whole, Rect.mem_set_unit]
    intro a
    match a with
    | ⟨0, _⟩ =>
      show win0_9.index t 0 * 256 ≤ (i 0 : ℕ) ∧ (i 0 : ℕ) < win0_9.index t 0 * 256 + 256
      rw [hi.1]; omega
    | ⟨1, _⟩ =>
      show win0_9.index t 1 * 5632 ≤ (i 1 : ℕ) ∧ (i 1 : ℕ) < win0_9.index t 1 * 5632 + 5632
      rw [hi.2]; omega

omit h in
theorem idx_10 : ∀ t : Fin cfg0.N, win0_10.index t 0 = t.val ∧ win0_10.index t 1 = 0 :=
  (by decide +kernel : ∀ t : Fin grid0.N, win0_10.index t 0 = t.val ∧ win0_10.index t 1 = 0)

theorem arr_10 : (dats m 0 c).arrAt 10 cfg0.N = Lift (l2 8192 2816) (hid p) := by
  have hN : cfg0.N = 32 := N_0
  refine (dats m 0 c).arrAt_eq_of_cover 10 (Lift (l2 8192 2816) (hid p)) (fun t _ => ?_) fun (i : S8192x2816.Idx) => ?_
  · have hi := idx_10 t
    rw [Value.flushed10, o_10 h]
    funext j
    rw [View.read_apply]
    refine congrArg Real.toEReal (congrArg₂ (hid p) ?_ ?_)
    · show 256 * t.val + (j 0).val = win0_10.index t 0 * 256 + 1 * (j 0).val
      rw [hi.1]; omega
    · show (j 1).val = win0_10.index t 1 * 2816 + 1 * (j 1).val
      rw [hi.2]; omega
  · have h0 : (i 0 : ℕ) < 8192 := (i 0).isLt
    have h1 : (i 1 : ℕ) < 2816 := (i 1).isLt
    obtain ⟨t, ht⟩ : ∃ t : Fin cfg0.N, t.val = (i 0 : ℕ) / 256 := ⟨⟨(i 0 : ℕ) / 256, by omega⟩, rfl⟩
    refine ⟨t, flush0_10 _, ?_⟩
    have hi := idx_10 t
    show i ∈ ((View.whole main_v11_3).slice (win0_10.rect t)).set
    rw [View.set_slice_whole, Rect.mem_set_unit]
    intro a
    match a with
    | ⟨0, _⟩ =>
      show win0_10.index t 0 * 256 ≤ (i 0 : ℕ) ∧ (i 0 : ℕ) < win0_10.index t 0 * 256 + 256
      rw [hi.1]; omega
    | ⟨1, _⟩ =>
      show win0_10.index t 1 * 2816 ≤ (i 1 : ℕ) ∧ (i 1 : ℕ) < win0_10.index t 1 * 2816 + 2816
      rw [hi.2]; omega

omit h in
theorem idx_11 : ∀ t : Fin cfg0.N, win0_11.index t 0 = t.val ∧ win0_11.index t 1 = 0 :=
  (by decide +kernel : ∀ t : Fin grid0.N, win0_11.index t 0 = t.val ∧ win0_11.index t 1 = 0)

theorem arr_11 : (dats m 0 c).arrAt 11 cfg0.N = Lift (l2 8192 1024) (df p) := by
  have hN : cfg0.N = 32 := N_0
  refine (dats m 0 c).arrAt_eq_of_cover 11 (Lift (l2 8192 1024) (df p)) (fun t _ => ?_) fun (i : S8192x1024.Idx) => ?_
  · have hi := idx_11 t
    rw [Value.flushed11, o_11 h]
    funext j
    rw [View.read_apply]
    refine congrArg Real.toEReal (congrArg₂ (df p) ?_ ?_)
    · show 256 * t.val + (j 0).val = win0_11.index t 0 * 256 + 1 * (j 0).val
      rw [hi.1]; omega
    · show (j 1).val = win0_11.index t 1 * 1024 + 1 * (j 1).val
      rw [hi.2]; omega
  · have h0 : (i 0 : ℕ) < 8192 := (i 0).isLt
    have h1 : (i 1 : ℕ) < 1024 := (i 1).isLt
    obtain ⟨t, ht⟩ : ∃ t : Fin cfg0.N, t.val = (i 0 : ℕ) / 256 := ⟨⟨(i 0 : ℕ) / 256, by omega⟩, rfl⟩
    refine ⟨t, flush0_11 _, ?_⟩
    have hi := idx_11 t
    show i ∈ ((View.whole main_v11_4).slice (win0_11.rect t)).set
    rw [View.set_slice_whole, Rect.mem_set_unit]
    intro a
    match a with
    | ⟨0, _⟩ =>
      show win0_11.index t 0 * 256 ≤ (i 0 : ℕ) ∧ (i 0 : ℕ) < win0_11.index t 0 * 256 + 256
      rw [hi.1]; omega
    | ⟨1, _⟩ =>
      show win0_11.index t 1 * 1024 ≤ (i 1 : ℕ) ∧ (i 1 : ℕ) < win0_11.index t 1 * 1024 + 1024
      rw [hi.2]; omega

theorem arr_12 : (dats m 0 c).arrAt 12 cfg0.N = Lift (l2 8 1024) (sums p 8192) := by
  have hN : cfg0.N = 32 := N_0
  refine (dats m 0 c).arrAt_eq_of_cover 12 (Lift (l2 8 1024) (sums p 8192)) (fun t hf => ?_) fun (i : S8x1024.Idx) => ?_
  · have h3 : t.val = 31 := by
      have := (flush0_12 t).mp hf
      have := t.isLt
      omega
    rw [Value.flushed12, o_12 h, show 256 * t.val + 256 = 8192 by omega]
    funext j
    rw [View.read_apply]
    refine congrArg Real.toEReal (congrArg₂ (sums p 8192) ?_ ?_)
    · show (j 0).val = 0 * 8 + 1 * (j 0).val
      omega
    · show (j 1).val = 0 * 1024 + 1 * (j 1).val
      omega
  · have h0 : (i 0 : ℕ) < 8 := (i 0).isLt
    have h1 : (i 1 : ℕ) < 1024 := (i 1).isLt
    obtain ⟨t, ht⟩ : ∃ t : Fin cfg0.N, t.val = 31 := ⟨⟨31, by omega⟩, rfl⟩
    refine ⟨t, (flush0_12 t).mpr (by omega), ?_⟩
    show i ∈ ((View.whole main_v11_5).slice (win0_12.rect t)).set
    rw [View.set_slice_whole, Rect.mem_set_unit]
    intro a
    match a with
    | ⟨0, _⟩ =>
      show 0 * 8 ≤ (i 0 : ℕ) ∧ (i 0 : ℕ) < 0 * 8 + 8
      omega
    | ⟨1, _⟩ =>
      show 0 * 1024 ≤ (i 1 : ℕ) ∧ (i 1 : ℕ) < 0 * 1024 + 1024
      omega

end Cert.KernelIdeal.Ffn

end

end
-- ==== Proof.FfnRef.lean ====
module
public import proofs.«01_k».proof.Proof.Mat2
public import proofs.«01_k».proof.Proof.Gen.ReferenceIdeal.Read

/-!
The reference's results as real matrices: its forward pass is the step's, and the gradient it takes through
each norm, with the factor of the reciprocal root's own derivative, is the step's closed form.
-/

@[expose] public section

set_option maxRecDepth 16384
set_option maxHeartbeats 1000000

noncomputable section

open Idealize.ShloMosaic Mat

namespace Ffn

/-- The mean square the norms take the reciprocal root of. -/
def msq (x : RM) : RM := sumC 1024 (x * x) * Inv (cst 1024) + cst eps

theorem rms_sq (x : RM) (q d : ℕ) : rms x q d * rms x q d = (msq x q d)⁻¹ := by
  have h : 0 < msq x q d := pos_ms x q d
  show (Real.sqrt (msq x q d))⁻¹ * (Real.sqrt (msq x q d))⁻¹ = _
  rw [← mul_inv, Real.mul_self_sqrt h.le]

/-- What the gradient of the reciprocal root adds to every entry of a row. -/
def pull (x w : RM) : RM :=
  sumC 1024 (x * w) * (cst (-(1 / 2)) * (rms x * Inv (msq x))) * Inv (cst 1024)

/-- The gradient through a norm, taken term by term, is the closed form. -/
theorem bwd_eq (x w : RM) : w * colB (rms x) + x * colB (pull x w) + colB (pull x w) * x = bwd (rms x) (nrm x) w := by
  funext q d
  have h := rms_sq x q 0
  have e : sumC 1024 (w * nrm x) q 0 = sumC 1024 (x * w) q 0 * rms x q 0 := by
    show ∑ k ∈ Finset.range 1024, w q k * (x q k * rms x q 0) = (∑ k ∈ Finset.range 1024, x q k * w q k) * rms x q 0
    rw [Finset.sum_mul]
    exact Finset.sum_congr rfl fun k _ => by ring
  show w q d * rms x q 0
      + x q d * (sumC 1024 (x * w) q 0 * (-(1 / 2) * (rms x q 0 * (1 / msq x q 0))) * (1 / 1024))
      + (sumC 1024 (x * w) q 0 * (-(1 / 2) * (rms x q 0 * (1 / msq x q 0))) * (1 / 1024)) * x q d
    = rms x q 0 * (w q d - x q d * rms x q 0 * (sumC 1024 (w * nrm x) q 0 * (1 / 1024)))
  rw [e, one_div (msq x q 0), ← h]
  ring

theorem dout_eq (e : RM) : colB (cst (1 / 2 * 1) * Inv (cst 1024)) * (cst 2 * e) = e * cst (1 / 1024) := by
  funext q d
  show 1 / 2 * 1 * (1 / 1024) * (2 * e q d) = e q d * (1 / 1024)
  ring

theorem cst_one : cst 1 = 1 := rfl

theorem dG_eq (d g u : RM) : d * u * sgm g + g * (d * u) * (sgm g * (cst 1 - sgm g)) = dG d g u := by
  rw [dG, cst_one]
  ring

theorem dU_eq (d g : RM) : g * sgm g * d = dU d g := by
  rw [dU]
  ring

end Ffn

namespace Cert.ReferenceIdeal.Ffn

open Cert.ReferenceIdeal Cert.ReferenceIdeal.Gen Cert.ReferenceIdeal.Read _root_.Ffn

variable (p : Args)

/-- The token rows. -/
abbrev X0 := Lift (l3 8192 1024) p.X
/-- The six rows of the first modulation. -/
abbrev X1 := Lift (g2 1024 6144) p.M
/-- The two rows of the last modulation. -/
abbrev X2 := Lift (g2 1024 2048) (rows 6 p.M)
/-- The weight of the norm. -/
abbrev X3 := Lift (l2 1 1024) p.G2
/-- The first weight matrix. -/
abbrev X4 := Lift (l3 1024 5632) (tr p.A)
/-- The second weight matrix. -/
abbrev X5 := Lift (l3 2816 1024) p.B
/-- The weight of the last norm. -/
abbrev X6 := Lift (r1 1024) p.GF
/-- The target rows. -/
abbrev X7 := Lift (l3 8192 1024) p.T

/-- An array of token rows. -/
abbrev T (f : RM) := Lift (l3 8192 1024) f
/-- An array of hidden rows. -/
abbrev H (f : RM) := Lift (l3 8192 2816) f
/-- A row of sums. -/
abbrev S (f : RM) := Lift (l2 1 1024) f

theorem v15 : val_main_v15 (F := Ideal) (X0 p) = Lift (l3 8192 1) (msq p.X) := by
  simp only [val_main_v15, val_main_v14, val_main_v13, val_main_v12, val_main_v11, val_main_v10, val_main_v9,
    val_main_cst_1, val_main_cst_2, val_main_cst_3, mfld_simps]
  rfl
theorem nz_msq (x : RM) : NZ (msq x) := pos_nz _ (pos_ms x)
theorem pos_msq (x : RM) : Pos (msq x) := pos_ms x
theorem v16 : val_main_v16 (F := Ideal) (X0 p) = Lift (l3 8192 1) (rms p.X) := by
  simp only [val_main_v16, v15, pos_msq, mfld_simps]; rfl
theorem v19 : val_main_v19 (F := Ideal) (X0 p) = Lift (l3 8192 1) (cst (-(1 / 2)) * (rms p.X * Inv (msq p.X))) := by
  simp only [val_main_v19, val_main_v18, val_main_v17, v16, v15, nz_msq, val_main_cst_4, mfld_simps]
theorem v21 : val_main_v21 (F := Ideal) (X0 p) = T (nrm p.X) := by
  simp only [val_main_v21, val_main_v20, v16, mfld_simps]; rfl
theorem v22 : val_main_v22 (F := Ideal) (X3 p) = Lift (l3 1 1024) p.G2 := by
  simp only [val_main_v22, val_main_v8, mfld_simps]
theorem v24 : val_main_v24 (F := Ideal) (X0 p) (X3 p) = T (nrm p.X * rowB p.G2) := by
  simp only [val_main_v24, val_main_v23, v22, v21, mfld_simps]
theorem v27 : val_main_v27 (F := Ideal) (X1 p) = Lift (l3 1 1024) (cst 1 + rows 4 p.M) := by
  simp only [val_main_v27, val_main_v26, val_main_v25, val_main_v6, val_main_cst_5, mfld_simps]
theorem v32 : val_main_v32 (F := Ideal) (X0 p) (X1 p) (X3 p) = T (h2 p) := by
  simp only [val_main_v32, val_main_v31, val_main_v30, val_main_v29, val_main_v28, val_main_v5, v24, v27, mfld_simps]; rfl
theorem v33 : val_main_v33 (F := Ideal) (X4 p) = Lift (l2 1024 5632) (tr p.A) := by
  simp only [val_main_v33, mfld_simps]
theorem v34 : val_main_v34 (F := Ideal) (X0 p) (X1 p) (X3 p) (X4 p) = Lift (l3 8192 5632) (mmT 1024 (h2 p) p.A) := by
  funext i
  rw [val_main_v34_apply, v32, v33, ← mm_tr]
  simp only [Lift, l3, mm, coe_sum_range, EReal.coe_mul]
  rfl
theorem v35 : val_main_v35 (F := Ideal) (X0 p) (X1 p) (X3 p) (X4 p) = Lift (l3 8192 5632) (mmT 1024 (h2 p) p.A) := by
  simp only [val_main_v35, val_main_v0, val_main_cst, v34, ↓bid_splat, mfld_simps]
theorem v36 : val_main_v36 (F := Ideal) (X0 p) (X1 p) (X3 p) (X4 p) = H (gate p) := by
  simp only [val_main_v36, v35, mfld_simps]
theorem v37 : val_main_v37 (F := Ideal) (X0 p) (X1 p) (X3 p) (X4 p) = H (lin p) := by
  simp only [val_main_v37, v35, mfld_simps]; rfl
theorem v38_2 : val_main_v38_2 (F := Ideal) (X0 p) (X1 p) (X3 p) (X4 p) = H (sgm (gate p)) := by
  simp only [val_main_v38_2, val_main_call0_v4, val_main_call0_v3, val_main_call0_v2, val_main_call0_v1, val_main_call0_v0,
    val_main_call0_cst, val_main_call0_cst_0, v36, mfld_simps]
  rfl
theorem v38_1 : val_main_v38_1 (F := Ideal) (X0 p) (X1 p) (X3 p) (X4 p) = H (sgm (gate p) * (cst 1 - sgm (gate p))) := by
  simp only [val_main_v38_1, val_main_call0_v7, val_main_call0_v6, val_main_call0_cst_1, v38_2, mfld_simps]
theorem v38_0 : val_main_v38_0 (F := Ideal) (X0 p) (X1 p) (X3 p) (X4 p) = H (gate p * sgm (gate p)) := by
  simp only [val_main_v38_0, v36, v38_2, mfld_simps]
theorem v39 : val_main_v39 (F := Ideal) (X0 p) (X1 p) (X3 p) (X4 p) = H (hid p) := by
  simp only [val_main_v39, v38_0, v37, mfld_simps]; rfl
theorem v40 : val_main_v40 (F := Ideal) (X5 p) = Lift (l2 2816 1024) p.B := by
  simp only [val_main_v40, mfld_simps]
theorem v41 : val_main_v41 (F := Ideal) (X0 p) (X1 p) (X3 p) (X4 p) (X5 p) = T (ffn p) := by
  funext i
  rw [val_main_v41_apply, v39, v40]
  simp only [Lift, l3, ffn, mm, coe_sum_range, EReal.coe_mul]
  rfl
theorem v42 : val_main_v42 (F := Ideal) (X0 p) (X1 p) (X3 p) (X4 p) (X5 p) = T (ffn p) := by
  simp only [val_main_v42, val_main_v1, val_main_cst_0, v41, mfld_simps]
theorem v43 : val_main_v43 (F := Ideal) (X1 p) = Lift (l3 1 1024) (rows 5 p.M) := by
  simp only [val_main_v43, val_main_v7, mfld_simps]
theorem v46 : val_main_v46 (F := Ideal) (X0 p) (X1 p) (X3 p) (X4 p) (X5 p) = T (x2 p) := by
  simp only [val_main_v46, val_main_v45, val_main_v44, v43, v42, mfld_simps]; rfl
theorem v55 : val_main_v55 (F := Ideal) (X0 p) (X1 p) (X3 p) (X4 p) (X5 p) = Lift (l3 8192 1) (msq (x2 p)) := by
  simp only [val_main_v55, val_main_v54, val_main_v53, val_main_v52, val_main_v51, val_main_v50, val_main_v49,
    val_main_cst_6, val_main_cst_7, val_main_cst_8, v46, mfld_simps]
  rfl
theorem v56 : val_main_v56 (F := Ideal) (X0 p) (X1 p) (X3 p) (X4 p) (X5 p) = Lift (l3 8192 1) (rms (x2 p)) := by
  simp only [val_main_v56, v55, pos_msq, mfld_simps]; rfl
theorem v59 : val_main_v59 (F := Ideal) (X0 p) (X1 p) (X3 p) (X4 p) (X5 p)
    = Lift (l3 8192 1) (cst (-(1 / 2)) * (rms (x2 p) * Inv (msq (x2 p)))) := by
  simp only [val_main_v59, val_main_v58, val_main_v57, v56, v55, nz_msq, val_main_cst_9, mfld_simps]
theorem v61 : val_main_v61 (F := Ideal) (X0 p) (X1 p) (X3 p) (X4 p) (X5 p) = T (nrm (x2 p)) := by
  simp only [val_main_v61, val_main_v60, v56, v46, mfld_simps]; rfl
theorem v62 : val_main_v62 (F := Ideal) (X6 p) = Lift (l3 1 1024) p.GF := by
  simp only [val_main_v62, mfld_simps]
theorem v64 : val_main_v64 (F := Ideal) (X0 p) (X1 p) (X3 p) (X4 p) (X5 p) (X6 p) = T (nrm (x2 p) * rowB p.GF) := by
  simp only [val_main_v64, val_main_v63, v62, v61, mfld_simps]
theorem v67 : val_main_v67 (F := Ideal) (X2 p) = Lift (l3 1 1024) (cst 1 + rows 7 p.M) := by
  simp only [val_main_v67, val_main_v66, val_main_v65, val_main_v48, val_main_cst_10, rows_rows, mfld_simps]
theorem v73 : val_main_v73 (F := Ideal) (X0 p) (X1 p) (X2 p) (X3 p) (X4 p) (X5 p) (X6 p) (X7 p) = T (err p) := by
  simp only [val_main_v73, val_main_v72, val_main_v71, val_main_v70, val_main_v69, val_main_v68, val_main_v47, v64, v67, mfld_simps]; rfl
theorem v74 : val_main_v74 (F := Ideal) (X0 p) (X1 p) (X2 p) (X3 p) (X4 p) (X5 p) (X6 p) (X7 p) = T (err p * err p) := by
  simp only [val_main_v74, v73, mfld_simps]
theorem v85 : val_main_v85 (F := Ideal) = Lift (c2 8192) (cst (1 / 2 * 1) * Inv (cst 1024)) := by
  have h : NZ (cst 1024) := nz_1024
  simp only [val_main_v85, val_main_v84, val_main_v83, val_main_v82, val_main_cst_16, val_main_cst_17, val_main_cst_18,
    constant_splat, lit_half, lit_one, lit_1024, mulf_splat, bid_splat, lift_broadcast_c2, lift_hostDivf, h]
theorem v87 : val_main_v87 (F := Ideal) (X0 p) (X1 p) (X2 p) (X3 p) (X4 p) (X5 p) (X6 p) (X7 p) = T (dout p) := by
  simp only [val_main_v87, val_main_v86, val_main_v76, val_main_v75, val_main_cst_11, v85, v73, dout_eq, mfld_simps]
theorem v91 : val_main_v91 (F := Ideal) (X0 p) (X1 p) (X2 p) (X3 p) (X4 p) (X5 p) (X6 p) (X7 p) = S (sumR 8192 (dout p)) := by
  simp only [val_main_v91, val_main_v90, val_main_v89, val_main_v88, val_main_cst_19, val_main_cst_20, v87, mfld_simps]
theorem v98 : val_main_v98 (F := Ideal) (X0 p) (X1 p) (X2 p) (X3 p) (X4 p) (X5 p) (X6 p) (X7 p)
    = S (sumR 8192 (dout p * nrm (x2 p) * rowB p.GF)) := by
  simp only [val_main_v98, val_main_v97, val_main_v94, val_main_v93, val_main_v92, val_main_cst_21, val_main_cst_22, v87, v64, mfld_simps]
  ring_nf
theorem v96 : val_main_v96 (F := Ideal) (X0 p) (X1 p) (X2 p) (X3 p) (X4 p) (X5 p) (X6 p) (X7 p)
    = T (dout p * rowB (cst 1 + rows 7 p.M)) := by
  simp only [val_main_v96, val_main_v95, v87, v67, mfld_simps]
theorem v104 : val_main_v104 (F := Ideal) (X0 p) (X1 p) (X2 p) (X3 p) (X4 p) (X5 p) (X6 p) (X7 p)
    = Lift (r1 1024) (sumR 8192 (dout p * rowB (cst 1 + rows 7 p.M) * nrm (x2 p))) := by
  rw [mul_comm]
  simp only [val_main_v104, val_main_v101, val_main_v100, val_main_v99, val_main_cst_23, val_main_cst_24, v96, v61, mfld_simps]
theorem v103 : val_main_v103 (F := Ideal) (X0 p) (X1 p) (X2 p) (X3 p) (X4 p) (X5 p) (X6 p) (X7 p)
    = T (wgt (dout p) (rows 7 p.M) p.GF) := by
  simp only [val_main_v103, val_main_v102, v96, v62, mfld_simps]; rfl
theorem v115 : val_main_v115 (F := Ideal) (X0 p) (X1 p) (X2 p) (X3 p) (X4 p) (X5 p) (X6 p) (X7 p)
    = T (colB (pull (x2 p) (wgt (dout p) (rows 7 p.M) p.GF))) := by
  simp only [val_main_v115, val_main_v114, val_main_v113, val_main_v112, val_main_v111, val_main_v110, val_main_v107, val_main_v106,
    val_main_v105, val_main_cst_25, val_main_cst_26, val_main_cst_27, v103, v46, v59, mfld_simps]
  rfl
theorem v119 : val_main_v119 (F := Ideal) (X0 p) (X1 p) (X2 p) (X3 p) (X4 p) (X5 p) (X6 p) (X7 p) = T (dx2 p) := by
  simp only [val_main_v119, val_main_v118, val_main_v117, val_main_v116, val_main_v109, val_main_v108, v103, v115, v46, v56, bwd_eq, mfld_simps]
theorem v122 : val_main_v122 (F := Ideal) (X0 p) (X1 p) (X2 p) (X3 p) (X4 p) (X5 p) (X6 p) (X7 p) = T (df p) := by
  rw [df, mul_comm]
  simp only [val_main_v122, val_main_v121, v43, v119, mfld_simps]
theorem v127 : val_main_v127 (F := Ideal) (X0 p) (X1 p) (X2 p) (X3 p) (X4 p) (X5 p) (X6 p) (X7 p) = S (sumR 8192 (dx2 p * ffn p)) := by
  simp only [val_main_v127, val_main_v126, val_main_v125, val_main_v124, val_main_v123, val_main_cst_28, val_main_cst_29, v119, v42, mfld_simps]
theorem v128 : val_main_v128 (F := Ideal) (X0 p) (X1 p) (X2 p) (X3 p) (X4 p) (X5 p) (X6 p) (X7 p) = H (dhid p) := by
  funext i
  rw [val_main_v128_apply, v122, v40]
  simp only [Lift, l3, dhid, mmT, coe_sum_range, EReal.coe_mul]
  rfl
theorem v129 : val_main_v129 (F := Ideal) (X0 p) (X1 p) (X2 p) (X3 p) (X4 p) (X5 p) (X6 p) (X7 p) = H (dlin p) := by
  simp only [val_main_v129, v38_0, v128, dU_eq, mfld_simps]
theorem v131 : val_main_v131 (F := Ideal) (X0 p) (X1 p) (X2 p) (X3 p) (X4 p) (X5 p) (X6 p) (X7 p) = H (dgate p) := by
  simp only [val_main_v131, val_main_call1_v2, val_main_call1_v1, val_main_call1_v0, val_main_v130, v128, v36, v37, v38_1, v38_2, dG_eq, mfld_simps]
theorem v132 : val_main_v132 (F := Ideal) (X0 p) (X1 p) (X2 p) (X3 p) (X4 p) (X5 p) (X6 p) (X7 p) = Lift (l3 8192 5632) (dgu p) := by
  rw [val_main_v132, v131, v129, lift_cat_l3]; rfl

theorem hcat_mm (a b f : RM) : mm 5632 (hcat 2816 a b) f = mm 2816 a f + mm 2816 b (rows 2816 f) := by
  refine (mm_split 2816 2816 _ _).trans (congrArg₂ (· + ·) ?_ ?_)
  · exact funext fun q => funext fun d => Finset.sum_congr rfl fun k hk =>
      congrArg (· * f k d) (if_pos (Finset.mem_range.1 hk))
  · refine funext fun q => funext fun d => Finset.sum_congr rfl fun k _ => congrArg (· * f (2816 + k) d) ?_
    exact (if_neg (by omega)).trans (congrArg (b q) (Nat.add_sub_cancel_left _ _))

theorem v133 : val_main_v133 (F := Ideal) (X0 p) (X1 p) (X2 p) (X3 p) (X4 p) (X5 p) (X6 p) (X7 p) = T (dh2 p) := by
  funext i
  rw [val_main_v133_apply, v132, v33, dh2, ← hcat_mm, ← mmT_tr]
  simp only [Lift, l3, mmT, coe_sum_range, EReal.coe_mul]
  rfl
theorem v137 : val_main_v137 (F := Ideal) (X0 p) (X1 p) (X2 p) (X3 p) (X4 p) (X5 p) (X6 p) (X7 p) = S (sumR 8192 (dh2 p)) := by
  simp only [val_main_v137, val_main_v136, val_main_v135, val_main_v134, val_main_cst_30, val_main_cst_31, v133, mfld_simps]
theorem v144 : val_main_v144 (F := Ideal) (X0 p) (X1 p) (X2 p) (X3 p) (X4 p) (X5 p) (X6 p) (X7 p)
    = S (sumR 8192 (dh2 p * nrm p.X * rowB p.G2)) := by
  rw [mul_assoc, mul_comm]
  simp only [val_main_v144, val_main_v143, val_main_v140, val_main_v139, val_main_v138, val_main_cst_32, val_main_cst_33, v133, v24, mfld_simps]
theorem v142 : val_main_v142 (F := Ideal) (X0 p) (X1 p) (X2 p) (X3 p) (X4 p) (X5 p) (X6 p) (X7 p)
    = T (dh2 p * rowB (cst 1 + rows 4 p.M)) := by
  simp only [val_main_v142, val_main_v141, v133, v27, mfld_simps]
theorem v150 : val_main_v150 (F := Ideal) (X0 p) (X1 p) (X2 p) (X3 p) (X4 p) (X5 p) (X6 p) (X7 p)
    = Lift (r1 1024) (sumR 8192 (dh2 p * rowB (cst 1 + rows 4 p.M) * nrm p.X)) := by
  rw [mul_comm]
  simp only [val_main_v150, val_main_v147, val_main_v146, val_main_v145, val_main_cst_34, val_main_cst_35, v142, v21, mfld_simps]
theorem v149 : val_main_v149 (F := Ideal) (X0 p) (X1 p) (X2 p) (X3 p) (X4 p) (X5 p) (X6 p) (X7 p)
    = T (wgt (dh2 p) (rows 4 p.M) p.G2) := by
  simp only [val_main_v149, val_main_v148, v142, v22, mfld_simps]; rfl
theorem v162 : val_main_v162 (F := Ideal) (X0 p) (X1 p) (X2 p) (X3 p) (X4 p) (X5 p) (X6 p) (X7 p)
    = T (colB (pull p.X (wgt (dh2 p) (rows 4 p.M) p.G2))) := by
  simp only [val_main_v162, val_main_v161, val_main_v160, val_main_v159, val_main_v158, val_main_v157, val_main_v153, val_main_v152,
    val_main_v151, val_main_cst_36, val_main_cst_37, val_main_cst_38, v149, v19, mfld_simps]
  rfl
theorem v166 : val_main_v166 (F := Ideal) (X0 p) (X1 p) (X2 p) (X3 p) (X4 p) (X5 p) (X6 p) (X7 p) = T (dx p) := by
  simp only [val_main_v166, val_main_v165, val_main_v164, val_main_v163, val_main_v156, val_main_v155, val_main_v154, v149, v162, v16, v119,
    lift_addf, lift_mulf, lift_bid_col]
  rw [dx, ← bwd_eq, add_assoc (dx2 p), add_assoc (dx2 p)]
theorem v168 : val_main_v168 (F := Ideal) = S (cst 0) := by simp only [val_main_v168, val_main_cst_39, mfld_simps]
theorem v169 : val_main_v169 (F := Ideal) = S (cst 0) := by simp only [val_main_v169, val_main_cst_40, mfld_simps]
theorem v170 : val_main_v170 (F := Ideal) = S (cst 0) := by simp only [val_main_v170, val_main_cst_41, mfld_simps]
theorem v171 : val_main_v171 (F := Ideal) (X0 p) (X1 p) (X2 p) (X3 p) (X4 p) (X5 p) (X6 p) (X7 p)
    = Lift (g2 1024 6144) (stk (cst 0) (cst 0) (cst 0) (sumR 8192 (dh2 p)) (sumR 8192 (dh2 p * nrm p.X * rowB p.G2))
        (sumR 8192 (dx2 p * ffn p)) (sumR 8192 (dx2 p * ffn p)) (sumR 8192 (dx2 p * ffn p))) := by
  rw [val_main_v171, v168, v169, v170, v137, v144, v127, lift_cat_6]
theorem v120 : val_main_v120 (F := Ideal) (X0 p) (X1 p) (X2 p) (X3 p) (X4 p) (X5 p) (X6 p) (X7 p)
    = Lift (g2 1024 2048) (stk (sumR 8192 (dout p)) (sumR 8192 (dout p * nrm (x2 p) * rowB p.GF)) (sumR 8192 (dout p * nrm (x2 p) * rowB p.GF))
        (sumR 8192 (dout p * nrm (x2 p) * rowB p.GF)) (sumR 8192 (dout p * nrm (x2 p) * rowB p.GF)) (sumR 8192 (dout p * nrm (x2 p) * rowB p.GF))
        (sumR 8192 (dout p * nrm (x2 p) * rowB p.GF)) (sumR 8192 (dout p * nrm (x2 p) * rowB p.GF))) := by
  rw [val_main_v120, v91, v98, lift_cat_2]
theorem v177 : val_main_v177 (F := Ideal) (X0 p) (X1 p) (X2 p) (X3 p) (X4 p) (X5 p) (X6 p) (X7 p) = S (sumR 8192 (err p * err p)) := by
  simp only [val_main_v177, val_main_cst_42, v74, mfld_simps]

/-! ### The results -/

theorem r179 : val_main_v179 (F := Ideal) (X0 p) (X1 p) (X2 p) (X3 p) (X4 p) (X5 p) (X6 p) (X7 p) = Lift (l2 8192 1024) (dx p) := by
  simp only [val_main_v179, v166, mfld_simps]
theorem r181 : val_main_v181 (F := Ideal) (X0 p) (X1 p) (X3 p) = Lift (l2 8192 1024) (h2 p) := by
  simp only [val_main_v181, val_main_v180, v32, mfld_simps]
theorem r183 : val_main_v183 (F := Ideal) (X0 p) (X1 p) (X2 p) (X3 p) (X4 p) (X5 p) (X6 p) (X7 p) = Lift (l2 8192 5632) (dgu p) := by
  simp only [val_main_v183, val_main_v182, v132, mfld_simps]
theorem r185 : val_main_v185 (F := Ideal) (X0 p) (X1 p) (X3 p) (X4 p) = Lift (l2 8192 2816) (hid p) := by
  simp only [val_main_v185, val_main_v184, v39, mfld_simps]
theorem r187 : val_main_v187 (F := Ideal) (X0 p) (X1 p) (X2 p) (X3 p) (X4 p) (X5 p) (X6 p) (X7 p) = Lift (l2 8192 1024) (df p) := by
  simp only [val_main_v187, val_main_v186, v122, mfld_simps]
theorem r178 : val_main_v178 (F := Ideal) (X0 p) (X1 p) (X2 p) (X3 p) (X4 p) (X5 p) (X6 p) (X7 p) = Lift (l2 8 1024) (sums p 8192) := by
  rw [val_main_v178, val_main_v173, v120, lift_cast_g2_l2, val_main_v174, v104, lift_cast_r1_l2, val_main_v175, val_main_v176,
    val_main_v172, v171, lift_cast_g2_l2, lift_slice_l2, lift_slice_l2, val_main_v167, v150, lift_bid_r1_l2, v177, lift_cat_8]
  funext i
  have hj : (i 0).val < 8 := (i 0).isLt
  refine congrArg Real.toEReal ?_
  show stk _ _ _ _ _ _ _ _ (i 0).val (i 1).val = stk _ _ _ _ _ _ _ _ (i 0).val (i 1).val
  generalize (i 0).val = k at hj ⊢
  interval_cases k <;> rfl

end Cert.ReferenceIdeal.Ffn

end

end
-- ==== Proof.Finite.lean ====
module
public import proofs.«01_k».proof.Pre_finite
public import proofs.«01_k».proof.Proof.Mat2
public import Idealize.ShloMosaic.Lib.ReduceAll

/-!
The precondition read back: arguments of which it holds are arrays of real numbers, so the arrays of some
real matrices.
-/

@[expose] public section

noncomputable section

open Idealize.ShloMosaic Mat

namespace Cert.Pre_finite

theorem facts : Facts where
  bcast_S_S1x8192x1024 := by decide
  reducesTo_S1x8192x1024_S_d0_1_2 := by decide
  h_S_ := by decide
  bcast_S_S1x6144 := by decide
  reducesTo_S1x6144_S_d0_1 := by decide
  bcast_S_S1x2048 := by decide
  reducesTo_S1x2048_S_d0_1 := by decide
  bcast_S_S1x1024 := by decide
  reducesTo_S1x1024_S_d0_1 := by decide
  bcast_S_S1x1024x5632 := by decide
  reducesTo_S1x1024x5632_S_d0_1_2 := by decide
  bcast_S_S1x2816x1024 := by decide
  reducesTo_S1x2816x1024_S_d0_1_2 := by decide
  bcast_S_S1024 := by decide
  reducesTo_S1024_S_d0 := by decide

/-- Every entry is a real number. -/
def Real {s : Shape} (X : s.Idx → EReal) : Prop := ∀ i, ∃ r : ℝ, X i = (r : EReal)

theorem w_inf : Ideal.ofBits .f32 0x7F800000#32 = ⊤ := by simp [Ideal.ofBits, Ideal.ieee]

theorem real_of_abs (x : EReal) (h : Ideal.cmp .olt (max x (-x)) (Ideal.ofBits .f32 0x7F800000#32) = 1#1) : ∃ r : ℝ, x = (r : EReal) := by
  rw [w_inf] at h
  induction x with
  | bot => simp [Ideal.cmp] at h
  | coe r => exact ⟨r, rfl⟩
  | top => simp [Ideal.cmp] at h

instance : Subsingleton S_.Idx := ⟨fun i j => funext fun a => a.elim0⟩

/-- An array whose every entry's absolute value is below infinity. -/
theorem real_of_all {s : Shape} {axes : List (Fin s.rank)} (X : FVec Ideal s .f32) (hb : S_.BroadcastsInDim s ![]) (hr : s.ReducesTo axes S_)
    (hu : 0 < S_.numel) (j : S_.Idx)
    (e : Host.reduce IntOp.andi (cmpf (F := Ideal) .olt (Host.absf X) (broadcastInDim s ![] hb (constant (F := Ideal) S_ .f32 0x7F800000#32)))
      (constantI S_ 1 1#1) hr hu j = 1#1) : Real X := fun i =>
  real_of_abs (X i) (Host.reduce_andi_all _ _ hr hu j e i)

/-- The precondition says that every argument is an array of real numbers. -/
theorem real_of_fn [Facts] (x0 : FVec Ideal S1x8192x1024 .f32) (x1 : FVec Ideal S1x6144 .f32) (x2 : FVec Ideal S1x2048 .f32)
    (x3 : FVec Ideal S1x1024 .f32) (x4 : FVec Ideal S1x1024x5632 .f32) (x5 : FVec Ideal S1x2816x1024 .f32) (x6 : FVec Ideal S1024 .f32)
    (x7 : FVec Ideal S1x8192x1024 .f32) (h : fn (F := Ideal) x0 x1 x2 x3 x4 x5 x6 x7 = fun _ => 1#1) :
    Real x0 ∧ Real x1 ∧ Real x2 ∧ Real x3 ∧ Real x4 ∧ Real x5 ∧ Real x6 ∧ Real x7 := by
  have e := congrFun h (fun a => a.elim0)
  unfold fn fn_part1 fn_part2 at e
  dsimp only at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all x0 _ _ _ _ e0, real_of_all x1 _ _ _ _ e1, real_of_all x2 _ _ _ _ e2, real_of_all x3 _ _ _ _ e3,
    real_of_all x4 _ _ _ _ e4, real_of_all x5 _ _ _ _ e5, real_of_all x6 _ _ _ _ e6, real_of_all x7 _ _ _ _ e7⟩

end Cert.Pre_finite

end

end
-- ==== Proof.MixRun.lean ====
/- The frame of the call `_mix_bwd`: its body runs at every grid point from whatever its buffers hold, and the arguments
   of the program keep their contents. -/
module

public import proofs.«01_k».proof.Proof.Gen.MixBwdIdeal.Frame.Runs

@[expose] public section

set_option maxRecDepth 16384

noncomputable section

namespace Cert.MixBwdIdeal.Mix

open Cert.MixBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

/-- A buffer in the core's own memory. -/
abbrev Buffer (s : Shape) (e : EltTy) := Memref sig .tc .vmem s e

/-- Core `c` owns the buffer, whatever it holds. -/
abbrev Any (c : Dev nD) {s : Shape} {e : EltTy} (M : Buffer s e) : sProp 𝕄 :=
  iprop(∃ X, owns (c : Thread nD τ) M fullShare X)

theorem any_intro (c : Dev nD) {s : Shape} {e : EltTy} (M : Buffer s e) (f : Buf (Elt F) (M.view.loc (c : Thread nD τ))) :
    ((M.view.loc (c : Thread nD τ)) ↦[M.view.set]{fullShare} f : sProp 𝕄) ⊢ ∃ X, ∃ g, ⌜M.view.read (Elt F) g = X⌝ ∗ ((M.view.loc (c : Thread nD τ)) ↦[M.view.set]{fullShare} g) := by
  iintro H; iexists _, f; isplitr; · ipureintro; rfl
  iexact H

section Body

/-! The body's buffers: the windows' (the inputs, then the results) and the scratch. -/
variable
  (arg1 : Buffer S256x1024 .f32) (harg1 : arg1.IsWhole) (arg2 : Buffer S256x1024 .f32) (harg2 : arg2.IsWhole) (arg3 :
  Buffer S256x1024 .f32) (harg3 : arg3.IsWhole) (arg4 : Buffer S256x512 .f32) (harg4 : arg4.IsWhole) (arg5 : Buffer
  S256x1024 .f32) (harg5 : arg5.IsWhole) (arg6 : Buffer S256x1024 .bf16) (harg6 : arg6.IsWhole) (arg7 : Buffer
  S256x1024 .bf16) (harg7 : arg7.IsWhole) (arg8 : Buffer S256x512 .f32) (harg8 : arg8.IsWhole) (arg9 : Buffer S256x512
  .f32) (harg9 : arg9.IsWhole) (arg10 : Buffer S256x512 .f32) (harg10 : arg10.IsWhole) (arg11 : Buffer S256x512 .f32)
  (harg11 : arg11.IsWhole) (arg12 : Buffer S256x128 .f32) (harg12 : arg12.IsWhole) (arg13 : Buffer S256x512 .f32)
  (harg13 : arg13.IsWhole) (arg14 : Buffer S256x512 .f32) (harg14 : arg14.IsWhole) (arg15 : Buffer S8x1024 .f32)
  (harg15 : arg15.IsWhole) (arg16 : Buffer S1x1024 .f32) (harg16 : arg16.IsWhole) (arg17 : Buffer S8x1024x256 .bf16)
  (harg17 : arg17.IsWhole) (arg18 : Buffer S1x512 .f32) (harg18 : arg18.IsWhole) (arg19 : Buffer S1x512 .f32) (harg19
  : arg19.IsWhole) (arg20 : Buffer S1024x128 .bf16) (harg20 : arg20.IsWhole) (arg21 : Buffer S1024x128 .bf16) (harg21
  : arg21.IsWhole) (arg22 : Buffer S32x512 .f32) (harg22 : arg22.IsWhole) (arg23 : Buffer S1x512 .f32) (harg23 :
  arg23.IsWhole) (arg24 : Buffer S1x512 .f32) (harg24 : arg24.IsWhole) (arg25 : Buffer S1x512 .f32) (harg25 :
  arg25.IsWhole) (arg26 : Buffer S1x512 .f32) (harg26 : arg26.IsWhole) (arg27 : Buffer S1024x1024 .bf16) (harg27 :
  arg27.IsWhole) (arg28 : Buffer S512x512 .bf16) (harg28 : arg28.IsWhole) (arg29 : Buffer S512x128 .bf16) (harg29 :
  arg29.IsWhole) (arg31 : Buffer S256x1024 .f32) (harg31 : arg31.IsWhole) (arg32 : Buffer S8x1024 .f32) (harg32 :
  arg32.IsWhole) (arg33 : Buffer S1x2048 .f32) (harg33 : arg33.IsWhole) (arg34 : Buffer S8x512 .f32) (harg34 :
  arg34.IsWhole) (arg35 : Buffer S128x128 .f32) (harg35 : arg35.IsWhole) (arg36 : Buffer S1024x128 .f32) (harg36 :
  arg36.IsWhole) (arg37 : Buffer S32x512 .f32) (harg37 : arg37.IsWhole) (arg40 : Buffer S288x512 .f32) (harg40 :
  arg40.IsWhole) (arg41 : Buffer S7x280x512 .f32) (harg41 : arg41.IsWhole) (arg42 : Buffer S128x512 .f32) (harg42 :
  arg42.IsWhole) (arg43 : Buffer S8x1024x256 .f32) (harg43 : arg43.IsWhole) (arg44 : Buffer S1024x1024 .f32) (harg44 :
  arg44.IsWhole) (arg45 : Buffer S1024x256 .bf16) (harg45 : arg45.IsWhole) (arg46 : Buffer S256x1024 .bf16) (harg46 :
  arg46.IsWhole)

/-- What the body takes and gives back: scratch and windows at any contents, the generator's register, its cells at
    zero, the array it copies from as it is (`fh`), those it copies into at any contents, and the waits recorded so far,
    which lie in `B`. -/
def State (c : Dev nD) (fh : HbBuf0 (F := F) c hbM0_0) (B : Set (SemLoc sig × Unit)) : sProp 𝕄 :=
  iprop(iprop(iprop(Any c arg40 ∗ Any c arg41 ∗ Any c arg42 ∗ Any c arg43 ∗ Any c arg44 ∗ Any c arg45 ∗ Any c arg46)
      ∗ (∃ r, prngReg c r)
      ∗ iprop(semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0)
      ∗ hbPt0 c hbM0_0 fh ∗ iprop((∃ f, hbPt0 c hbM0_1 f) ∗ (∃ f, hbPt0 c hbM0_2 f)))
    ∗ Pipeline.owesWithin c 0 B
    ∗ Any c arg1 ∗ Any c arg2 ∗ Any c arg3 ∗ Any c arg4 ∗ Any c arg5 ∗ Any c arg6 ∗ Any c arg7 ∗ Any c arg8 ∗ Any c arg9 ∗ Any c arg10 ∗ Any c arg11 ∗ Any c arg12 ∗ Any c arg13 ∗ Any c arg14 ∗ Any c arg15 ∗ Any c arg16 ∗ Any c arg17 ∗ Any c arg18 ∗ Any c arg19 ∗ Any c arg20 ∗ Any c arg21 ∗ Any c arg22 ∗ Any c arg23 ∗ Any c arg24 ∗ Any c arg25 ∗ Any c arg26 ∗ Any c arg27 ∗ Any c arg28 ∗ Any c arg29 ∗ Any c arg31 ∗ Any c arg32 ∗ Any c arg33 ∗ Any c arg34 ∗ Any c arg35 ∗ Any c arg36 ∗ Any c arg37)

set_option maxHeartbeats 4000000 in
/-- The body runs, whichever of its two branches it takes; no point takes both. -/
theorem run (c : Dev nD) (i : grid0.Coords) (hi : ¬(cond0_0 i ∧ cond0_1 i)) (fh : HbBuf0 (F := F) c hbM0_0)
    (B B' : Set (SemLoc sig × Unit)) (hB : ∀ x, x ∈ B') :
    State arg1 arg2 arg3 arg4 arg5 arg6 arg7 arg8 arg9 arg10 arg11 arg12 arg13 arg14 arg15 arg16 arg17 arg18 arg19 arg20 arg21 arg22 arg23 arg24 arg25 arg26 arg27 arg28 arg29 arg31 arg32 arg33 arg34 arg35 arg36 arg37 arg40 arg41 arg42 arg43 arg44 arg45 arg46 c fh B
      ⊢ wp frame (wpE (defs₀ (F := F)) Variants.none c none) Set.univ
        (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (Memref.whole main_v257) (Memref.isWhole_whole _) arg31 harg31 arg32 harg32 arg33 harg33 arg34 harg34 arg35 harg35 arg36 harg36 arg37 harg37 (Memref.whole main_v258_7) (Memref.isWhole_whole _) (Memref.whole main_v258_8) (Memref.isWhole_whole _) arg40 harg40 arg41 harg41 arg42 harg42 arg43 harg43 arg44 harg44 arg45 harg45 arg46 harg46 cc0_scoped0 cc0_scoped1 cc0_scoped2 cc0_scoped3 cc0_scoped4 cc0_scoped5 cc0_scoped6 cc0_scoped7 cc0_scoped8 cc0_scoped9 cc0_scoped10 cc0_scoped11)
        fun _ => State arg1 arg2 arg3 arg4 arg5 arg6 arg7 arg8 arg9 arg10 arg11 arg12 arg13 arg14 arg15 arg16 arg17 arg18 arg19 arg20 arg21 arg22 arg23 arg24 arg25 arg26 arg27 arg28 arg29 arg31 arg32 arg33 arg34 arg35 arg36 arg37 arg40 arg41 arg42 arg43 arg44 arg45 arg46 c fh B' := by
  rw [cc0_mix_bwd_eq_skeleton]; unfold cc0_mix_bwd_skel State Any owns
  iintro ⟨⟨⟨⟨%d40, %f40, %e40, H40⟩, ⟨%d41, %f41, %e41, H41⟩, ⟨%d42, %f42, %e42, H42⟩, ⟨%d43, %f43, %e43, H43⟩, ⟨%d44,
  %f44, %e44, H44⟩, ⟨%d45, %f45, %e45, H45⟩, ⟨%d46, %f46, %e46, H46⟩⟩, Hg, ⟨Q51, Q52, Q53, Q54, Q55, Q56, Q57, Q58,
  Q59, Q60, Q61, Q62⟩, Hh, ⟨⟨%g1, Hr⟩, ⟨%g2, Hs⟩⟩⟩, ⟨%W, -, HW⟩, ⟨%d1, %f1, %e1, H1⟩, ⟨%d2, %f2, %e2, H2⟩, ⟨%d3, %f3,
  %e3, H3⟩, ⟨%d4, %f4, %e4, H4⟩, ⟨%d5, %f5, %e5, H5⟩, ⟨%d6, %f6, %e6, H6⟩, ⟨%d7, %f7, %e7, H7⟩, ⟨%d8, %f8, %e8, H8⟩,
  ⟨%d9, %f9, %e9, H9⟩, ⟨%d10, %f10, %e10, H10⟩, ⟨%d11, %f11, %e11, H11⟩, ⟨%d12, %f12, %e12, H12⟩, ⟨%d13, %f13, %e13,
  H13⟩, ⟨%d14, %f14, %e14, H14⟩, ⟨%d15, %f15, %e15, H15⟩, ⟨%d16, %f16, %e16, H16⟩, ⟨%d17, %f17, %e17, H17⟩, ⟨%d18,
  %f18, %e18, H18⟩, ⟨%d19, %f19, %e19, H19⟩, ⟨%d20, %f20, %e20, H20⟩, ⟨%d21, %f21, %e21, H21⟩, ⟨%d22, %f22, %e22,
  H22⟩, ⟨%d23, %f23, %e23, H23⟩, ⟨%d24, %f24, %e24, H24⟩, ⟨%d25, %f25, %e25, H25⟩, ⟨%d26, %f26, %e26, H26⟩, ⟨%d27,
  %f27, %e27, H27⟩, ⟨%d28, %f28, %e28, H28⟩, ⟨%d29, %f29, %e29, H29⟩, ⟨%d31, %f31, %e31, H31⟩, ⟨%d32, %f32, %e32,
  H32⟩, ⟨%d33, %f33, %e33, H33⟩, ⟨%d34, %f34, %e34, H34⟩, ⟨%d35, %f35, %e35, H35⟩, ⟨%d36, %f36, %e36, H36⟩, ⟨%d37,
  %f37, %e37, H37⟩⟩
  by_cases hc0 : cond0_0 i <;> by_cases hc1 : cond0_1 i
  · exact absurd ⟨hc0, hc1⟩ hi
  all_goals
    sl_exec_parts (disch := first | sl_exact hc0 | sl_exact hc1)
    sl_step
    isplitl [H40 H41 H42 H43 H44 H45 H46 Hg Q51 Q52 Q53 Q54 Q55 Q56 Q57 Q58 Q59 Q60 Q61 Q62 Hh Hr Hs]
    · isplitl [H40 H41 H42 H43 H44 H45 H46]
      · isplitl [H40]; · iapply any_intro $$ H40
        isplitl [H41]; · iapply any_intro $$ H41
        isplitl [H42]; · iapply any_intro $$ H42
        isplitl [H43]; · iapply any_intro $$ H43
        isplitl [H44]; · iapply any_intro $$ H44
        isplitl [H45]; · iapply any_intro $$ H45
        iapply any_intro $$ H46
      isplitl [Hg]; · iexact Hg
      isplitl [Q51 Q52 Q53 Q54 Q55 Q56 Q57 Q58 Q59 Q60 Q61 Q62]
      · isplitl [Q51]; · iexact Q51
        isplitl [Q52]; · iexact Q52
        isplitl [Q53]; · iexact Q53
        isplitl [Q54]; · iexact Q54
        isplitl [Q55]; · iexact Q55
        isplitl [Q56]; · iexact Q56
        isplitl [Q57]; · iexact Q57
        isplitl [Q58]; · iexact Q58
        isplitl [Q59]; · iexact Q59
        isplitl [Q60]; · iexact Q60
        isplitl [Q61]; · iexact Q61
        iexact Q62
      isplitl [Hh]; · iexact Hh
      isplitl [Hr]; · iexists _; iexact Hr
      iexists _; iexact Hs
    isplitl [HW]; · (iexists _; isplitr; swap; · iexact HW); ipureintro; exact fun _ _ => hB _
    isplitl [H1]; · iapply any_intro $$ H1
    isplitl [H2]; · iapply any_intro $$ H2
    isplitl [H3]; · iapply any_intro $$ H3
    isplitl [H4]; · iapply any_intro $$ H4
    isplitl [H5]; · iapply any_intro $$ H5
    isplitl [H6]; · iapply any_intro $$ H6
    isplitl [H7]; · iapply any_intro $$ H7
    isplitl [H8]; · iapply any_intro $$ H8
    isplitl [H9]; · iapply any_intro $$ H9
    isplitl [H10]; · iapply any_intro $$ H10
    isplitl [H11]; · iapply any_intro $$ H11
    isplitl [H12]; · iapply any_intro $$ H12
    isplitl [H13]; · iapply any_intro $$ H13
    isplitl [H14]; · iapply any_intro $$ H14
    isplitl [H15]; · iapply any_intro $$ H15
    isplitl [H16]; · iapply any_intro $$ H16
    isplitl [H17]; · iapply any_intro $$ H17
    isplitl [H18]; · iapply any_intro $$ H18
    isplitl [H19]; · iapply any_intro $$ H19
    isplitl [H20]; · iapply any_intro $$ H20
    isplitl [H21]; · iapply any_intro $$ H21
    isplitl [H22]; · iapply any_intro $$ H22
    isplitl [H23]; · iapply any_intro $$ H23
    isplitl [H24]; · iapply any_intro $$ H24
    isplitl [H25]; · iapply any_intro $$ H25
    isplitl [H26]; · iapply any_intro $$ H26
    isplitl [H27]; · iapply any_intro $$ H27
    isplitl [H28]; · iapply any_intro $$ H28
    isplitl [H29]; · iapply any_intro $$ H29
    isplitl [H31]; · iapply any_intro $$ H31
    isplitl [H32]; · iapply any_intro $$ H32
    isplitl [H33]; · iapply any_intro $$ H33
    isplitl [H34]; · iapply any_intro $$ H34
    isplitl [H35]; · iapply any_intro $$ H35
    isplitl [H36]; · iapply any_intro $$ H36
    iapply any_intro $$ H37

end Body

end Cert.MixBwdIdeal.Mix

end
-- ==== Proof.MixFrame.lean ====
/- The launch of the call `_mix_bwd` and its frame. -/
module

public import proofs.«01_k».proof.Proof.MixRun

@[expose] public section

set_option maxRecDepth 16384

noncomputable section

namespace Cert.MixBwdIdeal.Mix

open Cert.MixBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The pipeline's proof data, naming no window's contents. -/
def data (_ : Fin 1) (c : Dev nD) : Dat τ (Elt F) Unit ℕ (Pipeline.UD sig nD τ) ℕ cfg0 c where
  A w := V m c (Pipeline.arrRef spec0 w)
  after w t := Dat.unnamed w t
  Φ _ := Pipeline.ΦDR osem0 spec0 H0 R0 (V m) c
  q _ := fullShare
  owed _ := 0

theorem data_A (c : Dev nD) (w : Fin cfg0.W) : ((data m 0 c).toRForget fun _ => true).A w = V m c (Pipeline.arrRef spec0 w) := by
  dsimp only [data, Dat.toRForget, Pipeline.RDat.override, Dat.toR]

theorem obligation (c : Dev nD) :
    BodyObligation (data (F := F) m 0 c) (defs₀ (F := F)) Variants.none () Set.univ (fun _ => true) := fun t => by
  have hi : ¬(cond0_0 (grid0.coords t) ∧ cond0_1 (grid0.coords t)) := fun h => by
    have h0 := (hcond0_0 t).mp h.1; have h1 := (hcond0_1 t).mp h.2; omega
  rw [bigSep_W0, show defs₀ (F := F) .tc cfg0.body (cfg0.bodyArgs t (cfg0.slots t)) = bodyAt0 t from by
    unfold defs₀; rw [Defs.onTc_tc]]
  dsimp only [data]
  rw [PhiDR0_eq]
  exact run _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ c _ hi _ _ _ (fun _ => Or.inl trivial)

set_option backward.isDefEq.respectTransparency.types false in
theorem launched : θ_run defs (onTc (τ := τ) (main (F := F))) (s₀ m ρ) (fun r =>
    Pipeline.RDat.FramePostR (cfgs 0) (fun c => (data m 0 c).toRForget fun _ => true) R0 (V m) r ∧ r.2.sem = fun _ => 0) :=
  Pipeline.θ_run_frame_dmaR_forget (Q' := _) cfgs (data m) (0 : Fin 1) launch0 osem0 defs₀ Variants.none (fun _ => true)
    ownSemFacts0 H0 R0 H0_sub R0_sub m ρ main (hbody := fun c => (obligation m c).loose)
    (hshare := fun c => (data m 0 c).share_full fun _ => rfl) (howed := fun _ _ => rfl) (V := V m)
    (hmain := hmain m Variants.none) (hA := fun c w => by dsimp only [data])
    (hin := fun c => by dsimp only [data]; exact .rfl) (hout := fun c => by dsimp only [data]; exact .rfl)

/-- What a run's end says of a buffer that the pipeline neither copies nor writes. -/
theorem rest_kept {nD : Nat} {τ : Topo} {sig : RefSig} {Λ₀ : Labels} {Val : EltTy → Type} {cfg₁ : Pipeline.Cfg sig Λ₀} {U' : Type} [URA U']
    {rdat : (c : Dev nD) → Pipeline.RDat τ Val Unit ℕ U' ℕ cfg₁ c} {R : Finset (Ref sig .tc)}
    {V : (c : Dev nD) → (b : Ref sig .tc) → Buf Val ((c.tc : Thread nD τ).loc b)} {r : PUnit × MemSt nD τ sig Val}
    (h : Pipeline.RDat.FramePostR cfg₁ rdat R V r) (c : Dev nD) (b : Ref sig .tc) (h1 : b.isScoped = false)
    (h2 : ∀ w, (cfg₁.spec w).arr.view.ref ≠ b) (h3 : b ∉ R) : r.2.mem ((c.tc : Thread nD τ).loc b) = V c b :=
  (h c).2 b (Finset.mem_sdiff.mpr ⟨Pipeline.mem_restRefs_of b h1 h2, h3⟩)

/-- The arguments end as they began, and every semaphore's counter ends at zero. -/
def Quiet (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0)

theorem frame : Quiet F := fun m ρ _ =>
  (θ_run defs _ _).mono (fun r hr => ⟨fun c => by
    have h := hr.1
    have arr : ∀ w, (cfg0.win w).isOut = false → r.2.mem ((spec0 w).arr.view.loc (c.tc : Thread nD τ)) = V m c (Pipeline.arrRef spec0 w) :=
      fun w hw => (Pipeline.RDat.FramePostR.arr_in h c w hw).trans (data_A m c w)
    have rest : ∀ b : Ref sig .tc, b.isScoped = false → (∀ w, (spec0 w).arr.view.ref ≠ b) → b ∉ R0 →
        r.2.mem ((c.tc : Thread nD τ).loc b) = V m c b := fun b h1 h2 h3 => rest_kept h c b h1 h2 h3
    exact ⟨(rest main_arg0 (by decide) (by decide) (by decide)).trans (V_main_arg0 m c),
      (rest main_arg1 (by decide) (by decide) (by decide)).trans (V_main_arg1 m c),
      (arr 15 rfl).trans (V_main_arg2 m c),
      (rest main_arg3 (by decide) (by decide) (by decide)).trans (V_main_arg3 m c),
      (rest main_arg4 (by decide) (by decide) (by decide)).trans (V_main_arg4 m c),
      (arr 17 rfl).trans (V_main_arg5 m c),
      (arr 18 rfl).trans (V_main_arg6 m c),
      (rest main_arg7 (by decide) (by decide) (by decide)).trans (V_main_arg7 m c),
      (rest main_arg8 (by decide) (by decide) (by decide)).trans (V_main_arg8 m c),
      (rest main_arg9 (by decide) (by decide) (by decide)).trans (V_main_arg9 m c),
      (rest main_arg10 (by decide) (by decide) (by decide)).trans (V_main_arg10 m c),
      (arr 22 rfl).trans (V_main_arg11 m c),
      (arr 23 rfl).trans (V_main_arg12 m c),
      (arr 24 rfl).trans (V_main_arg13 m c),
      (arr 25 rfl).trans (V_main_arg14 m c),
      (rest main_arg15 (by decide) (by decide) (by decide)).trans (V_main_arg15 m c),
      (rest main_arg16 (by decide) (by decide) (by decide)).trans (V_main_arg16 m c)⟩, hr.2⟩) (launched m ρ)

end Cert.MixBwdIdeal.Mix

end
-- ==== Proof.FwdRun.lean ====
/- The body of the call `_mix_fwd` runs at every grid point from whatever its buffers hold. -/
module

public import proofs.«01_k».proof.Proof.Gen.MixFwdIdeal.Frame.Runs

@[expose] public section

set_option maxRecDepth 16384

noncomputable section

namespace Cert.MixFwdIdeal.Fwd

open Cert.MixFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- A buffer in the core's own memory. -/
abbrev Buffer (s : Shape) (e : EltTy) := Memref sig .tc .vmem s e

/-- Core `c` owns the buffer, whatever it holds. -/
abbrev Any (c : Dev nD) {s : Shape} {e : EltTy} (M : Buffer s e) : sProp 𝕄 :=
  iprop(∃ X, owns (c : Thread nD τ) M fullShare X)

theorem any_intro (c : Dev nD) {s : Shape} {e : EltTy} (M : Buffer s e) (f : Buf (Elt F) (M.view.loc (c : Thread nD τ))) :
    ((M.view.loc (c : Thread nD τ)) ↦[M.view.set]{fullShare} f : sProp 𝕄) ⊢ ∃ X, ∃ g, ⌜M.view.read (Elt F) g = X⌝ ∗ ((M.view.loc (c : Thread nD τ)) ↦[M.view.set]{fullShare} g) := by
  iintro H; iexists _, f; isplitr; · ipureintro; rfl
  iexact H

section Body

/-! The body's buffers: the windows' (the inputs, then the results) and the scratch. -/
variable
  (arg1 : Buffer S512x1024 .f32) (harg1 : arg1.IsWhole) (arg2 : Buffer S8x1024 .f32) (harg2 : arg2.IsWhole) (arg3 :
  Buffer S1x1024 .f32) (harg3 : arg3.IsWhole) (arg4 : Buffer S8x1024x256 .bf16) (harg4 : arg4.IsWhole) (arg5 :
  Buffer S1x2048 .f32) (harg5 : arg5.IsWhole) (arg6 : Buffer S1x512 .f32) (harg6 : arg6.IsWhole) (arg7 : Buffer
  S1x512 .f32) (harg7 : arg7.IsWhole) (arg8 : Buffer S1024x128 .bf16) (harg8 : arg8.IsWhole) (arg9 : Buffer S128x512
  .f32) (harg9 : arg9.IsWhole) (arg10 : Buffer S32x512 .f32) (harg10 : arg10.IsWhole) (arg11 : Buffer S1x512 .f32)
  (harg11 : arg11.IsWhole) (arg12 : Buffer S1x512 .f32) (harg12 : arg12.IsWhole) (arg13 : Buffer S1x512 .f32)
  (harg13 : arg13.IsWhole) (arg14 : Buffer S1x512 .f32) (harg14 : arg14.IsWhole) (arg15 : Buffer S1x512 .f32)
  (harg15 : arg15.IsWhole) (arg16 : Buffer S1024x1024 .bf16) (harg16 : arg16.IsWhole) (arg17 : Buffer S512x512
  .bf16) (harg17 : arg17.IsWhole) (arg18 : Buffer S512x1024 .f32) (harg18 : arg18.IsWhole) (arg19 : Buffer S512x1024
  .bf16) (harg19 : arg19.IsWhole) (arg20 : Buffer S512x1024 .f32) (harg20 : arg20.IsWhole) (arg21 : Buffer S512x512
  .f32) (harg21 : arg21.IsWhole) (arg22 : Buffer S512x1024 .bf16) (harg22 : arg22.IsWhole) (arg23 : Buffer S512x1024
  .f32) (harg23 : arg23.IsWhole) (arg24 : Buffer S512x512 .f32) (harg24 : arg24.IsWhole) (arg25 : Buffer S512x512
  .f32) (harg25 : arg25.IsWhole) (arg26 : Buffer S512x512 .f32) (harg26 : arg26.IsWhole) (arg27 : Buffer S512x512
  .f32) (harg27 : arg27.IsWhole) (arg28 : Buffer S512x128 .f32) (harg28 : arg28.IsWhole) (arg29 : Buffer S512x512
  .f32) (harg29 : arg29.IsWhole) (arg30 : Buffer S512x512 .f32) (harg30 : arg30.IsWhole) (arg31 : Buffer S544x512
  .f32) (harg31 : arg31.IsWhole) (arg32 : Buffer S7x536x512 .f32) (harg32 : arg32.IsWhole)

/-- What the body is given at a point and gives back: its buffers and the state of the random numbers. -/
abbrev State (c : Dev nD) (O : sProp 𝕄) : sProp 𝕄 :=
  iprop(((Any c arg31 ∗ Any c arg32) ∗ (∃ r, prngReg c r)) ∗ O ∗ Any c arg1 ∗ Any c arg2 ∗ Any c arg3 ∗ Any c arg4 ∗
  Any c arg5 ∗ Any c arg6 ∗ Any c arg7 ∗ Any c arg8 ∗ Any c arg9 ∗ Any c arg10 ∗ Any c arg11 ∗ Any c arg12 ∗ Any c
  arg13 ∗ Any c arg14 ∗ Any c arg15 ∗ Any c arg16 ∗ Any c arg17 ∗ Any c arg18 ∗ Any c arg19 ∗ Any c arg20 ∗ Any c
  arg21 ∗ Any c arg22 ∗ Any c arg23 ∗ Any c arg24 ∗ Any c arg25 ∗ Any c arg26 ∗ Any c arg27 ∗ Any c arg28 ∗ Any c
  arg29 ∗ Any c arg30)

set_option maxHeartbeats 4000000 in
theorem run (c : Dev nD) (i : grid0.Coords) (O : sProp 𝕄) :
    State arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 c O
      ⊢ wp frame (wpE (defs₀ (F := F)) Variants.none c none) Set.univ
        (cc0_mix_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32)
        fun _ => State arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 c O := by
  rw [cc0_mix_fwd_eq_skeleton]; unfold cc0_mix_fwd_skel State Any owns
  iintro ⟨⟨⟨⟨%d31, %f31, %e31, H31⟩, ⟨%d32, %f32, %e32, H32⟩⟩, Hg⟩, Ho, ⟨%d1, %f1, %e1, H1⟩, ⟨%d2, %f2, %e2, H2⟩,
  ⟨%d3, %f3, %e3, H3⟩, ⟨%d4, %f4, %e4, H4⟩, ⟨%d5, %f5, %e5, H5⟩, ⟨%d6, %f6, %e6, H6⟩, ⟨%d7, %f7, %e7, H7⟩, ⟨%d8, %f8,
  %e8, H8⟩, ⟨%d9, %f9, %e9, H9⟩, ⟨%d10, %f10, %e10, H10⟩, ⟨%d11, %f11, %e11, H11⟩, ⟨%d12, %f12, %e12, H12⟩, ⟨%d13,
  %f13, %e13, H13⟩, ⟨%d14, %f14, %e14, H14⟩, ⟨%d15, %f15, %e15, H15⟩, ⟨%d16, %f16, %e16, H16⟩, ⟨%d17, %f17, %e17,
  H17⟩, ⟨%d18, %f18, %e18, H18⟩, ⟨%d19, %f19, %e19, H19⟩, ⟨%d20, %f20, %e20, H20⟩, ⟨%d21, %f21, %e21, H21⟩, ⟨%d22,
  %f22, %e22, H22⟩, ⟨%d23, %f23, %e23, H23⟩, ⟨%d24, %f24, %e24, H24⟩, ⟨%d25, %f25, %e25, H25⟩, ⟨%d26, %f26, %e26,
  H26⟩, ⟨%d27, %f27, %e27, H27⟩, ⟨%d28, %f28, %e28, H28⟩, ⟨%d29, %f29, %e29, H29⟩, ⟨%d30, %f30, %e30, H30⟩⟩
  by_cases hc0 : cond0_0 i
  all_goals
    sl_exec_parts (disch := first | sl_exact hc0)
    sl_step
    isplitl [H31 H32 Hg]
    · isplitl [H31 H32]
      · isplitl [H31]; · iapply any_intro $$ H31
        iapply any_intro $$ H32
      iexact Hg
    isplitl [Ho]; · iexact Ho
    isplitl [H1]; · iapply any_intro $$ H1
    isplitl [H2]; · iapply any_intro $$ H2
    isplitl [H3]; · iapply any_intro $$ H3
    isplitl [H4]; · iapply any_intro $$ H4
    isplitl [H5]; · iapply any_intro $$ H5
    isplitl [H6]; · iapply any_intro $$ H6
    isplitl [H7]; · iapply any_intro $$ H7
    isplitl [H8]; · iapply any_intro $$ H8
    isplitl [H9]; · iapply any_intro $$ H9
    isplitl [H10]; · iapply any_intro $$ H10
    isplitl [H11]; · iapply any_intro $$ H11
    isplitl [H12]; · iapply any_intro $$ H12
    isplitl [H13]; · iapply any_intro $$ H13
    isplitl [H14]; · iapply any_intro $$ H14
    isplitl [H15]; · iapply any_intro $$ H15
    isplitl [H16]; · iapply any_intro $$ H16
    isplitl [H17]; · iapply any_intro $$ H17
    isplitl [H18]; · iapply any_intro $$ H18
    isplitl [H19]; · iapply any_intro $$ H19
    isplitl [H20]; · iapply any_intro $$ H20
    isplitl [H21]; · iapply any_intro $$ H21
    isplitl [H22]; · iapply any_intro $$ H22
    isplitl [H23]; · iapply any_intro $$ H23
    isplitl [H24]; · iapply any_intro $$ H24
    isplitl [H25]; · iapply any_intro $$ H25
    isplitl [H26]; · iapply any_intro $$ H26
    isplitl [H27]; · iapply any_intro $$ H27
    isplitl [H28]; · iapply any_intro $$ H28
    isplitl [H29]; · iapply any_intro $$ H29
    iapply any_intro $$ H30

end Body

end Cert.MixFwdIdeal.Fwd

end
-- ==== Proof.FwdFrame.lean ====
/- The launch of the call `_mix_fwd` and its frame. -/
module

public import proofs.«01_k».proof.Proof.FwdRun

@[expose] public section

set_option maxRecDepth 16384

noncomputable section

namespace Cert.MixFwdIdeal.Fwd

open Cert.MixFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data, naming no window's contents. -/
def data (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

theorem data_A (c : Dev nD) (w : Fin cfg0.W) : ((data m 0 c).toRForget fun _ => true).A w = V m c (Pipeline.arrRef spec0 w) := by
  dsimp only [data, Dat.toRForget, Pipeline.RDat.override, Dat.toR]

theorem obligation (c : Dev nD) :
    BodyObligation (data (F := F) m 0 c) (defs₀ (F := F)) Variants.none () Set.univ (fun _ => true) := fun t => by
  rw [bigSep_W0, show defs₀ (F := F) .tc cfg0.body (cfg0.bodyArgs t (cfg0.slots t)) = bodyAt0 t from by
    unfold defs₀; rw [Defs.onTc_tc]]
  dsimp only [data]
  rw [PhiA0_eq]
  exact run _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ c _ _

set_option backward.isDefEq.respectTransparency.types false in
theorem launched : θ_run defs (onTc (τ := τ) (main (F := F))) (s₀ m ρ) (fun r =>
    Pipeline.RDat.FramePost (cfgs 0) (fun c => (data m 0 c).toRForget fun _ => true) (V m) r ∧ r.2.sem = fun _ => 0) :=
  Pipeline.θ_run_frame_forget (Q' := _) cfgs (data m) (0 : Fin 1) launch0 defs₀ Variants.none (fun _ => true)
    m ρ main (hbody := fun c => (obligation m c).loose)
    (hshare := fun c => (data m 0 c).share_full fun _ => rfl) (howed := fun _ _ => rfl) (V := V m)
    (hmain := hmain m Variants.none) (hA := fun c w => by dsimp only [data])
    (hΦ := fun c t => by dsimp only [data])

/-- What a run's end says of a buffer that the pipeline does not copy. -/
theorem rest_kept {nD : Nat} {τ : Topo} {sig : RefSig} {Λ₀ : Labels} {Val : EltTy → Type} {cfg₁ : Pipeline.Cfg sig Λ₀} {U' : Type} [URA U']
    {rdat : (c : Dev nD) → Pipeline.RDat τ Val Unit ℕ U' ℕ cfg₁ c}
    {V : (c : Dev nD) → (b : Ref sig .tc) → Buf Val ((c.tc : Thread nD τ).loc b)} {r : PUnit × MemSt nD τ sig Val}
    (h : Pipeline.RDat.FramePost cfg₁ rdat V r) (c : Dev nD) (b : Ref sig .tc) (h1 : b.isScoped = false)
    (h2 : ∀ w, (cfg₁.spec w).arr.view.ref ≠ b) : r.2.mem ((c.tc : Thread nD τ).loc b) = V c b :=
  (h c).2 b (Pipeline.mem_restRefs_of b h1 h2)

/-- The arguments end as they began, and every semaphore's counter ends at zero. -/
def Quiet (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0)

theorem frame : Quiet F := fun m ρ _ =>
  (θ_run defs _ _).mono (fun r hr => ⟨fun c => by
    have h := hr.1
    have arr : ∀ w, (cfg0.win w).isOut = false → r.2.mem ((spec0 w).arr.view.loc (c.tc : Thread nD τ)) = V m c (Pipeline.arrRef spec0 w) :=
      fun w hw => (Pipeline.RDat.FramePost.arr_in h c w hw).trans (data_A m c w)
    have rest : ∀ b : Ref sig .tc, b.isScoped = false → (∀ w, (spec0 w).arr.view.ref ≠ b) →
        r.2.mem ((c.tc : Thread nD τ).loc b) = V m c b := fun b h1 h2 => rest_kept h c b h1 h2
    exact ⟨(rest main_arg0 (by decide) (by decide)).trans (V_main_arg0 m c),
      (rest main_arg1 (by decide) (by decide)).trans (V_main_arg1 m c),
      (arr 2 rfl).trans (V_main_arg2 m c),
      (rest main_arg3 (by decide) (by decide)).trans (V_main_arg3 m c),
      (arr 4 rfl).trans (V_main_arg4 m c),
      (arr 5 rfl).trans (V_main_arg5 m c),
      (arr 6 rfl).trans (V_main_arg6 m c),
      (rest main_arg7 (by decide) (by decide)).trans (V_main_arg7 m c),
      (rest main_arg8 (by decide) (by decide)).trans (V_main_arg8 m c),
      (rest main_arg9 (by decide) (by decide)).trans (V_main_arg9 m c),
      (arr 10 rfl).trans (V_main_arg10 m c),
      (arr 11 rfl).trans (V_main_arg11 m c),
      (arr 12 rfl).trans (V_main_arg12 m c),
      (arr 13 rfl).trans (V_main_arg13 m c),
      (arr 14 rfl).trans (V_main_arg14 m c),
      (rest main_arg15 (by decide) (by decide)).trans (V_main_arg15 m c)⟩, hr.2⟩) (launched m ρ)

end Cert.MixFwdIdeal.Fwd

end
-- ==== Proof.FwdState.lean ====
module

public import proofs.«01_k».proof.Proof.FwdRun

/-!
What the body of the call `_mix_fwd` is given at a grid point and what it leaves: its inputs as they were, and in
every buffer it stores into the stores it made, the last first.
-/

@[expose] public section

set_option maxRecDepth 16384

noncomputable section

namespace Cert.MixFwdIdeal.Fwd

open Cert.MixFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The stores of one run of the body, a list for every buffer, the last store first. -/
structure Stores (F : FTy → Type) where
  s18 : List (View.Piece (Elt F) S512x1024 .f32)
  s19 : List (View.Piece (Elt F) S512x1024 .bf16)
  s20 : List (View.Piece (Elt F) S512x1024 .f32)
  s21 : List (View.Piece (Elt F) S512x512 .f32)
  s22 : List (View.Piece (Elt F) S512x1024 .bf16)
  s23 : List (View.Piece (Elt F) S512x1024 .f32)
  s24 : List (View.Piece (Elt F) S512x512 .f32)
  s25 : List (View.Piece (Elt F) S512x512 .f32)
  s26 : List (View.Piece (Elt F) S512x512 .f32)
  s27 : List (View.Piece (Elt F) S512x512 .f32)
  s28 : List (View.Piece (Elt F) S512x128 .f32)
  s29 : List (View.Piece (Elt F) S512x512 .f32)
  s30 : List (View.Piece (Elt F) S512x512 .f32)
  s31 : List (View.Piece (Elt F) S544x512 .f32)
  s32 : List (View.Piece (Elt F) S7x536x512 .f32)

/-- The buffer with some stores made over whatever it held. -/
abbrev Stored (c : Dev nD) {s : Shape} {e : EltTy} (M : Buffer s e) (L : List (View.Piece (Elt F) s e)) : sProp 𝕄 :=
  iprop(∃ f, (M.view.loc (c : Thread nD τ)) ↦[M.view.set]{fullShare} M.view.writes (Elt F) f L)

section Body
variable
  (arg1 : Buffer S512x1024 .f32) (harg1 : arg1.IsWhole) (arg2 : Buffer S8x1024 .f32) (harg2 : arg2.IsWhole) (arg3 :
  Buffer S1x1024 .f32) (harg3 : arg3.IsWhole) (arg4 : Buffer S8x1024x256 .bf16) (harg4 : arg4.IsWhole) (arg5 :
  Buffer S1x2048 .f32) (harg5 : arg5.IsWhole) (arg6 : Buffer S1x512 .f32) (harg6 : arg6.IsWhole) (arg7 : Buffer
  S1x512 .f32) (harg7 : arg7.IsWhole) (arg8 : Buffer S1024x128 .bf16) (harg8 : arg8.IsWhole) (arg9 : Buffer S128x512
  .f32) (harg9 : arg9.IsWhole) (arg10 : Buffer S32x512 .f32) (harg10 : arg10.IsWhole) (arg11 : Buffer S1x512 .f32)
  (harg11 : arg11.IsWhole) (arg12 : Buffer S1x512 .f32) (harg12 : arg12.IsWhole) (arg13 : Buffer S1x512 .f32)
  (harg13 : arg13.IsWhole) (arg14 : Buffer S1x512 .f32) (harg14 : arg14.IsWhole) (arg15 : Buffer S1x512 .f32)
  (harg15 : arg15.IsWhole) (arg16 : Buffer S1024x1024 .bf16) (harg16 : arg16.IsWhole) (arg17 : Buffer S512x512
  .bf16) (harg17 : arg17.IsWhole) (arg18 : Buffer S512x1024 .f32) (harg18 : arg18.IsWhole) (arg19 : Buffer S512x1024
  .bf16) (harg19 : arg19.IsWhole) (arg20 : Buffer S512x1024 .f32) (harg20 : arg20.IsWhole) (arg21 : Buffer S512x512
  .f32) (harg21 : arg21.IsWhole) (arg22 : Buffer S512x1024 .bf16) (harg22 : arg22.IsWhole) (arg23 : Buffer S512x1024
  .f32) (harg23 : arg23.IsWhole) (arg24 : Buffer S512x512 .f32) (harg24 : arg24.IsWhole) (arg25 : Buffer S512x512
  .f32) (harg25 : arg25.IsWhole) (arg26 : Buffer S512x512 .f32) (harg26 : arg26.IsWhole) (arg27 : Buffer S512x512
  .f32) (harg27 : arg27.IsWhole) (arg28 : Buffer S512x128 .f32) (harg28 : arg28.IsWhole) (arg29 : Buffer S512x512
  .f32) (harg29 : arg29.IsWhole) (arg30 : Buffer S512x512 .f32) (harg30 : arg30.IsWhole) (arg31 : Buffer S544x512
  .f32) (harg31 : arg31.IsWhole) (arg32 : Buffer S7x536x512 .f32) (harg32 : arg32.IsWhole)
  (x1 : Vec F S512x1024 .f32) (x2 : Vec F S8x1024 .f32) (x3 : Vec F S1x1024 .f32) (x4 : Vec F S8x1024x256 .bf16) (x5
  : Vec F S1x2048 .f32) (x6 : Vec F S1x512 .f32) (x7 : Vec F S1x512 .f32) (x8 : Vec F S1024x128 .bf16) (x9 : Vec F
  S128x512 .f32) (x10 : Vec F S32x512 .f32) (x11 : Vec F S1x512 .f32) (x12 : Vec F S1x512 .f32) (x13 : Vec F S1x512
  .f32) (x14 : Vec F S1x512 .f32) (x15 : Vec F S1x512 .f32) (x16 : Vec F S1024x1024 .bf16) (x17 : Vec F S512x512
  .bf16) (G : Vec F S544x512 .f32)

/-- The inputs' buffers at their contents. -/
abbrev Inputs (c : Dev nD) : sProp 𝕄 :=
  iprop(owns (c : Thread nD τ) arg1 fullShare x1 ∗ owns (c : Thread nD τ) arg2 fullShare x2 ∗ owns (c : Thread nD τ)
  arg3 fullShare x3 ∗ owns (c : Thread nD τ) arg4 fullShare x4 ∗ owns (c : Thread nD τ) arg5 fullShare x5 ∗ owns (c
  : Thread nD τ) arg6 fullShare x6 ∗ owns (c : Thread nD τ) arg7 fullShare x7 ∗ owns (c : Thread nD τ) arg8
  fullShare x8 ∗ owns (c : Thread nD τ) arg9 fullShare x9 ∗ owns (c : Thread nD τ) arg10 fullShare x10 ∗ owns (c :
  Thread nD τ) arg11 fullShare x11 ∗ owns (c : Thread nD τ) arg12 fullShare x12 ∗ owns (c : Thread nD τ) arg13
  fullShare x13 ∗ owns (c : Thread nD τ) arg14 fullShare x14 ∗ owns (c : Thread nD τ) arg15 fullShare x15 ∗ owns (c
  : Thread nD τ) arg16 fullShare x16 ∗ owns (c : Thread nD τ) arg17 fullShare x17)

/-- What the body is given: the results' buffers and the second scratch at anything, the first scratch at `G`. -/
abbrev Given (c : Dev nD) (R : sProp 𝕄) : sProp 𝕄 :=
  iprop(Inputs arg1 arg2 arg3 arg4 arg5 arg6 arg7 arg8 arg9 arg10 arg11 arg12 arg13 arg14 arg15 arg16 arg17 x1 x2 x3
  x4 x5 x6 x7 x8 x9 x10 x11 x12 x13 x14 x15 x16 x17 c ∗ Any c arg18 ∗ Any c arg19 ∗ Any c arg20 ∗ Any c arg21 ∗ Any
  c arg22 ∗ Any c arg23 ∗ Any c arg24 ∗ Any c arg25 ∗ Any c arg26 ∗ Any c arg27 ∗ Any c arg28 ∗ Any c arg29 ∗ Any c
  arg30 ∗ owns (c : Thread nD τ) arg31 fullShare G ∗ Any c arg32 ∗ R)

/-- What the body leaves: the stores `S` made. -/
abbrev Leaves (c : Dev nD) (R : sProp 𝕄) (S : Stores F) : sProp 𝕄 :=
  iprop(Inputs arg1 arg2 arg3 arg4 arg5 arg6 arg7 arg8 arg9 arg10 arg11 arg12 arg13 arg14 arg15 arg16 arg17 x1 x2 x3
  x4 x5 x6 x7 x8 x9 x10 x11 x12 x13 x14 x15 x16 x17 c ∗ Stored c arg18 S.s18 ∗ Stored c arg19 S.s19 ∗ Stored c arg20
  S.s20 ∗ Stored c arg21 S.s21 ∗ Stored c arg22 S.s22 ∗ Stored c arg23 S.s23 ∗ Stored c arg24 S.s24 ∗ Stored c arg25
  S.s25 ∗ Stored c arg26 S.s26 ∗ Stored c arg27 S.s27 ∗ Stored c arg28 S.s28 ∗ Stored c arg29 S.s29 ∗ Stored c arg30
  S.s30 ∗ ((arg31.view.loc (c : Thread nD τ)) ↦[arg31.view.set]{fullShare} arg31.view.writes (Elt F) (harg31.unread
  G) S.s31) ∗ Stored c arg32 S.s32 ∗ R)

end Body

end Cert.MixFwdIdeal.Fwd

end
-- ==== Proof.FwdOpen.lean ====
module

public import proofs.«01_k».proof.Proof.FwdState

/-!
What the body of the call `_mix_fwd` is given, every owned buffer at the contents that its value reads.
-/

@[expose] public section

set_option maxRecDepth 16384

noncomputable section

namespace Cert.MixFwdIdeal.Fwd

open Cert.MixFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- An owned buffer holds the contents that its value reads. -/
theorem opened_one (c : Dev nD) {s : Shape} {e : EltTy} (M : Buffer s e) (hM : M.IsWhole) (x : Vec F s e) :
    (owns (c : Thread nD τ) M fullShare x : sProp 𝕄) ⊢ ((M.view.loc (c : Thread nD τ)) ↦[M.view.set]{fullShare} hM.unread x) := by
  unfold owns
  iintro ⟨%f, %e, H⟩
  obtain rfl := hM.eq_unread e
  iexact H

section Body
variable
  (arg1 : Buffer S512x1024 .f32) (harg1 : arg1.IsWhole) (arg2 : Buffer S8x1024 .f32) (harg2 : arg2.IsWhole) (arg3 :
  Buffer S1x1024 .f32) (harg3 : arg3.IsWhole) (arg4 : Buffer S8x1024x256 .bf16) (harg4 : arg4.IsWhole) (arg5 :
  Buffer S1x2048 .f32) (harg5 : arg5.IsWhole) (arg6 : Buffer S1x512 .f32) (harg6 : arg6.IsWhole) (arg7 : Buffer
  S1x512 .f32) (harg7 : arg7.IsWhole) (arg8 : Buffer S1024x128 .bf16) (harg8 : arg8.IsWhole) (arg9 : Buffer S128x512
  .f32) (harg9 : arg9.IsWhole) (arg10 : Buffer S32x512 .f32) (harg10 : arg10.IsWhole) (arg11 : Buffer S1x512 .f32)
  (harg11 : arg11.IsWhole) (arg12 : Buffer S1x512 .f32) (harg12 : arg12.IsWhole) (arg13 : Buffer S1x512 .f32)
  (harg13 : arg13.IsWhole) (arg14 : Buffer S1x512 .f32) (harg14 : arg14.IsWhole) (arg15 : Buffer S1x512 .f32)
  (harg15 : arg15.IsWhole) (arg16 : Buffer S1024x1024 .bf16) (harg16 : arg16.IsWhole) (arg17 : Buffer S512x512
  .bf16) (harg17 : arg17.IsWhole) (arg18 : Buffer S512x1024 .f32) (harg18 : arg18.IsWhole) (arg19 : Buffer S512x1024
  .bf16) (harg19 : arg19.IsWhole) (arg20 : Buffer S512x1024 .f32) (harg20 : arg20.IsWhole) (arg21 : Buffer S512x512
  .f32) (harg21 : arg21.IsWhole) (arg22 : Buffer S512x1024 .bf16) (harg22 : arg22.IsWhole) (arg23 : Buffer S512x1024
  .f32) (harg23 : arg23.IsWhole) (arg24 : Buffer S512x512 .f32) (harg24 : arg24.IsWhole) (arg25 : Buffer S512x512
  .f32) (harg25 : arg25.IsWhole) (arg26 : Buffer S512x512 .f32) (harg26 : arg26.IsWhole) (arg27 : Buffer S512x512
  .f32) (harg27 : arg27.IsWhole) (arg28 : Buffer S512x128 .f32) (harg28 : arg28.IsWhole) (arg29 : Buffer S512x512
  .f32) (harg29 : arg29.IsWhole) (arg30 : Buffer S512x512 .f32) (harg30 : arg30.IsWhole) (arg31 : Buffer S544x512
  .f32) (harg31 : arg31.IsWhole) (arg32 : Buffer S7x536x512 .f32) (harg32 : arg32.IsWhole)
  (x1 : Vec F S512x1024 .f32) (x2 : Vec F S8x1024 .f32) (x3 : Vec F S1x1024 .f32) (x4 : Vec F S8x1024x256 .bf16) (x5
  : Vec F S1x2048 .f32) (x6 : Vec F S1x512 .f32) (x7 : Vec F S1x512 .f32) (x8 : Vec F S1024x128 .bf16) (x9 : Vec F
  S128x512 .f32) (x10 : Vec F S32x512 .f32) (x11 : Vec F S1x512 .f32) (x12 : Vec F S1x512 .f32) (x13 : Vec F S1x512
  .f32) (x14 : Vec F S1x512 .f32) (x15 : Vec F S1x512 .f32) (x16 : Vec F S1024x1024 .bf16) (x17 : Vec F S512x512
  .bf16) (G : Vec F S544x512 .f32)

/-- What the body is given, the inputs' buffers and the first scratch at the contents that their values read. -/
abbrev Held (c : Dev nD) (R : sProp 𝕄) : sProp 𝕄 :=
  iprop((((arg1.view.loc (c : Thread nD τ)) ↦[arg1.view.set]{fullShare} harg1.unread x1) ∗ ((arg2.view.loc (c : Thread nD τ)) ↦[arg2.view.set]{fullShare} harg2.unread x2) ∗ ((arg3.view.loc (c : Thread nD τ)) ↦[arg3.view.set]{fullShare} harg3.unread x3) ∗ ((arg4.view.loc (c : Thread nD τ)) ↦[arg4.view.set]{fullShare} harg4.unread x4) ∗ ((arg5.view.loc (c : Thread nD τ)) ↦[arg5.view.set]{fullShare} harg5.unread x5) ∗ ((arg6.view.loc (c : Thread nD τ)) ↦[arg6.view.set]{fullShare} harg6.unread x6) ∗ ((arg7.view.loc (c : Thread nD τ)) ↦[arg7.view.set]{fullShare} harg7.unread x7) ∗ ((arg8.view.loc (c : Thread nD τ)) ↦[arg8.view.set]{fullShare} harg8.unread x8) ∗ ((arg9.view.loc (c : Thread nD τ)) ↦[arg9.view.set]{fullShare} harg9.unread x9) ∗ ((arg10.view.loc (c : Thread nD τ)) ↦[arg10.view.set]{fullShare} harg10.unread x10) ∗ ((arg11.view.loc (c : Thread nD τ)) ↦[arg11.view.set]{fullShare} harg11.unread x11) ∗ ((arg12.view.loc (c : Thread nD τ)) ↦[arg12.view.set]{fullShare} harg12.unread x12) ∗ ((arg13.view.loc (c : Thread nD τ)) ↦[arg13.view.set]{fullShare} harg13.unread x13) ∗ ((arg14.view.loc (c : Thread nD τ)) ↦[arg14.view.set]{fullShare} harg14.unread x14) ∗ ((arg15.view.loc (c : Thread nD τ)) ↦[arg15.view.set]{fullShare} harg15.unread x15) ∗ ((arg16.view.loc (c : Thread nD τ)) ↦[arg16.view.set]{fullShare} harg16.unread x16) ∗ ((arg17.view.loc (c : Thread nD τ)) ↦[arg17.view.set]{fullShare} harg17.unread x17)) ∗ Any c arg18 ∗ Any c arg19 ∗ Any c arg20 ∗ Any c arg21 ∗ Any c arg22 ∗ Any c arg23 ∗ Any c arg24 ∗ Any c arg25 ∗ Any c arg26 ∗ Any c arg27 ∗ Any c arg28 ∗ Any c arg29 ∗ Any c arg30 ∗ ((arg31.view.loc (c : Thread nD τ)) ↦[arg31.view.set]{fullShare} harg31.unread G) ∗ Any c arg32 ∗ R)

set_option maxHeartbeats 4000000 in
theorem opened (c : Dev nD) (R : sProp 𝕄) : Given arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 x1 x2 x3 x4 x5 x6 x7 x8 x9 x10 x11 x12 x13 x14 x15 x16 x17 G c R ⊢
    Held arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 arg26 arg27 arg28 arg29 arg30 arg31 harg31 arg32 x1 x2 x3 x4 x5 x6 x7 x8 x9 x10 x11 x12 x13 x14 x15 x16 x17 G c R := by
  unfold Given Inputs Held
  iintro ⟨⟨H1, H2, H3, H4, H5, H6, H7, H8, H9, H10, H11, H12, H13, H14, H15, H16, H17⟩, H18, H19, H20, H21, H22, H23, H24, H25, H26, H27, H28, H29, H30, H31, H32, HR⟩
  isplitl [H1 H2 H3 H4 H5 H6 H7 H8 H9 H10 H11 H12 H13 H14 H15 H16 H17]
  · isplitl [H1]; · iapply opened_one c arg1 harg1 x1 $$ H1
    isplitl [H2]; · iapply opened_one c arg2 harg2 x2 $$ H2
    isplitl [H3]; · iapply opened_one c arg3 harg3 x3 $$ H3
    isplitl [H4]; · iapply opened_one c arg4 harg4 x4 $$ H4
    isplitl [H5]; · iapply opened_one c arg5 harg5 x5 $$ H5
    isplitl [H6]; · iapply opened_one c arg6 harg6 x6 $$ H6
    isplitl [H7]; · iapply opened_one c arg7 harg7 x7 $$ H7
    isplitl [H8]; · iapply opened_one c arg8 harg8 x8 $$ H8
    isplitl [H9]; · iapply opened_one c arg9 harg9 x9 $$ H9
    isplitl [H10]; · iapply opened_one c arg10 harg10 x10 $$ H10
    isplitl [H11]; · iapply opened_one c arg11 harg11 x11 $$ H11
    isplitl [H12]; · iapply opened_one c arg12 harg12 x12 $$ H12
    isplitl [H13]; · iapply opened_one c arg13 harg13 x13 $$ H13
    isplitl [H14]; · iapply opened_one c arg14 harg14 x14 $$ H14
    isplitl [H15]; · iapply opened_one c arg15 harg15 x15 $$ H15
    isplitl [H16]; · iapply opened_one c arg16 harg16 x16 $$ H16
    iapply opened_one c arg17 harg17 x17 $$ H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iapply opened_one c arg31 harg31 G $$ H31
  isplitl [H32]; · iexact H32
  iexact HR

end Body

end Cert.MixFwdIdeal.Fwd

end
-- ==== Proof.FwdRunA.lean ====
module

public import proofs.«01_k».proof.Proof.FwdOpen

/-! The run of the body at the first grid point. -/

@[expose] public section

set_option maxRecDepth 16384

noncomputable section

namespace Cert.MixFwdIdeal.Fwd

open Cert.MixFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section Body
variable
  (arg1 : Buffer S512x1024 .f32) (harg1 : arg1.IsWhole) (arg2 : Buffer S8x1024 .f32) (harg2 : arg2.IsWhole) (arg3 :
  Buffer S1x1024 .f32) (harg3 : arg3.IsWhole) (arg4 : Buffer S8x1024x256 .bf16) (harg4 : arg4.IsWhole) (arg5 :
  Buffer S1x2048 .f32) (harg5 : arg5.IsWhole) (arg6 : Buffer S1x512 .f32) (harg6 : arg6.IsWhole) (arg7 : Buffer
  S1x512 .f32) (harg7 : arg7.IsWhole) (arg8 : Buffer S1024x128 .bf16) (harg8 : arg8.IsWhole) (arg9 : Buffer S128x512
  .f32) (harg9 : arg9.IsWhole) (arg10 : Buffer S32x512 .f32) (harg10 : arg10.IsWhole) (arg11 : Buffer S1x512 .f32)
  (harg11 : arg11.IsWhole) (arg12 : Buffer S1x512 .f32) (harg12 : arg12.IsWhole) (arg13 : Buffer S1x512 .f32)
  (harg13 : arg13.IsWhole) (arg14 : Buffer S1x512 .f32) (harg14 : arg14.IsWhole) (arg15 : Buffer S1x512 .f32)
  (harg15 : arg15.IsWhole) (arg16 : Buffer S1024x1024 .bf16) (harg16 : arg16.IsWhole) (arg17 : Buffer S512x512
  .bf16) (harg17 : arg17.IsWhole) (arg18 : Buffer S512x1024 .f32) (harg18 : arg18.IsWhole) (arg19 : Buffer S512x1024
  .bf16) (harg19 : arg19.IsWhole) (arg20 : Buffer S512x1024 .f32) (harg20 : arg20.IsWhole) (arg21 : Buffer S512x512
  .f32) (harg21 : arg21.IsWhole) (arg22 : Buffer S512x1024 .bf16) (harg22 : arg22.IsWhole) (arg23 : Buffer S512x1024
  .f32) (harg23 : arg23.IsWhole) (arg24 : Buffer S512x512 .f32) (harg24 : arg24.IsWhole) (arg25 : Buffer S512x512
  .f32) (harg25 : arg25.IsWhole) (arg26 : Buffer S512x512 .f32) (harg26 : arg26.IsWhole) (arg27 : Buffer S512x512
  .f32) (harg27 : arg27.IsWhole) (arg28 : Buffer S512x128 .f32) (harg28 : arg28.IsWhole) (arg29 : Buffer S512x512
  .f32) (harg29 : arg29.IsWhole) (arg30 : Buffer S512x512 .f32) (harg30 : arg30.IsWhole) (arg31 : Buffer S544x512
  .f32) (harg31 : arg31.IsWhole) (arg32 : Buffer S7x536x512 .f32) (harg32 : arg32.IsWhole)
  (x1 : Vec F S512x1024 .f32) (x2 : Vec F S8x1024 .f32) (x3 : Vec F S1x1024 .f32) (x4 : Vec F S8x1024x256 .bf16) (x5
  : Vec F S1x2048 .f32) (x6 : Vec F S1x512 .f32) (x7 : Vec F S1x512 .f32) (x8 : Vec F S1024x128 .bf16) (x9 : Vec F
  S128x512 .f32) (x10 : Vec F S32x512 .f32) (x11 : Vec F S1x512 .f32) (x12 : Vec F S1x512 .f32) (x13 : Vec F S1x512
  .f32) (x14 : Vec F S1x512 .f32) (x15 : Vec F S1x512 .f32) (x16 : Vec F S1024x1024 .bf16) (x17 : Vec F S512x512
  .bf16) (G : Vec F S544x512 .f32)

set_option maxHeartbeats 4000000 in
/-- The stores the body makes at the first grid point, with the proof that it makes them. -/
def ranA (c : Dev nD) (i : grid0.Coords) (hc0 : cond0_0 i) :
    { S : Stores F // ∀ R, Given arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 x1 x2 x3 x4 x5 x6 x7 x8 x9 x10 x11 x12 x13 x14 x15 x16 x17 G c R
      ⊢ wp frame (wpE (defs₀ (F := F)) Variants.none c none) Set.univ
  (cc0_mix_fwd i arg1 harg1 arg2 harg2 arg3 harg3 arg4 harg4 arg5 harg5 arg6 harg6 arg7 harg7 arg8 harg8 arg9 harg9
  arg10 harg10 arg11 harg11 arg12 harg12 arg13 harg13 arg14 harg14 arg15 harg15 arg16 harg16 arg17 harg17 arg18
  harg18 arg19 harg19 arg20 harg20 arg21 harg21 arg22 harg22 arg23 harg23 arg24 harg24 arg25 harg25 arg26 harg26
  arg27 harg27 arg28 harg28 arg29 harg29 arg30 harg30 arg31 harg31 arg32 harg32)
        fun _ => Leaves arg1 arg2 arg3 arg4 arg5 arg6 arg7 arg8 arg9 arg10 arg11 arg12 arg13 arg14 arg15 arg16 arg17 arg18 arg19 arg20 arg21 arg22 arg23 arg24 arg25 arg26 arg27 arg28 arg29 arg30 arg31 harg31 arg32 x1 x2 x3 x4 x5 x6 x7 x8 x9 x10 x11 x12 x13 x14 x15 x16 x17 G c R S } := by
  refine ⟨⟨?_, ?_, ?_, ?_, ?_, ?_, ?_, ?_, ?_, ?_, ?_, ?_, ?_, ?_, ?_⟩, fun R => ?_⟩
  rotate_left 15
  dsimp only
  refine (opened arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 arg26 arg27 arg28 arg29 arg30 arg31 harg31 arg32 x1 x2 x3 x4 x5 x6 x7 x8 x9 x10 x11 x12 x13 x14 x15 x16 x17 G c R).trans ?_
  unfold Held Leaves Inputs Any owns
  dsimp only
  iintro ⟨⟨H1, H2, H3, H4, H5, H6, H7, H8, H9, H10, H11, H12, H13, H14, H15, H16, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, H31, ⟨%d32, %f32, -, H32⟩, HR⟩
  rw [cc0_mix_fwd_eq_skeleton]; unfold cc0_mix_fwd_skel
  sl_exec_parts (disch := first | sl_exact hc0)
  sl_step
  isplitl [H1 H2 H3 H4 H5 H6 H7 H8 H9 H10 H11 H12 H13 H14 H15 H16 H17]
  · isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    iexists _; isplitr; · ipureintro; exact harg17.read_unread _
    iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexact H31
  isplitl [H32]; · iexists _; iexact H32
  iexact HR

end Body

end Cert.MixFwdIdeal.Fwd

end
-- ==== Proof.FwdRunB.lean ====
module

public import proofs.«01_k».proof.Proof.FwdOpen

/-! The run of the body at a later grid point. -/

@[expose] public section

set_option maxRecDepth 16384

noncomputable section

namespace Cert.MixFwdIdeal.Fwd

open Cert.MixFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section Body
variable
  (arg1 : Buffer S512x1024 .f32) (harg1 : arg1.IsWhole) (arg2 : Buffer S8x1024 .f32) (harg2 : arg2.IsWhole) (arg3 :
  Buffer S1x1024 .f32) (harg3 : arg3.IsWhole) (arg4 : Buffer S8x1024x256 .bf16) (harg4 : arg4.IsWhole) (arg5 :
  Buffer S1x2048 .f32) (harg5 : arg5.IsWhole) (arg6 : Buffer S1x512 .f32) (harg6 : arg6.IsWhole) (arg7 : Buffer
  S1x512 .f32) (harg7 : arg7.IsWhole) (arg8 : Buffer S1024x128 .bf16) (harg8 : arg8.IsWhole) (arg9 : Buffer S128x512
  .f32) (harg9 : arg9.IsWhole) (arg10 : Buffer S32x512 .f32) (harg10 : arg10.IsWhole) (arg11 : Buffer S1x512 .f32)
  (harg11 : arg11.IsWhole) (arg12 : Buffer S1x512 .f32) (harg12 : arg12.IsWhole) (arg13 : Buffer S1x512 .f32)
  (harg13 : arg13.IsWhole) (arg14 : Buffer S1x512 .f32) (harg14 : arg14.IsWhole) (arg15 : Buffer S1x512 .f32)
  (harg15 : arg15.IsWhole) (arg16 : Buffer S1024x1024 .bf16) (harg16 : arg16.IsWhole) (arg17 : Buffer S512x512
  .bf16) (harg17 : arg17.IsWhole) (arg18 : Buffer S512x1024 .f32) (harg18 : arg18.IsWhole) (arg19 : Buffer S512x1024
  .bf16) (harg19 : arg19.IsWhole) (arg20 : Buffer S512x1024 .f32) (harg20 : arg20.IsWhole) (arg21 : Buffer S512x512
  .f32) (harg21 : arg21.IsWhole) (arg22 : Buffer S512x1024 .bf16) (harg22 : arg22.IsWhole) (arg23 : Buffer S512x1024
  .f32) (harg23 : arg23.IsWhole) (arg24 : Buffer S512x512 .f32) (harg24 : arg24.IsWhole) (arg25 : Buffer S512x512
  .f32) (harg25 : arg25.IsWhole) (arg26 : Buffer S512x512 .f32) (harg26 : arg26.IsWhole) (arg27 : Buffer S512x512
  .f32) (harg27 : arg27.IsWhole) (arg28 : Buffer S512x128 .f32) (harg28 : arg28.IsWhole) (arg29 : Buffer S512x512
  .f32) (harg29 : arg29.IsWhole) (arg30 : Buffer S512x512 .f32) (harg30 : arg30.IsWhole) (arg31 : Buffer S544x512
  .f32) (harg31 : arg31.IsWhole) (arg32 : Buffer S7x536x512 .f32) (harg32 : arg32.IsWhole)
  (x1 : Vec F S512x1024 .f32) (x2 : Vec F S8x1024 .f32) (x3 : Vec F S1x1024 .f32) (x4 : Vec F S8x1024x256 .bf16) (x5
  : Vec F S1x2048 .f32) (x6 : Vec F S1x512 .f32) (x7 : Vec F S1x512 .f32) (x8 : Vec F S1024x128 .bf16) (x9 : Vec F
  S128x512 .f32) (x10 : Vec F S32x512 .f32) (x11 : Vec F S1x512 .f32) (x12 : Vec F S1x512 .f32) (x13 : Vec F S1x512
  .f32) (x14 : Vec F S1x512 .f32) (x15 : Vec F S1x512 .f32) (x16 : Vec F S1024x1024 .bf16) (x17 : Vec F S512x512
  .bf16) (G : Vec F S544x512 .f32)

set_option maxHeartbeats 4000000 in
/-- The stores the body makes at a later grid point, with the proof that it makes them. -/
def ranB (c : Dev nD) (i : grid0.Coords) (hc0 : ¬cond0_0 i) :
    { S : Stores F // ∀ R, Given arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 x1 x2 x3 x4 x5 x6 x7 x8 x9 x10 x11 x12 x13 x14 x15 x16 x17 G c R
      ⊢ wp frame (wpE (defs₀ (F := F)) Variants.none c none) Set.univ
  (cc0_mix_fwd i arg1 harg1 arg2 harg2 arg3 harg3 arg4 harg4 arg5 harg5 arg6 harg6 arg7 harg7 arg8 harg8 arg9 harg9
  arg10 harg10 arg11 harg11 arg12 harg12 arg13 harg13 arg14 harg14 arg15 harg15 arg16 harg16 arg17 harg17 arg18
  harg18 arg19 harg19 arg20 harg20 arg21 harg21 arg22 harg22 arg23 harg23 arg24 harg24 arg25 harg25 arg26 harg26
  arg27 harg27 arg28 harg28 arg29 harg29 arg30 harg30 arg31 harg31 arg32 harg32)
        fun _ => Leaves arg1 arg2 arg3 arg4 arg5 arg6 arg7 arg8 arg9 arg10 arg11 arg12 arg13 arg14 arg15 arg16 arg17 arg18 arg19 arg20 arg21 arg22 arg23 arg24 arg25 arg26 arg27 arg28 arg29 arg30 arg31 harg31 arg32 x1 x2 x3 x4 x5 x6 x7 x8 x9 x10 x11 x12 x13 x14 x15 x16 x17 G c R S } := by
  refine ⟨⟨?_, ?_, ?_, ?_, ?_, ?_, ?_, ?_, ?_, ?_, ?_, ?_, ?_, ?_, ?_⟩, fun R => ?_⟩
  rotate_left 15
  dsimp only
  refine (opened arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 arg26 arg27 arg28 arg29 arg30 arg31 harg31 arg32 x1 x2 x3 x4 x5 x6 x7 x8 x9 x10 x11 x12 x13 x14 x15 x16 x17 G c R).trans ?_
  unfold Held Leaves Inputs Any owns
  dsimp only
  iintro ⟨⟨H1, H2, H3, H4, H5, H6, H7, H8, H9, H10, H11, H12, H13, H14, H15, H16, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, H31, ⟨%d32, %f32, -, H32⟩, HR⟩
  rw [cc0_mix_fwd_eq_skeleton]; unfold cc0_mix_fwd_skel
  sl_exec_parts (disch := first | sl_exact hc0)
  sl_step
  isplitl [H1 H2 H3 H4 H5 H6 H7 H8 H9 H10 H11 H12 H13 H14 H15 H16 H17]
  · isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    iexists _; isplitr; · ipureintro; exact harg17.read_unread _
    iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexact H31
  isplitl [H32]; · iexists _; iexact H32
  iexact HR

end Body

end Cert.MixFwdIdeal.Fwd

end
-- ==== Proof.Mat3.lean ====
module
public import proofs.«01_k».proof.Proof.Mat2
public import Idealize.ShloMosaic.PureOps.Ideal.Laws

/-!
More operations on arrays of finite numbers as real matrices: the error function, means over 512 columns and
over groups of 64, the causal products of the heads, the shifted rows of the convolution, and concatenations
of column groups.
-/

@[expose] public section

set_option maxRecDepth 16384

open Idealize.ShloMosaic

namespace Mat

/-! ### The error function -/

/-- The error function of a real number. -/
noncomputable def erfR (r : ℝ) : ℝ := 2 / Real.sqrt Real.pi * ∫ t in (0 : ℝ)..r, Real.exp (-(t ^ 2))
/-- The error function of every entry. -/
noncomputable def Erf (f : RM) : RM := fun q d => erfR (f q d)

theorem lift_erf {s : Shape} {φ : FTy} (ℓ : Lay s) (f : RM) : erf (F := Ideal) (φ := φ) (Lift ℓ f) = Lift ℓ (Erf f) := rfl

theorem lift_hostErfc {s : Shape} {φ : FTy} (ℓ : Lay s) (f : RM) :
    Host.erfc (F := Ideal) (φ := φ) (Lift ℓ (-f)) = Lift ℓ (cst 1 + Erf f) :=
  funext fun i => (congrArg Ideal.erfc (EReal.coe_neg _)).trans ((Ideal.erfc_neg _).trans (EReal.coe_add _ _).symm)

/-! ### Literals -/

theorem w_512 : Ideal.ofBits .f32 0x44000000#32 = ((512 : ℝ) : EReal) := by
  simp [Ideal.ofBits, Ideal.ieee, -EReal.coe_mul]; norm_num
theorem w_64 : Ideal.ofBits .f32 0x42800000#32 = ((64 : ℝ) : EReal) := by
  simp [Ideal.ofBits, Ideal.ieee, -EReal.coe_mul]; norm_num
/-- The float nearest to the reciprocal root of two. -/
noncomputable def k2 : ℝ := 11863283 / 16777216
theorem w_c2 : Ideal.ofBits .f32 0x3F3504F3#32 = ((Mat.k2 : ℝ) : EReal) := by
  simp [Ideal.ofBits, Ideal.ieee, Mat.k2, -EReal.coe_mul]; norm_num
/-- The float nearest to the reciprocal root of twice `π`. -/
noncomputable def k3 : ℝ := 13386282 / 33554432
theorem w_c3 : Ideal.ofBits .f32 0x3ECC422A#32 = ((Mat.k3 : ℝ) : EReal) := by
  simp [Ideal.ofBits, Ideal.ieee, Mat.k3, -EReal.coe_mul]; norm_num

theorem lit_512 : Scalar.ofBits (F := Ideal) .f32 0x44000000#32 = ((512 : ℝ) : EReal) := w_512
theorem lit_64 : Scalar.ofBits (F := Ideal) .f32 0x42800000#32 = ((64 : ℝ) : EReal) := w_64
theorem lit_c2 : Scalar.ofBits (F := Ideal) .f32 0x3F3504F3#32 = ((Mat.k2 : ℝ) : EReal) := w_c2
theorem lit_c3 : Scalar.ofBits (F := Ideal) .f32 0x3ECC422A#32 = ((Mat.k3 : ℝ) : EReal) := w_c3

variable {m n : ℕ} (f g : RM)

theorem nz_512 : NZ (cst 512) := nz_cst (by norm_num)
theorem nz_64 : NZ (cst 64) := nz_cst (by norm_num)
theorem pos_ms5 : Pos (sumC n (f * f) * Inv (cst 512) + cst eps) := fun q _ =>
  add_pos_of_nonneg_of_pos (mul_nonneg (Finset.sum_nonneg fun k _ => mul_self_nonneg (f q k)) (by norm_num [Inv, cst])) eps_pos

/-- Arrays agree where the matrices do. -/
theorem lift_congr {f g : RM} (h : ∀ q d, q < m → d < n → f q d = g q d) : Lift (l2 m n) f = Lift (l2 m n) g :=
  funext fun i => congrArg Real.toEReal (h _ _ (i 0).isLt (i 1).isLt)

/-! ### Groups of 64 columns -/

/-- The sums over the groups of 64 columns, at every column of its group. -/
def gsum (f : RM) : RM := fun q d => ∑ e ∈ Finset.range 64, f q (64 * (d / 64) + e)
/-- The means of the groups. -/
noncomputable def gmean (f : RM) : RM := gsum f * Inv (cst 64)
/-- The matrix that takes the mean of every group. -/
noncomputable def grp : RM := fun a b => if a / 64 = b / 64 then 1 / 64 else 0

theorem pos_gms : Pos (gmean (f * f) + cst eps) := fun q _ =>
  add_pos_of_nonneg_of_pos (mul_nonneg (Finset.sum_nonneg fun k _ => mul_self_nonneg (f q _)) (by norm_num [Inv, cst])) eps_pos
theorem pos_gms' : Pos (gsum (f * f) * Inv (cst 64) + cst eps) := pos_gms f

theorem mm_grp (q d : ℕ) (hd : d < 512) : mm 512 f grp q d = gmean f q d := by
  show ∑ k ∈ Finset.range 512, f q k * (if k / 64 = d / 64 then 1 / 64 else 0) = (∑ e ∈ Finset.range 64, f q (64 * (d / 64) + e)) * (1 / 64)
  rw [show 512 = 64 * 8 by rfl, Finset.sum_range, ← (finProdFinEquiv (m := 8) (n := 64)).sum_comp, Fintype.sum_prod_type, Finset.sum_mul]
  rw [Finset.sum_eq_single (⟨d / 64, by omega⟩ : Fin 8)]
  · rw [Finset.sum_range]
    refine Finset.sum_congr rfl fun e _ => ?_
    have h : (finProdFinEquiv ((⟨d / 64, by omega⟩ : Fin 8), e)).val = 64 * (d / 64) + e.val := by
      simp [finProdFinEquiv]; omega
    have he := e.isLt
    rw [h, if_pos (by omega)]
  · intro b _ hb
    refine Finset.sum_eq_zero fun e _ => ?_
    have h : (finProdFinEquiv (b, e)).val = 64 * b.val + e.val := by
      simp [finProdFinEquiv]; omega
    have he := e.isLt
    have : b.val ≠ d / 64 := fun h => hb (Fin.ext h)
    rw [h, if_neg (by omega), mul_zero]
  · intro h; exact absurd (Finset.mem_univ _) h

theorem lift_grp : Lift (l2 m 512) (mm 512 f grp) = Lift (l2 m 512) (gmean f) := lift_congr fun q d _ hd => mm_grp f q d hd

theorem mm_zero (k : ℕ) : mm k 0 f = 0 := by
  funext q d
  exact Finset.sum_eq_zero fun e _ => zero_mul (f e d)

/-! ### The heads' products -/

/-- The first 64 columns of one matrix, the others of the other. -/
def half (a b : RM) : RM := fun q d => if d < 64 then a q d else b q d
/-- The products of a chunk of 128 rows: the columns of head `h` with the head's matrix. -/
def mixc (w v : RM) : RM := fun q d => ∑ s ∈ Finset.range 128, w (128 * (d / 64) + q) s * v s d
/-- The products of every chunk, and the bias of the row in its chunk. -/
def mixB (w v b : RM) : RM := fun q d =>
  ∑ s ∈ Finset.range 128, w (128 * (d / 64) + q % 128) s * v (128 * (q / 128) + s) d + b (q % 128) d

theorem mixB_rows (w v b : RM) (t : ℕ) : mixB w (rows (512 * t) v) b = rows (512 * t) (mixB w v b) := by
  funext q d
  have h1 : (512 * t + q) % 128 = q % 128 := by omega
  have h2 : ∀ s, 512 * t + (128 * (q / 128) + s) = 128 * ((512 * t + q) / 128) + s := by omega
  show ∑ s ∈ Finset.range 128, w (128 * (d / 64) + q % 128) s * v (512 * t + (128 * (q / 128) + s)) d + b (q % 128) d
    = ∑ s ∈ Finset.range 128, w (128 * (d / 64) + (512 * t + q) % 128) s * v (128 * ((512 * t + q) / 128) + s) d + b ((512 * t + q) % 128) d
  simp only [h1, h2]

/-- A column group of a concatenation of column groups. -/
theorem cat_cols {k N : ℕ} (xs : List ((s : Shape) × (s.Idx → EReal))) (h) (j : (⟨2, ![m, N]⟩ : Shape).Idx) (i : ℕ) (hk : 0 < k)
    (hi : i < xs.length) (hx : xs[i] = ⟨⟨2, ![m, k]⟩, Lift (l2 m k) g⟩)
    (hpre : (((xs.take i).map (·.1)).map fun s => if h : s.rank = 2 then s.size ((1 : Fin 2).cast h.symm) else 0).sum = k * i)
    (hj : (j 1).val / k = i) (e : g (j 0).val ((j 1).val % k) = f (j 0).val (j 1).val) :
    concatenate ⟨2, ![m, N]⟩ 1 xs h j = ((f (j 0).val (j 1).val : ℝ) : EReal) :=
  (concatenate_apply_piece 1 xs h j i hi ⟨2, ![m, k]⟩ (Lift (l2 m k) g) hx rfl (k * i) hpre
    (ix2 (j 0) ⟨(j 1).val % k, Nat.mod_lt _ hk⟩)
    (fun b hb => match b with
      | ⟨0, _⟩ => rfl
      | ⟨1, _⟩ => absurd rfl hb)
    (by subst hj; exact Nat.div_add_mod (j 1).val k)).trans (congrArg Real.toEReal e)

/-- A row group of a concatenation of row groups. -/
theorem cat_rows {k N : ℕ} (xs : List ((s : Shape) × (s.Idx → EReal))) (h) (j : (⟨2, ![N, n]⟩ : Shape).Idx) (i : ℕ) (hk : 0 < k)
    (hi : i < xs.length) (hx : xs[i] = ⟨⟨2, ![k, n]⟩, Lift (l2 k n) g⟩)
    (hpre : (((xs.take i).map (·.1)).map fun s => if h : s.rank = 2 then s.size ((0 : Fin 2).cast h.symm) else 0).sum = k * i)
    (hj : (j 0).val / k = i) (e : g ((j 0).val % k) (j 1).val = f (j 0).val (j 1).val) :
    concatenate ⟨2, ![N, n]⟩ 0 xs h j = ((f (j 0).val (j 1).val : ℝ) : EReal) :=
  (concatenate_apply_piece 0 xs h j i hi ⟨2, ![k, n]⟩ (Lift (l2 k n) g) hx rfl (k * i) hpre
    (ix2 ⟨(j 0).val % k, Nat.mod_lt _ hk⟩ (j 1))
    (fun b hb => match b with
      | ⟨0, _⟩ => absurd rfl hb
      | ⟨1, _⟩ => rfl)
    (by subst hj; exact Nat.div_add_mod (j 0).val k)).trans (congrArg Real.toEReal e)

/-- Concatenations agree where their four pieces do. -/
@[congr] theorem cat_congr4 {α : Type} {s t : Shape} {d : Fin t.rank} {x0 x1 x2 x3 y0 y1 y2 y3 : s.Idx → α} (h) (h0 : x0 = y0) (h1 : x1 = y1)
    (h2 : x2 = y2) (h3 : x3 = y3) : concatenate t d [⟨s, x0⟩, ⟨s, x1⟩, ⟨s, x2⟩, ⟨s, x3⟩] h = concatenate t d [⟨s, y0⟩, ⟨s, y1⟩, ⟨s, y2⟩, ⟨s, y3⟩] h := by
  subst h0 h1 h2 h3; rfl
/-- Concatenations agree where their eight pieces do. -/
@[congr] theorem cat_congr8 {α : Type} {s t : Shape} {d : Fin t.rank} {x0 x1 x2 x3 x4 x5 x6 x7 y0 y1 y2 y3 y4 y5 y6 y7 : s.Idx → α} (h) (h0 : x0 = y0)
    (h1 : x1 = y1) (h2 : x2 = y2) (h3 : x3 = y3) (h4 : x4 = y4) (h5 : x5 = y5) (h6 : x6 = y6) (h7 : x7 = y7) :
    concatenate t d [⟨s, x0⟩, ⟨s, x1⟩, ⟨s, x2⟩, ⟨s, x3⟩, ⟨s, x4⟩, ⟨s, x5⟩, ⟨s, x6⟩, ⟨s, x7⟩] h
      = concatenate t d [⟨s, y0⟩, ⟨s, y1⟩, ⟨s, y2⟩, ⟨s, y3⟩, ⟨s, y4⟩, ⟨s, y5⟩, ⟨s, y6⟩, ⟨s, y7⟩] h := by
  subst h0 h1 h2 h3 h4 h5 h6 h7; rfl
/-- Concatenations agree where their two pieces do. -/
@[congr] theorem cat_congr2 {α : Type} {s t : Shape} {d : Fin t.rank} {x0 x1 y0 y1 : s.Idx → α} (h) (h0 : x0 = y0) (h1 : x1 = y1) :
    concatenate t d [⟨s, x0⟩, ⟨s, x1⟩] h = concatenate t d [⟨s, y0⟩, ⟨s, y1⟩] h := by
  subst h0 h1; rfl

theorem lift_cat_mm8 (k : ℕ) (a w : RM) (h) :
    concatenate ⟨2, ![m, 2048]⟩ 1 [⟨⟨2, ![m, 256]⟩, Lift (l2 m 256) (mm k a w)⟩, ⟨⟨2, ![m, 256]⟩, Lift (l2 m 256) (mm k a (cols 256 w))⟩,
      ⟨⟨2, ![m, 256]⟩, Lift (l2 m 256) (mm k a (cols 512 w))⟩, ⟨⟨2, ![m, 256]⟩, Lift (l2 m 256) (mm k a (cols 768 w))⟩,
      ⟨⟨2, ![m, 256]⟩, Lift (l2 m 256) (mm k a (cols 1024 w))⟩, ⟨⟨2, ![m, 256]⟩, Lift (l2 m 256) (mm k a (cols 1280 w))⟩,
      ⟨⟨2, ![m, 256]⟩, Lift (l2 m 256) (mm k a (cols 1536 w))⟩, ⟨⟨2, ![m, 256]⟩, Lift (l2 m 256) (mm k a (cols 1792 w))⟩] h
      = Lift (l2 m 2048) (mm k a w) := by
  funext j
  have hj : (j 1).val < 2048 := (j 1).isLt
  have e : ∀ i, (j 1).val / 256 = i → ∀ q, mm k a (cols (256 * i) w) q ((j 1).val % 256) = mm k a w q (j 1).val := fun i hi q => by
    show ∑ x ∈ Finset.range k, a q x * w x (256 * i + (j 1).val % 256) = ∑ x ∈ Finset.range k, a q x * w x (j 1).val
    rw [show 256 * i + (j 1).val % 256 = (j 1).val by omega]
  have : (j 1).val / 256 = 0 ∨ (j 1).val / 256 = 1 ∨ (j 1).val / 256 = 2 ∨ (j 1).val / 256 = 3 ∨ (j 1).val / 256 = 4
    ∨ (j 1).val / 256 = 5 ∨ (j 1).val / 256 = 6 ∨ (j 1).val / 256 = 7 := by omega
  rcases this with q | q | q | q | q | q | q | q
  · exact cat_cols _ _ _ h j 0 (by decide) (by simp) rfl rfl q ((congrFun (congrFun (congrArg (mm k a) (cols_zero w).symm) _) _).trans (e 0 q _))
  · exact cat_cols _ _ _ h j 1 (by decide) (by simp) rfl rfl q (e 1 q _)
  · exact cat_cols _ _ _ h j 2 (by decide) (by simp) rfl rfl q (e 2 q _)
  · exact cat_cols _ _ _ h j 3 (by decide) (by simp) rfl rfl q (e 3 q _)
  · exact cat_cols _ _ _ h j 4 (by decide) (by simp) rfl rfl q (e 4 q _)
  · exact cat_cols _ _ _ h j 5 (by decide) (by simp) rfl rfl q (e 5 q _)
  · exact cat_cols _ _ _ h j 6 (by decide) (by simp) rfl rfl q (e 6 q _)
  · exact cat_cols _ _ _ h j 7 (by decide) (by simp) rfl rfl q (e 7 q _)

theorem half_mix (w v : RM) (p q d : ℕ) (hd : d / 128 = p) :
    half (mm 128 (rows (256 * p) w) (cols (128 * p) v)) (mm 128 (rows (256 * p + 128) w) (cols (128 * p) v)) q (d % 128) = mixc w v q d := by
  have h3 : 128 * p + d % 128 = d := by omega
  unfold half mixc
  split
  · rename_i hlt
    refine Finset.sum_congr rfl fun s _ => ?_
    show w (256 * p + q) s * v s (128 * p + d % 128) = _
    rw [h3, show 128 * (d / 64) + q = 256 * p + q by omega]
  · rename_i hlt
    refine Finset.sum_congr rfl fun s _ => ?_
    show w (256 * p + 128 + q) s * v s (128 * p + d % 128) = _
    rw [h3, show 128 * (d / 64) + q = 256 * p + 128 + q by omega]

theorem lift_cat_half (w v : RM) (h) :
    concatenate ⟨2, ![m, 512]⟩ 1 [⟨⟨2, ![m, 128]⟩, Lift (l2 m 128) (half (mm 128 w v) (mm 128 (rows 128 w) v))⟩,
      ⟨⟨2, ![m, 128]⟩, Lift (l2 m 128) (half (mm 128 (rows 256 w) (cols 128 v)) (mm 128 (rows 384 w) (cols 128 v)))⟩,
      ⟨⟨2, ![m, 128]⟩, Lift (l2 m 128) (half (mm 128 (rows 512 w) (cols 256 v)) (mm 128 (rows 640 w) (cols 256 v)))⟩,
      ⟨⟨2, ![m, 128]⟩, Lift (l2 m 128) (half (mm 128 (rows 768 w) (cols 384 v)) (mm 128 (rows 896 w) (cols 384 v)))⟩] h
      = Lift (l2 m 512) (mixc w v) := by
  funext j
  have hj : (j 1).val < 512 := (j 1).isLt
  have : (j 1).val / 128 = 0 ∨ (j 1).val / 128 = 1 ∨ (j 1).val / 128 = 2 ∨ (j 1).val / 128 = 3 := by omega
  rcases this with q | q | q | q
  · refine cat_cols _ _ _ h j 0 (by decide) (by simp) rfl rfl q (Eq.trans ?_ (half_mix w v 0 _ _ q))
    rw [show 256 * 0 = 0 from rfl, rows_zero, cols_zero]
  · exact cat_cols _ _ _ h j 1 (by decide) (by simp) rfl rfl q (half_mix w v 1 _ _ q)
  · exact cat_cols _ _ _ h j 2 (by decide) (by simp) rfl rfl q (half_mix w v 2 _ _ q)
  · exact cat_cols _ _ _ h j 3 (by decide) (by simp) rfl rfl q (half_mix w v 3 _ _ q)

theorem mix_rows (w v b : RM) (p q d : ℕ) (hq : q / 128 = p) :
    (mixc w (rows (128 * p) v) + b) (q % 128) d = mixB w v b q d := by
  subst hq
  rfl

theorem lift_cat_mix (w v b : RM) (h) :
    concatenate ⟨2, ![512, n]⟩ 0 [⟨⟨2, ![128, n]⟩, Lift (l2 128 n) (mixc w v + b)⟩, ⟨⟨2, ![128, n]⟩, Lift (l2 128 n) (mixc w (rows 128 v) + b)⟩,
      ⟨⟨2, ![128, n]⟩, Lift (l2 128 n) (mixc w (rows 256 v) + b)⟩, ⟨⟨2, ![128, n]⟩, Lift (l2 128 n) (mixc w (rows 384 v) + b)⟩] h
      = Lift (l2 512 n) (mixB w v b) := by
  funext j
  have hj : (j 0).val < 512 := (j 0).isLt
  have : (j 0).val / 128 = 0 ∨ (j 0).val / 128 = 1 ∨ (j 0).val / 128 = 2 ∨ (j 0).val / 128 = 3 := by omega
  rcases this with q | q | q | q
  · refine cat_rows _ _ _ h j 0 (by decide) (by simp) rfl rfl q (Eq.trans ?_ (mix_rows w v b 0 _ _ q))
    rw [Nat.mul_zero, rows_zero]
  · exact cat_rows _ _ _ h j 1 (by decide) (by simp) rfl rfl q (mix_rows w v b 1 _ _ q)
  · exact cat_rows _ _ _ h j 2 (by decide) (by simp) rfl rfl q (mix_rows w v b 2 _ _ q)
  · exact cat_rows _ _ _ h j 3 (by decide) (by simp) rfl rfl q (mix_rows w v b 3 _ _ q)

theorem lift_cat_l2 {k N : ℕ} (h) :
    concatenate ⟨2, ![m, N]⟩ 1 [⟨⟨2, ![m, k]⟩, Lift (l2 m k) f⟩, ⟨⟨2, ![m, k]⟩, Lift (l2 m k) g⟩] h
      = Lift (l2 m N) (Ffn.hcat k f g) := by
  funext j
  rw [concatenate_pair_apply]
  split
  · rename_i hlt
    exact congrArg Real.toEReal (if_pos hlt).symm
  · rename_i hlt
    exact congrArg Real.toEReal (if_neg hlt).symm

/-! ### Blocks -/

/-- `[8, 1024, 256]`: eight column groups of a matrix of 1024 rows. -/
def w8 : Lay ⟨3, ![8, 1024, 256]⟩ := ⟨fun i => (i 1).val, fun i => 256 * (i 0).val + (i 2).val⟩

theorem lift_ld_w8 {a : ℕ} (h) :
    View.ld (Val := Elt Ideal) (e' := .bf16) (Lift w8 f) (Rect.unit (s := ⟨3, ![8, 1024, 256]⟩) ![a, 0, 0] ![1, 1024, 256] h)
      = Lift (l3 1024 256) (cols (256 * a) f) :=
  funext fun i => congrArg Real.toEReal (congrArg₂ f ((Rect.idx_unit_val _ _ _ _ 1).trans (Nat.zero_add _)) (by
    have h0 : (i 0).val = 0 := val_of_one rfl _
    exact congrArg₂ (256 * · + ·) ((Rect.idx_unit_val _ _ _ _ 0).trans (congrArg (a + ·) h0)) ((Rect.idx_unit_val _ _ _ _ 2).trans (Nat.zero_add _))))

/-! ### The shifted rows of the convolution -/

/-- The rows after 32 rows of zeros. -/
def lag (f : RM) : RM := fun r d => if r < 32 then 0 else f (r - 32) d
/-- The `k`th term of the convolution. -/
def tap (w e : RM) (k : ℕ) : RM := rowB (rows k w) * rows (2 + k) e
/-- The bias and the first `k` terms of the convolution. -/
def conv (w b e : RM) : ℕ → RM
  | 0 => rowB b
  | k + 1 => conv w b e k + tap w e k

theorem conv_rows (w b e : RM) (a k : ℕ) : conv w b (rows a e) k = rows a (conv w b e k) := by
  induction k with
  | zero => rfl
  | succ k ih =>
    show conv w b (rows a e) k + tap w (rows a e) k = rows a (conv w b e k) + rows a (tap w e k)
    rw [ih]
    refine congrArg _ ?_
    funext q d
    show w (k + 0) d * e (a + (2 + k + q)) d = w (k + 0) d * e (2 + k + (a + q)) d
    rw [show a + (2 + k + q) = 2 + k + (a + q) by omega]

attribute [mfld_simps] lift_erf lift_hostErfc lit_512 lit_64 lit_c2 lit_c3 nz_512 nz_64 pos_ms5 pos_gms pos_gms' lift_grp
  lift_cat_mm8 lift_cat_half lift_cat_mix lift_cat_l2 lift_ld_w8 mm_zero

end Mat

end
-- ==== Proof.FwdPay.lean ====
module
public import proofs.«01_k».proof.Proof.Mat3
public import proofs.«01_k».proof.Proof.Gen.MixFwdIdeal.Skeleton

/-!
The stages of the mixing step's forward pass as real matrices, and each word the kernel computes as one of them.
-/

@[expose] public section

set_option maxRecDepth 16384

noncomputable section

open Idealize.ShloMosaic Mat

namespace Fwd

/-- The normal distribution function. -/
def cdf (f : RM) : RM := cst (1 / 2) * (cst 1 + Erf (f * cst k2))
/-- The Gaussian error linear unit. -/
def gel (f : RM) : RM := f * cdf f
/-- Its derivative as the kernel computes it. -/
def dgel (f : RM) : RM := cdf f + f * (Ex (cst (-(1 / 2)) * f * f) * cst k3)
/-- Rows less their means. -/
def ctr (f : RM) : RM := f - colB (sumC 512 f * Inv (cst 512))
/-- The reciprocal root of the mean square of every row of 512. -/
def rl (g : RM) : RM := Rsq (sumC 512 (g * g) * Inv (cst 512) + cst eps)
/-- Rows of 512 divided by the root of their mean square. -/
def nrm5 (g : RM) : RM := g * colB (rl g)
/-- A weight and a bias on every row. -/
def aff (n g b : RM) : RM := n * rowB g + rowB b
/-- Groups less their means. -/
def gcen (f : RM) : RM := f - gmean f
/-- The reciprocal root of the mean square of every group. -/
def grs (f : RM) : RM := Rsq (gmean (gcen f * gcen f) + cst eps)
/-- The normalised groups. -/
def ghat (f : RM) : RM := gcen f * grs f
/-- A matrix times its sigmoid. -/
def sil (f : RM) : RM := f * Ffn.sgm f
/-- The two halves of the output norm. -/
def two (a b oa ob : RM) : RM := Ffn.hcat 512 (nrm5 a * rowB oa) (nrm5 b * rowB ob)
/-- The residual. -/
def res (x g o : RM) : RM := x + rowB g * o

end Fwd

namespace Cert.MixFwdIdeal.Fwd
open Cert.MixFwdIdeal.Gen _root_.Fwd _root_.Ffn

theorem d1 : (dot_S512x1024_S1024x256_S512x256_1_0_0_1_n_n : DotDims ⟨2, ![512, 1024]⟩ ⟨2, ![1024, 256]⟩ ⟨2, ![512, 256]⟩)
    = DotDims.plain 512 1024 256 := rfl
theorem d2 : (dot_S128x128_S128x128_S128x128_1_0_0_1_n_n : DotDims ⟨2, ![128, 128]⟩ ⟨2, ![128, 128]⟩ ⟨2, ![128, 128]⟩)
    = DotDims.plain 128 128 128 := rfl
theorem d3 : (dot_S512x512_S512x512_S512x512_1_0_0_1_n_n : DotDims ⟨2, ![512, 512]⟩ ⟨2, ![512, 512]⟩ ⟨2, ![512, 512]⟩)
    = DotDims.plain 512 512 512 := rfl
theorem d4 : (dot_S512x1024_S1024x1024_S512x1024_1_0_0_1_n_n : DotDims ⟨2, ![512, 1024]⟩ ⟨2, ![1024, 1024]⟩ ⟨2, ![512, 1024]⟩)
    = DotDims.plain 512 1024 1024 := rfl

variable (x sh s g h a b c e f z w v u oa ob lg lb o : RM)

/-- A block of 512 rows of 1024. -/
abbrev L (f : RM) := Lift (l2 512 1024) f
/-- A block of 512 rows of 512. -/
abbrev H (f : RM) := Lift (l2 512 512) f
/-- A block of 512 rows of 2048. -/
abbrev Z (f : RM) := Lift (l2 512 2048) f
/-- A block of 512 rows of 256. -/
abbrev B (f : RM) := Lift (l2 512 256) f
/-- A row of 1024. -/
abbrev R (f : RM) := Lift (l2 1 1024) f
/-- A row of 512. -/
abbrev R5 (f : RM) := Lift (l2 1 512) f
/-- A block of the first weights. -/
abbrev W3 (f : RM) := Lift (l3 1024 256) f
/-- A head's matrix. -/
abbrev S (f : RM) := Lift (l2 128 128) f
/-- A chunk. -/
abbrev Q (f : RM) := Lift (l2 128 512) f
/-- A column. -/
abbrev C (f : RM) := Lift (l2 512 1) f
/-- A window of the shifted rows. -/
abbrev E3 (f : RM) := Lift (l3 512 512) f

theorem p1 : k0_pay1 (F := Ideal) (L x) = L x := by simp only [k0_pay1, mfld_simps]
theorem p2 : k0_pay2 (F := Ideal) (R x) = R x := by simp only [k0_pay2, mfld_simps]
theorem p3 : k0_pay3 (F := Ideal) (L x) (R sh) (R s) (R g) = L (ada x sh s g) := by
  simp only [k0_pay3, multiReductionOpen, p1, mfld_simps]; rfl
theorem p4 : k0_pay4 (F := Ideal) (L x) (R sh) (R s) (R g) (W3 w) = B (mm 1024 (ada x sh s g) w) := by
  simp only [k0_pay4, p3, d1, mfld_simps]
theorem p5 : k0_pay5 (F := Ideal) (W3 w) = Lift (l2 1024 256) w := by simp only [k0_pay5, mfld_simps]
theorem p6 : k0_pay6 (F := Ideal) (L h) (B (mm 1024 h w)) (Lift (l2 1024 256) (cols 256 w)) (B (cst 0)) (W3 (cols 512 w)) (W3 (cols 768 w))
    (W3 (cols 1024 w)) (W3 (cols 1280 w)) (W3 (cols 1536 w)) (W3 (cols 1792 w)) (Lift (l2 1 2048) b) = Z (mm 1024 h w + rowB b) := by
  simp only [k0_pay6, d1, mfld_simps]
theorem p7 : k0_pay7 (F := Ideal) (L h) (B (mm 1024 h w)) (Lift (l2 1024 256) (cols 256 w)) (B (cst 0)) (W3 (cols 512 w)) (W3 (cols 768 w))
    (W3 (cols 1024 w)) (W3 (cols 1280 w)) (W3 (cols 1536 w)) (W3 (cols 1792 w)) (Lift (l2 1 2048) b) = L (cols 1024 (mm 1024 h w + rowB b)) := by
  simp only [k0_pay7, p6, mfld_simps]
theorem p8 : k0_pay8 (F := Ideal) (L h) (B (mm 1024 h w)) (Lift (l2 1024 256) (cols 256 w)) (B (cst 0)) (W3 (cols 512 w)) (W3 (cols 768 w))
    (W3 (cols 1024 w)) (W3 (cols 1280 w)) (W3 (cols 1536 w)) (W3 (cols 1792 w)) (Lift (l2 1 2048) b) = H (mm 1024 h w + rowB b) := by
  simp only [k0_pay8, p6, mfld_simps]
theorem p9 : k0_pay9 (F := Ideal) (L h) (B (mm 1024 h w)) (Lift (l2 1024 256) (cols 256 w)) (B (cst 0)) (W3 (cols 512 w)) (W3 (cols 768 w))
    (W3 (cols 1024 w)) (W3 (cols 1280 w)) (W3 (cols 1536 w)) (W3 (cols 1792 w)) (Lift (l2 1 2048) b)
    = H (Erf ((mm 1024 h w + rowB b) * cst k2)) := by
  simp only [k0_pay9, p8, mfld_simps]
theorem p10 : k0_pay10 (F := Ideal) (H (Erf (f * cst k2))) ((1 : ℝ) : EReal) = H (cdf f) := by simp only [k0_pay10, mfld_simps]; rfl
theorem p11 : k0_pay11 (F := Ideal) (H f) (H (Erf (f * cst k2))) ((1 : ℝ) : EReal) = H (gel f) := by
  simp only [k0_pay11, p10, mfld_simps]; rfl
theorem p12 : k0_pay12 (F := Ideal) (H f) (H (Erf (f * cst k2))) ((1 : ℝ) : EReal) = H (dgel f) := by
  simp only [k0_pay12, p10, mfld_simps]; rfl
theorem p13 : k0_pay13 (F := Ideal) (Z z) = H (cols 512 z) := by simp only [k0_pay13, mfld_simps]
theorem p14 : k0_pay14 (F := Ideal) (Z z) = H (cdf (cols 512 z)) := by simp only [k0_pay14, p13, mfld_simps]; rfl
theorem p15 : k0_pay15 (F := Ideal) (Z z) = H (dgel (cols 512 z)) := by simp only [k0_pay15, p13, p14, mfld_simps]; rfl
theorem p16 : k0_pay16 (F := Ideal) (Z z) = H (ctr (gel (cols 512 z))) := by
  simp only [k0_pay16, multiReductionOpen, p13, p14, mfld_simps]; rfl
theorem p17 : k0_pay17 (F := Ideal) (Z z) = H (ctr (gel (cols 512 z)) * ctr (gel (cols 512 z))) := by
  simp only [k0_pay17, p16, mfld_simps]
theorem p18 : k0_pay18 (F := Ideal) (H (g * g)) = C (rl g) := by simp only [k0_pay18, multiReductionOpen, mfld_simps]; rfl
theorem p19 : k0_pay19 (F := Ideal) (H g) (H (g * g)) = H (nrm5 g) := by simp only [k0_pay19, p18, mfld_simps]; rfl
theorem p20 : k0_pay20 (F := Ideal) (H (g * g)) = Lift (l2 512 128) (colB (rl g)) := by simp only [k0_pay20, p18, mfld_simps]
theorem p21 : k0_pay21 (F := Ideal) (H g) (H (g * g)) (R5 lg) (R5 lb) = H (aff (nrm5 g) lg lb) := by
  simp only [k0_pay21, p19, mfld_simps]; rfl

theorem slt_64 : ∀ n : Fin 128, IntOp.cmpi .slt (BitVec.ofNat 32 n.val) 64#32 = if n.val < 64 then 1#1 else 0#1 := by decide

theorem sel : select k0_pay22 (S a) (S b) = S (half a b) := by
  funext j
  have h : k0_pay22 j = if (j 1).val < 64 then 1#1 else 0#1 := by
    show IntOp.cmpi .slt (BitVec.ofNat 32 (0 * 128 + (j 1).val)) 64#32 = _
    rw [Nat.zero_mul, Nat.zero_add]
    exact slt_64 (j 1)
  show (if k0_pay22 j = 1 then _ else _) = ((if (j 1).val < 64 then a (j 0).val (j 1).val else b (j 0).val (j 1).val : ℝ) : EReal)
  rw [h]
  by_cases hj : (j 1).val < 64
  · rw [if_pos hj, if_pos hj]; rfl
  · rw [if_neg hj, if_neg hj]; rfl

theorem p23 : k0_pay23 (F := Ideal) (H g) (H (g * g)) (R5 lg) (R5 lb) = Q (aff (nrm5 g) lg lb) := by
  simp only [k0_pay23, p21, mfld_simps]
theorem p24 : k0_pay24 (F := Ideal) (H g) (H (g * g)) (R5 lg) (R5 lb) (S a) (S b)
    = S (half (mm 128 a (aff (nrm5 g) lg lb)) (mm 128 b (aff (nrm5 g) lg lb))) := by
  simp only [k0_pay24, p23, d2, sel, mfld_simps]
theorem p25 : k0_pay25 (F := Ideal) (H g) (H (g * g)) (R5 lg) (R5 lb) = S (cols 128 (aff (nrm5 g) lg lb)) := by
  simp only [k0_pay25, p23, mfld_simps]
theorem p26 : k0_pay26 (F := Ideal) (H g) (H (g * g)) (R5 lg) (R5 lb) (S a) = S (mm 128 a (cols 128 (aff (nrm5 g) lg lb))) := by
  simp only [k0_pay26, p25, d2, mfld_simps]
theorem p27 : k0_pay27 (F := Ideal) k0_pay22 (Q v) (S (half (mm 128 w v) (mm 128 (rows 128 w) v))) (S (cols 128 v))
    (S (mm 128 (rows 256 w) (cols 128 v))) (S (rows 384 w)) (S (rows 512 w)) (S (rows 640 w)) (S (rows 768 w)) (S (rows 896 w)) (Q b)
    = Q (mixc w v + b) := by
  simp only [k0_pay27, d2, sel, mfld_simps]
theorem p28 : k0_pay28 (F := Ideal) (H v) = Q (rows 128 v) := by simp only [k0_pay28, mfld_simps]
theorem p29 : k0_pay29 (F := Ideal) (H v) k0_pay22 (S a) (S b) = S (half (mm 128 a (rows 128 v)) (mm 128 b (rows 128 v))) := by
  simp only [k0_pay29, p28, d2, sel, mfld_simps]
theorem p30 : k0_pay30 (F := Ideal) (H v) = S (cols 128 (rows 128 v)) := by simp only [k0_pay30, p28, mfld_simps]
theorem p31 : k0_pay31 (F := Ideal) (S a) = S a := by simp only [k0_pay31, mfld_simps]
theorem p32 : k0_pay32 (F := Ideal) k0_pay22 (Q v) (S (half (mm 128 w v) (mm 128 (rows 128 w) v))) (S (cols 128 v))
    (S (rows 256 w)) (S (cst 0)) (S (rows 384 w)) (S (rows 512 w)) (S (rows 640 w)) (S (rows 768 w)) (S (rows 896 w)) (Q b)
    = Q (mixc w v + b) := by
  simp only [k0_pay32, d2, sel, mfld_simps]
theorem p33 : k0_pay33 (F := Ideal) (H v) = Q (rows 256 v) := by simp only [k0_pay33, mfld_simps]
theorem p34 : k0_pay34 (F := Ideal) (H v) k0_pay22 (S a) (S b) = S (half (mm 128 a (rows 256 v)) (mm 128 b (rows 256 v))) := by
  simp only [k0_pay34, p33, d2, sel, mfld_simps]
theorem p35 : k0_pay35 (F := Ideal) (H v) = S (cols 128 (rows 256 v)) := by simp only [k0_pay35, p33, mfld_simps]
theorem p36 : k0_pay36 (F := Ideal) k0_pay22 (Q v) (S (half (mm 128 w v) (mm 128 (rows 128 w) v))) (S (cols 128 v))
    (S (rows 256 w)) (S (rows 384 w)) (S (rows 512 w)) (S (rows 640 w)) (S (rows 768 w)) (S (rows 896 w)) (Q b)
    = Q (mixc w v + b) := by
  simp only [k0_pay36, d2, sel, mfld_simps]
theorem p37 : k0_pay37 (F := Ideal) (H v) = Q (rows 384 v) := by simp only [k0_pay37, mfld_simps]
theorem p38 : k0_pay38 (F := Ideal) (H v) k0_pay22 (S a) (S b) = S (half (mm 128 a (rows 384 v)) (mm 128 b (rows 384 v))) := by
  simp only [k0_pay38, p37, d2, sel, mfld_simps]
theorem p39 : k0_pay39 (F := Ideal) k0_pay22 (Q (mixc w v + b)) (Q (mixc w (rows 128 v) + b)) (Q (mixc w (rows 256 v) + b)) (Q (rows 384 v))
    (S (half (mm 128 w (rows 384 v)) (mm 128 (rows 128 w) (rows 384 v)))) (S (rows 256 w)) (S (rows 384 w)) (S (rows 512 w)) (S (rows 640 w))
    (S (rows 768 w)) (S (rows 896 w)) (Q b) = H (mixB w v b) := by
  simp only [k0_pay39, d2, sel, mfld_simps]
theorem p40 : k0_pay40 (F := Ideal) (H u) k0_pay22 (Q (mixc w v + b)) (Q (mixc w (rows 128 v) + b)) (Q (mixc w (rows 256 v) + b)) (Q (rows 384 v))
    (S (half (mm 128 w (rows 384 v)) (mm 128 (rows 128 w) (rows 384 v)))) (S (rows 256 w)) (S (rows 384 w)) (S (rows 512 w)) (S (rows 640 w))
    (S (rows 768 w)) (S (rows 896 w)) (Q b) = H (u * mixB w v b) := by
  simp only [k0_pay40, p39, mfld_simps]

theorem p41 : k0_pay41 (F := Ideal) (Z z) = H (cols 1024 z) := by simp only [k0_pay41, mfld_simps]
theorem p42 : k0_pay42 (F := Ideal) (Z z) = H (Ex (-cols 1536 z)) := by simp only [k0_pay42, mfld_simps]
theorem p43 : k0_pay43 (F := Ideal) (H a) (H (Ex (-b))) = H (a * sgm b) := by simp only [k0_pay43, mfld_simps]; rfl
theorem p44 : k0_pay44 (F := Ideal) = Lift (l2 32 512) (cst 0) := by simp only [k0_pay44, mfld_simps]
theorem p45 : k0_pay45 (F := Ideal) (H a) (H (Ex (-b))) = H (a * sgm b) := by simp only [k0_pay45, p43, mfld_simps]
theorem p46 : k0_pay46 (F := Ideal) (Lift (l2 536 512) e) = Lift (l3 536 512) e := by simp only [k0_pay46, mfld_simps]
theorem p47 : k0_pay47 (F := Ideal) (Lift (l2 536 512) e) = Lift (l3 536 512) e := by simp only [k0_pay47, mfld_simps]
theorem p48 : k0_pay48 (F := Ideal) (Lift (l2 536 512) e) = Lift (l3 536 512) e := by simp only [k0_pay48, mfld_simps]
theorem p49 : k0_pay49 (F := Ideal) (Lift (l2 536 512) e) = Lift (l3 536 512) e := by simp only [k0_pay49, mfld_simps]
theorem p50 : k0_pay50 (F := Ideal) (Lift (l2 536 512) e) = Lift (l3 536 512) e := by simp only [k0_pay50, mfld_simps]
theorem p51 : k0_pay51 (F := Ideal) (Lift (l2 536 512) e) = Lift (l3 536 512) e := by simp only [k0_pay51, mfld_simps]
theorem p52 : k0_pay52 (F := Ideal) (Lift (l2 536 512) e) = Lift (l3 536 512) e := by simp only [k0_pay52, mfld_simps]
theorem p53 : k0_pay53 (F := Ideal) (R5 b) (R5 c) (E3 (rows 2 e)) (R5 (rows 1 c)) (E3 (rows 3 e)) = H (conv c b e 2) := by
  simp only [k0_pay53, mfld_simps]; rfl
theorem p54 : k0_pay54 (F := Ideal) (H (conv c b e 2)) (R5 (rows 2 c)) (E3 (rows 4 e)) (R5 (rows 3 c)) (E3 (rows 5 e)) (R5 (rows 4 c)) (E3 (rows 6 e))
    (R5 (rows 5 c)) (E3 (rows 7 e)) (R5 (rows 6 c)) (H (rows 8 e)) = H (conv c b e 7) := by
  simp only [k0_pay54, mfld_simps]; rfl
theorem p55 : k0_pay55 (F := Ideal) (H (conv c b e 7)) (R5 (rows 7 c)) (E3 (rows 9 e)) (R5 (rows 8 c)) (E3 (rows 10 e)) (R5 (rows 9 c)) (E3 (rows 11 e))
    (R5 (rows 10 c)) (E3 (rows 12 e)) (R5 (rows 11 c)) (E3 (rows 13 e)) = H (conv c b e 12) := by
  simp only [k0_pay55, mfld_simps]; rfl
theorem p56 : k0_pay56 (F := Ideal) (H (conv c b e 12)) (R5 (rows 12 c)) (E3 (rows 14 e)) (R5 (rows 13 c)) (E3 (rows 15 e)) (R5 (rows 14 c)) (H (rows 16 e))
    (R5 (rows 15 c)) (E3 (rows 17 e)) (R5 (rows 16 c)) (E3 (rows 18 e)) = H (conv c b e 17) := by
  simp only [k0_pay56, mfld_simps]; rfl
theorem p57 : k0_pay57 (F := Ideal) (R5 c) = R5 c := by simp only [k0_pay57, mfld_simps]
theorem p58 : k0_pay58 (F := Ideal) (H (conv c b e 17)) (R5 (rows 17 c)) (E3 (rows 19 e)) (R5 (rows 18 c)) (E3 (rows 20 e)) (R5 (rows 19 c))
    (E3 (rows 21 e)) (R5 (rows 20 c)) (E3 (rows 22 e)) (R5 (rows 21 c)) (E3 (rows 23 e)) = H (conv c b e 22) := by
  simp only [k0_pay58, mfld_simps]; rfl
theorem p59 : k0_pay59 (F := Ideal) (R5 c) = R5 c := by simp only [k0_pay59, mfld_simps]
theorem p60 : k0_pay60 (F := Ideal) (H (conv c b e 22)) (R5 (rows 22 c)) (H (rows 24 e)) (R5 (rows 23 c)) (E3 (rows 25 e)) (R5 (rows 24 c))
    (E3 (rows 26 e)) (R5 (rows 25 c)) (E3 (rows 27 e)) (R5 (rows 26 c)) (E3 (rows 28 e)) = H (conv c b e 27) := by
  simp only [k0_pay60, mfld_simps]; rfl
theorem p61 : k0_pay61 (F := Ideal) (R5 c) = R5 c := by simp only [k0_pay61, mfld_simps]
theorem p62 : k0_pay62 (F := Ideal) (H (conv c b e 27)) (R5 (rows 27 c)) (E3 (rows 29 e)) (R5 (rows 28 c)) (E3 (rows 30 e)) (R5 (rows 29 c))
    (E3 (rows 31 e)) (R5 (rows 30 c)) (H (rows 32 e)) = H (conv c b e 31) := by
  simp only [k0_pay62, mfld_simps]; rfl
theorem p63 : k0_pay63 (F := Ideal) (H g) = Lift (l2 32 512) (rows 480 g) := by simp only [k0_pay63, mfld_simps]
theorem p64 : k0_pay64 (F := Ideal) (H g) = H g := by simp only [k0_pay64, mfld_simps]
theorem p65 : k0_pay65 (F := Ideal) (H (conv c b e 27)) (R5 (rows 27 c)) (E3 (rows 29 e)) (R5 (rows 28 c)) (E3 (rows 30 e)) (R5 (rows 29 c))
    (E3 (rows 31 e)) (R5 (rows 30 c)) (H (rows 32 e)) (H grp) = H (gmean (conv c b e 31)) := by
  simp only [k0_pay65, p62, p64, d3, sub_self, add_zero, mfld_simps]
theorem p66 : k0_pay66 (F := Ideal) (H f) (H (gmean f)) = H (gcen f) := by simp only [k0_pay66, mfld_simps]; rfl
theorem p67 : k0_pay67 (F := Ideal) (H f) (H grp) (H (gmean f)) = H (grs f) := by
  simp only [k0_pay67, p66, d3, sub_self, add_zero, mfld_simps]; rfl
theorem p68 : k0_pay68 (F := Ideal) (H f) (H grp) (H (gmean f)) = H (ghat f) := by simp only [k0_pay68, p66, p67, mfld_simps]; rfl
theorem p69 : k0_pay69 (F := Ideal) (H f) (H grp) (H (gmean f)) (R5 lg) (R5 lb) = H (sil (aff (ghat f) lg lb)) := by
  simp only [k0_pay69, p68, mfld_simps]; rfl
theorem p70 : k0_pay70 (F := Ideal) (H f) = H (nrm5 f) := by simp only [k0_pay70, multiReductionOpen, mfld_simps]; rfl
theorem p71 : k0_pay71 (F := Ideal) (H b) (H (nrm5 a)) (R5 oa) (R5 ob) = L (two a b oa ob) := by
  simp only [k0_pay71, multiReductionOpen, mfld_simps]; rfl
theorem p72 : k0_pay72 (F := Ideal) (H b) (H (nrm5 a)) (R5 oa) (R5 ob) (Lift (l2 1024 1024) w) = L (mm 1024 (two a b oa ob) w) := by
  simp only [k0_pay72, p71, d4, mfld_simps]
theorem p73 : k0_pay73 (F := Ideal) (L x) (R g) (H b) (H (nrm5 a)) (R5 oa) (R5 ob) (Lift (l2 1024 1024) w)
    = L (res x g (mm 1024 (two a b oa ob) w)) := by
  simp only [k0_pay73, p72, mfld_simps]; rfl

end Cert.MixFwdIdeal.Fwd

end
-- ==== Proof.FwdSpec.lean ====
module
public import proofs.«01_k».proof.Proof.FwdPay

/-!
The whole forward pass of the mixing step as real matrices, and the layouts of the arrays the reference holds in
heads and groups.
-/

@[expose] public section

set_option maxRecDepth 16384

noncomputable section

open Idealize.ShloMosaic Mat

namespace Fwd

/-- The arguments: token rows, the rows of modulation, the norm's weight, the first product's weights and bias, the
gated half's weight and bias, the heads' matrices (their rows in one column) and biases, the convolution's weights and
bias, the group norm's weight and bias, the weights of the two output norms and of the last product. -/
structure Args where
  X : RM
  M : RM
  G1 : RM
  W : RM
  BI : RM
  LG : RM
  LB : RM
  SW : RM
  SB : RM
  CW : RM
  CB : RM
  GG : RM
  GB : RM
  OA : RM
  OB : RM
  WO : RM

/-- Heads' matrices below the diagonal. -/
def tri (w : RM) : RM := fun r s => if s ≤ r % 128 then w r s else 0
/-- The heads' biases at every column of a chunk. -/
def bias (b : RM) : RM := fun q d => b (d / 64) q

variable (p : Args)

/-- The normalised and modulated rows. -/
def h : RM := Ffn.ada p.X p.M (rows 1 p.M) p.G1
/-- The first product. -/
def z : RM := mm 1024 (h p) p.W + rowB p.BI
/-- The first quarter's activation. -/
def gu : RM := gel (z p)
/-- The second quarter's activation less its mean. -/
def cv : RM := ctr (gel (cols 512 (z p)))
/-- The second quarter normalised. -/
def vhat : RM := nrm5 (cv p)
/-- The factor of that norm. -/
def rsl : RM := colB (rl (cv p))
/-- The heads' operand. -/
def vn : RM := aff (vhat p) p.LG p.LB
/-- The heads' products. -/
def mixed : RM := mixB (tri p.SW) (vn p) (bias p.SB)
/-- The gated rows. -/
def gl : RM := cols 1024 (z p) * Ffn.sgm (cols 1536 (z p))
/-- The convolution. -/
def y0 : RM := conv p.CW p.CB (lag (gl p)) 31
/-- The normalised groups. -/
def yhat : RM := ghat (y0 p)
/-- The factor of that norm. -/
def rsg : RM := grs (y0 p)
/-- The second half of the last product's operand. -/
def yb : RM := sil (aff (yhat p) p.GG p.GB)
/-- The last product's operand. -/
def yy : RM := two (gu p * mixed p) (yb p) p.OA p.OB
/-- The last product. -/
def o : RM := mm 1024 (yy p) p.WO
/-- The residual. -/
def x1 : RM := res p.X (rows 2 p.M) (o p)

end Fwd

namespace Mat

variable {m n : ℕ} (f g : RM)

/-! ### Layouts in chunks, heads and groups -/

/-- `[1, 64, 128, 8, 64]`: rows in chunks, columns in heads. -/
def h5 : Lay ⟨5, ![1, 64, 128, 8, 64]⟩ := ⟨fun i => 128 * (i 1).val + (i 2).val, fun i => 64 * (i 3).val + (i 4).val⟩
/-- `[8, 1, 64, 64, 128]`: the same, the heads first and a chunk's rows last. -/
def d5 : Lay ⟨5, ![8, 1, 64, 64, 128]⟩ := ⟨fun i => 128 * (i 2).val + (i 4).val, fun i => 64 * (i 0).val + (i 3).val⟩
/-- `[8, 128, 128]`: heads' matrices. -/
def w3 : Lay ⟨3, ![8, 128, 128]⟩ := ⟨fun i => 128 * (i 0).val + (i 1).val, fun i => (i 2).val⟩
/-- `[1, 8, 128, 128]`: heads' matrices. -/
def w4 : Lay ⟨4, ![1, 8, 128, 128]⟩ := ⟨fun i => 128 * (i 1).val + (i 2).val, fun i => (i 3).val⟩
/-- `[m, 8, 64]`: columns in groups. -/
def g3 (m : ℕ) : Lay ⟨3, ![m, 8, 64]⟩ := ⟨fun i => (i 0).val, fun i => 64 * (i 1).val + (i 2).val⟩
/-- `[m, 8, 1]`: one column of every group. -/
def g31 (m : ℕ) : Lay ⟨3, ![m, 8, 1]⟩ := ⟨fun i => (i 0).val, fun i => 64 * (i 1).val⟩
/-- `[m, 8]`: one column of every group. -/
def g21 (m : ℕ) : Lay ⟨2, ![m, 8]⟩ := ⟨fun i => (i 0).val, fun i => 64 * (i 1).val⟩

theorem flat_h5 : Flat 512 h5 := fun i => ⟨by
  have h0 : (i 0).val = 0 := val_of_one rfl _
  have := Shape.rowMajor_val_five i
  exact this.trans (by simp [h5, h0]; ring), by
  have h3 : (i 3).val < 8 := (i 3).isLt
  have h4 : (i 4).val < 64 := (i 4).isLt
  show 64 * (i 3).val + (i 4).val < 512
  omega⟩
theorem flat_w3 : Flat 128 w3 := fun i => ⟨by
  have := Shape.rowMajor_val_three i
  exact this.trans (by simp [w3]; ring), (i 2).isLt⟩
theorem flat_w4 : Flat 128 w4 := fun i => ⟨by
  have h0 : (i 0).val = 0 := val_of_one rfl _
  have := Shape.rowMajor_val_four i
  exact this.trans (by simp [w4, h0]; ring), (i 3).isLt⟩
theorem flat_g3 : Flat 512 (g3 m) := fun i => ⟨by
  have := Shape.rowMajor_val_three i
  exact this.trans (by simp [g3]; ring), by
  have h1 : (i 1).val < 8 := (i 1).isLt
  have h2 : (i 2).val < 64 := (i 2).isLt
  show 64 * (i 1).val + (i 2).val < 512
  omega⟩

theorem lift_cast_l3_h5 (h) : shapeCast ⟨5, ![1, 64, 128, 8, 64]⟩ (Lift (l3 8192 512) f) h = Lift h5 f := lift_shapeCast f flat_l3 flat_h5 h
theorem lift_cast_h5_l2 (h) : shapeCast ⟨2, ![8192, 512]⟩ (Lift h5 f) h = Lift (l2 8192 512) f := lift_shapeCast f flat_h5 flat_l2 h
theorem lift_cast_w4_w3 (h) : shapeCast ⟨3, ![8, 128, 128]⟩ (Lift w4 f) h = Lift w3 f := lift_shapeCast f flat_w4 flat_w3 h
theorem lift_cast_l2_g3 (h) : shapeCast ⟨3, ![m, 8, 64]⟩ (Lift (l2 m 512) f) h = Lift (g3 m) f := lift_shapeCast f flat_l2 flat_g3 h
theorem lift_cast_g3_l2 (h) : shapeCast ⟨2, ![m, 512]⟩ (Lift (g3 m) f) h = Lift (l2 m 512) f := lift_shapeCast f flat_g3 flat_l2 h
theorem lift_cast_l3_r1 (h) : shapeCast ⟨1, ![n]⟩ (Lift (l3 1 n) f) h = Lift (r1 n) f := lift_shapeCast f flat_l3 flat_r1 h

theorem lift_slice_w3 {a : ℕ} (h) : extractStridedSlice ⟨3, ![1, 128, 128]⟩ ![a, 0, 0] (Lift w3 f) h = Lift (l3 128 128) (rows (128 * a) f) :=
  funext fun i => congrArg Real.toEReal (congrArg₂ f (by
    have h0 : (i 0).val = 0 := val_of_one rfl _
    show 128 * (a + (i 0).val) + (0 + (i 1).val) = 128 * a + (i 1).val
    omega) (Nat.zero_add _))
theorem lift_slice_l3_rows {N a : ℕ} (h) : extractStridedSlice ⟨3, ![1, m, n]⟩ ![0, a, 0] (Lift (l3 N n) f) h = Lift (l3 m n) (rows a f) :=
  funext fun i => congrArg Real.toEReal (congrArg₂ f rfl (Nat.zero_add _))

theorem lift_bid_row2 (h) : broadcastInDim ⟨2, ![m, n]⟩ (no_index ![0, 1]) h (Lift (l2 1 n) f) = Lift (l2 m n) (rowB f) :=
  funext fun i => congrArg Real.toEReal (congrArg₂ f (val_of_one rfl _) (bid_val Iff.rfl _ _ _ fun e => val_of_one e (i 1)))
theorem lift_bid_col2 (h) : broadcastInDim ⟨2, ![m, n]⟩ (no_index ![0, 1]) h (Lift (l2 m 1) f) = Lift (l2 m n) (colB f) :=
  funext fun i => congrArg Real.toEReal (congrArg₂ f (bid_val Iff.rfl _ _ _ fun e => val_of_one e (i 0)) (val_of_one rfl _))
theorem lift_bid_l2_l3' (h) : broadcastInDim ⟨3, ![1, m, n]⟩ (no_index ![1, 2]) h (Lift (l2 m n) f) = Lift (l3 m n) f :=
  funext fun i => congrArg Real.toEReal (congrArg₂ f (bid_val Iff.rfl _ _ _ fun e => val_of_one e (i 1))
    (bid_val Iff.rfl _ _ _ fun e => val_of_one e (i 2)))
theorem lift_bid_c1_l2 (h) : broadcastInDim ⟨2, ![m, 1]⟩ (no_index ![0]) h (Lift (c1 m) f) = Lift (l2 m 1) f :=
  funext fun i => congrArg Real.toEReal (congrArg₂ f (bid_val Iff.rfl _ _ _ fun e => val_of_one e (i 0)) (val_of_one rfl _).symm)
theorem lift_bid_g21_g31 (h) : broadcastInDim ⟨3, ![m, 8, 1]⟩ (no_index ![0, 1]) h (Lift (g21 m) f) = Lift (g31 m) f :=
  funext fun i => congrArg Real.toEReal (congrArg₂ f (bid_val Iff.rfl _ _ _ fun e => val_of_one e (i 0))
    (congrArg (64 * ·) (bid_val Iff.rfl _ _ _ fun e => val_of_one e (i 1))))
/-- The first column of every group at all its columns. -/
def grpB (f : RM) : RM := fun q d => f q (64 * (d / 64))
theorem lift_bid_g31_g3 (h) : broadcastInDim ⟨3, ![m, 8, 64]⟩ (no_index ![0, 1, 2]) h (Lift (g31 m) f) = Lift (g3 m) (grpB f) :=
  funext fun i => congrArg Real.toEReal (congrArg₂ f (bid_val Iff.rfl _ _ _ fun e => val_of_one e (i 0))
    ((congrArg (64 * ·) (bid_val Iff.rfl _ _ _ fun e => val_of_one e (i 1))).trans (by
      have h2 : (i 2).val < 64 := (i 2).isLt
      show 64 * (i 1).val = 64 * ((64 * (i 1).val + (i 2).val) / 64)
      omega)))
theorem lift_broadcast_g31 (r : ℝ) : broadcast (⟨3, ![m, 8, 1]⟩ : Shape) ((r : ℝ) : EReal) = Lift (g31 m) (cst r) := rfl
theorem grpB_gmean : grpB (gmean f) = gmean f := by
  funext q d
  show (∑ e ∈ Finset.range 64, f q (64 * (64 * (d / 64) / 64) + e)) * _ = _
  rw [Nat.mul_div_cancel_left _ (by norm_num : 0 < 64)]
  rfl
theorem grpB_grs : grpB (Fwd.grs f) = Fwd.grs f := by
  funext q d
  exact congrArg (fun a => (Real.sqrt (a + eps))⁻¹) (congrFun (congrFun (grpB_gmean (Fwd.gcen f * Fwd.gcen f)) q) d)
theorem f_gmean : gsum f * Inv (cst 64) = gmean f := rfl

theorem lift_sum_g3 {u : Shape} (h hu) :
    Host.reduceAdd (F := Ideal) (φ := .f32) (axes := no_index [2]) (t := ⟨2, ![m, 8]⟩) (Lift (g3 m) f) (broadcast u ((0 : ℝ) : EReal)) h hu
      = Lift (g21 m) (gsum f) := by
  funext i
  pointwise [Lift, g3, g21, gsum]
  simp [coe_sum_range]
theorem lift_sum_l2 {u : Shape} (h hu) :
    Host.reduceAdd (F := Ideal) (φ := .f32) (axes := no_index [1]) (t := ⟨1, ![m]⟩) (Lift (l2 m n) f) (broadcast u ((0 : ℝ) : EReal)) h hu
      = Lift (c1 m) (sumC n f) := by
  funext i
  pointwise [Lift, l2, c1, sumC]
  simp [coe_sum_range]

/-! ### Heads -/

/-- The products of every chunk with the heads' matrices. -/
def heads (w v : RM) : RM := fun q d => ∑ s ∈ Finset.range 128, w (128 * (d / 64) + q % 128) s * v (128 * (q / 128) + s) d
theorem heads_sum (w v : RM) (i : (⟨5, ![8, 1, 64, 64, 128]⟩ : Shape).Idx) :
    (∑ k : Fin 128, ((v (128 * (i 2).val + k.val) (64 * (i 0).val + (i 3).val) : ℝ) : EReal)
      * ((w (128 * (i 0).val + (i 4).val) k.val : ℝ) : EReal)) = Lift d5 (heads w v) i := by
  have h3 : (i 3).val < 64 := (i 3).isLt
  have h4 : (i 4).val < 128 := (i 4).isLt
  show _ = ((∑ s ∈ Finset.range 128, w (128 * ((64 * (i 0).val + (i 3).val) / 64) + (128 * (i 2).val + (i 4).val) % 128) s
    * v (128 * ((128 * (i 2).val + (i 4).val) / 128) + s) (64 * (i 0).val + (i 3).val) : ℝ) : EReal)
  rw [show (64 * (i 0).val + (i 3).val) / 64 = (i 0).val by omega, show (128 * (i 2).val + (i 4).val) % 128 = (i 4).val by omega,
    show (128 * (i 2).val + (i 4).val) / 128 = (i 2).val by omega, coe_sum_range]
  exact Finset.sum_congr rfl fun k _ => by rw [EReal.coe_mul, mul_comm]
theorem lift_transpose_d5 (h) : transpose ⟨5, ![1, 64, 128, 8, 64]⟩ [1, 2, 4, 0, 3] (Lift d5 f) h = Lift h5 f := rfl
/-- The heads' biases at every row of every chunk. -/
def chunkB (b : RM) : RM := fun q d => b (d / 64) (q % 128)
theorem heads_bias (w v b : RM) : heads w v + chunkB b = mixB w v (Fwd.bias b) := rfl

theorem lift_cat_lag (h) :
    concatenate ⟨2, ![8222, 512]⟩ 0 [⟨⟨2, ![30, 512]⟩, Lift (l2 30 512) (cst 0)⟩, ⟨⟨2, ![8192, 512]⟩, Lift (l2 8192 512) f⟩] h
      = Lift (l2 8222 512) (rows 2 (lag f)) := by
  funext j
  rw [concatenate_pair_apply]
  split
  · rename_i hlt
    exact congrArg Real.toEReal (if_pos (by show 2 + (j 0).val < 32; have : (j 0).val < 30 := hlt; omega)).symm
  · rename_i hlt
    have hn : ¬ (j 0).val < 30 := hlt
    refine congrArg Real.toEReal (Eq.trans ?_ (if_neg (by show ¬ 2 + (j 0).val < 32; omega)).symm)
    show f ((j 0).val - 30) (j 1).val = f (2 + (j 0).val - 32) (j 1).val
    rw [show 2 + (j 0).val - 32 = (j 0).val - 30 by omega]

attribute [mfld_simps] lift_cast_l3_h5 lift_cast_h5_l2 lift_cast_w4_w3 lift_cast_l2_g3 lift_cast_g3_l2 lift_cast_l3_r1 lift_slice_w3
  lift_slice_l3_rows lift_bid_row2 lift_bid_col2 lift_bid_l2_l3' lift_bid_c1_l2 lift_bid_g21_g31 lift_bid_g31_g3 lift_broadcast_g31
  lift_sum_g3 lift_sum_l2 lift_transpose_d5 lift_cat_lag

end Mat

end
-- ==== Proof.FwdRef.lean ====
module
public import proofs.«01_k».proof.Proof.FwdSpec
public import proofs.«01_k».proof.Proof.Gen.MixRefIdeal.Read

/-!
The results of the mixing step's reference as real matrices.
-/

@[expose] public section

set_option maxRecDepth 16384
set_option maxHeartbeats 1000000

noncomputable section

open Idealize.ShloMosaic Mat

namespace Fwd

theorem colB_sum (n : ℕ) (f : RM) : colB (sumC n f) = sumC n f := rfl

theorem conv_one (w b e : RM) : conv w b e 1 = rowB b + rowB w * rows 2 e := by
  simp only [conv, tap, rows_zero, Nat.add_zero]

theorem gel_eq (f : RM) : cst (1 / 2) * f * (cst 1 + Erf (f * cst k2)) = gel f := by
  rw [gel, cdf]
  ring

theorem mask : ∀ a b : Fin 128, IntOp.cmpi .sge (IntOp.addi (BitVec.ofNat 32 a.val) 0#32) (BitVec.ofNat 32 b.val) = if b.val ≤ a.val then 1#1 else 0#1 := by
  decide +kernel

end Fwd

namespace Cert.MixRefIdeal.Fwd

open Cert.MixRefIdeal Cert.MixRefIdeal.Gen Cert.MixRefIdeal.Read _root_.Fwd

variable (p : Args)

/-- The token rows. -/
abbrev X0 := Lift (l3 8192 1024) p.X
/-- The rows of the modulation. -/
abbrev X1 := Lift (g2 1024 6144) p.M
/-- The weight of the first norm. -/
abbrev X2 := Lift (l2 1 1024) p.G1
/-- The first product's weights. -/
abbrev X3 := Lift (l3 1024 2048) p.W
/-- Its bias. -/
abbrev X4 := Lift (l2 1 2048) p.BI
/-- The weight of the second quarter's norm. -/
abbrev X5 := Lift (l2 1 512) p.LG
/-- Its bias. -/
abbrev X6 := Lift (l2 1 512) p.LB
/-- The heads' matrices. -/
abbrev X7 := Lift w4 p.SW
/-- The heads' biases. -/
abbrev X8 := Lift (l3 8 128) p.SB
/-- The convolution's weights. -/
abbrev X9 := Lift (l3 31 512) p.CW
/-- Its bias. -/
abbrev X10 := Lift (l2 1 512) p.CB
/-- The weight of the groups' norm. -/
abbrev X11 := Lift (l2 1 512) p.GG
/-- Its bias. -/
abbrev X12 := Lift (l2 1 512) p.GB
/-- The weight of the first output norm. -/
abbrev X13 := Lift (l2 1 512) p.OA
/-- The weight of the second output norm. -/
abbrev X14 := Lift (l2 1 512) p.OB
/-- The last product's weights. -/
abbrev X15 := Lift (l3 1024 1024) p.WO

/-- An array of token rows. -/
abbrev T (f : RM) := Lift (l3 8192 1024) f
/-- An array of rows of 512. -/
abbrev H (f : RM) := Lift (l3 8192 512) f
/-- An array of rows of 512, without the leading axis. -/
abbrev H2 (f : RM) := Lift (l2 8192 512) f
/-- An array of rows of 1024, without the leading axis. -/
abbrev T2 (f : RM) := Lift (l2 8192 1024) f

theorem v14 : val_main_v14 (F := Ideal) (X0 p) = Lift (l3 8192 1) (Ffn.rms p.X) := by
  simp only [val_main_v14, val_main_v13, val_main_v12, val_main_v11, val_main_v10, val_main_v9, val_main_v8, val_main_v7, val_main_cst, val_main_cst_0, val_main_cst_1, colB_sum, mfld_simps]; rfl
theorem v19 : val_main_v19 (F := Ideal) (X0 p) (X2 p) = T (Ffn.nrm p.X * rowB p.G1) := by
  simp only [val_main_v19, val_main_v18, val_main_v17, val_main_v16, val_main_v15, val_main_v6, v14, mfld_simps]; rfl
theorem v22 : val_main_v22 (F := Ideal) (X1 p) = Lift (l3 1 1024) (cst 1 + rows 1 p.M) := by
  simp only [val_main_v22, val_main_v21, val_main_v20, val_main_v1, val_main_cst_2, mfld_simps]
theorem v27 : val_main_v27 (F := Ideal) (X0 p) (X1 p) (X2 p) = T (h p) := by
  simp only [val_main_v27, val_main_v26, val_main_v25, val_main_v24, val_main_v23, val_main_v0, v19, v22, mfld_simps]; rfl
theorem v28 : val_main_v28 (F := Ideal) (X3 p) = Lift (l2 1024 2048) p.W := by
  simp only [val_main_v28, mfld_simps]
theorem v29 : val_main_v29 (F := Ideal) (X0 p) (X1 p) (X2 p) (X3 p) = Lift (l3 8192 2048) (mm 1024 (h p) p.W) := by
  funext i
  rw [val_main_v29_apply, v27, v28]
  simp only [Lift, l3, mm, coe_sum_range, EReal.coe_mul]
  rfl
theorem v33 : val_main_v33 (F := Ideal) (X0 p) (X1 p) (X2 p) (X3 p) (X4 p) = Lift (l3 8192 2048) (z p) := by
  simp only [val_main_v33, val_main_v32, val_main_v31, val_main_v30, v29, mfld_simps]; rfl
theorem v44 : val_main_v44 (F := Ideal) (X0 p) (X1 p) (X2 p) (X3 p) (X4 p) = H (gu p) := by
  simp only [val_main_v44, val_main_v43, val_main_v42, val_main_v41, val_main_v40, val_main_v39, val_main_v38, val_main_v34, val_main_cst_3, val_main_cst_4, v33, neg_mul, gel_eq, mfld_simps]; rfl
theorem v51 : val_main_v51 (F := Ideal) (X0 p) (X1 p) (X2 p) (X3 p) (X4 p) = H (gel (cols 512 (z p))) := by
  simp only [val_main_v51, val_main_v50, val_main_v49, val_main_v48, val_main_v47, val_main_v46, val_main_v45, val_main_v35, val_main_cst_5, val_main_cst_6, v33, neg_mul, gel_eq, mfld_simps]
theorem v57 : val_main_v57 (F := Ideal) (X0 p) (X1 p) (X2 p) (X3 p) (X4 p) = H (cv p) := by
  simp only [val_main_v57, val_main_v56, val_main_v55, val_main_v54, val_main_v53, val_main_v52, val_main_cst_7, val_main_cst_8, v51, colB_sum, mfld_simps]; rfl
theorem v65 : val_main_v65 (F := Ideal) (X0 p) (X1 p) (X2 p) (X3 p) (X4 p) = Lift (l3 8192 1) (rl (cv p)) := by
  simp only [val_main_v65, val_main_v64, val_main_v63, val_main_v62, val_main_v61, val_main_v60, val_main_v59, val_main_v58, val_main_cst_9, val_main_cst_10, val_main_cst_11, v57, colB_sum, mfld_simps]; rfl
theorem v67 : val_main_v67 (F := Ideal) (X0 p) (X1 p) (X2 p) (X3 p) (X4 p) = H (vhat p) := by
  simp only [val_main_v67, val_main_v66, v57, v65, mfld_simps]; rfl
theorem v75 : val_main_v75 (F := Ideal) (X0 p) (X1 p) (X2 p) (X3 p) (X4 p) (X5 p) (X6 p) = H (vn p) := by
  simp only [val_main_v75, val_main_v74, val_main_v73, val_main_v72, val_main_v71, val_main_v70, val_main_v69, val_main_v68, v67, mfld_simps]; rfl
theorem v76 : val_main_v76 (F := Ideal) (X0 p) (X1 p) (X2 p) (X3 p) (X4 p) (X5 p) (X6 p) = Lift h5 (vn p) := by
  simp only [val_main_v76, v75, mfld_simps]
theorem v80 : val_main_v80 (F := Ideal) (X7 p) = Lift w3 p.SW := by
  simp only [val_main_v80, mfld_simps]
theorem v81 : val_main_v81 (F := Ideal) (X7 p) = Lift w3 (tri p.SW) := by
  funext i
  have h1 : (i 1).val < 128 := (i 1).isLt
  rw [val_main_v81_apply, v80]
  simp only [val_main_call1_v1_apply, val_main_v79_apply, val_main_v78_apply, val_main_call0_v4_apply, val_main_call0_v2_apply,
    val_main_call0_v0_apply, val_main_call0_v1_apply, val_main_call0_c_apply, val_main_call0_v3_apply, val_main_v77_apply, val_main_c_apply,
    val_main_call0_v5_apply, val_main_call0_c_0_apply, val_main_call1_v2_apply, val_main_call1_v0_apply, val_main_cst_12_apply, lit_zero]
  refine (congrArg (fun w => Scalar.select (Scalar.select w 1#1 0#1) (Lift w3 p.SW i) ((0 : ℝ) : EReal)) (mask (i 1) (i 2))).trans ?_
  show _ = ((if (i 2).val ≤ (128 * (i 0).val + (i 1).val) % 128 then p.SW (128 * (i 0).val + (i 1).val) (i 2).val else 0 : ℝ) : EReal)
  rw [show (128 * (i 0).val + (i 1).val) % 128 = (i 1).val by omega]
  split <;> rfl
theorem v82 : val_main_v82 (F := Ideal) (X0 p) (X1 p) (X2 p) (X3 p) (X4 p) (X5 p) (X6 p) (X7 p) = Lift d5 (heads (tri p.SW) (vn p)) := by
  funext i
  rw [val_main_v82_apply, v76, v81]
  exact heads_sum _ _ i
theorem v83 : val_main_v83 (F := Ideal) (X0 p) (X1 p) (X2 p) (X3 p) (X4 p) (X5 p) (X6 p) (X7 p) = Lift h5 (heads (tri p.SW) (vn p)) := by
  rw [val_main_v83, v82]; exact lift_transpose_d5 _ _
theorem v87 : val_main_v87 (F := Ideal) (X8 p) = Lift h5 (chunkB p.SB) := by
  funext i
  have h2 : (i 2).val < 128 := (i 2).isLt
  have h4 : (i 4).val < 64 := (i 4).isLt
  have e : val_main_v84 (F := Ideal) (X8 p) = Lift (l2 8 128) p.SB := by simp only [val_main_v84, mfld_simps]
  rw [val_main_v87_apply, val_main_v86_apply, val_main_v85_apply, e]
  show ((p.SB (i 3).val (i 2).val : ℝ) : EReal) = ((p.SB ((64 * (i 3).val + (i 4).val) / 64) ((128 * (i 1).val + (i 2).val) % 128) : ℝ) : EReal)
  rw [show (64 * (i 3).val + (i 4).val) / 64 = (i 3).val by omega, show (128 * (i 1).val + (i 2).val) % 128 = (i 2).val by omega]
theorem v89 : val_main_v89 (F := Ideal) (X0 p) (X1 p) (X2 p) (X3 p) (X4 p) (X5 p) (X6 p) (X7 p) (X8 p) = H2 (mixed p) := by
  simp only [val_main_v89, val_main_v88, v83, v87, heads_bias, mfld_simps]; rfl
theorem v91 : val_main_v91 (F := Ideal) (X0 p) (X1 p) (X2 p) (X3 p) (X4 p) (X5 p) (X6 p) (X7 p) (X8 p) = H (gu p * mixed p) := by
  simp only [val_main_v91, val_main_v90, v44, v89, mfld_simps]
theorem v100 : val_main_v100 (F := Ideal) (X0 p) (X1 p) (X2 p) (X3 p) (X4 p) = H2 (gl p) := by
  simp only [val_main_v100, val_main_v99, val_main_v98, val_main_v97, val_main_v96, val_main_v95, val_main_v94, val_main_v93, val_main_v92, val_main_v37, val_main_v36, val_main_cst_13, val_main_cst_14, v33, mfld_simps]; rfl
theorem v101 : val_main_v101 (F := Ideal) = Lift (l2 30 512) (cst 0) := by
  simp only [val_main_v101, val_main_cst_15, mfld_simps]
theorem v102 : val_main_v102 (F := Ideal) (X0 p) (X1 p) (X2 p) (X3 p) (X4 p) = Lift (l2 8222 512) (rows 2 (lag (gl p))) := by
  rw [val_main_v102, v101, v100]; exact lift_cat_lag (gl p) _
theorem v110 : val_main_v110 (F := Ideal) (X0 p) (X1 p) (X2 p) (X3 p) (X4 p) (X9 p) (X10 p) = H2 (conv p.CW p.CB (lag (gl p)) 1) := by
  simp only [val_main_v110, val_main_v109, val_main_v108, val_main_v107, val_main_v106, val_main_v105, val_main_v104, val_main_v103, v102, conv_one, mfld_simps]
theorem v152 : val_main_v152 (F := Ideal) (X0 p) (X1 p) (X2 p) (X3 p) (X4 p) (X9 p) (X10 p) = H2 (conv p.CW p.CB (lag (gl p)) 7) := by
  simp only [val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, v110, v102, rows_rows, mfld_simps]; rfl
theorem v194 : val_main_v194 (F := Ideal) (X0 p) (X1 p) (X2 p) (X3 p) (X4 p) (X9 p) (X10 p) = H2 (conv p.CW p.CB (lag (gl p)) 13) := by
  simp only [val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, v152, v102, rows_rows, mfld_simps]; rfl
theorem v236 : val_main_v236 (F := Ideal) (X0 p) (X1 p) (X2 p) (X3 p) (X4 p) (X9 p) (X10 p) = H2 (conv p.CW p.CB (lag (gl p)) 19) := by
  simp only [val_main_v236, val_main_v235, val_main_v234, val_main_v233, val_main_v232, val_main_v231, val_main_v230, val_main_v229, val_main_v228, val_main_v227, val_main_v226, val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, v194, v102, rows_rows, mfld_simps]; rfl
theorem v278 : val_main_v278 (F := Ideal) (X0 p) (X1 p) (X2 p) (X3 p) (X4 p) (X9 p) (X10 p) = H2 (conv p.CW p.CB (lag (gl p)) 25) := by
  simp only [val_main_v278, val_main_v277, val_main_v276, val_main_v275, val_main_v274, val_main_v273, val_main_v272, val_main_v271, val_main_v270, val_main_v269, val_main_v268, val_main_v267, val_main_v266, val_main_v265, val_main_v264, val_main_v263, val_main_v262, val_main_v261, val_main_v260, val_main_v259, val_main_v258, val_main_v257, val_main_v256, val_main_v255, val_main_v254, val_main_v253, val_main_v252, val_main_v251, val_main_v250, val_main_v249, val_main_v248, val_main_v247, val_main_v246, val_main_v245, val_main_v244, val_main_v243, val_main_v242, val_main_v241, val_main_v240, val_main_v239, val_main_v238, val_main_v237, v236, v102, rows_rows, mfld_simps]; rfl
theorem v320 : val_main_v320 (F := Ideal) (X0 p) (X1 p) (X2 p) (X3 p) (X4 p) (X9 p) (X10 p) = H2 (conv p.CW p.CB (lag (gl p)) 31) := by
  simp only [val_main_v320, val_main_v319, val_main_v318, val_main_v317, val_main_v316, val_main_v315, val_main_v314, val_main_v313, val_main_v312, val_main_v311, val_main_v310, val_main_v309, val_main_v308, val_main_v307, val_main_v306, val_main_v305, val_main_v304, val_main_v303, val_main_v302, val_main_v301, val_main_v300, val_main_v299, val_main_v298, val_main_v297, val_main_v296, val_main_v295, val_main_v294, val_main_v293, val_main_v292, val_main_v291, val_main_v290, val_main_v289, val_main_v288, val_main_v287, val_main_v286, val_main_v285, val_main_v284, val_main_v283, val_main_v282, val_main_v281, val_main_v280, val_main_v279, v278, v102, rows_rows, mfld_simps]; rfl
theorem v321 : val_main_v321 (F := Ideal) (X0 p) (X1 p) (X2 p) (X3 p) (X4 p) (X9 p) (X10 p) = Lift (g3 8192) (y0 p) := by
  simp only [val_main_v321, v320, mfld_simps]; rfl
theorem v325 : val_main_v325 (F := Ideal) (X0 p) (X1 p) (X2 p) (X3 p) (X4 p) (X9 p) (X10 p) = Lift (g31 8192) (gmean (y0 p)) := by
  simp only [val_main_v325, val_main_v324, val_main_v323, val_main_v322, val_main_cst_16, val_main_cst_17, v321, f_gmean, mfld_simps]
theorem v327 : val_main_v327 (F := Ideal) (X0 p) (X1 p) (X2 p) (X3 p) (X4 p) (X9 p) (X10 p) = Lift (g3 8192) (gcen (y0 p)) := by
  simp only [val_main_v327, val_main_v326, v325, v321, grpB_gmean, mfld_simps]; rfl
theorem v335 : val_main_v335 (F := Ideal) (X0 p) (X1 p) (X2 p) (X3 p) (X4 p) (X9 p) (X10 p) = Lift (g31 8192) (rsg p) := by
  simp only [val_main_v335, val_main_v334, val_main_v333, val_main_v332, val_main_v331, val_main_v330, val_main_v329, val_main_v328, val_main_cst_18, val_main_cst_19, val_main_cst_20, v327, mfld_simps]; rfl
theorem v336 : val_main_v336 (F := Ideal) (X0 p) (X1 p) (X2 p) (X3 p) (X4 p) (X9 p) (X10 p) = Lift (g3 8192) (rsg p) := by
  simp only [val_main_v336, v335, mfld_simps]; rw [rsg, grpB_grs]
theorem v338 : val_main_v338 (F := Ideal) (X0 p) (X1 p) (X2 p) (X3 p) (X4 p) (X9 p) (X10 p) = H2 (yhat p) := by
  simp only [val_main_v338, val_main_v337, v336, v327, mfld_simps]; rfl
theorem v346 : val_main_v346 (F := Ideal) (X0 p) (X1 p) (X2 p) (X3 p) (X4 p) (X9 p) (X10 p) (X11 p) (X12 p) = H2 (aff (yhat p) p.GG p.GB) := by
  simp only [val_main_v346, val_main_v345, val_main_v344, val_main_v343, val_main_v342, val_main_v341, val_main_v340, val_main_v339, v338, mfld_simps]; rfl
theorem v347 : val_main_v347 (F := Ideal) (X0 p) (X1 p) (X2 p) (X3 p) (X4 p) (X9 p) (X10 p) (X11 p) (X12 p) = H2 (yb p) := by
  simp only [val_main_v347, val_main_call2_v5, val_main_call2_v4, val_main_call2_v3, val_main_call2_v2, val_main_call2_v1, val_main_call2_v0, val_main_call2_cst, val_main_call2_cst_0, v346, mfld_simps]; rfl
theorem v362 : val_main_v362 (F := Ideal) (X0 p) (X1 p) (X2 p) (X3 p) (X4 p) (X5 p) (X6 p) (X7 p) (X8 p) (X13 p) = H2 (nrm5 (gu p * mixed p) * rowB p.OA) := by
  simp only [val_main_v362, val_main_v361, val_main_v360, val_main_v359, val_main_v358, val_main_v357, val_main_v356, val_main_v355, val_main_v354, val_main_v353, val_main_v352, val_main_v351, val_main_v350, val_main_v349, val_main_v348, val_main_cst_21, val_main_cst_22, val_main_cst_23, v91, mfld_simps]; rfl
theorem v376 : val_main_v376 (F := Ideal) (X0 p) (X1 p) (X2 p) (X3 p) (X4 p) (X9 p) (X10 p) (X11 p) (X12 p) (X14 p) = H2 (nrm5 (yb p) * rowB p.OB) := by
  simp only [val_main_v376, val_main_v375, val_main_v374, val_main_v373, val_main_v372, val_main_v371, val_main_v370, val_main_v369, val_main_v368, val_main_v367, val_main_v366, val_main_v365, val_main_v364, val_main_v363, val_main_cst_24, val_main_cst_25, val_main_cst_26, v347, mfld_simps]; rfl
theorem v377 : val_main_v377 (F := Ideal) (X0 p) (X1 p) (X2 p) (X3 p) (X4 p) (X5 p) (X6 p) (X7 p) (X8 p) (X9 p) (X10 p) (X11 p) (X12 p) (X13 p) (X14 p) = T2 (yy p) := by
  simp only [val_main_v377, v362, v376, mfld_simps]; rfl
theorem v378 : val_main_v378 (F := Ideal) (X15 p) = Lift (l2 1024 1024) p.WO := by
  simp only [val_main_v378, mfld_simps]
theorem v379 : val_main_v379 (F := Ideal) (X0 p) (X1 p) (X2 p) (X3 p) (X4 p) (X5 p) (X6 p) (X7 p) (X8 p) (X9 p) (X10 p) (X11 p) (X12 p) (X13 p) (X14 p) (X15 p) = T2 (o p) := by
  funext i
  rw [val_main_v379_apply, v377, v378]
  simp only [Lift, l2, o, mm, coe_sum_range, EReal.coe_mul]
theorem v383 : val_main_v383 (F := Ideal) (X0 p) (X1 p) (X2 p) (X3 p) (X4 p) (X5 p) (X6 p) (X7 p) (X8 p) (X9 p) (X10 p) (X11 p) (X12 p) (X13 p) (X14 p) (X15 p) = T2 (x1 p) := by
  simp only [val_main_v383, val_main_v382, val_main_v381, val_main_v380, val_main_v2, v379, mfld_simps]; rfl
theorem v385 : val_main_v385 (F := Ideal) (X0 p) (X1 p) (X2 p) (X3 p) (X4 p) (X9 p) (X10 p) = H2 (rsg p) := by
  simp only [val_main_v385, val_main_v384, v335, mfld_simps]; rw [rsg, grpB_grs]
theorem v387 : val_main_v387 (F := Ideal) (X0 p) (X1 p) (X2 p) = T2 (h p) := by
  simp only [val_main_v387, val_main_v386, v27, mfld_simps]
theorem v389 : val_main_v389 (F := Ideal) (X0 p) (X1 p) (X2 p) (X3 p) (X4 p) = T2 (cols 1024 (z p)) := by
  simp only [val_main_v389, val_main_v388, v33, mfld_simps]
theorem v390 : val_main_v390 (F := Ideal) (X0 p) (X1 p) (X2 p) (X3 p) (X4 p) (X5 p) (X6 p) (X7 p) (X8 p) (X9 p) (X10 p) (X11 p) (X12 p) (X13 p) (X14 p) = T2 (yy p) := by
  simp only [val_main_v390, v377, mfld_simps]
theorem v391 : val_main_v391 (F := Ideal) (X0 p) (X1 p) (X2 p) (X3 p) (X4 p) = H2 (gu p) := by
  simp only [val_main_v391, v44, mfld_simps]
theorem v392 : val_main_v392 (F := Ideal) (X0 p) (X1 p) (X2 p) (X3 p) (X4 p) = H2 (vhat p) := by
  simp only [val_main_v392, v67, mfld_simps]
theorem v394 : val_main_v394 (F := Ideal) (X0 p) (X1 p) (X2 p) (X3 p) (X4 p) = Lift (l2 8192 128) (rsl p) := by
  simp only [val_main_v394, val_main_v393, v65, mfld_simps]; rfl

end Cert.MixRefIdeal.Fwd

end
-- ==== Proof.FwdHost.lean ====
module
public import proofs.«01_k».proof.Proof.FwdRef
public import proofs.«01_k».proof.Proof.Gen.MixFwdIdeal.Frame.Runs
public import Idealize.ShloMosaic.Lib.StableHlo.Run

/-!
The blocks that a point of the mixing step's forward call reads, as real matrices.
-/

@[expose] public section

set_option maxRecDepth 16384

noncomputable section

open Idealize.ShloMosaic Idealize.ShloMosaic.TcCoe Idealize.ShloMosaic.Tactic Mat

namespace Fwd

/-- Two rows of zeros after the six of the modulation. -/
def padM (f : RM) : RM := fun q d => if q < 6 then f q d else 0
/-- A row of zeros after the 31 of the convolution's weights. -/
def padC (f : RM) : RM := fun q d => if q < 31 then f q d else 0

/-- The arguments of the block of rows `t`. -/
def tile (p : Args) (t : ℕ) : Args := { p with X := rows (512 * t) p.X, M := padM p.M, CW := padC p.CW }

variable (p : Args) (t : ℕ)

theorem tile_h : h (tile p t) = rows (512 * t) (h p) := rfl
theorem tile_z : z (tile p t) = rows (512 * t) (z p) := rfl
theorem tile_gu : gu (tile p t) = rows (512 * t) (gu p) := rfl
theorem tile_vhat : vhat (tile p t) = rows (512 * t) (vhat p) := rfl
theorem tile_rsl : rsl (tile p t) = rows (512 * t) (rsl p) := rfl
theorem tile_vn : vn (tile p t) = rows (512 * t) (vn p) := rfl
theorem tile_mixed : mixed (tile p t) = rows (512 * t) (mixed p) := mixB_rows (tri p.SW) (vn p) (bias p.SB) t
theorem tile_gl : gl (tile p t) = rows (512 * t) (gl p) := rfl
theorem conv_pad (w b e : RM) : ∀ k ≤ 31, conv (padC w) b e k = conv w b e k := by
  intro k
  induction k with
  | zero => exact fun _ => rfl
  | succ k ih =>
    intro hk
    show conv (padC w) b e k + tap (padC w) e k = conv w b e k + tap w e k
    rw [ih (by omega)]
    refine congrArg _ (funext fun q => funext fun d => ?_)
    show (if k + 0 < 31 then w (k + 0) d else 0) * e (2 + k + q) d = w (k + 0) d * e (2 + k + q) d
    rw [if_pos (by omega)]
theorem tile_y0 : conv (tile p t).CW (tile p t).CB (rows (512 * t) (lag (gl p))) 31 = rows (512 * t) (y0 p) :=
  (conv_pad _ _ _ 31 le_rfl).trans (conv_rows _ _ _ _ _)

end Fwd

namespace Mat

variable (f : RM)

/-- `[1024, 8, 256]`: eight column groups of a matrix of 1024 rows. -/
def w8h : Lay ⟨3, ![1024, 8, 256]⟩ := ⟨fun i => (i 0).val, fun i => 256 * (i 1).val + (i 2).val⟩
theorem flat_w8h : Flat 2048 w8h := fun i => ⟨by
  have := Shape.rowMajor_val_three i
  exact this.trans (by simp [w8h]; ring), by
  have h1 : (i 1).val < 8 := (i 1).isLt
  have h2 : (i 2).val < 256 := (i 2).isLt
  show 256 * (i 1).val + (i 2).val < 2048
  omega⟩
theorem lift_cast_w8h (h) : shapeCast ⟨3, ![1024, 8, 256]⟩ (Lift (l2 1024 2048) f) h = Lift w8h f := lift_shapeCast f flat_l2 flat_w8h h
theorem lift_transpose_w8h (h) : transpose ⟨3, ![8, 1024, 256]⟩ [1, 0, 2] (Lift w8h f) h = Lift w8 f := rfl
theorem lift_cast_w3_l2 (h) : shapeCast ⟨2, ![1024, 128]⟩ (Lift w3 f) h = Lift (l2 1024 128) f := lift_shapeCast f flat_w3 flat_l2 h
theorem lift_bid_bias (b : RM) (h) : broadcastInDim ⟨3, ![128, 8, 64]⟩ (no_index ![0, 1]) h (Lift (l2 128 8) (tr b)) = Lift (g3 128) (Fwd.bias b) :=
  funext fun i => congrArg Real.toEReal (by
    have h2 : (i 2).val < 64 := (i 2).isLt
    refine congrArg₂ b ?_ ?_
    · refine Eq.trans (bid_val Iff.rfl _ _ _ fun e => val_of_one e (i 1)) ?_
      show (i 1).val = (64 * (i 1).val + (i 2).val) / 64
      omega
    · exact bid_val Iff.rfl _ _ _ fun e => val_of_one e (i 0))
theorem lift_cat_zero (h) :
    concatenate ⟨2, ![8, 1024]⟩ 0 [⟨⟨2, ![6, 1024]⟩, Lift (l2 6 1024) f⟩, ⟨⟨2, ![2, 1024]⟩, Lift (l2 2 1024) (cst 0)⟩] h
      = Lift (l2 8 1024) (Fwd.padM f) := by
  funext j
  rw [concatenate_pair_apply]
  split
  · rename_i hlt
    exact congrArg Real.toEReal (if_pos hlt).symm
  · rename_i hlt
    exact congrArg Real.toEReal (if_neg hlt).symm
theorem lift_pad {u : Shape} (v : u.Idx → EReal) (hv : ∀ i, v i = 0) (h hu) :
    pad (s := ⟨2, ![31, 512]⟩) ⟨2, ![32, 512]⟩ ![0, 0] ![1, 0] ![0, 0] (Lift (l2 31 512) f) v h hu = Lift (l2 32 512) (Fwd.padC f) := by
  funext j
  have h1 : (j 1).val < 512 := (j 1).isLt
  unfold pad
  by_cases h0 : (j 0).val < 31
  · rw [dif_pos]
    · refine congrArg Real.toEReal (Eq.trans ?_ (if_pos h0).symm)
      refine congrArg₂ f ?_ ?_
      · show ((j 0).val - 0) / (0 + 1) = (j 0).val
        omega
      · show ((j 1).val - 0) / (0 + 1) = (j 1).val
        omega
    · intro a
      match a with
      | ⟨0, _⟩ =>
        show 0 ≤ (j 0).val ∧ ((j 0).val - 0) % (0 + 1) = 0 ∧ ((j 0).val - 0) / (0 + 1) < 31
        omega
      | ⟨1, _⟩ =>
        show 0 ≤ (j 1).val ∧ ((j 1).val - 0) % (0 + 1) = 0 ∧ ((j 1).val - 0) / (0 + 1) < 512
        omega
  · rw [dif_neg, hv]
    · exact congrArg Real.toEReal (if_neg h0).symm
    · intro hin
      have := (hin ⟨0, by decide⟩).2.2
      have e : ((j 0).val - 0) / (0 + 1) < 31 := this
      omega

end Mat

namespace Cert.MixFwdIdeal.Fwd
open Cert.MixFwdIdeal.Gen _root_.Fwd
variable (m : (ℓ : Loc nD τ sig) → Buf (Elt Ideal) ℓ)

/-- Device `c`'s arguments are those of `p`. -/
structure Mem (c : Dev nD) (p : Args) : Prop where
  a0 : m (c.tc.loc main_arg0) = Lift (l3 8192 1024) p.X
  a1 : m (c.tc.loc main_arg1) = Lift (g2 1024 6144) p.M
  a2 : m (c.tc.loc main_arg2) = Lift (l2 1 1024) p.G1
  a3 : m (c.tc.loc main_arg3) = Lift (l3 1024 2048) p.W
  a4 : m (c.tc.loc main_arg4) = Lift (l2 1 2048) p.BI
  a5 : m (c.tc.loc main_arg5) = Lift (l2 1 512) p.LG
  a6 : m (c.tc.loc main_arg6) = Lift (l2 1 512) p.LB
  a7 : m (c.tc.loc main_arg7) = Lift w4 p.SW
  a8 : m (c.tc.loc main_arg8) = Lift (l3 8 128) p.SB
  a9 : m (c.tc.loc main_arg9) = Lift (l3 31 512) p.CW
  a10 : m (c.tc.loc main_arg10) = Lift (l2 1 512) p.CB
  a11 : m (c.tc.loc main_arg11) = Lift (l2 1 512) p.GG
  a12 : m (c.tc.loc main_arg12) = Lift (l2 1 512) p.GB
  a13 : m (c.tc.loc main_arg13) = Lift (l2 1 512) p.OA
  a14 : m (c.tc.loc main_arg14) = Lift (l2 1 512) p.OB
  a15 : m (c.tc.loc main_arg15) = Lift (l3 1024 1024) p.WO

variable {m} {c : Dev nD} {p : Args} (h : Mem m c p)
include h

theorem v_0 : V m c main_v0 = Lift (l2 8192 1024) p.X := by
  have e : V m c main_v0 = shapeCast _ (m (c.tc.loc main_arg0)) shapeCasts_S1x8192x1024_S8192x1024 := by
    unfold V hostOps0 hostOps0_1 hostOps0_2 hostOps0_3 hostOps0_4 hostOps0_5 hostOps0_6 hostOps0_7 hostOps0_8
    after_results_simp
    rfl
  rw [e, h.a0]
  exact lift_cast_l3_l2 _ _

theorem v_4 : V m c main_v4 = Lift w8 p.W := by
  have e : V m c main_v4 = truncf (F := Ideal) (φ := .f32) .bf16 (transpose S8x1024x256 [1, 0, 2]
      (shapeCast S1024x8x256 (shapeCast S1024x2048 (m (c.tc.loc main_arg3)) shapeCasts_S1x1024x2048_S1024x2048) shapeCasts_S1024x2048_S1024x8x256)
      transposes_S1024x8x256_S8x1024x256_1_0_2) bitsLt_bf16_f32 := by
    unfold V hostOps0 hostOps0_1 hostOps0_2 hostOps0_3 hostOps0_4 hostOps0_5 hostOps0_6 hostOps0_7 hostOps0_8
    after_results_simp
    rfl
  rw [e, h.a3, lift_cast_l3_l2, lift_cast_w8h]
  rfl

theorem v_6 : V m c main_v6 = Lift (l2 1024 1024) p.WO := by
  have e : V m c main_v6 = truncf (F := Ideal) (φ := .f32) .bf16 (shapeCast S1024x1024 (m (c.tc.loc main_arg15)) shapeCasts_S1x1024x1024_S1024x1024)
      bitsLt_bf16_f32 := by
    unfold V hostOps0 hostOps0_1 hostOps0_2 hostOps0_3 hostOps0_4 hostOps0_5 hostOps0_6 hostOps0_7 hostOps0_8
    after_results_simp
    rfl
  rw [e, h.a15, lift_cast_l3_l2]
  rfl

theorem v_9 : V m c main_v9 = Lift (l2 8 1024) (padM p.M) := by
  have e : V m c main_v9 = concatenate S8x1024 0 [⟨S6x1024, shapeCast _ (m (c.tc.loc main_arg1)) shapeCasts_S1x6144_S6x1024⟩,
      ⟨S2x1024, broadcastInDim S2x1024 ![] bcast_S_S2x1024 (constant (F := Ideal) S_ .f32 0x00000000#32)⟩] concatenates_S6x1024_S2x1024_S8x1024_d0 := by
    unfold V hostOps0 hostOps0_1 hostOps0_2 hostOps0_3 hostOps0_4 hostOps0_5 hostOps0_6 hostOps0_7 hostOps0_8
    after_results
    rfl
  rw [e, h.a1, lift_cast_g2_l2, lift_bid_splat (l2 2 1024) _ 0 (by simp [Ideal.ofBits, Ideal.ieee])]
  exact lift_cat_zero _ _

theorem v_11 : V m c main_v11 = Lift (l2 32 512) (padC p.CW) := by
  have e : V m c main_v11 = pad S32x512 ![0, 0] ![1, 0] ![0, 0] (shapeCast S31x512 (m (c.tc.loc main_arg9)) shapeCasts_S1x31x512_S31x512)
      (sitofp (F := Ideal) .f32 (constantI S_ 32 0#32)) pads_S31x512_S32x512_010_000 h_S_ := by
    unfold V hostOps0 hostOps0_1 hostOps0_2 hostOps0_3 hostOps0_4 hostOps0_5 hostOps0_6 hostOps0_7 hostOps0_8
    after_results_simp
    rfl
  rw [e, h.a9, lift_cast_l3_l2]
  refine lift_pad _ _ (fun i => ?_) _ _
  show (((0#32 : BitVec 32).toInt : ℝ) : EReal) = 0
  simp

theorem v_18 : V m c main_v18 = Lift (l2 1024 128) (tri p.SW) := by
  have e : V m c main_v18 = shapeCast S1024x128 (truncf (F := Ideal) (φ := .f32) .bf16 (select
      (broadcastInDim S8x128x128 ![0, 1, 2] bcast_S1x128x128_S8x128x128_0_1_2 (broadcastInDim S1x128x128 ![1, 2] bcast_S128x128_S1x128x128_1_2
        (select (cmpi .sge (addi (iotaInDim S128x128 32 0) (broadcastInDim S128x128 ![] bcast_S_S128x128 (constantI S_ 32 0#32))) (iotaInDim S128x128 32 1))
          (broadcastInDim S128x128 ![] bcast_S_S128x128 (constantI S_ 1 1#1)) (broadcastInDim S128x128 ![] bcast_S_S128x128 (constantI S_ 1 0#1)))))
      (shapeCast S8x128x128 (m (c.tc.loc main_arg7)) shapeCasts_S1x8x128x128_S8x128x128)
      (broadcastInDim S8x128x128 ![] bcast_S_S8x128x128 (constant (F := Ideal) S_ .f32 0x00000000#32))) bitsLt_bf16_f32) shapeCasts_S8x128x128_S1024x128 := by
    unfold V hostOps0 hostOps0_1 hostOps0_2 hostOps0_3 hostOps0_4 hostOps0_5 hostOps0_6 hostOps0_7 hostOps0_8
    after_results_simp
    rfl
  rw [e, h.a7, lift_cast_w4_w3]
  refine Eq.trans (congrArg (fun a => shapeCast S1024x128 a shapeCasts_S8x128x128_S1024x128) ?_) (lift_cast_w3_l2 (tri p.SW) _)
  funext i
  have h1 : (i 1).val < 128 := (i 1).isLt
  show Scalar.select (Scalar.select (IntOp.cmpi .sge (IntOp.addi (BitVec.ofNat 32 (i 1).val) 0#32) (BitVec.ofNat 32 (i 2).val)) 1#1 0#1)
    (Lift w3 p.SW i) (FloatOps.ofBits (F := Ideal) (φ := .f32) 0x00000000#32) = _
  rw [mask (i 1) (i 2), lit_zero]
  show _ = ((if (i 2).val ≤ (128 * (i 0).val + (i 1).val) % 128 then p.SW (128 * (i 0).val + (i 1).val) (i 2).val else 0 : ℝ) : EReal)
  rw [show (128 * (i 0).val + (i 1).val) % 128 = (i 1).val by omega]
  split <;> rfl

theorem v_22 : V m c main_v22 = Lift (l2 128 512) (bias p.SB) := by
  have e : V m c main_v22 = shapeCast S128x512 (broadcastInDim S128x8x64 ![0, 1] bcast_S128x8_S128x8x64_0_1 (transpose S128x8 [1, 0]
      (shapeCast S8x128 (m (c.tc.loc main_arg8)) shapeCasts_S1x8x128_S8x128) transposes_S8x128_S128x8_1_0)) shapeCasts_S128x8x64_S128x512 := by
    unfold V hostOps0 hostOps0_1 hostOps0_2 hostOps0_3 hostOps0_4 hostOps0_5 hostOps0_6 hostOps0_7 hostOps0_8
    after_results_simp
    rfl
  rw [e, h.a8, lift_cast_l3_l2]
  exact (congrArg (fun a => shapeCast S128x512 a shapeCasts_S128x8x64_S128x512) (lift_bid_bias p.SB _)).trans (lift_cast_g3_l2 _ _)

omit h in
/-- A shift by six is a division by 64. -/
theorem shr : ∀ a : Fin 512, IntOp.shrsi .host (BitVec.ofNat 32 a.val) 6#32 = BitVec.ofNat 32 (a.val / 64) := by decide +kernel

omit h in
theorem v_31 : V m c main_v31 = Lift (l2 512 512) grp := by
  have e : V m c main_v31 = truncf (F := Ideal) (φ := .f32) .bf16 (select
      (cmpi .eq (Host.shrsi (iotaInDim S512x512 32 0) (broadcastInDim S512x512 ![] bcast_S_S512x512 (constantI S_ 32 6#32)))
        (Host.shrsi (iotaInDim S512x512 32 1) (broadcastInDim S512x512 ![] bcast_S_S512x512 (constantI S_ 32 6#32))))
      (broadcastInDim S512x512 ![] bcast_S_S512x512 (constant (F := Ideal) S_ .f32 0x3C800000#32))
      (broadcastInDim S512x512 ![] bcast_S_S512x512 (constant (F := Ideal) S_ .f32 0x00000000#32))) bitsLt_bf16_f32 := by
    unfold V hostOps0 hostOps0_1 hostOps0_2 hostOps0_3 hostOps0_4 hostOps0_5 hostOps0_6 hostOps0_7 hostOps0_8
    after_results_simp
    rfl
  rw [e]
  funext i
  have h0 := shr (i 0)
  have h1 := shr (i 1)
  show Scalar.select (IntOp.cmpi .eq (IntOp.shrsi .host (BitVec.ofNat 32 (i 0).val) 6#32) (IntOp.shrsi .host (BitVec.ofNat 32 (i 1).val) 6#32))
    (Scalar.ofBits (F := Ideal) .f32 0x3C800000#32) (Scalar.ofBits (F := Ideal) .f32 0x00000000#32) = ((grp (i 0).val (i 1).val : ℝ) : EReal)
  rw [h0, h1, lit_zero, show Scalar.ofBits (F := Ideal) .f32 0x3C800000#32 = ((1 / 64 : ℝ) : EReal) from by
    simp [Scalar.ofBits, FloatOps.ofBits, Ideal.ofBits, Ideal.ieee, -EReal.coe_mul]; norm_num]
  unfold grp
  by_cases e : (i 0).val / 64 = (i 1).val / 64
  · rw [if_pos e, e]
    unfold IntOp.cmpi
    rw [beq_self_eq_true]
    rfl
  · rw [if_neg e]
    have hn : BitVec.ofNat 32 ((i 0).val / 64) ≠ BitVec.ofNat 32 ((i 1).val / 64) := fun q => e (by
      have a0 : (i 0).val < 512 := (i 0).isLt
      have a1 : (i 1).val < 512 := (i 1).isLt
      have := congrArg BitVec.toNat q
      rw [BitVec.toNat_ofNat, BitVec.toNat_ofNat] at this
      omega)
    unfold IntOp.cmpi
    rw [beq_eq_false_iff_ne.mpr hn]
    rfl

/-! ### The blocks -/

omit h in
/-- An entry of a matrix at an index of the same coordinates. -/
theorem lift_at {n k : ℕ} (f : RM) {i j : (⟨2, ![n, k]⟩ : Shape).Idx} (h0 : (i 0).val = 0 * n + 1 * (j 0).val) (h1 : (i 1).val = 0 * k + 1 * (j 1).val) :
    Lift (l2 n k) f i = Lift (l2 n k) f j :=
  congrArg Real.toEReal (congrArg₂ f (h0.trans (by rw [Nat.zero_mul, Nat.zero_add, Nat.one_mul]; rfl)) (h1.trans (by rw [Nat.zero_mul, Nat.zero_add, Nat.one_mul]; rfl)))

/-- The blocks of the operands at a point are those of `q`. -/
structure Blk (m : (ℓ : Loc nD τ sig) → Buf (Elt Ideal) ℓ) (c : Dev nD) (t : Fin cfg0.N) (q : Args) : Prop where
  b0 : iblk m c 0 t = Lift (l2 512 1024) q.X
  b1 : iblk m c 1 t = Lift (l2 8 1024) q.M
  b2 : iblk m c 2 t = Lift (l2 1 1024) q.G1
  b3 : iblk m c 3 t = Lift w8 q.W
  b4 : iblk m c 4 t = Lift (l2 1 2048) q.BI
  b5 : iblk m c 5 t = Lift (l2 1 512) q.LG
  b6 : iblk m c 6 t = Lift (l2 1 512) q.LB
  b7 : iblk m c 7 t = Lift (l2 1024 128) (tri q.SW)
  b8 : iblk m c 8 t = Lift (l2 128 512) (bias q.SB)
  b9 : iblk m c 9 t = Lift (l2 32 512) q.CW
  b10 : iblk m c 10 t = Lift (l2 1 512) q.CB
  b11 : iblk m c 11 t = Lift (l2 1 512) q.GG
  b12 : iblk m c 12 t = Lift (l2 1 512) q.GB
  b13 : iblk m c 13 t = Lift (l2 1 512) q.OA
  b14 : iblk m c 14 t = Lift (l2 1 512) q.OB
  b15 : iblk m c 15 t = Lift (l2 1024 1024) q.WO
  b16 : iblk m c 16 t = Lift (l2 512 512) grp

omit h in
theorem idx_0 : ∀ t : Fin cfg0.N, win0_0.index t 0 = t.val ∧ win0_0.index t 1 = 0 :=
  (by decide +kernel : ∀ t : Fin grid0.N, win0_0.index t 0 = t.val ∧ win0_0.index t 1 = 0)

set_option maxHeartbeats 4000000 in
/-- A point reads its rows of the token rows, and the other arguments whole. -/
theorem blk (t : Fin cfg0.N) : Blk m c t (tile p t.val) where
  b0 := by
    have hi := idx_0 t
    funext j
    unfold iblk
    rw [View.read_apply]
    show V m c main_v0 _ = _
    rw [v_0 h]
    refine congrArg Real.toEReal (congrArg₂ p.X ?_ ?_)
    · show win0_0.index t 0 * 512 + 1 * (j 0).val = 512 * t.val + (j 0).val
      rw [hi.1]; omega
    · show win0_0.index t 1 * 1024 + 1 * (j 1).val = (j 1).val
      rw [hi.2]; omega
  b1 := funext fun j => by unfold iblk; rw [View.read_apply]; exact (congrFun (v_9 h) _).trans (lift_at _ rfl rfl)
  b2 := funext fun j => by unfold iblk; rw [View.read_apply]; exact (congrFun ((V_main_arg2 m c).trans h.a2) _).trans (lift_at _ rfl rfl)
  b3 := funext fun j => by
    unfold iblk
    rw [View.read_apply]
    show V m c main_v4 _ = _
    rw [v_4 h]
    refine congrArg Real.toEReal (congrArg₂ p.W ?_ ?_)
    · show 0 * 1024 + 1 * (j 1).val = (j 1).val
      omega
    · show 256 * (0 * 8 + 1 * (j 0).val) + (0 * 256 + 1 * (j 2).val) = 256 * (j 0).val + (j 2).val
      omega
  b4 := funext fun j => by unfold iblk; rw [View.read_apply]; exact (congrFun ((V_main_arg4 m c).trans h.a4) _).trans (lift_at _ rfl rfl)
  b5 := funext fun j => by unfold iblk; rw [View.read_apply]; exact (congrFun ((V_main_arg5 m c).trans h.a5) _).trans (lift_at _ rfl rfl)
  b6 := funext fun j => by unfold iblk; rw [View.read_apply]; exact (congrFun ((V_main_arg6 m c).trans h.a6) _).trans (lift_at _ rfl rfl)
  b7 := funext fun j => by unfold iblk; rw [View.read_apply]; exact (congrFun (v_18 h) _).trans (lift_at _ rfl rfl)
  b8 := funext fun j => by unfold iblk; rw [View.read_apply]; exact (congrFun (v_22 h) _).trans (lift_at _ rfl rfl)
  b9 := funext fun j => by unfold iblk; rw [View.read_apply]; exact (congrFun (v_11 h) _).trans (lift_at _ rfl rfl)
  b10 := funext fun j => by unfold iblk; rw [View.read_apply]; exact (congrFun ((V_main_arg10 m c).trans h.a10) _).trans (lift_at _ rfl rfl)
  b11 := funext fun j => by unfold iblk; rw [View.read_apply]; exact (congrFun ((V_main_arg11 m c).trans h.a11) _).trans (lift_at _ rfl rfl)
  b12 := funext fun j => by unfold iblk; rw [View.read_apply]; exact (congrFun ((V_main_arg12 m c).trans h.a12) _).trans (lift_at _ rfl rfl)
  b13 := funext fun j => by unfold iblk; rw [View.read_apply]; exact (congrFun ((V_main_arg13 m c).trans h.a13) _).trans (lift_at _ rfl rfl)
  b14 := funext fun j => by unfold iblk; rw [View.read_apply]; exact (congrFun ((V_main_arg14 m c).trans h.a14) _).trans (lift_at _ rfl rfl)
  b15 := funext fun j => by unfold iblk; rw [View.read_apply]; exact (congrFun (v_6 h) _).trans (lift_at _ rfl rfl)
  b16 := funext fun j => by unfold iblk; rw [View.read_apply]; exact (congrFun (v_31 (m := m)) _).trans (lift_at _ rfl rfl)

end Cert.MixFwdIdeal.Fwd
end
-- ==== Proof.FwdCut.lean ====
module
public import proofs.«01_k».proof.Proof.FwdSpec
public import Idealize.ShloMosaic.Lib.Pipeline.Value
public import Idealize.ShloMosaic.Lib.Pipeline.ReadBack

/-!
What loads read after stores: a buffer filled by one store, the buffer of rows with the earlier rows before it, and
the stack of its shifted copies.
-/

@[expose] public section

noncomputable section

open Idealize.ShloMosaic Mat

namespace Fwd

variable {sig : RefSig} {κ : Kind} {sp : Space}

/-- A load of the rectangle just stored reads what was stored. -/
theorem load_stored {s : Shape} {e : EltTy} {Val : EltTy → Type} [∀ e, Nonempty (Val e)] (v : View sig κ sp s e) (r : Rect s)
    (w : r.shape.Idx → Val e) (L : List (View.Piece Val s e)) : v.readCov (⟨r, w⟩ :: L) r.toLoadRect = w := by
  rw [View.readCov_eq_canon']
  exact funext fun j => View.canon_cons_emb r w L j

/-- One store of a whole matrix leaves it. -/
theorem whole_left {n k : ℕ} {e : EltTy} {Val : EltTy → Type} [∀ e, Nonempty (Val e)] (v : View sig κ sp ⟨2, ![n, k]⟩ e) (f : v.ty.Contents Val)
    (inb) (X : (⟨2, ![n, k]⟩ : Shape).Idx → Val e) :
    v.read Val (v.writes Val f [⟨Rect.unit (s := ⟨2, ![n, k]⟩) ![0, 0] ![n, k] inb, X⟩]) = X := by
  have he : ∀ j : (⟨2, ![n, k]⟩ : Shape).Idx, (Rect.unit (s := ⟨2, ![n, k]⟩) ![0, 0] ![n, k] inb).emb j = j := fun j => by
    funext a
    refine Fin.ext ((Rect.idx_unit_val _ _ _ _ a).trans ?_)
    match a with
    | ⟨0, _⟩ => exact Nat.zero_add _
    | ⟨1, _⟩ => exact Nat.zero_add _
  rw [View.read_writes_eq_canon _ _ _ (fun y => ⟨_, List.mem_singleton_self _, by
    have := (Rect.unit (s := ⟨2, ![n, k]⟩) ![0, 0] ![n, k] inb).toLoadRect.idx_mem y
    rwa [show (Rect.unit (s := ⟨2, ![n, k]⟩) ![0, 0] ![n, k] inb).toLoadRect.idx y = y from he y] at this⟩)]
  funext j
  have := View.canon_cons_emb (Rect.unit (s := ⟨2, ![n, k]⟩) ![0, 0] ![n, k] inb) X [] j
  rwa [he] at this

/-- The rows of a point, 32 rows down. -/
abbrev body (inb : ∀ a, (![32, 0] : Fin 2 → ℕ) a + (![512, 512] : Fin 2 → ℕ) a ≤ (![544, 512] : Fin 2 → ℕ) a) : Rect (⟨2, ![544, 512]⟩ : Shape) := Rect.unit (s := ⟨2, ![544, 512]⟩) ![32, 0] ![512, 512] inb
/-- The 32 rows before them. -/
abbrev head (inb : ∀ a, (![0, 0] : Fin 2 → ℕ) a + (![32, 512] : Fin 2 → ℕ) a ≤ (![544, 512] : Fin 2 → ℕ) a) : Rect (⟨2, ![544, 512]⟩ : Shape) := Rect.unit (s := ⟨2, ![544, 512]⟩) ![0, 0] ![32, 512] inb

theorem body_not (inb) (y : (⟨2, ![544, 512]⟩ : Shape).Idx) (h : (y 0).val < 32) : y ∉ (body inb).set := fun hm => by
  obtain ⟨j, _, e⟩ := (LoadRect.mem_set _).mp hm 0
  have : (y 0).val = 32 + 1 * j := e
  omega

theorem body_at (inb) (y : (⟨2, ![544, 512]⟩ : Shape).Idx) (h : ¬ (y 0).val < 32) : ∃ x, (body inb).emb x = y := by
  have h0 : (y 0).val < 544 := (y 0).isLt
  have h1 : (y 1).val < 512 := (y 1).isLt
  refine (body inb).exists_idx_of_mem ((LoadRect.mem_set _).mpr fun a => ?_)
  match a with
  | ⟨0, _⟩ => exact ⟨(y 0).val - 32, by show _ < 512; omega, by show (y 0).val = 32 + 1 * _; omega⟩
  | ⟨1, _⟩ => exact ⟨(y 1).val, h1, by show (y 1).val = 0 + 1 * _; omega⟩

theorem head_at (inb) (y : (⟨2, ![544, 512]⟩ : Shape).Idx) (h : (y 0).val < 32) : ∃ x, (head inb).emb x = y := by
  have h1 : (y 1).val < 512 := (y 1).isLt
  refine (head inb).exists_idx_of_mem ((LoadRect.mem_set _).mpr fun a => ?_)
  match a with
  | ⟨0, _⟩ => exact ⟨(y 0).val, h, by show (y 0).val = 0 + 1 * _; omega⟩
  | ⟨1, _⟩ => exact ⟨(y 1).val, h1, by show (y 1).val = 0 + 1 * _; omega⟩

theorem body_row (e : RM) (inb) (x) : Lift (l2 512 512) (rows 32 e) x = Lift (l2 544 512) e ((body inb).emb x) :=
  ((congrFun (lift_ld e inb) x).trans (by rw [cols_zero])).symm

theorem head_row (e : RM) (inb) (x) : Lift (l2 32 512) e x = Lift (l2 544 512) e ((head inb).emb x) :=
  ((congrFun (lift_ld e inb) x).trans (by rw [cols_zero, rows_zero])).symm

/-- The buffer after the rows of a point are stored over one that held the rows before them. -/
theorem read_body (v : View sig κ sp ⟨2, ![544, 512]⟩ .f32) (f : v.ty.Contents (Elt Ideal)) (e : RM)
    (hf : ∀ j : (⟨2, ![544, 512]⟩ : Shape).Idx, (j 0).val < 32 → v.read (Elt Ideal) f j = Lift (l2 544 512) e j) (inb) :
    v.read (Elt Ideal) (v.writes (Elt Ideal) f [⟨body inb, Lift (l2 512 512) (rows 32 e)⟩]) = Lift (l2 544 512) e := by
  funext y
  by_cases h : (y 0).val < 32
  · rw [View.read_writes_apply_of_forall_not_mem v f y _ (fun q hq => by
      obtain rfl := List.mem_singleton.mp hq
      exact body_not inb y h)]
    exact hf y h
  · obtain ⟨x, rfl⟩ := body_at inb y h
    have hm : (body inb).emb x ∈ (body inb).set := (body inb).toLoadRect.idx_mem x
    refine (View.read_writes_apply_eq_canon v f _ _ ⟨⟨body inb, Lift (l2 512 512) (rows 32 e)⟩, List.mem_singleton_self _, hm⟩).trans ?_
    refine (View.canon_cons_emb _ _ [] x).trans ?_
    exact body_row e inb x

/-- The same where the rows before are stored as zeros. -/
theorem read_first (v : View sig κ sp ⟨2, ![544, 512]⟩ .f32) (f : v.ty.Contents (Elt Ideal)) (e : RM) (h0 : ∀ r d, r < 32 → e r d = 0) (inb inb') :
    v.read (Elt Ideal) (v.writes (Elt Ideal) f [⟨body inb, Lift (l2 512 512) (rows 32 e)⟩, ⟨head inb', Lift (l2 32 512) (cst 0)⟩])
      = Lift (l2 544 512) e := by
  have hz : Lift (l2 32 512) (cst 0) = Lift (l2 32 512) e := funext fun i => congrArg Real.toEReal (h0 _ _ (i 0).isLt).symm
  rw [hz]
  have hc : ∀ y : (⟨2, ![544, 512]⟩ : Shape).Idx, ∃ q ∈ ([⟨body inb, Lift (l2 512 512) (rows 32 e)⟩, ⟨head inb', Lift (l2 32 512) e⟩] :
      List (View.Piece (Elt Ideal) ⟨2, ![544, 512]⟩ .f32)), y ∈ q.1.set := fun y => by
    by_cases h : (y 0).val < 32
    · obtain ⟨x, rfl⟩ := head_at inb' y h
      exact ⟨_, List.mem_cons_of_mem _ (List.mem_singleton_self _), (head inb').toLoadRect.idx_mem x⟩
    · obtain ⟨x, rfl⟩ := body_at inb y h
      exact ⟨_, List.mem_cons_self, (body inb).toLoadRect.idx_mem x⟩
  rw [View.read_writes_eq_canon _ _ _ hc]
  refine funext fun y => View.canon_apply_of_pieces _ _ (fun q hq => ?_) y (hc y)
  rcases List.mem_cons.mp hq with rfl | hq
  · exact body_row e inb
  · obtain rfl := List.mem_singleton.mp hq
    exact head_row e inb'

/-- A covered load after those two stores. -/
theorem cov_first (v : View sig κ sp ⟨2, ![544, 512]⟩ .f32) (e : RM) (h0 : ∀ r d, r < 32 → e r d = 0) (inb inb') (r : Rect (⟨2, ![544, 512]⟩ : Shape)) :
    v.readCov (Val := Elt Ideal) [⟨body inb, Lift (l2 512 512) (rows 32 e)⟩, ⟨head inb', Lift (l2 32 512) (cst 0)⟩] r.toLoadRect
      = View.ld (Val := Elt Ideal) (e' := .f32) (Lift (l2 544 512) e) r := by
  unfold View.readCov
  rw [View.readAt_eq_ld, read_first v _ e h0]

/-- The rows a point leaves before the next one's. -/
theorem head_left (v : View sig κ sp ⟨2, ![544, 512]⟩ .f32) (f : v.ty.Contents (Elt Ideal)) (g : RM) (inb)
    (L : List (View.Piece (Elt Ideal) (⟨2, ![544, 512]⟩ : Shape) .f32)) (y : (⟨2, ![544, 512]⟩ : Shape).Idx) (h : (y 0).val < 32) :
    v.read (Elt Ideal) (v.writes (Elt Ideal) f (⟨head inb, Lift (l2 32 512) g⟩ :: L)) y = Lift (l2 544 512) g y := by
  obtain ⟨x, rfl⟩ := head_at inb y h
  have hm : (head inb).emb x ∈ (head inb).set := (head inb).toLoadRect.idx_mem x
  refine (View.read_writes_apply_eq_canon v f _ _ ⟨⟨head inb, Lift (l2 32 512) g⟩, List.mem_cons_self, hm⟩).trans ?_
  exact (View.canon_cons_emb (head inb) (Lift (l2 32 512) g) L x).trans (head_row g inb x)

/-- A load of 512 rows of the copy just stored. -/
theorem load_slot {k a : ℕ} (v : View sig κ sp ⟨3, ![7, 536, 512]⟩ .f32) (g : RM) (inb) (inb') (ha : a + 512 ≤ 536)
    (L : List (View.Piece (Elt Ideal) (⟨3, ![7, 536, 512]⟩ : Shape) .f32)) :
    v.readCov (⟨Rect.unit (s := ⟨3, ![7, 536, 512]⟩) ![k, 0, 0] ![1, 536, 512] inb, Lift (l3 536 512) g⟩ :: L)
      (Rect.unit (s := ⟨3, ![7, 536, 512]⟩) ![k, a, 0] ![1, 512, 512] inb').toLoadRect = Lift (l3 512 512) (rows a g) := by
  rw [View.readCov_eq_canon']
  funext j
  have h1 : (j 1).val < 512 := (j 1).isLt
  obtain ⟨x, hx⟩ := (Rect.unit (s := ⟨3, ![7, 536, 512]⟩) ![k, 0, 0] ![1, 536, 512] inb).exists_idx_of_mem
    (i := (Rect.unit (s := ⟨3, ![7, 536, 512]⟩) ![k, a, 0] ![1, 512, 512] inb').toLoadRect.idx j) ((LoadRect.mem_set _).mpr fun b => by
      match b with
      | ⟨0, _⟩ => exact ⟨(j 0).val, (j 0).isLt, rfl⟩
      | ⟨1, _⟩ => exact ⟨a + (j 1).val, by show _ < 536; omega, by show a + 1 * (j 1).val = 0 + 1 * (a + (j 1).val); omega⟩
      | ⟨2, _⟩ => exact ⟨(j 2).val, (j 2).isLt, rfl⟩)
  rw [← hx]
  refine (View.canon_cons_emb _ _ L x).trans ?_
  have e1 : 0 + 1 * (x 1).val = a + 1 * (j 1).val := congrArg (fun i : (⟨3, ![7, 536, 512]⟩ : Shape).Idx => (i 1).val) hx
  have e2 : 0 + 1 * (x 2).val = 0 + 1 * (j 2).val := congrArg (fun i : (⟨3, ![7, 536, 512]⟩ : Shape).Idx => (i 2).val) hx
  exact congrArg Real.toEReal (congrArg₂ g (by show (x 1).val = a + (j 1).val; omega) (by show (x 2).val = (j 2).val; omega))

end Fwd

end
-- ==== Proof.FwdOut.lean ====
module
public import proofs.«01_k».proof.Proof.FwdRunA
public import proofs.«01_k».proof.Proof.FwdRunB
public import proofs.«01_k».proof.Proof.FwdHost
public import proofs.«01_k».proof.Proof.FwdCut

/-!
What a point's stores leave: in every result the rows of the step on that point's block, and in the scratch the rows
before the next point's.
-/

@[expose] public section

set_option maxRecDepth 16384

noncomputable section

open Idealize.ShloMosaic Idealize.ShloMosaic.TcCoe Idealize.ShloMosaic.Tactic Mat

namespace Cert.MixFwdIdeal.Fwd
open Cert.MixFwdIdeal.Gen _root_.Fwd

/-- The convolution over the rows `e`, the halo first. -/
def cnv (q : Args) (e : RM) : RM := conv q.CW q.CB e 31
/-- The last product's operand where the convolution's operand is `e`. -/
def fin (q : Args) (e : RM) : RM := two (gu q * mixed q) (sil (aff (ghat (cnv q e)) q.GG q.GB)) q.OA q.OB

/-- What the stores `S` leave on the block `q`, where the convolution's operand is `e`. -/
structure Done (S : Stores Ideal) (q : Args) (e : RM) : Prop where
  w18 : ∀ (v : View sig .tc .vmem S512x1024 .f32) f, v.read (Elt Ideal) (v.writes (Elt Ideal) f S.s18) = Lift (l2 512 1024) (res q.X (rows 2 q.M) (mm 1024 (fin q e) q.WO))
  w19 : ∀ (v : View sig .tc .vmem S512x1024 .bf16) f, v.read (Elt Ideal) (v.writes (Elt Ideal) f S.s19) = Lift (l2 512 1024) (h q)
  w20 : ∀ (v : View sig .tc .vmem S512x1024 .f32) f, v.read (Elt Ideal) (v.writes (Elt Ideal) f S.s20) = Lift (l2 512 1024) (cols 1024 (z q))
  w21 : ∀ (v : View sig .tc .vmem S512x512 .f32) f, v.read (Elt Ideal) (v.writes (Elt Ideal) f S.s21) = Lift (l2 512 512) (mixed q)
  w22 : ∀ (v : View sig .tc .vmem S512x1024 .bf16) f, v.read (Elt Ideal) (v.writes (Elt Ideal) f S.s22) = Lift (l2 512 1024) (fin q e)
  w23 : ∀ (v : View sig .tc .vmem S512x1024 .f32) f, v.read (Elt Ideal) (v.writes (Elt Ideal) f S.s23) = Lift (l2 512 1024) (mm 1024 (fin q e) q.WO)
  w24 : ∀ (v : View sig .tc .vmem S512x512 .f32) f, v.read (Elt Ideal) (v.writes (Elt Ideal) f S.s24) = Lift (l2 512 512) (gu q)
  w25 : ∀ (v : View sig .tc .vmem S512x512 .f32) f, v.read (Elt Ideal) (v.writes (Elt Ideal) f S.s25) = Lift (l2 512 512) (dgel (cols 0 (z q)))
  w26 : ∀ (v : View sig .tc .vmem S512x512 .f32) f, v.read (Elt Ideal) (v.writes (Elt Ideal) f S.s26) = Lift (l2 512 512) (dgel (cols 512 (z q)))
  w27 : ∀ (v : View sig .tc .vmem S512x512 .f32) f, v.read (Elt Ideal) (v.writes (Elt Ideal) f S.s27) = Lift (l2 512 512) (vhat q)
  w28 : ∀ (v : View sig .tc .vmem S512x128 .f32) f, v.read (Elt Ideal) (v.writes (Elt Ideal) f S.s28) = Lift (l2 512 128) (rsl q)
  w29 : ∀ (v : View sig .tc .vmem S512x512 .f32) f, v.read (Elt Ideal) (v.writes (Elt Ideal) f S.s29) = Lift (l2 512 512) (ghat (cnv q e))
  w30 : ∀ (v : View sig .tc .vmem S512x512 .f32) f, v.read (Elt Ideal) (v.writes (Elt Ideal) f S.s30) = Lift (l2 512 512) (grs (cnv q e))
  w31 : ∀ (v : View sig .tc .vmem S544x512 .f32) f (y : S544x512.Idx), (y 0).val < 32 →
    v.read (Elt Ideal) (v.writes (Elt Ideal) f S.s31) y = Lift (l2 544 512) (rows 480 (gl q)) y

section Body
variable
  (arg1 : Buffer S512x1024 .f32) (harg1 : arg1.IsWhole) (arg2 : Buffer S8x1024 .f32) (harg2 : arg2.IsWhole) (arg3 :
  Buffer S1x1024 .f32) (harg3 : arg3.IsWhole) (arg4 : Buffer S8x1024x256 .bf16) (harg4 : arg4.IsWhole) (arg5 :
  Buffer S1x2048 .f32) (harg5 : arg5.IsWhole) (arg6 : Buffer S1x512 .f32) (harg6 : arg6.IsWhole) (arg7 : Buffer
  S1x512 .f32) (harg7 : arg7.IsWhole) (arg8 : Buffer S1024x128 .bf16) (harg8 : arg8.IsWhole) (arg9 : Buffer S128x512
  .f32) (harg9 : arg9.IsWhole) (arg10 : Buffer S32x512 .f32) (harg10 : arg10.IsWhole) (arg11 : Buffer S1x512 .f32)
  (harg11 : arg11.IsWhole) (arg12 : Buffer S1x512 .f32) (harg12 : arg12.IsWhole) (arg13 : Buffer S1x512 .f32)
  (harg13 : arg13.IsWhole) (arg14 : Buffer S1x512 .f32) (harg14 : arg14.IsWhole) (arg15 : Buffer S1x512 .f32)
  (harg15 : arg15.IsWhole) (arg16 : Buffer S1024x1024 .bf16) (harg16 : arg16.IsWhole) (arg17 : Buffer S512x512
  .bf16) (harg17 : arg17.IsWhole) (arg18 : Buffer S512x1024 .f32) (harg18 : arg18.IsWhole) (arg19 : Buffer S512x1024
  .bf16) (harg19 : arg19.IsWhole) (arg20 : Buffer S512x1024 .f32) (harg20 : arg20.IsWhole) (arg21 : Buffer S512x512
  .f32) (harg21 : arg21.IsWhole) (arg22 : Buffer S512x1024 .bf16) (harg22 : arg22.IsWhole) (arg23 : Buffer S512x1024
  .f32) (harg23 : arg23.IsWhole) (arg24 : Buffer S512x512 .f32) (harg24 : arg24.IsWhole) (arg25 : Buffer S512x512
  .f32) (harg25 : arg25.IsWhole) (arg26 : Buffer S512x512 .f32) (harg26 : arg26.IsWhole) (arg27 : Buffer S512x512
  .f32) (harg27 : arg27.IsWhole) (arg28 : Buffer S512x128 .f32) (harg28 : arg28.IsWhole) (arg29 : Buffer S512x512
  .f32) (harg29 : arg29.IsWhole) (arg30 : Buffer S512x512 .f32) (harg30 : arg30.IsWhole) (arg31 : Buffer S544x512
  .f32) (harg31 : arg31.IsWhole) (arg32 : Buffer S7x536x512 .f32) (harg32 : arg32.IsWhole)
  (q : Args) (e : RM)

set_option maxHeartbeats 8000000 in
/-- The stores of a point at the start. -/
theorem doneA (c : Dev nD) (i : grid0.Coords) (hc0 : cond0_0 i) (he : gl q = rows 32 e) (G : Vec Ideal S544x512 .f32)
    (h0 : ∀ r d, r < 32 → e r d = 0) :
    Done (ranA arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32
      (Lift (l2 512 1024) q.X) (Lift (l2 8 1024) q.M) (Lift (l2 1 1024) q.G1) (Lift w8 q.W) (Lift (l2 1 2048) q.BI) (Lift (l2 1 512) q.LG) (Lift (l2 1 512) q.LB) (Lift (l2 1024 128) (tri q.SW)) (Lift (l2 128 512) (bias q.SB)) (Lift (l2 32 512) q.CW) (Lift (l2 1 512) q.CB) (Lift (l2 1 512) q.GG) (Lift (l2 1 512) q.GB) (Lift (l2 1 512) q.OA) (Lift (l2 1 512) q.OB) (Lift (l2 1024 1024) q.WO) (Lift (l2 512 512) grp) G c i hc0).1 q e := by
  have he' : cols 1024 (mm 1024 (Ffn.ada q.X q.M (rows 1 q.M) q.G1) q.W + rowB q.BI) * Ffn.sgm (cols 1536 (mm 1024 (Ffn.ada q.X q.M (rows 1 q.M) q.G1) q.W + rowB q.BI)) = rows 32 e := he
  have hr := fun inb inb' => read_first arg31.view (harg31.unread G) e h0 inb inb'
  have hr' := fun inb inb' => cov_first arg31.view e h0 inb inb'
  constructor
  case w31 =>
    intro v f y hy
    rw [show rows 480 (gl q) = rows 512 e by rw [he, rows_rows]]
    unfold ranA
    dsimp only
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
    simp (disch := decide) only [↓View.readCov_skip, ↓load_stored, hr, hr', he', load_slot, rows_rows, Nat.reduceMul, Nat.reduceAdd, mfld_simps, p1, p2, p3, p4, p5, p6, p7, p8, p9, p10, p11, p12, p13, p14, p15, p16, p17, p18, p19, p20, p21, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73]
    exact head_left v f _ _ _ y hy
  all_goals
    intro v f
    unfold ranA
    dsimp only
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
    simp (disch := decide) only [↓View.readCov_skip, ↓load_stored, hr, hr', he', load_slot, rows_rows, Nat.reduceMul, Nat.reduceAdd, mfld_simps, p1, p2, p3, p4, p5, p6, p7, p8, p9, p10, p11, p12, p13, p14, p15, p16, p17, p18, p19, p20, p21, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73]
    exact whole_left v f _ _

set_option maxHeartbeats 8000000 in
/-- The stores of a point after the first. -/
theorem doneB (c : Dev nD) (i : grid0.Coords) (hc0 : ¬ cond0_0 i) (he : gl q = rows 32 e) (G : Vec Ideal S544x512 .f32)
    (hG : ∀ j : S544x512.Idx, (j 0).val < 32 → G j = Lift (l2 544 512) e j) :
    Done (ranB arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32
      (Lift (l2 512 1024) q.X) (Lift (l2 8 1024) q.M) (Lift (l2 1 1024) q.G1) (Lift w8 q.W) (Lift (l2 1 2048) q.BI) (Lift (l2 1 512) q.LG) (Lift (l2 1 512) q.LB) (Lift (l2 1024 128) (tri q.SW)) (Lift (l2 128 512) (bias q.SB)) (Lift (l2 32 512) q.CW) (Lift (l2 1 512) q.CB) (Lift (l2 1 512) q.GG) (Lift (l2 1 512) q.GB) (Lift (l2 1 512) q.OA) (Lift (l2 1 512) q.OB) (Lift (l2 1024 1024) q.WO) (Lift (l2 512 512) grp) G c i hc0).1 q e := by
  have he' : cols 1024 (mm 1024 (Ffn.ada q.X q.M (rows 1 q.M) q.G1) q.W + rowB q.BI) * Ffn.sgm (cols 1536 (mm 1024 (Ffn.ada q.X q.M (rows 1 q.M) q.G1) q.W + rowB q.BI)) = rows 32 e := he
  have hr := fun inb => read_body arg31.view (harg31.unread G) e (by rw [harg31.read_unread]; exact hG) inb
  constructor
  case w31 =>
    intro v f y hy
    rw [show rows 480 (gl q) = rows 512 e by rw [he, rows_rows]]
    unfold ranB
    dsimp only
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
    simp (disch := decide) only [↓View.readCov_skip, ↓load_stored, hr, he', load_slot, rows_rows, Nat.reduceMul, Nat.reduceAdd, mfld_simps, p1, p2, p3, p4, p5, p6, p7, p8, p9, p10, p11, p12, p13, p14, p15, p16, p17, p18, p19, p20, p21, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73]
    exact head_left v f _ _ _ y hy
  all_goals
    intro v f
    unfold ranB
    dsimp only
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
    simp (disch := decide) only [↓View.readCov_skip, ↓load_stored, hr, he', load_slot, rows_rows, Nat.reduceMul, Nat.reduceAdd, mfld_simps, p1, p2, p3, p4, p5, p6, p7, p8, p9, p10, p11, p12, p13, p14, p15, p16, p17, p18, p19, p20, p21, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73]
    exact whole_left v f _ _

end Body

end Cert.MixFwdIdeal.Fwd

end
-- ==== Proof.FwdLaunch.lean ====
module
public import proofs.«01_k».proof.Proof.FwdRunA
public import proofs.«01_k».proof.Proof.FwdRunB
public import proofs.«01_k».proof.Proof.FwdHost

/-!
The launch of the mixing step's forward call with its results named: every point stores its rows of the results, and
leaves in the first scratch the 32 rows that the next point's convolution begins with.
-/

@[expose] public section

set_option maxRecDepth 16384

noncomputable section

namespace Cert.MixFwdIdeal.Fwd

open Cert.MixFwdIdeal.Gen Mat _root_.Fwd
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

local notation "𝕄" => MT nD τ sig Unit (Elt Ideal) ℕ (UR sig nD τ) ℕ

/-- The rows before those of point `t`, which the scratch holds when the point begins. -/
def Halo (p : Args) (t : ℕ) (G : Vec Ideal S544x512 .f32) : Prop :=
  ∀ j : S544x512.Idx, (j 0).val < 32 → G j = Lift (l2 544 512) (rows (512 * t) (lag (gl p))) j

/-- The stores `S` leave in every result the rows of point `t`. -/
structure Left (S : Stores Ideal) (p : Args) (t : ℕ) : Prop where
  w18 : ∀ (v : View sig .tc .vmem S512x1024 .f32) f, v.read (Elt Ideal) (v.writes (Elt Ideal) f S.s18) = Lift (l2 512 1024) (rows (512 * t) (x1 p))
  w19 : ∀ (v : View sig .tc .vmem S512x1024 .bf16) f, v.read (Elt Ideal) (v.writes (Elt Ideal) f S.s19) = Lift (l2 512 1024) (rows (512 * t) (h p))
  w20 : ∀ (v : View sig .tc .vmem S512x1024 .f32) f, v.read (Elt Ideal) (v.writes (Elt Ideal) f S.s20) = Lift (l2 512 1024) (rows (512 * t) (cols 1024 (z p)))
  w21 : ∀ (v : View sig .tc .vmem S512x512 .f32) f, v.read (Elt Ideal) (v.writes (Elt Ideal) f S.s21) = Lift (l2 512 512) (rows (512 * t) (mixed p))
  w22 : ∀ (v : View sig .tc .vmem S512x1024 .bf16) f, v.read (Elt Ideal) (v.writes (Elt Ideal) f S.s22) = Lift (l2 512 1024) (rows (512 * t) (yy p))
  w23 : ∀ (v : View sig .tc .vmem S512x1024 .f32) f, v.read (Elt Ideal) (v.writes (Elt Ideal) f S.s23) = Lift (l2 512 1024) (rows (512 * t) (o p))
  w24 : ∀ (v : View sig .tc .vmem S512x512 .f32) f, v.read (Elt Ideal) (v.writes (Elt Ideal) f S.s24) = Lift (l2 512 512) (rows (512 * t) (gu p))
  w25 : ∀ (v : View sig .tc .vmem S512x512 .f32) f, v.read (Elt Ideal) (v.writes (Elt Ideal) f S.s25) = Lift (l2 512 512) (rows (512 * t) (dgel (cols 0 (z p))))
  w26 : ∀ (v : View sig .tc .vmem S512x512 .f32) f, v.read (Elt Ideal) (v.writes (Elt Ideal) f S.s26) = Lift (l2 512 512) (rows (512 * t) (dgel (cols 512 (z p))))
  w27 : ∀ (v : View sig .tc .vmem S512x512 .f32) f, v.read (Elt Ideal) (v.writes (Elt Ideal) f S.s27) = Lift (l2 512 512) (rows (512 * t) (vhat p))
  w28 : ∀ (v : View sig .tc .vmem S512x128 .f32) f, v.read (Elt Ideal) (v.writes (Elt Ideal) f S.s28) = Lift (l2 512 128) (rows (512 * t) (rsl p))
  w29 : ∀ (v : View sig .tc .vmem S512x512 .f32) f, v.read (Elt Ideal) (v.writes (Elt Ideal) f S.s29) = Lift (l2 512 512) (rows (512 * t) (yhat p))
  w30 : ∀ (v : View sig .tc .vmem S512x512 .f32) f, v.read (Elt Ideal) (v.writes (Elt Ideal) f S.s30) = Lift (l2 512 512) (rows (512 * t) (rsg p))

/-- What a point's run is shown to store. -/
abbrev Right (p : Args) (t : Fin cfg0.N) (G : Vec Ideal S544x512 .f32) (S : Stores Ideal) : Prop :=
  Left S p t.val ∧ Halo p (t.val + 1) (scM0_0.view.read (Elt Ideal) (scM0_0.view.writes (Elt Ideal) ((Memref.isWhole_whole cc0_scratch0).unread G) S.s31))

variable (m : (ℓ : Loc nD τ sig) → Buf (Elt Ideal) ℓ) (ρ : Dev nD → PrngReg) (p : Dev nD → Args)

/-- The pipeline's proof data. -/
def dat (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => Lift (l2 512 1024) (rows (512 * t.val) (x1 (p c)))
    | ⟨18, _⟩ => Lift (l2 512 1024) (rows (512 * t.val) (h (p c)))
    | ⟨19, _⟩ => Lift (l2 512 1024) (rows (512 * t.val) (cols 1024 (z (p c))))
    | ⟨20, _⟩ => Lift (l2 512 512) (rows (512 * t.val) (mixed (p c)))
    | ⟨21, _⟩ => Lift (l2 512 1024) (rows (512 * t.val) (yy (p c)))
    | ⟨22, _⟩ => Lift (l2 512 1024) (rows (512 * t.val) (o (p c)))
    | ⟨23, _⟩ => Lift (l2 512 512) (rows (512 * t.val) (gu (p c)))
    | ⟨24, _⟩ => Lift (l2 512 512) (rows (512 * t.val) (dgel (cols 0 (z (p c)))))
    | ⟨25, _⟩ => Lift (l2 512 512) (rows (512 * t.val) (dgel (cols 512 (z (p c)))))
    | ⟨26, _⟩ => Lift (l2 512 512) (rows (512 * t.val) (vhat (p c)))
    | ⟨27, _⟩ => Lift (l2 512 128) (rows (512 * t.val) (rsl (p c)))
    | ⟨28, _⟩ => Lift (l2 512 512) (rows (512 * t.val) (yhat (p c)))
    | ⟨29, _⟩ => Lift (l2 512 512) (rows (512 * t.val) (rsg (p c)))
    | ⟨_ + 30, h⟩ => absurd h (Nat.not_lt.2 (Nat.le_add_left _ _))
  Φ t := iprop(((∃ G, ⌜t.val ≠ 0 → Halo (p c) t.val G⌝ ∗ owns (c : Thread nD τ) scM0_0 fullShare G) ∗ (∃ d, owns (c : Thread nD τ) scM0_1 fullShare d)) ∗ (∃ r, prngReg c r))
  q _ := fullShare
  owed _ := 0

theorem dat_A (c : Dev nD) (w : Fin cfg0.W) : (dat m p 0 c).A w = V m c (Pipeline.arrRef spec0 w) := by
  dsimp only [dat]

theorem row (t : Fin cfg0.N) : defs₀ (F := Ideal) .tc cfg0.body (cfg0.bodyArgs t (cfg0.slots t)) = bodyAt0 t := by
  unfold defs₀; rw [Defs.onTc_tc]

/-- A buffer that the stores fill is owned at what they leave. -/
theorem stored (c : Dev nD) {s : Shape} {e : EltTy} (M : Buffer s e) (L : List (View.Piece (Elt Ideal) s e)) (X : s.Idx → Elt Ideal e)
    (h : ∀ f, M.view.read (Elt Ideal) (M.view.writes (Elt Ideal) f L) = X) :
    (Stored (F := Ideal) c M L : sProp 𝕄) ⊢ owns (c : Thread nD τ) M fullShare X := by
  unfold owns
  iintro ⟨%f, H⟩
  iexists _; isplitr
  swap; · iexact H
  ipureintro; exact h f

/-- A point's stores. -/
def made (c : Dev nD) (t : Fin cfg0.N) (G : Vec Ideal S544x512 .f32) : Stores Ideal :=
  if h : cond0_0 (grid0.coords t) then
    (ranA (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole cc0_scratch0) scM0_1 (Memref.isWhole_whole cc0_scratch1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) G c (grid0.coords t) h).1
  else
    (ranB (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole cc0_scratch0) scM0_1 (Memref.isWhole_whole cc0_scratch1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) G c (grid0.coords t) h).1

theorem ran (c : Dev nD) (t : Fin cfg0.N) (G : Vec Ideal S544x512 .f32) (R : sProp 𝕄) :
    Given (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) (ms0_16 t) (ms0_17 t) (ms0_18 t) (ms0_19 t) (ms0_20 t) (ms0_21 t) (ms0_22 t) (ms0_23 t) (ms0_24 t) (ms0_25 t) (ms0_26 t) (ms0_27 t) (ms0_28 t) (ms0_29 t) scM0_0 scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) G c R
      ⊢ wp frame (wpE (defs₀ (F := Ideal)) Variants.none c none) Set.univ (bodyAt0 t) fun _ =>
        Leaves (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) (ms0_16 t) (ms0_17 t) (ms0_18 t) (ms0_19 t) (ms0_20 t) (ms0_21 t) (ms0_22 t) (ms0_23 t) (ms0_24 t) (ms0_25 t) (ms0_26 t) (ms0_27 t) (ms0_28 t) (ms0_29 t) scM0_0 (Memref.isWhole_whole cc0_scratch0) scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) G c R (made m c t G) := by
  unfold made bodyAt0
  by_cases h : cond0_0 (grid0.coords t)
  · rw [dif_pos h]
    exact (ranA (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole cc0_scratch0) scM0_1 (Memref.isWhole_whole cc0_scratch1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) G c (grid0.coords t) h).2 R
  · rw [dif_neg h]
    exact (ranB (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole cc0_scratch0) scM0_1 (Memref.isWhole_whole cc0_scratch1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) G c (grid0.coords t) h).2 R

/-- What a point is called with. -/
def pre (c : Dev nD) (t : Fin cfg0.N) : sProp 𝕄 :=
  iprop((dat m p 0 c).Φ t.castSucc ∗ (dat m p 0 c).owesAt () t.castSucc
    ∗ (∃ d, owns (c : Thread nD τ) (ms0_0 t) fullShare ((dat m p 0 c).before 0 t d))
    ∗ (∃ d, owns (c : Thread nD τ) (ms0_1 t) fullShare ((dat m p 0 c).before 1 t d))
    ∗ (∃ d, owns (c : Thread nD τ) (ms0_2 t) fullShare ((dat m p 0 c).before 2 t d))
    ∗ (∃ d, owns (c : Thread nD τ) (ms0_3 t) fullShare ((dat m p 0 c).before 3 t d))
    ∗ (∃ d, owns (c : Thread nD τ) (ms0_4 t) fullShare ((dat m p 0 c).before 4 t d))
    ∗ (∃ d, owns (c : Thread nD τ) (ms0_5 t) fullShare ((dat m p 0 c).before 5 t d))
    ∗ (∃ d, owns (c : Thread nD τ) (ms0_6 t) fullShare ((dat m p 0 c).before 6 t d))
    ∗ (∃ d, owns (c : Thread nD τ) (ms0_7 t) fullShare ((dat m p 0 c).before 7 t d))
    ∗ (∃ d, owns (c : Thread nD τ) (ms0_8 t) fullShare ((dat m p 0 c).before 8 t d))
    ∗ (∃ d, owns (c : Thread nD τ) (ms0_9 t) fullShare ((dat m p 0 c).before 9 t d))
    ∗ (∃ d, owns (c : Thread nD τ) (ms0_10 t) fullShare ((dat m p 0 c).before 10 t d))
    ∗ (∃ d, owns (c : Thread nD τ) (ms0_11 t) fullShare ((dat m p 0 c).before 11 t d))
    ∗ (∃ d, owns (c : Thread nD τ) (ms0_12 t) fullShare ((dat m p 0 c).before 12 t d))
    ∗ (∃ d, owns (c : Thread nD τ) (ms0_13 t) fullShare ((dat m p 0 c).before 13 t d))
    ∗ (∃ d, owns (c : Thread nD τ) (ms0_14 t) fullShare ((dat m p 0 c).before 14 t d))
    ∗ (∃ d, owns (c : Thread nD τ) (ms0_15 t) fullShare ((dat m p 0 c).before 15 t d))
    ∗ (∃ d, owns (c : Thread nD τ) (ms0_16 t) fullShare ((dat m p 0 c).before 16 t d))
    ∗ (∃ d, owns (c : Thread nD τ) (ms0_17 t) fullShare ((dat m p 0 c).before 17 t d))
    ∗ (∃ d, owns (c : Thread nD τ) (ms0_18 t) fullShare ((dat m p 0 c).before 18 t d))
    ∗ (∃ d, owns (c : Thread nD τ) (ms0_19 t) fullShare ((dat m p 0 c).before 19 t d))
    ∗ (∃ d, owns (c : Thread nD τ) (ms0_20 t) fullShare ((dat m p 0 c).before 20 t d))
    ∗ (∃ d, owns (c : Thread nD τ) (ms0_21 t) fullShare ((dat m p 0 c).before 21 t d))
    ∗ (∃ d, owns (c : Thread nD τ) (ms0_22 t) fullShare ((dat m p 0 c).before 22 t d))
    ∗ (∃ d, owns (c : Thread nD τ) (ms0_23 t) fullShare ((dat m p 0 c).before 23 t d))
    ∗ (∃ d, owns (c : Thread nD τ) (ms0_24 t) fullShare ((dat m p 0 c).before 24 t d))
    ∗ (∃ d, owns (c : Thread nD τ) (ms0_25 t) fullShare ((dat m p 0 c).before 25 t d))
    ∗ (∃ d, owns (c : Thread nD τ) (ms0_26 t) fullShare ((dat m p 0 c).before 26 t d))
    ∗ (∃ d, owns (c : Thread nD τ) (ms0_27 t) fullShare ((dat m p 0 c).before 27 t d))
    ∗ (∃ d, owns (c : Thread nD τ) (ms0_28 t) fullShare ((dat m p 0 c).before 28 t d))
    ∗ (∃ d, owns (c : Thread nD τ) (ms0_29 t) fullShare ((dat m p 0 c).before 29 t d)))
/-- What a point returns. -/
def post (c : Dev nD) (t : Fin cfg0.N) : sProp 𝕄 :=
  iprop((dat m p 0 c).Φ t.succ ∗ (dat m p 0 c).owesAt () t.succ
    ∗ owns (c : Thread nD τ) (ms0_0 t) fullShare ((dat m p 0 c).after 0 t)
    ∗ owns (c : Thread nD τ) (ms0_1 t) fullShare ((dat m p 0 c).after 1 t)
    ∗ owns (c : Thread nD τ) (ms0_2 t) fullShare ((dat m p 0 c).after 2 t)
    ∗ owns (c : Thread nD τ) (ms0_3 t) fullShare ((dat m p 0 c).after 3 t)
    ∗ owns (c : Thread nD τ) (ms0_4 t) fullShare ((dat m p 0 c).after 4 t)
    ∗ owns (c : Thread nD τ) (ms0_5 t) fullShare ((dat m p 0 c).after 5 t)
    ∗ owns (c : Thread nD τ) (ms0_6 t) fullShare ((dat m p 0 c).after 6 t)
    ∗ owns (c : Thread nD τ) (ms0_7 t) fullShare ((dat m p 0 c).after 7 t)
    ∗ owns (c : Thread nD τ) (ms0_8 t) fullShare ((dat m p 0 c).after 8 t)
    ∗ owns (c : Thread nD τ) (ms0_9 t) fullShare ((dat m p 0 c).after 9 t)
    ∗ owns (c : Thread nD τ) (ms0_10 t) fullShare ((dat m p 0 c).after 10 t)
    ∗ owns (c : Thread nD τ) (ms0_11 t) fullShare ((dat m p 0 c).after 11 t)
    ∗ owns (c : Thread nD τ) (ms0_12 t) fullShare ((dat m p 0 c).after 12 t)
    ∗ owns (c : Thread nD τ) (ms0_13 t) fullShare ((dat m p 0 c).after 13 t)
    ∗ owns (c : Thread nD τ) (ms0_14 t) fullShare ((dat m p 0 c).after 14 t)
    ∗ owns (c : Thread nD τ) (ms0_15 t) fullShare ((dat m p 0 c).after 15 t)
    ∗ owns (c : Thread nD τ) (ms0_16 t) fullShare ((dat m p 0 c).after 16 t)
    ∗ owns (c : Thread nD τ) (ms0_17 t) fullShare ((dat m p 0 c).after 17 t)
    ∗ owns (c : Thread nD τ) (ms0_18 t) fullShare ((dat m p 0 c).after 18 t)
    ∗ owns (c : Thread nD τ) (ms0_19 t) fullShare ((dat m p 0 c).after 19 t)
    ∗ owns (c : Thread nD τ) (ms0_20 t) fullShare ((dat m p 0 c).after 20 t)
    ∗ owns (c : Thread nD τ) (ms0_21 t) fullShare ((dat m p 0 c).after 21 t)
    ∗ owns (c : Thread nD τ) (ms0_22 t) fullShare ((dat m p 0 c).after 22 t)
    ∗ owns (c : Thread nD τ) (ms0_23 t) fullShare ((dat m p 0 c).after 23 t)
    ∗ owns (c : Thread nD τ) (ms0_24 t) fullShare ((dat m p 0 c).after 24 t)
    ∗ owns (c : Thread nD τ) (ms0_25 t) fullShare ((dat m p 0 c).after 25 t)
    ∗ owns (c : Thread nD τ) (ms0_26 t) fullShare ((dat m p 0 c).after 26 t)
    ∗ owns (c : Thread nD τ) (ms0_27 t) fullShare ((dat m p 0 c).after 27 t)
    ∗ owns (c : Thread nD τ) (ms0_28 t) fullShare ((dat m p 0 c).after 28 t)
    ∗ owns (c : Thread nD τ) (ms0_29 t) fullShare ((dat m p 0 c).after 29 t))

variable (hs : ∀ c t G, (t.val ≠ 0 → Halo (p c) t.val G) → Right (p c) t G (made m c t G))
include hs

set_option maxHeartbeats 4000000 in
theorem leaves_post (c : Dev nD) (t : Fin cfg0.N) (G : Vec Ideal S544x512 .f32) (hG : t.val ≠ 0 → Halo (p c) t.val G) :
    Leaves (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) (ms0_16 t) (ms0_17 t) (ms0_18 t) (ms0_19 t) (ms0_20 t) (ms0_21 t) (ms0_22 t) (ms0_23 t) (ms0_24 t) (ms0_25 t) (ms0_26 t) (ms0_27 t) (ms0_28 t) (ms0_29 t) scM0_0 (Memref.isWhole_whole cc0_scratch0) scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) G c (iprop((∃ r, prngReg c r) ∗ (dat m p 0 c).owesAt () t.castSucc)) (made m c t G) ⊢ post m p c t := by
  have hr := hs c t G hG
  unfold post
  rw [show (dat m p 0 c).owesAt () t.succ = (dat m p 0 c).owesAt () t.castSucc from rfl]
  dsimp only [dat]
  iintro ⟨⟨H0, H1, H2, H3, H4, H5, H6, H7, H8, H9, H10, H11, H12, H13, H14, H15, H16⟩, H17, H18, H19, H20, H21, H22, H23, H24, H25, H26, H27, H28, H29, HS0, HS1, Hg, Ho⟩
  isplitl [HS0 HS1 Hg]
  · isplitl [HS0 HS1]
    · isplitl [HS0]
      · iexists _; isplitr
        swap
        · unfold owns; iexists _; isplitr
          swap; · iexact HS0
          ipureintro; rfl
        ipureintro; exact fun _ => hr.2
      icases HS1 with ⟨%f, HS1⟩
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iapply (stored c _ _ _ (hr.1.w18 _)) $$ H17
  isplitl [H18]; · iapply (stored c _ _ _ (hr.1.w19 _)) $$ H18
  isplitl [H19]; · iapply (stored c _ _ _ (hr.1.w20 _)) $$ H19
  isplitl [H20]; · iapply (stored c _ _ _ (hr.1.w21 _)) $$ H20
  isplitl [H21]; · iapply (stored c _ _ _ (hr.1.w22 _)) $$ H21
  isplitl [H22]; · iapply (stored c _ _ _ (hr.1.w23 _)) $$ H22
  isplitl [H23]; · iapply (stored c _ _ _ (hr.1.w24 _)) $$ H23
  isplitl [H24]; · iapply (stored c _ _ _ (hr.1.w25 _)) $$ H24
  isplitl [H25]; · iapply (stored c _ _ _ (hr.1.w26 _)) $$ H25
  isplitl [H26]; · iapply (stored c _ _ _ (hr.1.w27 _)) $$ H26
  isplitl [H27]; · iapply (stored c _ _ _ (hr.1.w28 _)) $$ H27
  isplitl [H28]; · iapply (stored c _ _ _ (hr.1.w29 _)) $$ H28
  iapply (stored c _ _ _ (hr.1.w30 _)) $$ H29

set_option maxHeartbeats 4000000 in
theorem sound (c : Dev nD) (t : Fin cfg0.N) :
    pre m p c t ⊢ wp frame (wpE (defs₀ (F := Ideal)) Variants.none c none) Set.univ (bodyAt0 t) (fun _ => post m p c t) := by
  unfold pre
  simp only [before0_0_of m (dat m p 0 c) (dat_A m p c 0) (fun t => by dsimp only [dat]), before0_1_of m (dat m p 0 c) (dat_A m p c 1) (fun t => by dsimp only [dat]), before0_2_of m (dat m p 0 c) (dat_A m p c 2) (fun t => by dsimp only [dat]), before0_3_of m (dat m p 0 c) (dat_A m p c 3) (fun t => by dsimp only [dat]), before0_4_of m (dat m p 0 c) (dat_A m p c 4) (fun t => by dsimp only [dat]), before0_5_of m (dat m p 0 c) (dat_A m p c 5) (fun t => by dsimp only [dat]), before0_6_of m (dat m p 0 c) (dat_A m p c 6) (fun t => by dsimp only [dat]), before0_7_of m (dat m p 0 c) (dat_A m p c 7) (fun t => by dsimp only [dat]), before0_8_of m (dat m p 0 c) (dat_A m p c 8) (fun t => by dsimp only [dat]), before0_9_of m (dat m p 0 c) (dat_A m p c 9) (fun t => by dsimp only [dat]), before0_10_of m (dat m p 0 c) (dat_A m p c 10) (fun t => by dsimp only [dat]), before0_11_of m (dat m p 0 c) (dat_A m p c 11) (fun t => by dsimp only [dat]), before0_12_of m (dat m p 0 c) (dat_A m p c 12) (fun t => by dsimp only [dat]), before0_13_of m (dat m p 0 c) (dat_A m p c 13) (fun t => by dsimp only [dat]), before0_14_of m (dat m p 0 c) (dat_A m p c 14) (fun t => by dsimp only [dat]), before0_15_of m (dat m p 0 c) (dat_A m p c 15) (fun t => by dsimp only [dat]), before0_16_of m (dat m p 0 c) (dat_A m p c 16) (fun t => by dsimp only [dat])]
  rw [show (dat m p 0 c).Φ t.castSucc = iprop(((∃ G, ⌜t.val ≠ 0 → Halo (p c) t.val G⌝ ∗ owns (c : Thread nD τ) scM0_0 fullShare G) ∗ (∃ d, owns (c : Thread nD τ) scM0_1 fullShare d)) ∗ (∃ r, prngReg c r)) from rfl]
  iintro ⟨⟨⟨⟨%G, %hG, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply ((ran m c t G _).trans (wp_mono _ _ _ fun _ => leaves_post m p hs c t G hG))
  isplitl [H0 H1 H2 H3 H4 H5 H6 H7 H8 H9 H10 H11 H12 H13 H14 H15 H16]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [HS0]; · iexact HS0
  isplitl [HS1]; · iexact HS1
  isplitl [Hg]; · iexact Hg
  iexact Ho

set_option maxHeartbeats 4000000 in
theorem obligated (c : Dev nD) : BodyObligation (dat m p 0 c) (defs₀ (F := Ideal)) Variants.none () Set.univ := fun t => by
  rw [bigSep_W0, bigSep_W0, row]
  exact triple_restated (sound m p hs c t) rfl .rfl fun _ => .rfl

omit hs in
theorem enter (c : Dev nD) : Pipeline.ΦA spec0 c ⊢ (dat m p 0 c).Φ 0 := by
  rw [PhiA0_eq]
  dsimp only [dat]
  iintro ⟨⟨⟨%G, HS0⟩, HS1⟩, Hg⟩
  isplitl [HS0 HS1]
  · isplitl [HS0]
    · iexists G; isplitr
      · ipureintro; exact fun h => absurd rfl h
      iexact HS0
    iexact HS1
  iexact Hg

omit hs in
theorem exit (c : Dev nD) : (dat m p 0 c).Φ (Fin.last cfg0.N) ⊢ Pipeline.ΦA spec0 c := by
  rw [PhiA0_eq]
  dsimp only [dat]
  iintro ⟨⟨⟨%G, -, HS0⟩, HS1⟩, Hg⟩
  isplitl [HS0 HS1]
  · isplitl [HS0]
    · iexists G; iexact HS0
    iexact HS1
  iexact Hg

set_option backward.isDefEq.respectTransparency.types false in
/-- A run ends, with the arrays as the proof data computes them. -/
theorem finished : θ_run defs (onTc (τ := τ) (main (F := Ideal))) (s₀ m ρ) (Pipeline.FramePost cfgs (dat m p) 0 (V m)) :=
  Pipeline.θ_run_frame_track (Q' := _) cfgs (dat m p) (0 : Fin 1) launch0 defs₀ Variants.none m ρ main
    (hbody := fun c => (obligated m p hs c).loose) (hshare := fun c => (dat m p 0 c).share_full fun _ => rfl)
    (howed := fun _ _ => rfl) (V := V m) (hmain := hmain m Variants.none) (hA := dat_A m p) (hin := enter m p) (hout := exit m p)

end Cert.MixFwdIdeal.Fwd

end
-- ==== Proof.FwdRuns.lean ====
module
public import proofs.«01_k».proof.Proof.FwdOut
public import proofs.«01_k».proof.Proof.FwdLaunch

/-!
Every point's run leaves the rows of the step on the point's block, and the rows the next point needs before its own.
-/

@[expose] public section

set_option maxRecDepth 16384

noncomputable section

open Idealize.ShloMosaic Mat

namespace Cert.MixFwdIdeal.Fwd
open Cert.MixFwdIdeal.Gen _root_.Fwd

/-- The rows of point `t` in the rows with 32 rows of zeros before them. -/
theorem body_rows (p : Args) (t : ℕ) : gl (tile p t) = rows 32 (rows (512 * t) (lag (gl p))) := by
  rw [tile_gl]
  funext r d
  show gl p (512 * t + r) d = if 512 * t + (32 + r) < 32 then 0 else gl p (512 * t + (32 + r) - 32) d
  rw [if_neg (by omega)]
  exact congrArg (fun k => gl p k d) (by omega)

/-- Before the first point's rows there are zeros. -/
theorem first_rows (f : RM) (t : ℕ) (ht : t = 0) : ∀ r d, r < 32 → rows (512 * t) (lag f) r d = 0 := fun r d hr => by
  subst ht
  show (if 512 * 0 + r < 32 then 0 else _) = 0
  exact if_pos (by omega)

/-- What is left on a block is the rows of the whole. -/
theorem done_left {S : Stores Ideal} (p : Args) (t : ℕ) (d : Done S (tile p t) (rows (512 * t) (lag (gl p)))) : Left S p t := by
  have hy : cnv (tile p t) (rows (512 * t) (lag (gl p))) = rows (512 * t) (y0 p) := tile_y0 p t
  have hf : fin (tile p t) (rows (512 * t) (lag (gl p))) = rows (512 * t) (yy p) := by
    unfold fin
    rw [hy, tile_mixed]
    rfl
  constructor
  case w18 => intro v f; rw [d.w18 v f, hf]; rfl
  case w19 => intro v f; rw [d.w19 v f, tile_h]
  case w20 => intro v f; rw [d.w20 v f, tile_z]; rfl
  case w21 => intro v f; rw [d.w21 v f, tile_mixed]
  case w22 => intro v f; rw [d.w22 v f, hf]
  case w23 => intro v f; rw [d.w23 v f, hf]; rfl
  case w24 => intro v f; rw [d.w24 v f, tile_gu]
  case w25 => intro v f; rw [d.w25 v f, tile_z]; rfl
  case w26 => intro v f; rw [d.w26 v f, tile_z]; rfl
  case w27 => intro v f; rw [d.w27 v f, tile_vhat]
  case w28 => intro v f; rw [d.w28 v f, tile_rsl]
  case w29 => intro v f; rw [d.w29 v f, hy]; rfl
  case w30 => intro v f; rw [d.w30 v f, hy]; rfl

/-- The scratch then holds the rows before the next point's. -/
theorem done_halo {S : Stores Ideal} (p : Args) (t : ℕ) (d : Done S (tile p t) (rows (512 * t) (lag (gl p))))
    (v : View sig .tc .vmem S544x512 .f32) (f) : Halo p (t + 1) (v.read (Elt Ideal) (v.writes (Elt Ideal) f S.s31)) := fun y hy => by
  rw [d.w31 v f y hy, tile_gl]
  refine congrArg Real.toEReal ?_
  show gl p (512 * t + (480 + (y 0).val)) (y 1).val
    = if 512 * (t + 1) + (y 0).val < 32 then 0 else gl p (512 * (t + 1) + (y 0).val - 32) (y 1).val
  rw [if_neg (by omega)]
  exact congrArg (fun k => gl p k (y 1).val) (by omega)

variable (m : (ℓ : Loc nD τ sig) → Buf (Elt Ideal) ℓ) (p : Dev nD → Args)

set_option maxHeartbeats 4000000 in
/-- Every point's run stores what it should. -/
theorem runs (hp : ∀ c, Mem m c (p c)) : ∀ c t G, (t.val ≠ 0 → Halo (p c) t.val G) → Right (p c) t G (made m c t G) := by
  intro c t G hG
  have hN : t.val < 16 := t.isLt
  have hd : Done (made m c t G) (tile (p c) t.val) (rows (512 * t.val) (lag (gl (p c)))) := by
    unfold made
    rw [(blk (hp c) t).b0, (blk (hp c) t).b1, (blk (hp c) t).b2, (blk (hp c) t).b3, (blk (hp c) t).b4, (blk (hp c) t).b5, (blk (hp c) t).b6, (blk (hp c) t).b7, (blk (hp c) t).b8, (blk (hp c) t).b9, (blk (hp c) t).b10, (blk (hp c) t).b11, (blk (hp c) t).b12, (blk (hp c) t).b13, (blk (hp c) t).b14, (blk (hp c) t).b15, (blk (hp c) t).b16]
    split_ifs with hc
    · have h0 := (hcond0_0 t).mp hc
      exact doneA (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole cc0_scratch0) scM0_1 (Memref.isWhole_whole cc0_scratch1)
        (tile (p c) t.val) (rows (512 * t.val) (lag (gl (p c)))) c (grid0.coords t) hc (body_rows (p c) t.val) G (first_rows _ _ (by omega))
    · have h0 : t.val ≠ 0 := fun e => hc ((hcond0_0 t).mpr (by omega))
      exact doneB (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole cc0_scratch0) scM0_1 (Memref.isWhole_whole cc0_scratch1)
        (tile (p c) t.val) (rows (512 * t.val) (lag (gl (p c)))) c (grid0.coords t) hc (body_rows (p c) t.val) G (hG h0)
  exact ⟨done_left (p c) t.val hd, done_halo (p c) t.val hd _ _⟩

end Cert.MixFwdIdeal.Fwd

end
-- ==== Proof.FwdVal.lean ====
module
public import proofs.«01_k».proof.Proof.FwdLaunch

/-!
The arrays at the end of a run of the mixing step's forward call.
-/

@[expose] public section

set_option maxRecDepth 16384

noncomputable section

open Idealize.ShloMosaic Idealize.ShloMosaic.TcCoe Idealize.ShloMosaic.Tactic Mat

namespace Cert.MixFwdIdeal.Fwd
open Cert.MixFwdIdeal.Gen _root_.Fwd

/-- An entry of a block of rows is that entry of the array. -/
theorem at_rows {n a b t : ℕ} (f : RM) (i : (⟨2, ![8192, n]⟩ : Shape).Idx) (j : (⟨2, ![512, n]⟩ : Shape).Idx) (ha : a = t) (hb : b = 0)
    (h0 : (i 0).val = a * 512 + 1 * (j 0).val) (h1 : (i 1).val = b * n + 1 * (j 1).val) :
    Lift (l2 512 n) (rows (512 * t) f) j = Lift (l2 8192 n) f i :=
  congrArg Real.toEReal (congrArg₂ f (show 512 * t + (j 0).val = (i 0).val by rw [h0, ha]; omega) (show (j 1).val = (i 1).val by rw [h1, hb]; omega))

/-- The point of a row. -/
theorem point {n : ℕ} (hn : n < 8192) : ∃ t : Fin cfg0.N, t.val = n / 512 :=
  ⟨⟨n / 512, by have hN : cfg0.N = 16 := N_0; omega⟩, rfl⟩

variable (m : (ℓ : Loc nD τ sig) → Buf (Elt Ideal) ℓ) (p : Dev nD → Args) (c : Dev nD)

theorem idx_17 : ∀ t : Fin cfg0.N, win0_17.index t 0 = t.val ∧ win0_17.index t 1 = 0 :=
  (by decide +kernel : ∀ t : Fin grid0.N, win0_17.index t 0 = t.val ∧ win0_17.index t 1 = 0)

theorem arr_17 : (dat m p 0 c).arrAt 17 cfg0.N = Lift (l2 8192 1024) (x1 (p c)) := by
  refine (dat m p 0 c).arrAt_eq_of_cover 17 (Lift (l2 8192 1024) (x1 (p c))) (fun t _ => ?_) fun (i : S8192x1024.Idx) => ?_
  · show (cfg0.win 17).cut (grid0.coords t) ((dat m p 0 c).after 17 t) = _
    dsimp only [dat]
    funext j
    rw [View.read_apply]
    exact at_rows _ _ j (idx_17 t).1 (idx_17 t).2 rfl rfl
  · have h0 : (i 0 : ℕ) < 8192 := (i 0).isLt
    have h1 : (i 1 : ℕ) < 1024 := (i 1).isLt
    obtain ⟨t, ht⟩ := point h0
    refine ⟨t, flush0_17 _, ?_⟩
    have hi := idx_17 t
    show i ∈ ((View.whole main_v32_0).slice (win0_17.rect t)).set
    rw [View.set_slice_whole, Rect.mem_set_unit]
    intro a
    match a with
    | ⟨0, _⟩ =>
      show win0_17.index t 0 * 512 ≤ (i 0 : ℕ) ∧ (i 0 : ℕ) < win0_17.index t 0 * 512 + 512
      rw [hi.1]; omega
    | ⟨1, _⟩ =>
      show win0_17.index t 1 * 1024 ≤ (i 1 : ℕ) ∧ (i 1 : ℕ) < win0_17.index t 1 * 1024 + 1024
      rw [hi.2]; omega

theorem idx_18 : ∀ t : Fin cfg0.N, win0_18.index t 0 = t.val ∧ win0_18.index t 1 = 0 :=
  (by decide +kernel : ∀ t : Fin grid0.N, win0_18.index t 0 = t.val ∧ win0_18.index t 1 = 0)

theorem arr_18 : (dat m p 0 c).arrAt 18 cfg0.N = Lift (l2 8192 1024) (h (p c)) := by
  refine (dat m p 0 c).arrAt_eq_of_cover 18 (Lift (l2 8192 1024) (h (p c))) (fun t _ => ?_) fun (i : S8192x1024.Idx) => ?_
  · show (cfg0.win 18).cut (grid0.coords t) ((dat m p 0 c).after 18 t) = _
    dsimp only [dat]
    funext j
    rw [View.read_apply]
    exact at_rows _ _ j (idx_18 t).1 (idx_18 t).2 rfl rfl
  · have h0 : (i 0 : ℕ) < 8192 := (i 0).isLt
    have h1 : (i 1 : ℕ) < 1024 := (i 1).isLt
    obtain ⟨t, ht⟩ := point h0
    refine ⟨t, flush0_18 _, ?_⟩
    have hi := idx_18 t
    show i ∈ ((View.whole main_v32_1).slice (win0_18.rect t)).set
    rw [View.set_slice_whole, Rect.mem_set_unit]
    intro a
    match a with
    | ⟨0, _⟩ =>
      show win0_18.index t 0 * 512 ≤ (i 0 : ℕ) ∧ (i 0 : ℕ) < win0_18.index t 0 * 512 + 512
      rw [hi.1]; omega
    | ⟨1, _⟩ =>
      show win0_18.index t 1 * 1024 ≤ (i 1 : ℕ) ∧ (i 1 : ℕ) < win0_18.index t 1 * 1024 + 1024
      rw [hi.2]; omega

theorem idx_19 : ∀ t : Fin cfg0.N, win0_19.index t 0 = t.val ∧ win0_19.index t 1 = 0 :=
  (by decide +kernel : ∀ t : Fin grid0.N, win0_19.index t 0 = t.val ∧ win0_19.index t 1 = 0)

theorem arr_19 : (dat m p 0 c).arrAt 19 cfg0.N = Lift (l2 8192 1024) (cols 1024 (z (p c))) := by
  refine (dat m p 0 c).arrAt_eq_of_cover 19 (Lift (l2 8192 1024) (cols 1024 (z (p c)))) (fun t _ => ?_) fun (i : S8192x1024.Idx) => ?_
  · show (cfg0.win 19).cut (grid0.coords t) ((dat m p 0 c).after 19 t) = _
    dsimp only [dat]
    funext j
    rw [View.read_apply]
    exact at_rows _ _ j (idx_19 t).1 (idx_19 t).2 rfl rfl
  · have h0 : (i 0 : ℕ) < 8192 := (i 0).isLt
    have h1 : (i 1 : ℕ) < 1024 := (i 1).isLt
    obtain ⟨t, ht⟩ := point h0
    refine ⟨t, flush0_19 _, ?_⟩
    have hi := idx_19 t
    show i ∈ ((View.whole main_v32_2).slice (win0_19.rect t)).set
    rw [View.set_slice_whole, Rect.mem_set_unit]
    intro a
    match a with
    | ⟨0, _⟩ =>
      show win0_19.index t 0 * 512 ≤ (i 0 : ℕ) ∧ (i 0 : ℕ) < win0_19.index t 0 * 512 + 512
      rw [hi.1]; omega
    | ⟨1, _⟩ =>
      show win0_19.index t 1 * 1024 ≤ (i 1 : ℕ) ∧ (i 1 : ℕ) < win0_19.index t 1 * 1024 + 1024
      rw [hi.2]; omega

theorem idx_20 : ∀ t : Fin cfg0.N, win0_20.index t 0 = t.val ∧ win0_20.index t 1 = 0 :=
  (by decide +kernel : ∀ t : Fin grid0.N, win0_20.index t 0 = t.val ∧ win0_20.index t 1 = 0)

theorem arr_20 : (dat m p 0 c).arrAt 20 cfg0.N = Lift (l2 8192 512) (mixed (p c)) := by
  refine (dat m p 0 c).arrAt_eq_of_cover 20 (Lift (l2 8192 512) (mixed (p c))) (fun t _ => ?_) fun (i : S8192x512.Idx) => ?_
  · show (cfg0.win 20).cut (grid0.coords t) ((dat m p 0 c).after 20 t) = _
    dsimp only [dat]
    funext j
    rw [View.read_apply]
    exact at_rows _ _ j (idx_20 t).1 (idx_20 t).2 rfl rfl
  · have h0 : (i 0 : ℕ) < 8192 := (i 0).isLt
    have h1 : (i 1 : ℕ) < 512 := (i 1).isLt
    obtain ⟨t, ht⟩ := point h0
    refine ⟨t, flush0_20 _, ?_⟩
    have hi := idx_20 t
    show i ∈ ((View.whole main_v32_3).slice (win0_20.rect t)).set
    rw [View.set_slice_whole, Rect.mem_set_unit]
    intro a
    match a with
    | ⟨0, _⟩ =>
      show win0_20.index t 0 * 512 ≤ (i 0 : ℕ) ∧ (i 0 : ℕ) < win0_20.index t 0 * 512 + 512
      rw [hi.1]; omega
    | ⟨1, _⟩ =>
      show win0_20.index t 1 * 512 ≤ (i 1 : ℕ) ∧ (i 1 : ℕ) < win0_20.index t 1 * 512 + 512
      rw [hi.2]; omega

theorem idx_21 : ∀ t : Fin cfg0.N, win0_21.index t 0 = t.val ∧ win0_21.index t 1 = 0 :=
  (by decide +kernel : ∀ t : Fin grid0.N, win0_21.index t 0 = t.val ∧ win0_21.index t 1 = 0)

theorem arr_21 : (dat m p 0 c).arrAt 21 cfg0.N = Lift (l2 8192 1024) (yy (p c)) := by
  refine (dat m p 0 c).arrAt_eq_of_cover 21 (Lift (l2 8192 1024) (yy (p c))) (fun t _ => ?_) fun (i : S8192x1024.Idx) => ?_
  · show (cfg0.win 21).cut (grid0.coords t) ((dat m p 0 c).after 21 t) = _
    dsimp only [dat]
    funext j
    rw [View.read_apply]
    exact at_rows _ _ j (idx_21 t).1 (idx_21 t).2 rfl rfl
  · have h0 : (i 0 : ℕ) < 8192 := (i 0).isLt
    have h1 : (i 1 : ℕ) < 1024 := (i 1).isLt
    obtain ⟨t, ht⟩ := point h0
    refine ⟨t, flush0_21 _, ?_⟩
    have hi := idx_21 t
    show i ∈ ((View.whole main_v32_4).slice (win0_21.rect t)).set
    rw [View.set_slice_whole, Rect.mem_set_unit]
    intro a
    match a with
    | ⟨0, _⟩ =>
      show win0_21.index t 0 * 512 ≤ (i 0 : ℕ) ∧ (i 0 : ℕ) < win0_21.index t 0 * 512 + 512
      rw [hi.1]; omega
    | ⟨1, _⟩ =>
      show win0_21.index t 1 * 1024 ≤ (i 1 : ℕ) ∧ (i 1 : ℕ) < win0_21.index t 1 * 1024 + 1024
      rw [hi.2]; omega

theorem idx_22 : ∀ t : Fin cfg0.N, win0_22.index t 0 = t.val ∧ win0_22.index t 1 = 0 :=
  (by decide +kernel : ∀ t : Fin grid0.N, win0_22.index t 0 = t.val ∧ win0_22.index t 1 = 0)

theorem arr_22 : (dat m p 0 c).arrAt 22 cfg0.N = Lift (l2 8192 1024) (o (p c)) := by
  refine (dat m p 0 c).arrAt_eq_of_cover 22 (Lift (l2 8192 1024) (o (p c))) (fun t _ => ?_) fun (i : S8192x1024.Idx) => ?_
  · show (cfg0.win 22).cut (grid0.coords t) ((dat m p 0 c).after 22 t) = _
    dsimp only [dat]
    funext j
    rw [View.read_apply]
    exact at_rows _ _ j (idx_22 t).1 (idx_22 t).2 rfl rfl
  · have h0 : (i 0 : ℕ) < 8192 := (i 0).isLt
    have h1 : (i 1 : ℕ) < 1024 := (i 1).isLt
    obtain ⟨t, ht⟩ := point h0
    refine ⟨t, flush0_22 _, ?_⟩
    have hi := idx_22 t
    show i ∈ ((View.whole main_v32_5).slice (win0_22.rect t)).set
    rw [View.set_slice_whole, Rect.mem_set_unit]
    intro a
    match a with
    | ⟨0, _⟩ =>
      show win0_22.index t 0 * 512 ≤ (i 0 : ℕ) ∧ (i 0 : ℕ) < win0_22.index t 0 * 512 + 512
      rw [hi.1]; omega
    | ⟨1, _⟩ =>
      show win0_22.index t 1 * 1024 ≤ (i 1 : ℕ) ∧ (i 1 : ℕ) < win0_22.index t 1 * 1024 + 1024
      rw [hi.2]; omega

theorem idx_23 : ∀ t : Fin cfg0.N, win0_23.index t 0 = t.val ∧ win0_23.index t 1 = 0 :=
  (by decide +kernel : ∀ t : Fin grid0.N, win0_23.index t 0 = t.val ∧ win0_23.index t 1 = 0)

theorem arr_23 : (dat m p 0 c).arrAt 23 cfg0.N = Lift (l2 8192 512) (gu (p c)) := by
  refine (dat m p 0 c).arrAt_eq_of_cover 23 (Lift (l2 8192 512) (gu (p c))) (fun t _ => ?_) fun (i : S8192x512.Idx) => ?_
  · show (cfg0.win 23).cut (grid0.coords t) ((dat m p 0 c).after 23 t) = _
    dsimp only [dat]
    funext j
    rw [View.read_apply]
    exact at_rows _ _ j (idx_23 t).1 (idx_23 t).2 rfl rfl
  · have h0 : (i 0 : ℕ) < 8192 := (i 0).isLt
    have h1 : (i 1 : ℕ) < 512 := (i 1).isLt
    obtain ⟨t, ht⟩ := point h0
    refine ⟨t, flush0_23 _, ?_⟩
    have hi := idx_23 t
    show i ∈ ((View.whole main_v32_6).slice (win0_23.rect t)).set
    rw [View.set_slice_whole, Rect.mem_set_unit]
    intro a
    match a with
    | ⟨0, _⟩ =>
      show win0_23.index t 0 * 512 ≤ (i 0 : ℕ) ∧ (i 0 : ℕ) < win0_23.index t 0 * 512 + 512
      rw [hi.1]; omega
    | ⟨1, _⟩ =>
      show win0_23.index t 1 * 512 ≤ (i 1 : ℕ) ∧ (i 1 : ℕ) < win0_23.index t 1 * 512 + 512
      rw [hi.2]; omega

theorem idx_26 : ∀ t : Fin cfg0.N, win0_26.index t 0 = t.val ∧ win0_26.index t 1 = 0 :=
  (by decide +kernel : ∀ t : Fin grid0.N, win0_26.index t 0 = t.val ∧ win0_26.index t 1 = 0)

theorem arr_26 : (dat m p 0 c).arrAt 26 cfg0.N = Lift (l2 8192 512) (vhat (p c)) := by
  refine (dat m p 0 c).arrAt_eq_of_cover 26 (Lift (l2 8192 512) (vhat (p c))) (fun t _ => ?_) fun (i : S8192x512.Idx) => ?_
  · show (cfg0.win 26).cut (grid0.coords t) ((dat m p 0 c).after 26 t) = _
    dsimp only [dat]
    funext j
    rw [View.read_apply]
    exact at_rows _ _ j (idx_26 t).1 (idx_26 t).2 rfl rfl
  · have h0 : (i 0 : ℕ) < 8192 := (i 0).isLt
    have h1 : (i 1 : ℕ) < 512 := (i 1).isLt
    obtain ⟨t, ht⟩ := point h0
    refine ⟨t, flush0_26 _, ?_⟩
    have hi := idx_26 t
    show i ∈ ((View.whole main_v32_9).slice (win0_26.rect t)).set
    rw [View.set_slice_whole, Rect.mem_set_unit]
    intro a
    match a with
    | ⟨0, _⟩ =>
      show win0_26.index t 0 * 512 ≤ (i 0 : ℕ) ∧ (i 0 : ℕ) < win0_26.index t 0 * 512 + 512
      rw [hi.1]; omega
    | ⟨1, _⟩ =>
      show win0_26.index t 1 * 512 ≤ (i 1 : ℕ) ∧ (i 1 : ℕ) < win0_26.index t 1 * 512 + 512
      rw [hi.2]; omega

theorem idx_27 : ∀ t : Fin cfg0.N, win0_27.index t 0 = t.val ∧ win0_27.index t 1 = 0 :=
  (by decide +kernel : ∀ t : Fin grid0.N, win0_27.index t 0 = t.val ∧ win0_27.index t 1 = 0)

theorem arr_27 : (dat m p 0 c).arrAt 27 cfg0.N = Lift (l2 8192 128) (rsl (p c)) := by
  refine (dat m p 0 c).arrAt_eq_of_cover 27 (Lift (l2 8192 128) (rsl (p c))) (fun t _ => ?_) fun (i : S8192x128.Idx) => ?_
  · show (cfg0.win 27).cut (grid0.coords t) ((dat m p 0 c).after 27 t) = _
    dsimp only [dat]
    funext j
    rw [View.read_apply]
    exact at_rows _ _ j (idx_27 t).1 (idx_27 t).2 rfl rfl
  · have h0 : (i 0 : ℕ) < 8192 := (i 0).isLt
    have h1 : (i 1 : ℕ) < 128 := (i 1).isLt
    obtain ⟨t, ht⟩ := point h0
    refine ⟨t, flush0_27 _, ?_⟩
    have hi := idx_27 t
    show i ∈ ((View.whole main_v32_10).slice (win0_27.rect t)).set
    rw [View.set_slice_whole, Rect.mem_set_unit]
    intro a
    match a with
    | ⟨0, _⟩ =>
      show win0_27.index t 0 * 512 ≤ (i 0 : ℕ) ∧ (i 0 : ℕ) < win0_27.index t 0 * 512 + 512
      rw [hi.1]; omega
    | ⟨1, _⟩ =>
      show win0_27.index t 1 * 128 ≤ (i 1 : ℕ) ∧ (i 1 : ℕ) < win0_27.index t 1 * 128 + 128
      rw [hi.2]; omega

theorem idx_28 : ∀ t : Fin cfg0.N, win0_28.index t 0 = t.val ∧ win0_28.index t 1 = 0 :=
  (by decide +kernel : ∀ t : Fin grid0.N, win0_28.index t 0 = t.val ∧ win0_28.index t 1 = 0)

theorem arr_28 : (dat m p 0 c).arrAt 28 cfg0.N = Lift (l2 8192 512) (yhat (p c)) := by
  refine (dat m p 0 c).arrAt_eq_of_cover 28 (Lift (l2 8192 512) (yhat (p c))) (fun t _ => ?_) fun (i : S8192x512.Idx) => ?_
  · show (cfg0.win 28).cut (grid0.coords t) ((dat m p 0 c).after 28 t) = _
    dsimp only [dat]
    funext j
    rw [View.read_apply]
    exact at_rows _ _ j (idx_28 t).1 (idx_28 t).2 rfl rfl
  · have h0 : (i 0 : ℕ) < 8192 := (i 0).isLt
    have h1 : (i 1 : ℕ) < 512 := (i 1).isLt
    obtain ⟨t, ht⟩ := point h0
    refine ⟨t, flush0_28 _, ?_⟩
    have hi := idx_28 t
    show i ∈ ((View.whole main_v32_11).slice (win0_28.rect t)).set
    rw [View.set_slice_whole, Rect.mem_set_unit]
    intro a
    match a with
    | ⟨0, _⟩ =>
      show win0_28.index t 0 * 512 ≤ (i 0 : ℕ) ∧ (i 0 : ℕ) < win0_28.index t 0 * 512 + 512
      rw [hi.1]; omega
    | ⟨1, _⟩ =>
      show win0_28.index t 1 * 512 ≤ (i 1 : ℕ) ∧ (i 1 : ℕ) < win0_28.index t 1 * 512 + 512
      rw [hi.2]; omega

theorem idx_29 : ∀ t : Fin cfg0.N, win0_29.index t 0 = t.val ∧ win0_29.index t 1 = 0 :=
  (by decide +kernel : ∀ t : Fin grid0.N, win0_29.index t 0 = t.val ∧ win0_29.index t 1 = 0)

theorem arr_29 : (dat m p 0 c).arrAt 29 cfg0.N = Lift (l2 8192 512) (rsg (p c)) := by
  refine (dat m p 0 c).arrAt_eq_of_cover 29 (Lift (l2 8192 512) (rsg (p c))) (fun t _ => ?_) fun (i : S8192x512.Idx) => ?_
  · show (cfg0.win 29).cut (grid0.coords t) ((dat m p 0 c).after 29 t) = _
    dsimp only [dat]
    funext j
    rw [View.read_apply]
    exact at_rows _ _ j (idx_29 t).1 (idx_29 t).2 rfl rfl
  · have h0 : (i 0 : ℕ) < 8192 := (i 0).isLt
    have h1 : (i 1 : ℕ) < 512 := (i 1).isLt
    obtain ⟨t, ht⟩ := point h0
    refine ⟨t, flush0_29 _, ?_⟩
    have hi := idx_29 t
    show i ∈ ((View.whole main_v32_12).slice (win0_29.rect t)).set
    rw [View.set_slice_whole, Rect.mem_set_unit]
    intro a
    match a with
    | ⟨0, _⟩ =>
      show win0_29.index t 0 * 512 ≤ (i 0 : ℕ) ∧ (i 0 : ℕ) < win0_29.index t 0 * 512 + 512
      rw [hi.1]; omega
    | ⟨1, _⟩ =>
      show win0_29.index t 1 * 512 ≤ (i 1 : ℕ) ∧ (i 1 : ℕ) < win0_29.index t 1 * 512 + 512
      rw [hi.2]; omega

end Cert.MixFwdIdeal.Fwd
end
-- ==== Proof.MixFinite.lean ====
module
public import proofs.«01_k».proof.Pre_mix_finite
public import proofs.«01_k».proof.Proof.Finite

/-!
The mixer's precondition read back: arguments of which it holds are arrays of real numbers.
-/

@[expose] public section

noncomputable section

open Idealize.ShloMosaic Mat

namespace Cert.Pre_mix_finite

open Cert.Pre_finite (Real real_of_all)

theorem facts : Facts where
  bcast_S_S1x8192x1024 := by decide
  reducesTo_S1x8192x1024_S_d0_1_2 := by decide
  h_S_ := by decide
  bcast_S_S1x6144 := by decide
  reducesTo_S1x6144_S_d0_1 := by decide
  bcast_S_S1x1024 := by decide
  reducesTo_S1x1024_S_d0_1 := by decide
  bcast_S_S1x1024x2048 := by decide
  reducesTo_S1x1024x2048_S_d0_1_2 := by decide
  bcast_S_S1x2048 := by decide
  reducesTo_S1x2048_S_d0_1 := by decide
  bcast_S_S1x512 := by decide
  reducesTo_S1x512_S_d0_1 := by decide
  bcast_S_S1x8x128x128 := by decide
  reducesTo_S1x8x128x128_S_d0_1_2_3 := by decide
  bcast_S_S1x8x128 := by decide
  reducesTo_S1x8x128_S_d0_1_2 := by decide
  bcast_S_S1x31x512 := by decide
  reducesTo_S1x31x512_S_d0_1_2 := by decide
  bcast_S_S1x1024x1024 := by decide
  reducesTo_S1x1024x1024_S_d0_1_2 := by decide

/-- The precondition says that every argument is an array of real numbers. -/
theorem real_of_fn [Facts] (x0 : FVec Ideal S1x8192x1024 .f32)
    (x1 : FVec Ideal S1x6144 .f32)
    (x2 : FVec Ideal S1x1024 .f32)
    (x3 : FVec Ideal S1x1024x2048 .f32)
    (x4 : FVec Ideal S1x2048 .f32)
    (x5 : FVec Ideal S1x512 .f32)
    (x6 : FVec Ideal S1x512 .f32)
    (x7 : FVec Ideal S1x8x128x128 .f32)
    (x8 : FVec Ideal S1x8x128 .f32)
    (x9 : FVec Ideal S1x31x512 .f32)
    (x10 : FVec Ideal S1x512 .f32)
    (x11 : FVec Ideal S1x512 .f32)
    (x12 : FVec Ideal S1x512 .f32)
    (x13 : FVec Ideal S1x512 .f32)
    (x14 : FVec Ideal S1x512 .f32)
    (x15 : FVec Ideal S1x1024x1024 .f32)
    (h : fn (F := Ideal) x0 x1 x2 x3 x4 x5 x6 x7 x8 x9 x10 x11 x12 x13 x14 x15 = fun _ => 1#1) :
    Real x0 ∧ Real x1 ∧ Real x2 ∧ Real x3 ∧ Real x4 ∧ Real x5 ∧ Real x6 ∧ Real x7 ∧ Real x8 ∧ Real x9 ∧ Real x10 ∧ Real x11 ∧ Real x12 ∧ Real x13 ∧ Real x14 ∧ Real x15 := by
  have e := congrFun h (fun a => a.elim0)
  unfold fn fn_part1 fn_part2 fn_part3 fn_part4 at e
  dsimp only at e
  obtain ⟨e, e15⟩ := IntOp.andi_eq_one.1 e
  obtain ⟨e, e14⟩ := IntOp.andi_eq_one.1 e
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all x0 _ _ _ _ e0, real_of_all x1 _ _ _ _ e1, real_of_all x2 _ _ _ _ e2, real_of_all x3 _ _ _ _ e3, real_of_all x4 _ _ _ _ e4, real_of_all x5 _ _ _ _ e5, real_of_all x6 _ _ _ _ e6, real_of_all x7 _ _ _ _ e7, real_of_all x8 _ _ _ _ e8, real_of_all x9 _ _ _ _ e9, real_of_all x10 _ _ _ _ e10, real_of_all x11 _ _ _ _ e11, real_of_all x12 _ _ _ _ e12, real_of_all x13 _ _ _ _ e13, real_of_all x14 _ _ _ _ e14, real_of_all x15 _ _ _ _ e15⟩

end Cert.Pre_mix_finite

end

end
-- ==== Proof.lean ====
module

public import proofs.«01_k».proof.Defs
public import proofs.«01_k».proof.Proof.Gen.Kernel.Frame
public import proofs.«01_k».proof.Proof.FfnVal
public import proofs.«01_k».proof.Proof.FfnRef
public import proofs.«01_k».proof.Proof.Finite
public import proofs.«01_k».proof.Proof.Gen.ReferenceIdeal.Run
public import proofs.«01_k».proof.Proof.Gen.MixBwd
public import proofs.«01_k».proof.Proof.MixFrame
public import proofs.«01_k».proof.Proof.Gen.MixFwd
public import proofs.«01_k».proof.Proof.FwdFrame
public import proofs.«01_k».proof.Proof.FwdRuns
public import proofs.«01_k».proof.Proof.FwdVal
public import proofs.«01_k».proof.Proof.FwdRef
public import proofs.«01_k».proof.Proof.MixFinite
public import proofs.«01_k».proof.Proof.Gen.MixRefIdeal.Run
public import Idealize.ShloMosaic.Lib.Quiescent

/-!
The feed-forward step and the mixing step's forward call: each kernel and its reference run and leave their arguments,
and over the extended reals they end with equal results when the arguments are real numbers. Both results are the
arrays of the same real matrices (`FfnVal` and `FwdVal` for the kernels, `FfnRef` and `FwdRef` for the references).
The mixing step's backward call runs and leaves its arguments.
-/

@[expose] public section

set_option maxRecDepth 16384

noncomputable section

namespace Cert.Proof

open Idealize.ShloMosaic Idealize.ShloMosaic.TcCoe Idealize.SL.Sem Mat Ffn

/-- The instances the claims take. -/
local instance : Cert.Pre_finite.Facts := Cert.Pre_finite.facts
local instance : Cert.Pre_mix_finite.Facts := Cert.Pre_mix_finite.facts

theorem frame_k : Cert.quiescent_Kernel := fun m ρ _ => Cert.Kernel.Gen.frame m ρ
theorem frame_ki : Cert.quiescent_KernelIdeal := fun m ρ _ => Cert.KernelIdeal.Gen.frame m ρ
theorem frame_ki_finite : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)
theorem frame_ri_finite : Cert.quiescent_ReferenceIdeal_pre_finite := fun m ρ _ => frame_ri m ρ trivial

theorem frame_mix_i : Cert.quiescent_MixBwdIdeal (hMixBwdIdeal := Cert.MixBwdIdeal.Gen.facts) := fun m ρ _ =>
  Cert.MixBwdIdeal.Mix.frame (F := Ideal) m ρ trivial

/-- The program and its idealized form have the same text, so the run serves both. -/
theorem same_mix : Cert.quiescent_MixBwd (hMixBwd := Cert.MixBwd.Gen.facts) = Cert.MixBwdIdeal.Mix.Quiet Bits := by sl_kernel_rfl

theorem frame_mix : Cert.quiescent_MixBwd (hMixBwd := Cert.MixBwd.Gen.facts) := same_mix.mpr (Cert.MixBwdIdeal.Mix.frame (F := Bits))

theorem frame_fwd_i : Cert.quiescent_MixFwdIdeal (hMixFwdIdeal := Cert.MixFwdIdeal.Gen.facts) := fun m ρ _ =>
  Cert.MixFwdIdeal.Fwd.frame (F := Ideal) m ρ trivial

/-- The program and its idealized form have the same text, so the run serves both. -/
theorem same_fwd : Cert.quiescent_MixFwd (hMixFwd := Cert.MixFwd.Gen.facts) = Cert.MixFwdIdeal.Fwd.Quiet Bits := by sl_kernel_rfl

theorem frame_fwd : Cert.quiescent_MixFwd (hMixFwd := Cert.MixFwd.Gen.facts) := same_fwd.mpr (Cert.MixFwdIdeal.Fwd.frame (F := Bits))

theorem exists_lift {s : Shape} (ℓ : Lay s) (hℓ : ∀ i j, ℓ.row i = ℓ.row j → ℓ.col i = ℓ.col j → i = j) (X : s.Idx → EReal)
    (hX : ∀ i, ∃ r : ℝ, X i = (r : EReal)) : ∃ f, X = Lift ℓ f := ⟨_, lift_matOf ℓ hℓ X hX⟩

/-- Arguments of which the precondition holds are the arrays of some real matrices. -/
theorem mem_of_finite (m : (ℓ : Loc Cert.KernelIdeal.nD Cert.KernelIdeal.τ Cert.KernelIdeal.sig) → Buf (Elt Ideal) ℓ)
    (h : Cert.Pre_KernelIdeal_finite m) (c : Dev Cert.KernelIdeal.nD) : ∃ p, Cert.KernelIdeal.Ffn.Mem m c p := by
  obtain ⟨f0, f1, f2, f3, f4, f5, f6, f7⟩ := Cert.Pre_finite.real_of_fn _ _ _ _ _ _ _ _ (h c)
  obtain ⟨k0, e0⟩ := exists_lift (l3 8192 1024) inj_l3 _ f0
  obtain ⟨k1, e1⟩ := exists_lift (g2 1024 6144) inj_g2 _ f1
  obtain ⟨k2, e2⟩ := exists_lift (g2 1024 2048) inj_g2 _ f2
  obtain ⟨k3, e3⟩ := exists_lift (l2 1 1024) inj_l2 _ f3
  obtain ⟨k4, e4⟩ := exists_lift (l3 1024 5632) inj_l3 _ f4
  obtain ⟨k5, e5⟩ := exists_lift (l3 2816 1024) inj_l3 _ f5
  obtain ⟨k6, e6⟩ := exists_lift (r1 1024) inj_r1 _ f6
  obtain ⟨k7, e7⟩ := exists_lift (l3 8192 1024) inj_l3 _ f7
  have h1 : Lift (g2 1024 6144) k1 = Lift (g2 1024 6144) (fun r d => if r < 6 then k1 r d else k2 (r - 6) d) := by
    funext i
    have hi : (i 1).val < 6144 := (i 1).isLt
    have hr : (g2 1024 6144).row i < 6 := by
      show (i 1).val / 1024 < 6
      omega
    exact congrArg Real.toEReal (if_pos hr).symm
  have h2 : Lift (g2 1024 2048) k2 = Lift (g2 1024 2048) (rows 6 (fun r d => if r < 6 then k1 r d else k2 (r - 6) d)) := by
    funext i
    refine congrArg Real.toEReal ?_
    show _ = if 6 + (g2 1024 2048).row i < 6 then _ else k2 (6 + (g2 1024 2048).row i - 6) _
    rw [if_neg (by omega), Nat.add_sub_cancel_left]
  exact ⟨⟨k0, k7, _, k3, k6, tr k4, k5⟩, ⟨e0, e1.trans h1, e2.trans h2, e3, e4, e5, e6, e7⟩⟩

/-- The reference's results on arguments that are those of `p`. -/
theorem ref_results (p : Args) (x0 x1 x2 x3 x4 x5 x6 x7)
    (k0 : x0 = Lift (l3 8192 1024) p.X) (k1 : x1 = Lift (g2 1024 6144) p.M) (k2 : x2 = Lift (g2 1024 2048) (rows 6 p.M))
    (k3 : x3 = Lift (l2 1 1024) p.G2) (k4 : x4 = Lift (l3 1024 5632) (tr p.A)) (k5 : x5 = Lift (l3 2816 1024) p.B)
    (k6 : x6 = Lift (r1 1024) p.GF) (k7 : x7 = Lift (l3 8192 1024) p.T) :
    Cert.ReferenceIdeal.Read.val_main_v179 (F := Ideal) x0 x1 x2 x3 x4 x5 x6 x7 = Lift (l2 8192 1024) (dx p)
    ∧ Cert.ReferenceIdeal.Read.val_main_v181 (F := Ideal) x0 x1 x3 = Lift (l2 8192 1024) (h2 p)
    ∧ Cert.ReferenceIdeal.Read.val_main_v183 (F := Ideal) x0 x1 x2 x3 x4 x5 x6 x7 = Lift (l2 8192 5632) (dgu p)
    ∧ Cert.ReferenceIdeal.Read.val_main_v185 (F := Ideal) x0 x1 x3 x4 = Lift (l2 8192 2816) (hid p)
    ∧ Cert.ReferenceIdeal.Read.val_main_v187 (F := Ideal) x0 x1 x2 x3 x4 x5 x6 x7 = Lift (l2 8192 1024) (df p)
    ∧ Cert.ReferenceIdeal.Read.val_main_v178 (F := Ideal) x0 x1 x2 x3 x4 x5 x6 x7 = Lift (l2 8 1024) (sums p 8192) := by
  subst k0 k1 k2 k3 k4 k5 k6 k7
  exact ⟨Cert.ReferenceIdeal.Ffn.r179 p, Cert.ReferenceIdeal.Ffn.r181 p, Cert.ReferenceIdeal.Ffn.r183 p, Cert.ReferenceIdeal.Ffn.r185 p,
    Cert.ReferenceIdeal.Ffn.r187 p, Cert.ReferenceIdeal.Ffn.r178 p⟩

/-- Over the extended reals both end with the arrays of the same real matrices. -/
theorem algebraic : Cert.algebraic_KernelIdeal_ReferenceIdeal_pre_finite := by
  intro m ρ m' ρ' hpre hagree
  choose p hp using mem_of_finite m hpre
  refine ⟨fun c => Lift (l2 8192 1024) (dx (p c)), fun c => Lift (l2 8192 1024) (h2 (p c)), fun c => Lift (l2 8192 5632) (dgu (p c)),
    fun c => Lift (l2 8192 2816) (hid (p c)), fun c => Lift (l2 8192 1024) (df (p c)), fun c => Lift (l2 8 1024) (sums (p c) 8192), ?_, ?_⟩
  · refine (θ_run Cert.KernelIdeal.defs _ _).mono (fun r h c => ?_) (Cert.KernelIdeal.Value.run_blocks (F := Ideal) m ρ)
    obtain ⟨h0, h1, h2, h3, h4, h5, hk⟩ := h c
    exact ⟨h0.trans (Cert.KernelIdeal.Ffn.arr_7 (hp c)), h1.trans (Cert.KernelIdeal.Ffn.arr_8 (hp c)), h2.trans (Cert.KernelIdeal.Ffn.arr_9 (hp c)),
      h3.trans (Cert.KernelIdeal.Ffn.arr_10 (hp c)), h4.trans (Cert.KernelIdeal.Ffn.arr_11 (hp c)), h5.trans (Cert.KernelIdeal.Ffn.arr_12 (hp c)), hk⟩
  · refine (θ_run Cert.ReferenceIdeal.defs _ _).mono (fun r h c => ?_) (Cert.ReferenceIdeal.Value.run (F := Ideal) m' ρ')
    obtain ⟨h0, h1, h2, h3, h4, h5, hk⟩ := h c
    obtain ⟨g0, g1, g2, g3, g4, g5, g6, g7⟩ := hagree c
    obtain ⟨r0, r1, r2, r3, r4, r5⟩ := ref_results (p c) _ _ _ _ _ _ _ _ (g0.trans (hp c).a0) (g1.trans (hp c).a1) (g2.trans (hp c).a2)
      (g3.trans (hp c).a3) (g4.trans (hp c).a4) (g5.trans (hp c).a5) (g6.trans (hp c).a6) (g7.trans (hp c).a7)
    exact ⟨h0.trans ((Cert.ReferenceIdeal.Read.val_main_v179_eq _).trans r0), h1.trans ((Cert.ReferenceIdeal.Read.val_main_v181_eq _).trans r1),
      h2.trans ((Cert.ReferenceIdeal.Read.val_main_v183_eq _).trans r2), h3.trans ((Cert.ReferenceIdeal.Read.val_main_v185_eq _).trans r3),
      h4.trans ((Cert.ReferenceIdeal.Read.val_main_v187_eq _).trans r4), h5.trans ((Cert.ReferenceIdeal.Read.val_main_v178_eq _).trans r5), hk⟩

theorem frame_fwd_i_finite : Cert.quiescent_MixFwdIdeal_pre_mix_finite (hMixFwdIdeal := Cert.MixFwdIdeal.Gen.facts) := fun m ρ _ =>
  Cert.MixFwdIdeal.Fwd.frame (F := Ideal) m ρ trivial
theorem frame_ref : Cert.quiescent_MixRefIdeal := fun m ρ _ =>
  (θ_run Cert.MixRefIdeal.defs _ _).mono (fun r h => ⟨fun c => (h c).2.2.2.2.2.2.2.2.2.2.2, sem_eq_zero_of_no_sems (by decide) r.2⟩)
    (Cert.MixRefIdeal.Value.run (F := Ideal) m ρ)
theorem frame_ref_finite : Cert.quiescent_MixRefIdeal_pre_mix_finite := fun m ρ _ => frame_ref m ρ trivial

theorem inj_w4 (i j) (h : w4.row i = w4.row j) (h' : w4.col i = w4.col j) : i = j := by
  have e : 128 * (i 1).val + (i 2).val = 128 * (j 1).val + (j 2).val := h
  have e3 : (i 3).val = (j 3).val := h'
  have hi : (i 2).val < 128 := (i 2).isLt
  have hj : (j 2).val < 128 := (j 2).isLt
  funext a
  match a with
  | ⟨0, _⟩ => exact Fin.ext ((val_of_one rfl _).trans (val_of_one rfl _).symm)
  | ⟨1, _⟩ => exact Fin.ext (show (i 1).val = (j 1).val by omega)
  | ⟨2, _⟩ => exact Fin.ext (show (i 2).val = (j 2).val by omega)
  | ⟨3, _⟩ => exact Fin.ext e3

/-- Arguments of the mixing step of which the precondition holds are the arrays of some real matrices. -/
theorem mem_of_mix_finite (m : (ℓ : Loc Cert.MixFwdIdeal.nD Cert.MixFwdIdeal.τ Cert.MixFwdIdeal.sig) → Buf (Elt Ideal) ℓ)
    (h : Cert.Pre_MixFwdIdeal_mix_finite m) (c : Dev Cert.MixFwdIdeal.nD) : ∃ p, Cert.MixFwdIdeal.Fwd.Mem m c p := by
  obtain ⟨f0, f1, f2, f3, f4, f5, f6, f7, f8, f9, f10, f11, f12, f13, f14, f15⟩ := Cert.Pre_mix_finite.real_of_fn _ _ _ _ _ _ _ _ _ _ _ _ _ _ _ _ (h c)
  obtain ⟨k0, e0⟩ := exists_lift (l3 8192 1024) inj_l3 _ f0
  obtain ⟨k1, e1⟩ := exists_lift (g2 1024 6144) inj_g2 _ f1
  obtain ⟨k2, e2⟩ := exists_lift (l2 1 1024) inj_l2 _ f2
  obtain ⟨k3, e3⟩ := exists_lift (l3 1024 2048) inj_l3 _ f3
  obtain ⟨k4, e4⟩ := exists_lift (l2 1 2048) inj_l2 _ f4
  obtain ⟨k5, e5⟩ := exists_lift (l2 1 512) inj_l2 _ f5
  obtain ⟨k6, e6⟩ := exists_lift (l2 1 512) inj_l2 _ f6
  obtain ⟨k7, e7⟩ := exists_lift (w4) inj_w4 _ f7
  obtain ⟨k8, e8⟩ := exists_lift (l3 8 128) inj_l3 _ f8
  obtain ⟨k9, e9⟩ := exists_lift (l3 31 512) inj_l3 _ f9
  obtain ⟨k10, e10⟩ := exists_lift (l2 1 512) inj_l2 _ f10
  obtain ⟨k11, e11⟩ := exists_lift (l2 1 512) inj_l2 _ f11
  obtain ⟨k12, e12⟩ := exists_lift (l2 1 512) inj_l2 _ f12
  obtain ⟨k13, e13⟩ := exists_lift (l2 1 512) inj_l2 _ f13
  obtain ⟨k14, e14⟩ := exists_lift (l2 1 512) inj_l2 _ f14
  obtain ⟨k15, e15⟩ := exists_lift (l3 1024 1024) inj_l3 _ f15
  exact ⟨⟨k0, k1, k2, k3, k4, k5, k6, k7, k8, k9, k10, k11, k12, k13, k14, k15⟩, ⟨e0, e1, e2, e3, e4, e5, e6, e7, e8, e9, e10, e11, e12, e13, e14, e15⟩⟩

/-- The mixing step's reference's results on arguments that are those of `p`. -/
theorem mix_ref_results (p : Fwd.Args) (x0 x1 x2 x3 x4 x5 x6 x7 x8 x9 x10 x11 x12 x13 x14 x15)
    (k0 : x0 = Lift (l3 8192 1024) p.X) (k1 : x1 = Lift (g2 1024 6144) p.M) (k2 : x2 = Lift (l2 1 1024) p.G1) (k3 : x3 = Lift (l3 1024 2048) p.W) (k4 : x4 = Lift (l2 1 2048) p.BI) (k5 : x5 = Lift (l2 1 512) p.LG) (k6 : x6 = Lift (l2 1 512) p.LB) (k7 : x7 = Lift (w4) p.SW) (k8 : x8 = Lift (l3 8 128) p.SB) (k9 : x9 = Lift (l3 31 512) p.CW) (k10 : x10 = Lift (l2 1 512) p.CB) (k11 : x11 = Lift (l2 1 512) p.GG) (k12 : x12 = Lift (l2 1 512) p.GB) (k13 : x13 = Lift (l2 1 512) p.OA) (k14 : x14 = Lift (l2 1 512) p.OB) (k15 : x15 = Lift (l3 1024 1024) p.WO) :
    Cert.MixRefIdeal.Read.val_main_v383 (F := Ideal) x0 x1 x2 x3 x4 x5 x6 x7 x8 x9 x10 x11 x12 x13 x14 x15 = Lift (l2 8192 1024) (Fwd.x1 p)
    ∧ Cert.MixRefIdeal.Read.val_main_v387 (F := Ideal) x0 x1 x2 = Lift (l2 8192 1024) (Fwd.h p)
    ∧ Cert.MixRefIdeal.Read.val_main_v389 (F := Ideal) x0 x1 x2 x3 x4 = Lift (l2 8192 1024) (cols 1024 (Fwd.z p))
    ∧ Cert.MixRefIdeal.Read.val_main_v89 (F := Ideal) x0 x1 x2 x3 x4 x5 x6 x7 x8 = Lift (l2 8192 512) (Fwd.mixed p)
    ∧ Cert.MixRefIdeal.Read.val_main_v390 (F := Ideal) x0 x1 x2 x3 x4 x5 x6 x7 x8 x9 x10 x11 x12 x13 x14 = Lift (l2 8192 1024) (Fwd.yy p)
    ∧ Cert.MixRefIdeal.Read.val_main_v379 (F := Ideal) x0 x1 x2 x3 x4 x5 x6 x7 x8 x9 x10 x11 x12 x13 x14 x15 = Lift (l2 8192 1024) (Fwd.o p)
    ∧ Cert.MixRefIdeal.Read.val_main_v391 (F := Ideal) x0 x1 x2 x3 x4 = Lift (l2 8192 512) (Fwd.gu p)
    ∧ Cert.MixRefIdeal.Read.val_main_v392 (F := Ideal) x0 x1 x2 x3 x4 = Lift (l2 8192 512) (Fwd.vhat p)
    ∧ Cert.MixRefIdeal.Read.val_main_v394 (F := Ideal) x0 x1 x2 x3 x4 = Lift (l2 8192 128) (Fwd.rsl p)
    ∧ Cert.MixRefIdeal.Read.val_main_v338 (F := Ideal) x0 x1 x2 x3 x4 x9 x10 = Lift (l2 8192 512) (Fwd.yhat p)
    ∧ Cert.MixRefIdeal.Read.val_main_v385 (F := Ideal) x0 x1 x2 x3 x4 x9 x10 = Lift (l2 8192 512) (Fwd.rsg p) := by
  subst k0 k1 k2 k3 k4 k5 k6 k7 k8 k9 k10 k11 k12 k13 k14 k15
  exact ⟨Cert.MixRefIdeal.Fwd.v383 p, Cert.MixRefIdeal.Fwd.v387 p, Cert.MixRefIdeal.Fwd.v389 p, Cert.MixRefIdeal.Fwd.v89 p, Cert.MixRefIdeal.Fwd.v390 p, Cert.MixRefIdeal.Fwd.v379 p, Cert.MixRefIdeal.Fwd.v391 p, Cert.MixRefIdeal.Fwd.v392 p, Cert.MixRefIdeal.Fwd.v394 p, Cert.MixRefIdeal.Fwd.v338 p, Cert.MixRefIdeal.Fwd.v385 p⟩

set_option maxHeartbeats 4000000 in
open Cert.MixFwdIdeal Cert.MixFwdIdeal.Gen Cert.MixFwdIdeal.Fwd in
/-- Over the extended reals the mixing step's forward call and its reference end with the arrays of the same real matrices. -/
theorem algebraic_mix : Cert.algebraic_MixFwdIdeal_MixRefIdeal_pre_mix_finite (hMixFwdIdeal := Cert.MixFwdIdeal.Gen.facts) := by
  intro m ρ m' ρ' hpre hagree
  choose p hp using mem_of_mix_finite m hpre
  refine ⟨fun c => Lift (l2 8192 1024) (Fwd.x1 (p c)),
    fun c => Lift (l2 8192 1024) (Fwd.h (p c)),
    fun c => Lift (l2 8192 1024) (cols 1024 (Fwd.z (p c))),
    fun c => Lift (l2 8192 512) (Fwd.mixed (p c)),
    fun c => Lift (l2 8192 1024) (Fwd.yy (p c)),
    fun c => Lift (l2 8192 1024) (Fwd.o (p c)),
    fun c => Lift (l2 8192 512) (Fwd.gu (p c)),
    fun c => Lift (l2 8192 512) (Fwd.vhat (p c)),
    fun c => Lift (l2 8192 128) (Fwd.rsl (p c)),
    fun c => Lift (l2 8192 512) (Fwd.yhat (p c)),
    fun c => Lift (l2 8192 512) (Fwd.rsg (p c)), ?_, ?_⟩
  · refine (θ_run Cert.MixFwdIdeal.defs _ _).mono (fun r h c => ?_) (Cert.MixFwdIdeal.Fwd.finished m ρ p (Cert.MixFwdIdeal.Fwd.runs m p hp))
    have arr : ∀ w, (cfg0.win w).isOut = false → r.2.mem ((spec0 w).arr.view.loc (c.tc : Thread nD τ)) = V m c (Pipeline.arrRef spec0 w) :=
      fun w hw => (((h c).1 w).trans ((dat m p 0 c).arrAt_in w hw _)).trans (dat_A m p c w)
    have rest : ∀ b : Ref sig .tc, b ∈ Pipeline.restRefs sig spec0 → r.2.mem ((c.tc : Thread nD τ).loc b) = V m c b :=
      fun b hb => (h c).2 b hb
    exact ⟨((h c).1 17).trans (arr_17 m p c),
      ((h c).1 18).trans (arr_18 m p c),
      ((h c).1 19).trans (arr_19 m p c),
      ((h c).1 20).trans (arr_20 m p c),
      ((h c).1 21).trans (arr_21 m p c),
      ((h c).1 22).trans (arr_22 m p c),
      ((h c).1 23).trans (arr_23 m p c),
      ((h c).1 26).trans (arr_26 m p c),
      ((h c).1 27).trans (arr_27 m p c),
      ((h c).1 28).trans (arr_28 m p c),
      ((h c).1 29).trans (arr_29 m p c),
      (rest main_arg0 (Pipeline.mem_restRefs_of main_arg0 (by decide) (by decide))).trans (V_main_arg0 m c),
      (rest main_arg1 (Pipeline.mem_restRefs_of main_arg1 (by decide) (by decide))).trans (V_main_arg1 m c),
      (arr 2 rfl).trans (V_main_arg2 m c),
      (rest main_arg3 (Pipeline.mem_restRefs_of main_arg3 (by decide) (by decide))).trans (V_main_arg3 m c),
      (arr 4 rfl).trans (V_main_arg4 m c),
      (arr 5 rfl).trans (V_main_arg5 m c),
      (arr 6 rfl).trans (V_main_arg6 m c),
      (rest main_arg7 (Pipeline.mem_restRefs_of main_arg7 (by decide) (by decide))).trans (V_main_arg7 m c),
      (rest main_arg8 (Pipeline.mem_restRefs_of main_arg8 (by decide) (by decide))).trans (V_main_arg8 m c),
      (rest main_arg9 (Pipeline.mem_restRefs_of main_arg9 (by decide) (by decide))).trans (V_main_arg9 m c),
      (arr 10 rfl).trans (V_main_arg10 m c),
      (arr 11 rfl).trans (V_main_arg11 m c),
      (arr 12 rfl).trans (V_main_arg12 m c),
      (arr 13 rfl).trans (V_main_arg13 m c),
      (arr 14 rfl).trans (V_main_arg14 m c),
      (rest main_arg15 (Pipeline.mem_restRefs_of main_arg15 (by decide) (by decide))).trans (V_main_arg15 m c)⟩
  · refine (θ_run Cert.MixRefIdeal.defs _ _).mono (fun r h c => ?_) (Cert.MixRefIdeal.Value.run (F := Ideal) m' ρ')
    obtain ⟨h0, h1, h2, h3, h4, h5, h6, h7, h8, h9, h10, hk⟩ := h c
    obtain ⟨g0, g1, g2, g3, g4, g5, g6, g7, g8, g9, g10, g11, g12, g13, g14, g15⟩ := hagree c
    obtain ⟨r0, r1, r2, r3, r4, r5, r6, r7, r8, r9, r10⟩ := mix_ref_results (p c) _ _ _ _ _ _ _ _ _ _ _ _ _ _ _ _ (g0.trans (hp c).a0) (g1.trans (hp c).a1) (g2.trans (hp c).a2) (g3.trans (hp c).a3) (g4.trans (hp c).a4) (g5.trans (hp c).a5) (g6.trans (hp c).a6) (g7.trans (hp c).a7) (g8.trans (hp c).a8) (g9.trans (hp c).a9) (g10.trans (hp c).a10) (g11.trans (hp c).a11) (g12.trans (hp c).a12) (g13.trans (hp c).a13) (g14.trans (hp c).a14) (g15.trans (hp c).a15)
    exact ⟨h0.trans ((Cert.MixRefIdeal.Read.val_main_v383_eq _).trans r0),
      h1.trans ((Cert.MixRefIdeal.Read.val_main_v387_eq _).trans r1),
      h2.trans ((Cert.MixRefIdeal.Read.val_main_v389_eq _).trans r2),
      h3.trans ((Cert.MixRefIdeal.Read.val_main_v89_eq _).trans r3),
      h4.trans ((Cert.MixRefIdeal.Read.val_main_v390_eq _).trans r4),
      h5.trans ((Cert.MixRefIdeal.Read.val_main_v379_eq _).trans r5),
      h6.trans ((Cert.MixRefIdeal.Read.val_main_v391_eq _).trans r6),
      h7.trans ((Cert.MixRefIdeal.Read.val_main_v392_eq _).trans r7),
      h8.trans ((Cert.MixRefIdeal.Read.val_main_v394_eq _).trans r8),
      h9.trans ((Cert.MixRefIdeal.Read.val_main_v338_eq _).trans r9),
      h10.trans ((Cert.MixRefIdeal.Read.val_main_v385_eq _).trans r10), hk⟩

theorem claim : Cert.Claim := ⟨Cert.Kernel.Gen.facts, Cert.KernelIdeal.Gen.facts, Cert.ReferenceIdeal.Gen.facts, Cert.MixBwd.Gen.facts,
  Cert.MixBwdIdeal.Gen.facts, Cert.MixFwd.Gen.facts, Cert.MixFwdIdeal.Gen.facts, Cert.MixRefIdeal.Gen.facts, Cert.Pre_finite.facts,
  Cert.Pre_mix_finite.facts, frame_k, frame_ki, frame_ki_finite, frame_ri, frame_ri_finite, frame_mix, frame_mix_i, frame_fwd, frame_fwd_i,
  frame_fwd_i_finite, frame_ref, frame_ref_finite, trivial, algebraic, trivial, trivial, algebraic_mix⟩

end Cert.Proof

end
